-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_QkvKernel (m : (ℓ : Loc Cert.QkvKernel.nD Cert.QkvKernel.τ Cert.QkvKernel.sig) → Buf (Elt Bits) ℓ) : Prop :=
  True

def Pre_QkvKernelIdeal (m : (ℓ : Loc Cert.QkvKernelIdeal.nD Cert.QkvKernelIdeal.τ Cert.QkvKernelIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_OprojKernel (m : (ℓ : Loc Cert.OprojKernel.nD Cert.OprojKernel.τ Cert.OprojKernel.sig) → Buf (Elt Bits) ℓ) : Prop :=
  True

def Pre_OprojKernelIdeal (m : (ℓ : Loc Cert.OprojKernelIdeal.nD Cert.OprojKernelIdeal.τ Cert.OprojKernelIdeal.sig) → Buf (Elt Ideal) ℓ) : Prop :=
  True

def Pre_OprojKernelIdeal_o_channels_valid [hPre_o_channels_valid : Cert.Pre_o_channels_valid.Facts] (m : (ℓ : Loc Cert.OprojKernelIdeal.nD Cert.OprojKernelIdeal.τ Cert.OprojKernelIdeal.sig) → Buf (Elt Ideal) ℓ) : Prop :=
  ∀ c : Dev Cert.OprojKernelIdeal.nD,
    (Cert.Pre_o_channels_valid.fn (F := Ideal) (m ((c.tc : Thread Cert.OprojKernelIdeal.nD Cert.OprojKernelIdeal.τ).loc Cert.OprojKernelIdeal.main_arg0)) (m ((c.tc : Thread Cert.OprojKernelIdeal.nD Cert.OprojKernelIdeal.τ).loc Cert.OprojKernelIdeal.main_arg1)) (m ((c.tc : Thread Cert.OprojKernelIdeal.nD Cert.OprojKernelIdeal.τ).loc Cert.OprojKernelIdeal.main_arg2)) (m ((c.tc : Thread Cert.OprojKernelIdeal.nD Cert.OprojKernelIdeal.τ).loc Cert.OprojKernelIdeal.main_arg3)) (m ((c.tc : Thread Cert.OprojKernelIdeal.nD Cert.OprojKernelIdeal.τ).loc Cert.OprojKernelIdeal.main_arg4)) (m ((c.tc : Thread Cert.OprojKernelIdeal.nD Cert.OprojKernelIdeal.τ).loc Cert.OprojKernelIdeal.main_arg5)) (m ((c.tc : Thread Cert.OprojKernelIdeal.nD Cert.OprojKernelIdeal.τ).loc Cert.OprojKernelIdeal.main_arg6)) (m ((c.tc : Thread Cert.OprojKernelIdeal.nD Cert.OprojKernelIdeal.τ).loc Cert.OprojKernelIdeal.main_arg7))) = (fun _ => 1#1)

def Pre_OprojReferenceIdeal (m : (ℓ : Loc Cert.OprojReferenceIdeal.nD Cert.OprojReferenceIdeal.τ Cert.OprojReferenceIdeal.sig) → Buf (Elt Ideal) ℓ) : Prop :=
  True

def Pre_OprojReferenceIdeal_o_channels_valid [hPre_o_channels_valid : Cert.Pre_o_channels_valid.Facts] (m : (ℓ : Loc Cert.OprojReferenceIdeal.nD Cert.OprojReferenceIdeal.τ Cert.OprojReferenceIdeal.sig) → Buf (Elt Ideal) ℓ) : Prop :=
  ∀ c : Dev Cert.OprojReferenceIdeal.nD,
    (Cert.Pre_o_channels_valid.fn (F := Ideal) (m ((c.tc : Thread Cert.OprojReferenceIdeal.nD Cert.OprojReferenceIdeal.τ).loc Cert.OprojReferenceIdeal.main_arg0)) (m ((c.tc : Thread Cert.OprojReferenceIdeal.nD Cert.OprojReferenceIdeal.τ).loc Cert.OprojReferenceIdeal.main_arg1)) (m ((c.tc : Thread Cert.OprojReferenceIdeal.nD Cert.OprojReferenceIdeal.τ).loc Cert.OprojReferenceIdeal.main_arg2)) (m ((c.tc : Thread Cert.OprojReferenceIdeal.nD Cert.OprojReferenceIdeal.τ).loc Cert.OprojReferenceIdeal.main_arg3)) (m ((c.tc : Thread Cert.OprojReferenceIdeal.nD Cert.OprojReferenceIdeal.τ).loc Cert.OprojReferenceIdeal.main_arg4)) (m ((c.tc : Thread Cert.OprojReferenceIdeal.nD Cert.OprojReferenceIdeal.τ).loc Cert.OprojReferenceIdeal.main_arg5)) (m ((c.tc : Thread Cert.OprojReferenceIdeal.nD Cert.OprojReferenceIdeal.τ).loc Cert.OprojReferenceIdeal.main_arg6)) (m ((c.tc : Thread Cert.OprojReferenceIdeal.nD Cert.OprojReferenceIdeal.τ).loc Cert.OprojReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_QkvKernel [hQkvKernel : Cert.QkvKernel.Facts] : Prop :=
  ∀ (m : (ℓ : Loc Cert.QkvKernel.nD Cert.QkvKernel.τ Cert.QkvKernel.sig) → Buf (Elt Bits) ℓ) (g : Dev Cert.QkvKernel.nD → PrngReg), Pre_QkvKernel m →
    θ_run (Cert.QkvKernel.defs (F := Bits)) (onTc (τ := Cert.QkvKernel.τ) (Cert.QkvKernel.main (F := Bits))) ⟨m, fun _ => 0, g⟩ (fun r => (∀ c : Dev Cert.QkvKernel.nD,
      r.2.mem ((c.tc : Thread Cert.QkvKernel.nD Cert.QkvKernel.τ).loc Cert.QkvKernel.main_arg0) = m ((c.tc : Thread Cert.QkvKernel.nD Cert.QkvKernel.τ).loc Cert.QkvKernel.main_arg0)
      ∧ r.2.mem ((c.tc : Thread Cert.QkvKernel.nD Cert.QkvKernel.τ).loc Cert.QkvKernel.main_arg1) = m ((c.tc : Thread Cert.QkvKernel.nD Cert.QkvKernel.τ).loc Cert.QkvKernel.main_arg1)
      ∧ r.2.mem ((c.tc : Thread Cert.QkvKernel.nD Cert.QkvKernel.τ).loc Cert.QkvKernel.main_arg2) = m ((c.tc : Thread Cert.QkvKernel.nD Cert.QkvKernel.τ).loc Cert.QkvKernel.main_arg2)
      ∧ r.2.mem ((c.tc : Thread Cert.QkvKernel.nD Cert.QkvKernel.τ).loc Cert.QkvKernel.main_arg3) = m ((c.tc : Thread Cert.QkvKernel.nD Cert.QkvKernel.τ).loc Cert.QkvKernel.main_arg3)
      ∧ r.2.mem ((c.tc : Thread Cert.QkvKernel.nD Cert.QkvKernel.τ).loc Cert.QkvKernel.main_arg4) = m ((c.tc : Thread Cert.QkvKernel.nD Cert.QkvKernel.τ).loc Cert.QkvKernel.main_arg4)
      ∧ r.2.mem ((c.tc : Thread Cert.QkvKernel.nD Cert.QkvKernel.τ).loc Cert.QkvKernel.main_arg5) = m ((c.tc : Thread Cert.QkvKernel.nD Cert.QkvKernel.τ).loc Cert.QkvKernel.main_arg5)
      ∧ r.2.mem ((c.tc : Thread Cert.QkvKernel.nD Cert.QkvKernel.τ).loc Cert.QkvKernel.main_arg6) = m ((c.tc : Thread Cert.QkvKernel.nD Cert.QkvKernel.τ).loc Cert.QkvKernel.main_arg6))
      ∧ r.2.sem = fun _ => 0)

def quiescent_QkvKernelIdeal [hQkvKernelIdeal : Cert.QkvKernelIdeal.Facts] : Prop :=
  ∀ (m : (ℓ : Loc Cert.QkvKernelIdeal.nD Cert.QkvKernelIdeal.τ Cert.QkvKernelIdeal.sig) → Buf (Elt Ideal) ℓ) (g : Dev Cert.QkvKernelIdeal.nD → PrngReg), Pre_QkvKernelIdeal m →
    θ_run (Cert.QkvKernelIdeal.defs (F := Ideal)) (onTc (τ := Cert.QkvKernelIdeal.τ) (Cert.QkvKernelIdeal.main (F := Ideal))) ⟨m, fun _ => 0, g⟩ (fun r => (∀ c : Dev Cert.QkvKernelIdeal.nD,
      r.2.mem ((c.tc : Thread Cert.QkvKernelIdeal.nD Cert.QkvKernelIdeal.τ).loc Cert.QkvKernelIdeal.main_arg0) = m ((c.tc : Thread Cert.QkvKernelIdeal.nD Cert.QkvKernelIdeal.τ).loc Cert.QkvKernelIdeal.main_arg0)
      ∧ r.2.mem ((c.tc : Thread Cert.QkvKernelIdeal.nD Cert.QkvKernelIdeal.τ).loc Cert.QkvKernelIdeal.main_arg1) = m ((c.tc : Thread Cert.QkvKernelIdeal.nD Cert.QkvKernelIdeal.τ).loc Cert.QkvKernelIdeal.main_arg1)
      ∧ r.2.mem ((c.tc : Thread Cert.QkvKernelIdeal.nD Cert.QkvKernelIdeal.τ).loc Cert.QkvKernelIdeal.main_arg2) = m ((c.tc : Thread Cert.QkvKernelIdeal.nD Cert.QkvKernelIdeal.τ).loc Cert.QkvKernelIdeal.main_arg2)
      ∧ r.2.mem ((c.tc : Thread Cert.QkvKernelIdeal.nD Cert.QkvKernelIdeal.τ).loc Cert.QkvKernelIdeal.main_arg3) = m ((c.tc : Thread Cert.QkvKernelIdeal.nD Cert.QkvKernelIdeal.τ).loc Cert.QkvKernelIdeal.main_arg3)
      ∧ r.2.mem ((c.tc : Thread Cert.QkvKernelIdeal.nD Cert.QkvKernelIdeal.τ).loc Cert.QkvKernelIdeal.main_arg4) = m ((c.tc : Thread Cert.QkvKernelIdeal.nD Cert.QkvKernelIdeal.τ).loc Cert.QkvKernelIdeal.main_arg4)
      ∧ r.2.mem ((c.tc : Thread Cert.QkvKernelIdeal.nD Cert.QkvKernelIdeal.τ).loc Cert.QkvKernelIdeal.main_arg5) = m ((c.tc : Thread Cert.QkvKernelIdeal.nD Cert.QkvKernelIdeal.τ).loc Cert.QkvKernelIdeal.main_arg5)
      ∧ r.2.mem ((c.tc : Thread Cert.QkvKernelIdeal.nD Cert.QkvKernelIdeal.τ).loc Cert.QkvKernelIdeal.main_arg6) = m ((c.tc : Thread Cert.QkvKernelIdeal.nD Cert.QkvKernelIdeal.τ).loc Cert.QkvKernelIdeal.main_arg6))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3)
      ∧ r.2.mem ((c.tc : Thread Cert.QkvReferenceIdeal.nD Cert.QkvReferenceIdeal.τ).loc Cert.QkvReferenceIdeal.main_arg4) = m ((c.tc : Thread Cert.QkvReferenceIdeal.nD Cert.QkvReferenceIdeal.τ).loc Cert.QkvReferenceIdeal.main_arg4)
      ∧ r.2.mem ((c.tc : Thread Cert.QkvReferenceIdeal.nD Cert.QkvReferenceIdeal.τ).loc Cert.QkvReferenceIdeal.main_arg5) = m ((c.tc : Thread Cert.QkvReferenceIdeal.nD Cert.QkvReferenceIdeal.τ).loc Cert.QkvReferenceIdeal.main_arg5)
      ∧ r.2.mem ((c.tc : Thread Cert.QkvReferenceIdeal.nD Cert.QkvReferenceIdeal.τ).loc Cert.QkvReferenceIdeal.main_arg6) = m ((c.tc : Thread Cert.QkvReferenceIdeal.nD Cert.QkvReferenceIdeal.τ).loc Cert.QkvReferenceIdeal.main_arg6))
      ∧ r.2.sem = fun _ => 0)

def quiescent_OprojKernel [hOprojKernel : Cert.OprojKernel.Facts] : Prop :=
  ∀ (m : (ℓ : Loc Cert.OprojKernel.nD Cert.OprojKernel.τ Cert.OprojKernel.sig) → Buf (Elt Bits) ℓ) (g : Dev Cert.OprojKernel.nD → PrngReg), Pre_OprojKernel m →
    θ_run (Cert.OprojKernel.defs (F := Bits)) (onTc (τ := Cert.OprojKernel.τ) (Cert.OprojKernel.main (F := Bits))) ⟨m, fun _ => 0, g⟩ (fun r => (∀ c : Dev Cert.OprojKernel.nD,
      r.2.mem ((c.tc : Thread Cert.OprojKernel.nD Cert.OprojKernel.τ).loc Cert.OprojKernel.main_arg0) = m ((c.tc : Thread Cert.OprojKernel.nD Cert.OprojKernel.τ).loc Cert.OprojKernel.main_arg0)
      ∧ r.2.mem ((c.tc : Thread Cert.OprojKernel.nD Cert.OprojKernel.τ).loc Cert.OprojKernel.main_arg1) = m ((c.tc : Thread Cert.OprojKernel.nD Cert.OprojKernel.τ).loc Cert.OprojKernel.main_arg1)
      ∧ r.2.mem ((c.tc : Thread Cert.OprojKernel.nD Cert.OprojKernel.τ).loc Cert.OprojKernel.main_arg2) = m ((c.tc : Thread Cert.OprojKernel.nD Cert.OprojKernel.τ).loc Cert.OprojKernel.main_arg2)
      ∧ r.2.mem ((c.tc : Thread Cert.OprojKernel.nD Cert.OprojKernel.τ).loc Cert.OprojKernel.main_arg3) = m ((c.tc : Thread Cert.OprojKernel.nD Cert.OprojKernel.τ).loc Cert.OprojKernel.main_arg3)
      ∧ r.2.mem ((c.tc : Thread Cert.OprojKernel.nD Cert.OprojKernel.τ).loc Cert.OprojKernel.main_arg4) = m ((c.tc : Thread Cert.OprojKernel.nD Cert.OprojKernel.τ).loc Cert.OprojKernel.main_arg4)
      ∧ r.2.mem ((c.tc : Thread Cert.OprojKernel.nD Cert.OprojKernel.τ).loc Cert.OprojKernel.main_arg5) = m ((c.tc : Thread Cert.OprojKernel.nD Cert.OprojKernel.τ).loc Cert.OprojKernel.main_arg5)
      ∧ r.2.mem ((c.tc : Thread Cert.OprojKernel.nD Cert.OprojKernel.τ).loc Cert.OprojKernel.main_arg6) = m ((c.tc : Thread Cert.OprojKernel.nD Cert.OprojKernel.τ).loc Cert.OprojKernel.main_arg6)
      ∧ r.2.mem ((c.tc : Thread Cert.OprojKernel.nD Cert.OprojKernel.τ).loc Cert.OprojKernel.main_arg7) = m ((c.tc : Thread Cert.OprojKernel.nD Cert.OprojKernel.τ).loc Cert.OprojKernel.main_arg7))
      ∧ r.2.sem = fun _ => 0)

def quiescent_OprojKernelIdeal [hOprojKernelIdeal : Cert.OprojKernelIdeal.Facts] : Prop :=
  ∀ (m : (ℓ : Loc Cert.OprojKernelIdeal.nD Cert.OprojKernelIdeal.τ Cert.OprojKernelIdeal.sig) → Buf (Elt Ideal) ℓ) (g : Dev Cert.OprojKernelIdeal.nD → PrngReg), Pre_OprojKernelIdeal m →
    θ_run (Cert.OprojKernelIdeal.defs (F := Ideal)) (onTc (τ := Cert.OprojKernelIdeal.τ) (Cert.OprojKernelIdeal.main (F := Ideal))) ⟨m, fun _ => 0, g⟩ (fun r => (∀ c : Dev Cert.OprojKernelIdeal.nD,
      r.2.mem ((c.tc : Thread Cert.OprojKernelIdeal.nD Cert.OprojKernelIdeal.τ).loc Cert.OprojKernelIdeal.main_arg0) = m ((c.tc : Thread Cert.OprojKernelIdeal.nD Cert.OprojKernelIdeal.τ).loc Cert.OprojKernelIdeal.main_arg0)
      ∧ r.2.mem ((c.tc : Thread Cert.OprojKernelIdeal.nD Cert.OprojKernelIdeal.τ).loc Cert.OprojKernelIdeal.main_arg1) = m ((c.tc : Thread Cert.OprojKernelIdeal.nD Cert.OprojKernelIdeal.τ).loc Cert.OprojKernelIdeal.main_arg1)
      ∧ r.2.mem ((c.tc : Thread Cert.OprojKernelIdeal.nD Cert.OprojKernelIdeal.τ).loc Cert.OprojKernelIdeal.main_arg2) = m ((c.tc : Thread Cert.OprojKernelIdeal.nD Cert.OprojKernelIdeal.τ).loc Cert.OprojKernelIdeal.main_arg2)
      ∧ r.2.mem ((c.tc : Thread Cert.OprojKernelIdeal.nD Cert.OprojKernelIdeal.τ).loc Cert.OprojKernelIdeal.main_arg3) = m ((c.tc : Thread Cert.OprojKernelIdeal.nD Cert.OprojKernelIdeal.τ).loc Cert.OprojKernelIdeal.main_arg3)
      ∧ r.2.mem ((c.tc : Thread Cert.OprojKernelIdeal.nD Cert.OprojKernelIdeal.τ).loc Cert.OprojKernelIdeal.main_arg4) = m ((c.tc : Thread Cert.OprojKernelIdeal.nD Cert.OprojKernelIdeal.τ).loc Cert.OprojKernelIdeal.main_arg4)
      ∧ r.2.mem ((c.tc : Thread Cert.OprojKernelIdeal.nD Cert.OprojKernelIdeal.τ).loc Cert.OprojKernelIdeal.main_arg5) = m ((c.tc : Thread Cert.OprojKernelIdeal.nD Cert.OprojKernelIdeal.τ).loc Cert.OprojKernelIdeal.main_arg5)
      ∧ r.2.mem ((c.tc : Thread Cert.OprojKernelIdeal.nD Cert.OprojKernelIdeal.τ).loc Cert.OprojKernelIdeal.main_arg6) = m ((c.tc : Thread Cert.OprojKernelIdeal.nD Cert.OprojKernelIdeal.τ).loc Cert.OprojKernelIdeal.main_arg6)
      ∧ r.2.mem ((c.tc : Thread Cert.OprojKernelIdeal.nD Cert.OprojKernelIdeal.τ).loc Cert.OprojKernelIdeal.main_arg7) = m ((c.tc : Thread Cert.OprojKernelIdeal.nD Cert.OprojKernelIdeal.τ).loc Cert.OprojKernelIdeal.main_arg7))
      ∧ r.2.sem = fun _ => 0)

def quiescent_OprojKernelIdeal_pre_o_channels_valid [hOprojKernelIdeal : Cert.OprojKernelIdeal.Facts] [hPre_o_channels_valid : Cert.Pre_o_channels_valid.Facts] : Prop :=
  ∀ (m : (ℓ : Loc Cert.OprojKernelIdeal.nD Cert.OprojKernelIdeal.τ Cert.OprojKernelIdeal.sig) → Buf (Elt Ideal) ℓ) (g : Dev Cert.OprojKernelIdeal.nD → PrngReg), Pre_OprojKernelIdeal_o_channels_valid m →
    θ_run (Cert.OprojKernelIdeal.defs (F := Ideal)) (onTc (τ := Cert.OprojKernelIdeal.τ) (Cert.OprojKernelIdeal.main (F := Ideal))) ⟨m, fun _ => 0, g⟩ (fun r => (∀ c : Dev Cert.OprojKernelIdeal.nD,
      r.2.mem ((c.tc : Thread Cert.OprojKernelIdeal.nD Cert.OprojKernelIdeal.τ).loc Cert.OprojKernelIdeal.main_arg0) = m ((c.tc : Thread Cert.OprojKernelIdeal.nD Cert.OprojKernelIdeal.τ).loc Cert.OprojKernelIdeal.main_arg0)
      ∧ r.2.mem ((c.tc : Thread Cert.OprojKernelIdeal.nD Cert.OprojKernelIdeal.τ).loc Cert.OprojKernelIdeal.main_arg1) = m ((c.tc : Thread Cert.OprojKernelIdeal.nD Cert.OprojKernelIdeal.τ).loc Cert.OprojKernelIdeal.main_arg1)
      ∧ r.2.mem ((c.tc : Thread Cert.OprojKernelIdeal.nD Cert.OprojKernelIdeal.τ).loc Cert.OprojKernelIdeal.main_arg2) = m ((c.tc : Thread Cert.OprojKernelIdeal.nD Cert.OprojKernelIdeal.τ).loc Cert.OprojKernelIdeal.main_arg2)
      ∧ r.2.mem ((c.tc : Thread Cert.OprojKernelIdeal.nD Cert.OprojKernelIdeal.τ).loc Cert.OprojKernelIdeal.main_arg3) = m ((c.tc : Thread Cert.OprojKernelIdeal.nD Cert.OprojKernelIdeal.τ).loc Cert.OprojKernelIdeal.main_arg3)
      ∧ r.2.mem ((c.tc : Thread Cert.OprojKernelIdeal.nD Cert.OprojKernelIdeal.τ).loc Cert.OprojKernelIdeal.main_arg4) = m ((c.tc : Thread Cert.OprojKernelIdeal.nD Cert.OprojKernelIdeal.τ).loc Cert.OprojKernelIdeal.main_arg4)
      ∧ r.2.mem ((c.tc : Thread Cert.OprojKernelIdeal.nD Cert.OprojKernelIdeal.τ).loc Cert.OprojKernelIdeal.main_arg5) = m ((c.tc : Thread Cert.OprojKernelIdeal.nD Cert.OprojKernelIdeal.τ).loc Cert.OprojKernelIdeal.main_arg5)
      ∧ r.2.mem ((c.tc : Thread Cert.OprojKernelIdeal.nD Cert.OprojKernelIdeal.τ).loc Cert.OprojKernelIdeal.main_arg6) = m ((c.tc : Thread Cert.OprojKernelIdeal.nD Cert.OprojKernelIdeal.τ).loc Cert.OprojKernelIdeal.main_arg6)
      ∧ r.2.mem ((c.tc : Thread Cert.OprojKernelIdeal.nD Cert.OprojKernelIdeal.τ).loc Cert.OprojKernelIdeal.main_arg7) = m ((c.tc : Thread Cert.OprojKernelIdeal.nD Cert.OprojKernelIdeal.τ).loc Cert.OprojKernelIdeal.main_arg7))
      ∧ r.2.sem = fun _ => 0)

def quiescent_OprojReferenceIdeal [hOprojReferenceIdeal : Cert.OprojReferenceIdeal.Facts] : Prop :=
  ∀ (m : (ℓ : Loc Cert.OprojReferenceIdeal.nD Cert.OprojReferenceIdeal.τ Cert.OprojReferenceIdeal.sig) → Buf (Elt Ideal) ℓ) (g : Dev Cert.OprojReferenceIdeal.nD → PrngReg), Pre_OprojReferenceIdeal m →
    θ_run (Cert.OprojReferenceIdeal.defs (F := Ideal)) (onTc (τ := Cert.OprojReferenceIdeal.τ) (Cert.OprojReferenceIdeal.main (F := Ideal))) ⟨m, fun _ => 0, g⟩ (fun r => (∀ c : Dev Cert.OprojReferenceIdeal.nD,
      r.2.mem ((c.tc : Thread Cert.OprojReferenceIdeal.nD Cert.OprojReferenceIdeal.τ).loc Cert.OprojReferenceIdeal.main_arg0) = m ((c.tc : Thread Cert.OprojReferenceIdeal.nD Cert.OprojReferenceIdeal.τ).loc Cert.OprojReferenceIdeal.main_arg0)
      ∧ r.2.mem ((c.tc : Thread Cert.OprojReferenceIdeal.nD Cert.OprojReferenceIdeal.τ).loc Cert.OprojReferenceIdeal.main_arg1) = m ((c.tc : Thread Cert.OprojReferenceIdeal.nD Cert.OprojReferenceIdeal.τ).loc Cert.OprojReferenceIdeal.main_arg1)
      ∧ r.2.mem ((c.tc : Thread Cert.OprojReferenceIdeal.nD Cert.OprojReferenceIdeal.τ).loc Cert.OprojReferenceIdeal.main_arg2) = m ((c.tc : Thread Cert.OprojReferenceIdeal.nD Cert.OprojReferenceIdeal.τ).loc Cert.OprojReferenceIdeal.main_arg2)
      ∧ r.2.mem ((c.tc : Thread Cert.OprojReferenceIdeal.nD Cert.OprojReferenceIdeal.τ).loc Cert.OprojReferenceIdeal.main_arg3) = m ((c.tc : Thread Cert.OprojReferenceIdeal.nD Cert.OprojReferenceIdeal.τ).loc Cert.OprojReferenceIdeal.main_arg3)
      ∧ r.2.mem ((c.tc : Thread Cert.OprojReferenceIdeal.nD Cert.OprojReferenceIdeal.τ).loc Cert.OprojReferenceIdeal.main_arg4) = m ((c.tc : Thread Cert.OprojReferenceIdeal.nD Cert.OprojReferenceIdeal.τ).loc Cert.OprojReferenceIdeal.main_arg4)
      ∧ r.2.mem ((c.tc : Thread Cert.OprojReferenceIdeal.nD Cert.OprojReferenceIdeal.τ).loc Cert.OprojReferenceIdeal.main_arg5) = m ((c.tc : Thread Cert.OprojReferenceIdeal.nD Cert.OprojReferenceIdeal.τ).loc Cert.OprojReferenceIdeal.main_arg5)
      ∧ r.2.mem ((c.tc : Thread Cert.OprojReferenceIdeal.nD Cert.OprojReferenceIdeal.τ).loc Cert.OprojReferenceIdeal.main_arg6) = m ((c.tc : Thread Cert.OprojReferenceIdeal.nD Cert.OprojReferenceIdeal.τ).loc Cert.OprojReferenceIdeal.main_arg6)
      ∧ r.2.mem ((c.tc : Thread Cert.OprojReferenceIdeal.nD Cert.OprojReferenceIdeal.τ).loc Cert.OprojReferenceIdeal.main_arg7) = m ((c.tc : Thread Cert.OprojReferenceIdeal.nD Cert.OprojReferenceIdeal.τ).loc Cert.OprojReferenceIdeal.main_arg7))
      ∧ r.2.sem = fun _ => 0)

def quiescent_OprojReferenceIdeal_pre_o_channels_valid [hOprojReferenceIdeal : Cert.OprojReferenceIdeal.Facts] [hPre_o_channels_valid : Cert.Pre_o_channels_valid.Facts] : Prop :=
  ∀ (m : (ℓ : Loc Cert.OprojReferenceIdeal.nD Cert.OprojReferenceIdeal.τ Cert.OprojReferenceIdeal.sig) → Buf (Elt Ideal) ℓ) (g : Dev Cert.OprojReferenceIdeal.nD → PrngReg), Pre_OprojReferenceIdeal_o_channels_valid m →
    θ_run (Cert.OprojReferenceIdeal.defs (F := Ideal)) (onTc (τ := Cert.OprojReferenceIdeal.τ) (Cert.OprojReferenceIdeal.main (F := Ideal))) ⟨m, fun _ => 0, g⟩ (fun r => (∀ c : Dev Cert.OprojReferenceIdeal.nD,
      r.2.mem ((c.tc : Thread Cert.OprojReferenceIdeal.nD Cert.OprojReferenceIdeal.τ).loc Cert.OprojReferenceIdeal.main_arg0) = m ((c.tc : Thread Cert.OprojReferenceIdeal.nD Cert.OprojReferenceIdeal.τ).loc Cert.OprojReferenceIdeal.main_arg0)
      ∧ r.2.mem ((c.tc : Thread Cert.OprojReferenceIdeal.nD Cert.OprojReferenceIdeal.τ).loc Cert.OprojReferenceIdeal.main_arg1) = m ((c.tc : Thread Cert.OprojReferenceIdeal.nD Cert.OprojReferenceIdeal.τ).loc Cert.OprojReferenceIdeal.main_arg1)
      ∧ r.2.mem ((c.tc : Thread Cert.OprojReferenceIdeal.nD Cert.OprojReferenceIdeal.τ).loc Cert.OprojReferenceIdeal.main_arg2) = m ((c.tc : Thread Cert.OprojReferenceIdeal.nD Cert.OprojReferenceIdeal.τ).loc Cert.OprojReferenceIdeal.main_arg2)
      ∧ r.2.mem ((c.tc : Thread Cert.OprojReferenceIdeal.nD Cert.OprojReferenceIdeal.τ).loc Cert.OprojReferenceIdeal.main_arg3) = m ((c.tc : Thread Cert.OprojReferenceIdeal.nD Cert.OprojReferenceIdeal.τ).loc Cert.OprojReferenceIdeal.main_arg3)
      ∧ r.2.mem ((c.tc : Thread Cert.OprojReferenceIdeal.nD Cert.OprojReferenceIdeal.τ).loc Cert.OprojReferenceIdeal.main_arg4) = m ((c.tc : Thread Cert.OprojReferenceIdeal.nD Cert.OprojReferenceIdeal.τ).loc Cert.OprojReferenceIdeal.main_arg4)
      ∧ r.2.mem ((c.tc : Thread Cert.OprojReferenceIdeal.nD Cert.OprojReferenceIdeal.τ).loc Cert.OprojReferenceIdeal.main_arg5) = m ((c.tc : Thread Cert.OprojReferenceIdeal.nD Cert.OprojReferenceIdeal.τ).loc Cert.OprojReferenceIdeal.main_arg5)
      ∧ r.2.mem ((c.tc : Thread Cert.OprojReferenceIdeal.nD Cert.OprojReferenceIdeal.τ).loc Cert.OprojReferenceIdeal.main_arg6) = m ((c.tc : Thread Cert.OprojReferenceIdeal.nD Cert.OprojReferenceIdeal.τ).loc Cert.OprojReferenceIdeal.main_arg6)
      ∧ r.2.mem ((c.tc : Thread Cert.OprojReferenceIdeal.nD Cert.OprojReferenceIdeal.τ).loc Cert.OprojReferenceIdeal.main_arg7) = m ((c.tc : Thread Cert.OprojReferenceIdeal.nD Cert.OprojReferenceIdeal.τ).loc Cert.OprojReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)) (v4 : (c : Dev Cert.KernelIdeal.nD) → Buf (Elt Ideal) ((c.tc : Thread Cert.KernelIdeal.nD Cert.KernelIdeal.τ).loc Cert.KernelIdeal.main_v7_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v7_3) = v3 c
          ∧ r.2.mem ((c.tc : Thread Cert.KernelIdeal.nD Cert.KernelIdeal.τ).loc Cert.KernelIdeal.main_v7_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7_0) = v0 c
          ∧ r.2.mem ((c.tc : Thread Cert.ReferenceIdeal.nD Cert.ReferenceIdeal.τ).loc Cert.ReferenceIdeal.main_v7_1) = v1 c
          ∧ r.2.mem ((c.tc : Thread Cert.ReferenceIdeal.nD Cert.ReferenceIdeal.τ).loc Cert.ReferenceIdeal.main_v7_2) = v2 c
          ∧ r.2.mem ((c.tc : Thread Cert.ReferenceIdeal.nD Cert.ReferenceIdeal.τ).loc Cert.ReferenceIdeal.main_v7_3) = v3 c
          ∧ r.2.mem ((c.tc : Thread Cert.ReferenceIdeal.nD Cert.ReferenceIdeal.τ).loc Cert.ReferenceIdeal.main_v7_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_QkvKernel_QkvKernelIdeal : Prop :=
  True

def algebraic_QkvKernelIdeal_QkvReferenceIdeal [hQkvKernelIdeal : Cert.QkvKernelIdeal.Facts] [hQkvReferenceIdeal : Cert.QkvReferenceIdeal.Facts] : Prop :=
  ∀ (m : (ℓ : Loc Cert.QkvKernelIdeal.nD Cert.QkvKernelIdeal.τ Cert.QkvKernelIdeal.sig) → Buf (Elt Ideal) ℓ) (g : Dev Cert.QkvKernelIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvKernelIdeal m →
    (∀ c : Dev Cert.QkvKernelIdeal.nD,
      m' ((c.tc : Thread Cert.QkvReferenceIdeal.nD Cert.QkvReferenceIdeal.τ).loc Cert.QkvReferenceIdeal.main_arg0) = m ((c.tc : Thread Cert.QkvKernelIdeal.nD Cert.QkvKernelIdeal.τ).loc Cert.QkvKernelIdeal.main_arg0)
      ∧ m' ((c.tc : Thread Cert.QkvReferenceIdeal.nD Cert.QkvReferenceIdeal.τ).loc Cert.QkvReferenceIdeal.main_arg1) = m ((c.tc : Thread Cert.QkvKernelIdeal.nD Cert.QkvKernelIdeal.τ).loc Cert.QkvKernelIdeal.main_arg1)
      ∧ m' ((c.tc : Thread Cert.QkvReferenceIdeal.nD Cert.QkvReferenceIdeal.τ).loc Cert.QkvReferenceIdeal.main_arg2) = m ((c.tc : Thread Cert.QkvKernelIdeal.nD Cert.QkvKernelIdeal.τ).loc Cert.QkvKernelIdeal.main_arg2)
      ∧ m' ((c.tc : Thread Cert.QkvReferenceIdeal.nD Cert.QkvReferenceIdeal.τ).loc Cert.QkvReferenceIdeal.main_arg3) = m ((c.tc : Thread Cert.QkvKernelIdeal.nD Cert.QkvKernelIdeal.τ).loc Cert.QkvKernelIdeal.main_arg3)
      ∧ m' ((c.tc : Thread Cert.QkvReferenceIdeal.nD Cert.QkvReferenceIdeal.τ).loc Cert.QkvReferenceIdeal.main_arg4) = m ((c.tc : Thread Cert.QkvKernelIdeal.nD Cert.QkvKernelIdeal.τ).loc Cert.QkvKernelIdeal.main_arg4)
      ∧ m' ((c.tc : Thread Cert.QkvReferenceIdeal.nD Cert.QkvReferenceIdeal.τ).loc Cert.QkvReferenceIdeal.main_arg5) = m ((c.tc : Thread Cert.QkvKernelIdeal.nD Cert.QkvKernelIdeal.τ).loc Cert.QkvKernelIdeal.main_arg5)
      ∧ m' ((c.tc : Thread Cert.QkvReferenceIdeal.nD Cert.QkvReferenceIdeal.τ).loc Cert.QkvReferenceIdeal.main_arg6) = m ((c.tc : Thread Cert.QkvKernelIdeal.nD Cert.QkvKernelIdeal.τ).loc Cert.QkvKernelIdeal.main_arg6)) →
    ∃ (v0 : (c : Dev Cert.QkvKernelIdeal.nD) → Buf (Elt Ideal) ((c.tc : Thread Cert.QkvKernelIdeal.nD Cert.QkvKernelIdeal.τ).loc Cert.QkvKernelIdeal.main_v5_0)) (v1 : (c : Dev Cert.QkvKernelIdeal.nD) → Buf (Elt Ideal) ((c.tc : Thread Cert.QkvKernelIdeal.nD Cert.QkvKernelIdeal.τ).loc Cert.QkvKernelIdeal.main_v5_1)) (v2 : (c : Dev Cert.QkvKernelIdeal.nD) → Buf (Elt Ideal) ((c.tc : Thread Cert.QkvKernelIdeal.nD Cert.QkvKernelIdeal.τ).loc Cert.QkvKernelIdeal.main_v5_3)) (v3 : (c : Dev Cert.QkvKernelIdeal.nD) → Buf (Elt Ideal) ((c.tc : Thread Cert.QkvKernelIdeal.nD Cert.QkvKernelIdeal.τ).loc Cert.QkvKernelIdeal.main_v5_4)) (v4 : (c : Dev Cert.QkvKernelIdeal.nD) → Buf (Elt Ideal) ((c.tc : Thread Cert.QkvKernelIdeal.nD Cert.QkvKernelIdeal.τ).loc Cert.QkvKernelIdeal.main_v5_5)) (v5 : (c : Dev Cert.QkvKernelIdeal.nD) → Buf (Elt Ideal) ((c.tc : Thread Cert.QkvKernelIdeal.nD Cert.QkvKernelIdeal.τ).loc Cert.QkvKernelIdeal.main_v5_6)),
      θ_run (Cert.QkvKernelIdeal.defs (F := Ideal)) (onTc (τ := Cert.QkvKernelIdeal.τ) (Cert.QkvKernelIdeal.main (F := Ideal))) ⟨m, fun _ => 0, g⟩ (fun r => ∀ c : Dev Cert.QkvKernelIdeal.nD,
          r.2.mem ((c.tc : Thread Cert.QkvKernelIdeal.nD Cert.QkvKernelIdeal.τ).loc Cert.QkvKernelIdeal.main_v5_0) = v0 c
          ∧ r.2.mem ((c.tc : Thread Cert.QkvKernelIdeal.nD Cert.QkvKernelIdeal.τ).loc Cert.QkvKernelIdeal.main_v5_1) = v1 c
          ∧ r.2.mem ((c.tc : Thread Cert.QkvKernelIdeal.nD Cert.QkvKernelIdeal.τ).loc Cert.QkvKernelIdeal.main_v5_3) = v2 c
          ∧ r.2.mem ((c.tc : Thread Cert.QkvKernelIdeal.nD Cert.QkvKernelIdeal.τ).loc Cert.QkvKernelIdeal.main_v5_4) = v3 c
          ∧ r.2.mem ((c.tc : Thread Cert.QkvKernelIdeal.nD Cert.QkvKernelIdeal.τ).loc Cert.QkvKernelIdeal.main_v5_5) = v4 c
          ∧ r.2.mem ((c.tc : Thread Cert.QkvKernelIdeal.nD Cert.QkvKernelIdeal.τ).loc Cert.QkvKernelIdeal.main_v5_6) = v5 c
          ∧ r.2.mem ((c.tc : Thread Cert.QkvKernelIdeal.nD Cert.QkvKernelIdeal.τ).loc Cert.QkvKernelIdeal.main_arg0) = m ((c.tc : Thread Cert.QkvKernelIdeal.nD Cert.QkvKernelIdeal.τ).loc Cert.QkvKernelIdeal.main_arg0)
          ∧ r.2.mem ((c.tc : Thread Cert.QkvKernelIdeal.nD Cert.QkvKernelIdeal.τ).loc Cert.QkvKernelIdeal.main_arg1) = m ((c.tc : Thread Cert.QkvKernelIdeal.nD Cert.QkvKernelIdeal.τ).loc Cert.QkvKernelIdeal.main_arg1)
          ∧ r.2.mem ((c.tc : Thread Cert.QkvKernelIdeal.nD Cert.QkvKernelIdeal.τ).loc Cert.QkvKernelIdeal.main_arg2) = m ((c.tc : Thread Cert.QkvKernelIdeal.nD Cert.QkvKernelIdeal.τ).loc Cert.QkvKernelIdeal.main_arg2)
          ∧ r.2.mem ((c.tc : Thread Cert.QkvKernelIdeal.nD Cert.QkvKernelIdeal.τ).loc Cert.QkvKernelIdeal.main_arg3) = m ((c.tc : Thread Cert.QkvKernelIdeal.nD Cert.QkvKernelIdeal.τ).loc Cert.QkvKernelIdeal.main_arg3)
          ∧ r.2.mem ((c.tc : Thread Cert.QkvKernelIdeal.nD Cert.QkvKernelIdeal.τ).loc Cert.QkvKernelIdeal.main_arg4) = m ((c.tc : Thread Cert.QkvKernelIdeal.nD Cert.QkvKernelIdeal.τ).loc Cert.QkvKernelIdeal.main_arg4)
          ∧ r.2.mem ((c.tc : Thread Cert.QkvKernelIdeal.nD Cert.QkvKernelIdeal.τ).loc Cert.QkvKernelIdeal.main_arg5) = m ((c.tc : Thread Cert.QkvKernelIdeal.nD Cert.QkvKernelIdeal.τ).loc Cert.QkvKernelIdeal.main_arg5)
          ∧ r.2.mem ((c.tc : Thread Cert.QkvKernelIdeal.nD Cert.QkvKernelIdeal.τ).loc Cert.QkvKernelIdeal.main_arg6) = m ((c.tc : Thread Cert.QkvKernelIdeal.nD Cert.QkvKernelIdeal.τ).loc Cert.QkvKernelIdeal.main_arg6))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v5_0) = v0 c
          ∧ r.2.mem ((c.tc : Thread Cert.QkvReferenceIdeal.nD Cert.QkvReferenceIdeal.τ).loc Cert.QkvReferenceIdeal.main_v5_1) = v1 c
          ∧ r.2.mem ((c.tc : Thread Cert.QkvReferenceIdeal.nD Cert.QkvReferenceIdeal.τ).loc Cert.QkvReferenceIdeal.main_v5_2) = v2 c
          ∧ r.2.mem ((c.tc : Thread Cert.QkvReferenceIdeal.nD Cert.QkvReferenceIdeal.τ).loc Cert.QkvReferenceIdeal.main_v5_3) = v3 c
          ∧ r.2.mem ((c.tc : Thread Cert.QkvReferenceIdeal.nD Cert.QkvReferenceIdeal.τ).loc Cert.QkvReferenceIdeal.main_v5_4) = v4 c
          ∧ r.2.mem ((c.tc : Thread Cert.QkvReferenceIdeal.nD Cert.QkvReferenceIdeal.τ).loc Cert.QkvReferenceIdeal.main_v5_5) = v5 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2)
          ∧ r.2.mem ((c.tc : Thread Cert.QkvReferenceIdeal.nD Cert.QkvReferenceIdeal.τ).loc Cert.QkvReferenceIdeal.main_arg3) = m' ((c.tc : Thread Cert.QkvReferenceIdeal.nD Cert.QkvReferenceIdeal.τ).loc Cert.QkvReferenceIdeal.main_arg3)
          ∧ r.2.mem ((c.tc : Thread Cert.QkvReferenceIdeal.nD Cert.QkvReferenceIdeal.τ).loc Cert.QkvReferenceIdeal.main_arg4) = m' ((c.tc : Thread Cert.QkvReferenceIdeal.nD Cert.QkvReferenceIdeal.τ).loc Cert.QkvReferenceIdeal.main_arg4)
          ∧ r.2.mem ((c.tc : Thread Cert.QkvReferenceIdeal.nD Cert.QkvReferenceIdeal.τ).loc Cert.QkvReferenceIdeal.main_arg5) = m' ((c.tc : Thread Cert.QkvReferenceIdeal.nD Cert.QkvReferenceIdeal.τ).loc Cert.QkvReferenceIdeal.main_arg5)
          ∧ r.2.mem ((c.tc : Thread Cert.QkvReferenceIdeal.nD Cert.QkvReferenceIdeal.τ).loc Cert.QkvReferenceIdeal.main_arg6) = m' ((c.tc : Thread Cert.QkvReferenceIdeal.nD Cert.QkvReferenceIdeal.τ).loc Cert.QkvReferenceIdeal.main_arg6))

def preserves_OprojKernel_OprojKernelIdeal : Prop :=
  True

def algebraic_OprojKernelIdeal_OprojReferenceIdeal_pre_o_channels_valid [hOprojKernelIdeal : Cert.OprojKernelIdeal.Facts] [hOprojReferenceIdeal : Cert.OprojReferenceIdeal.Facts] [hPre_o_channels_valid : Cert.Pre_o_channels_valid.Facts] : Prop :=
  ∀ (m : (ℓ : Loc Cert.OprojKernelIdeal.nD Cert.OprojKernelIdeal.τ Cert.OprojKernelIdeal.sig) → Buf (Elt Ideal) ℓ) (g : Dev Cert.OprojKernelIdeal.nD → PrngReg)
    (m' : (ℓ : Loc Cert.OprojReferenceIdeal.nD Cert.OprojReferenceIdeal.τ Cert.OprojReferenceIdeal.sig) → Buf (Elt Ideal) ℓ) (g' : Dev Cert.OprojReferenceIdeal.nD → PrngReg), Pre_OprojKernelIdeal_o_channels_valid m →
    (∀ c : Dev Cert.OprojKernelIdeal.nD,
      m' ((c.tc : Thread Cert.OprojReferenceIdeal.nD Cert.OprojReferenceIdeal.τ).loc Cert.OprojReferenceIdeal.main_arg0) = m ((c.tc : Thread Cert.OprojKernelIdeal.nD Cert.OprojKernelIdeal.τ).loc Cert.OprojKernelIdeal.main_arg0)
      ∧ m' ((c.tc : Thread Cert.OprojReferenceIdeal.nD Cert.OprojReferenceIdeal.τ).loc Cert.OprojReferenceIdeal.main_arg1) = m ((c.tc : Thread Cert.OprojKernelIdeal.nD Cert.OprojKernelIdeal.τ).loc Cert.OprojKernelIdeal.main_arg1)
      ∧ m' ((c.tc : Thread Cert.OprojReferenceIdeal.nD Cert.OprojReferenceIdeal.τ).loc Cert.OprojReferenceIdeal.main_arg2) = m ((c.tc : Thread Cert.OprojKernelIdeal.nD Cert.OprojKernelIdeal.τ).loc Cert.OprojKernelIdeal.main_arg2)
      ∧ m' ((c.tc : Thread Cert.OprojReferenceIdeal.nD Cert.OprojReferenceIdeal.τ).loc Cert.OprojReferenceIdeal.main_arg3) = m ((c.tc : Thread Cert.OprojKernelIdeal.nD Cert.OprojKernelIdeal.τ).loc Cert.OprojKernelIdeal.main_arg3)
      ∧ m' ((c.tc : Thread Cert.OprojReferenceIdeal.nD Cert.OprojReferenceIdeal.τ).loc Cert.OprojReferenceIdeal.main_arg4) = m ((c.tc : Thread Cert.OprojKernelIdeal.nD Cert.OprojKernelIdeal.τ).loc Cert.OprojKernelIdeal.main_arg4)
      ∧ m' ((c.tc : Thread Cert.OprojReferenceIdeal.nD Cert.OprojReferenceIdeal.τ).loc Cert.OprojReferenceIdeal.main_arg5) = m ((c.tc : Thread Cert.OprojKernelIdeal.nD Cert.OprojKernelIdeal.τ).loc Cert.OprojKernelIdeal.main_arg5)
      ∧ m' ((c.tc : Thread Cert.OprojReferenceIdeal.nD Cert.OprojReferenceIdeal.τ).loc Cert.OprojReferenceIdeal.main_arg6) = m ((c.tc : Thread Cert.OprojKernelIdeal.nD Cert.OprojKernelIdeal.τ).loc Cert.OprojKernelIdeal.main_arg6)
      ∧ m' ((c.tc : Thread Cert.OprojReferenceIdeal.nD Cert.OprojReferenceIdeal.τ).loc Cert.OprojReferenceIdeal.main_arg7) = m ((c.tc : Thread Cert.OprojKernelIdeal.nD Cert.OprojKernelIdeal.τ).loc Cert.OprojKernelIdeal.main_arg7)) →
    ∃ (v0 : (c : Dev Cert.OprojKernelIdeal.nD) → Buf (Elt Ideal) ((c.tc : Thread Cert.OprojKernelIdeal.nD Cert.OprojKernelIdeal.τ).loc Cert.OprojKernelIdeal.main_v5_0)) (v1 : (c : Dev Cert.OprojKernelIdeal.nD) → Buf (Elt Ideal) ((c.tc : Thread Cert.OprojKernelIdeal.nD Cert.OprojKernelIdeal.τ).loc Cert.OprojKernelIdeal.main_v5_1)) (v2 : (c : Dev Cert.OprojKernelIdeal.nD) → Buf (Elt Ideal) ((c.tc : Thread Cert.OprojKernelIdeal.nD Cert.OprojKernelIdeal.τ).loc Cert.OprojKernelIdeal.main_v5_2)),
      θ_run (Cert.OprojKernelIdeal.defs (F := Ideal)) (onTc (τ := Cert.OprojKernelIdeal.τ) (Cert.OprojKernelIdeal.main (F := Ideal))) ⟨m, fun _ => 0, g⟩ (fun r => ∀ c : Dev Cert.OprojKernelIdeal.nD,
          r.2.mem ((c.tc : Thread Cert.OprojKernelIdeal.nD Cert.OprojKernelIdeal.τ).loc Cert.OprojKernelIdeal.main_v5_0) = v0 c
          ∧ r.2.mem ((c.tc : Thread Cert.OprojKernelIdeal.nD Cert.OprojKernelIdeal.τ).loc Cert.OprojKernelIdeal.main_v5_1) = v1 c
          ∧ r.2.mem ((c.tc : Thread Cert.OprojKernelIdeal.nD Cert.OprojKernelIdeal.τ).loc Cert.OprojKernelIdeal.main_v5_2) = v2 c
          ∧ r.2.mem ((c.tc : Thread Cert.OprojKernelIdeal.nD Cert.OprojKernelIdeal.τ).loc Cert.OprojKernelIdeal.main_arg0) = m ((c.tc : Thread Cert.OprojKernelIdeal.nD Cert.OprojKernelIdeal.τ).loc Cert.OprojKernelIdeal.main_arg0)
          ∧ r.2.mem ((c.tc : Thread Cert.OprojKernelIdeal.nD Cert.OprojKernelIdeal.τ).loc Cert.OprojKernelIdeal.main_arg1) = m ((c.tc : Thread Cert.OprojKernelIdeal.nD Cert.OprojKernelIdeal.τ).loc Cert.OprojKernelIdeal.main_arg1)
          ∧ r.2.mem ((c.tc : Thread Cert.OprojKernelIdeal.nD Cert.OprojKernelIdeal.τ).loc Cert.OprojKernelIdeal.main_arg2) = m ((c.tc : Thread Cert.OprojKernelIdeal.nD Cert.OprojKernelIdeal.τ).loc Cert.OprojKernelIdeal.main_arg2)
          ∧ r.2.mem ((c.tc : Thread Cert.OprojKernelIdeal.nD Cert.OprojKernelIdeal.τ).loc Cert.OprojKernelIdeal.main_arg3) = m ((c.tc : Thread Cert.OprojKernelIdeal.nD Cert.OprojKernelIdeal.τ).loc Cert.OprojKernelIdeal.main_arg3)
          ∧ r.2.mem ((c.tc : Thread Cert.OprojKernelIdeal.nD Cert.OprojKernelIdeal.τ).loc Cert.OprojKernelIdeal.main_arg4) = m ((c.tc : Thread Cert.OprojKernelIdeal.nD Cert.OprojKernelIdeal.τ).loc Cert.OprojKernelIdeal.main_arg4)
          ∧ r.2.mem ((c.tc : Thread Cert.OprojKernelIdeal.nD Cert.OprojKernelIdeal.τ).loc Cert.OprojKernelIdeal.main_arg5) = m ((c.tc : Thread Cert.OprojKernelIdeal.nD Cert.OprojKernelIdeal.τ).loc Cert.OprojKernelIdeal.main_arg5)
          ∧ r.2.mem ((c.tc : Thread Cert.OprojKernelIdeal.nD Cert.OprojKernelIdeal.τ).loc Cert.OprojKernelIdeal.main_arg6) = m ((c.tc : Thread Cert.OprojKernelIdeal.nD Cert.OprojKernelIdeal.τ).loc Cert.OprojKernelIdeal.main_arg6)
          ∧ r.2.mem ((c.tc : Thread Cert.OprojKernelIdeal.nD Cert.OprojKernelIdeal.τ).loc Cert.OprojKernelIdeal.main_arg7) = m ((c.tc : Thread Cert.OprojKernelIdeal.nD Cert.OprojKernelIdeal.τ).loc Cert.OprojKernelIdeal.main_arg7))
      ∧ θ_run (Cert.OprojReferenceIdeal.defs (F := Ideal)) (onTc (τ := Cert.OprojReferenceIdeal.τ) (Cert.OprojReferenceIdeal.main (F := Ideal))) ⟨m', fun _ => 0, g'⟩ (fun r => ∀ c : Dev Cert.OprojReferenceIdeal.nD,
          r.2.mem ((c.tc : Thread Cert.OprojReferenceIdeal.nD Cert.OprojReferenceIdeal.τ).loc Cert.OprojReferenceIdeal.main_v7_0) = v0 c
          ∧ r.2.mem ((c.tc : Thread Cert.OprojReferenceIdeal.nD Cert.OprojReferenceIdeal.τ).loc Cert.OprojReferenceIdeal.main_v7_1) = v1 c
          ∧ r.2.mem ((c.tc : Thread Cert.OprojReferenceIdeal.nD Cert.OprojReferenceIdeal.τ).loc Cert.OprojReferenceIdeal.main_v7_2) = v2 c
          ∧ r.2.mem ((c.tc : Thread Cert.OprojReferenceIdeal.nD Cert.OprojReferenceIdeal.τ).loc Cert.OprojReferenceIdeal.main_arg0) = m' ((c.tc : Thread Cert.OprojReferenceIdeal.nD Cert.OprojReferenceIdeal.τ).loc Cert.OprojReferenceIdeal.main_arg0)
          ∧ r.2.mem ((c.tc : Thread Cert.OprojReferenceIdeal.nD Cert.OprojReferenceIdeal.τ).loc Cert.OprojReferenceIdeal.main_arg1) = m' ((c.tc : Thread Cert.OprojReferenceIdeal.nD Cert.OprojReferenceIdeal.τ).loc Cert.OprojReferenceIdeal.main_arg1)
          ∧ r.2.mem ((c.tc : Thread Cert.OprojReferenceIdeal.nD Cert.OprojReferenceIdeal.τ).loc Cert.OprojReferenceIdeal.main_arg2) = m' ((c.tc : Thread Cert.OprojReferenceIdeal.nD Cert.OprojReferenceIdeal.τ).loc Cert.OprojReferenceIdeal.main_arg2)
          ∧ r.2.mem ((c.tc : Thread Cert.OprojReferenceIdeal.nD Cert.OprojReferenceIdeal.τ).loc Cert.OprojReferenceIdeal.main_arg3) = m' ((c.tc : Thread Cert.OprojReferenceIdeal.nD Cert.OprojReferenceIdeal.τ).loc Cert.OprojReferenceIdeal.main_arg3)
          ∧ r.2.mem ((c.tc : Thread Cert.OprojReferenceIdeal.nD Cert.OprojReferenceIdeal.τ).loc Cert.OprojReferenceIdeal.main_arg4) = m' ((c.tc : Thread Cert.OprojReferenceIdeal.nD Cert.OprojReferenceIdeal.τ).loc Cert.OprojReferenceIdeal.main_arg4)
          ∧ r.2.mem ((c.tc : Thread Cert.OprojReferenceIdeal.nD Cert.OprojReferenceIdeal.τ).loc Cert.OprojReferenceIdeal.main_arg5) = m' ((c.tc : Thread Cert.OprojReferenceIdeal.nD Cert.OprojReferenceIdeal.τ).loc Cert.OprojReferenceIdeal.main_arg5)
          ∧ r.2.mem ((c.tc : Thread Cert.OprojReferenceIdeal.nD Cert.OprojReferenceIdeal.τ).loc Cert.OprojReferenceIdeal.main_arg6) = m' ((c.tc : Thread Cert.OprojReferenceIdeal.nD Cert.OprojReferenceIdeal.τ).loc Cert.OprojReferenceIdeal.main_arg6)
          ∧ r.2.mem ((c.tc : Thread Cert.OprojReferenceIdeal.nD Cert.OprojReferenceIdeal.τ).loc Cert.OprojReferenceIdeal.main_arg7) = m' ((c.tc : Thread Cert.OprojReferenceIdeal.nD Cert.OprojReferenceIdeal.τ).loc Cert.OprojReferenceIdeal.main_arg7))

def Claim : Prop :=
  ∃ (hKernel : Cert.Kernel.Facts) (hKernelIdeal : Cert.KernelIdeal.Facts) (hReferenceIdeal : Cert.ReferenceIdeal.Facts) (hQkvKernel : Cert.QkvKernel.Facts) (hQkvKernelIdeal : Cert.QkvKernelIdeal.Facts) (hQkvReferenceIdeal : Cert.QkvReferenceIdeal.Facts) (hOprojKernel : Cert.OprojKernel.Facts) (hOprojKernelIdeal : Cert.OprojKernelIdeal.Facts) (hOprojReferenceIdeal : Cert.OprojReferenceIdeal.Facts) (hPre_o_channels_valid : Cert.Pre_o_channels_valid.Facts),
    quiescent_Kernel (hKernel := hKernel)
    ∧ quiescent_KernelIdeal (hKernelIdeal := hKernelIdeal)
    ∧ quiescent_ReferenceIdeal (hReferenceIdeal := hReferenceIdeal)
    ∧ quiescent_QkvKernel (hQkvKernel := hQkvKernel)
    ∧ quiescent_QkvKernelIdeal (hQkvKernelIdeal := hQkvKernelIdeal)
    ∧ quiescent_QkvReferenceIdeal (hQkvReferenceIdeal := hQkvReferenceIdeal)
    ∧ quiescent_OprojKernel (hOprojKernel := hOprojKernel)
    ∧ quiescent_OprojKernelIdeal (hOprojKernelIdeal := hOprojKernelIdeal)
    ∧ quiescent_OprojKernelIdeal_pre_o_channels_valid (hOprojKernelIdeal := hOprojKernelIdeal) (hPre_o_channels_valid := hPre_o_channels_valid)
    ∧ quiescent_OprojReferenceIdeal (hOprojReferenceIdeal := hOprojReferenceIdeal)
    ∧ quiescent_OprojReferenceIdeal_pre_o_channels_valid (hOprojReferenceIdeal := hOprojReferenceIdeal) (hPre_o_channels_valid := hPre_o_channels_valid)
    ∧ preserves_Kernel_KernelIdeal
    ∧ algebraic_KernelIdeal_ReferenceIdeal (hKernelIdeal := hKernelIdeal) (hReferenceIdeal := hReferenceIdeal)
    ∧ preserves_QkvKernel_QkvKernelIdeal
    ∧ algebraic_QkvKernelIdeal_QkvReferenceIdeal (hQkvKernelIdeal := hQkvKernelIdeal) (hQkvReferenceIdeal := hQkvReferenceIdeal)
    ∧ preserves_OprojKernel_OprojKernelIdeal
    ∧ algebraic_OprojKernelIdeal_OprojReferenceIdeal_pre_o_channels_valid (hOprojKernelIdeal := hOprojKernelIdeal) (hOprojReferenceIdeal := hOprojReferenceIdeal) (hPre_o_channels_valid := hPre_o_channels_valid)
-- ==== Pre_o_channels_valid.lean ====
abbrev S96x16x128 : Shape := ⟨3, ![96, 16, 128]⟩
abbrev S96x1x4096 : Shape := ⟨3, ![96, 1, 4096]⟩
abbrev S48 : Shape := ⟨1, ![48]⟩
abbrev S2048x4096 : Shape := ⟨2, ![2048, 4096]⟩
abbrev S4096 : Shape := ⟨1, ![4096]⟩
abbrev S48x4096 : Shape := ⟨2, ![48, 4096]⟩
abbrev S_ : Shape := ⟨0, ![]⟩

class Facts : Prop where
  bcast_S_S48 : S_.BroadcastsInDim S48 (![] : Fin 0 → Fin S48.rank)

variable [Facts]

def fn {F : FTy → Type} [FloatOps F] (main_arg0 : FVec F S96x16x128 .f32) (main_arg1 : FVec F S96x1x4096 .bf16) (main_arg2 : IVec S48 32) (main_arg3 : IVec S48 32) (main_arg4 : IVec S2048x4096 8) (main_arg5 : FVec F S4096 .f32) (main_arg6 : FVec F S48x4096 .bf16) (main_arg7 : FVec F S4096 .f32) : IVec S48 1 :=
  let main_c : IVec S_ 32 := constantI S_ 32 0#32
  let main_v0 : IVec S48 32 := broadcastInDim S48 ![] bcast_S_S48 main_c
  let main_v1 : IVec S48 1 := cmpi .sge main_arg2 main_v0
  let main_c_0 : IVec S_ 32 := constantI S_ 32 2048#32
  let main_v2 : IVec S48 32 := broadcastInDim S48 ![] bcast_S_S48 main_c_0
  let main_v3 : IVec S48 1 := cmpi .slt main_arg2 main_v2
  let main_v4 : IVec S48 1 := andi main_v1 main_v3
  let main_c_1 : IVec S_ 32 := constantI S_ 32 0#32
  let main_v5 : IVec S48 32 := broadcastInDim S48 ![] bcast_S_S48 main_c_1
  let main_v6 : IVec S48 1 := cmpi .eq main_arg3 main_v5
  let main_c_2 : IVec S_ 32 := constantI S_ 32 1#32
  let main_v7 : IVec S48 32 := broadcastInDim S48 ![] bcast_S_S48 main_c_2
  let main_v8 : IVec S48 1 := cmpi .eq main_arg3 main_v7
  let main_v9 : IVec S48 1 := andi main_v8 main_v4
  let main_v10 : IVec S48 1 := ori main_v6 main_v9
  main_v10
-- ==== Kernel.lean ====
abbrev S96x1x4096 : Shape := ⟨3, ![96, 1, 4096]⟩
abbrev S4096 : Shape := ⟨1, ![4096]⟩
abbrev S4048x8192 : Shape := ⟨2, ![4048, 8192]⟩
abbrev S8192 : Shape := ⟨1, ![8192]⟩
abbrev S48x8192 : Shape := ⟨2, ![48, 8192]⟩
abbrev S8144x4096 : Shape := ⟨2, ![8144, 4096]⟩
abbrev S48x4096 : Shape := ⟨2, ![48, 4096]⟩
abbrev S96x4096 : Shape := ⟨2, ![96, 4096]⟩
abbrev S1x4096 : Shape := ⟨2, ![1, 4096]⟩
abbrev S1x8192 : Shape := ⟨2, ![1, 8192]⟩
abbrev S96x4048 : Shape := ⟨2, ![96, 4048]⟩
abbrev S1x96 : Shape := ⟨2, ![1, 96]⟩
abbrev S96x8144 : Shape := ⟨2, ![96, 8144]⟩
abbrev S4048x1024 : Shape := ⟨2, ![4048, 1024]⟩
abbrev S1x1024 : Shape := ⟨2, ![1, 1024]⟩
abbrev S48x1024 : Shape := ⟨2, ![48, 1024]⟩
abbrev S96x512 : Shape := ⟨2, ![96, 512]⟩
abbrev S8144x512 : Shape := ⟨2, ![8144, 512]⟩
abbrev S1x512 : Shape := ⟨2, ![1, 512]⟩
abbrev S48x512 : Shape := ⟨2, ![48, 512]⟩
abbrev S96x48 : Shape := ⟨2, ![96, 48]⟩
abbrev S96x128 : Shape := ⟨2, ![96, 128]⟩
abbrev S96x8192 : Shape := ⟨2, ![96, 8192]⟩
abbrev S96 : Shape := ⟨1, ![96]⟩
abbrev S96x1 : Shape := ⟨2, ![96, 1]⟩
abbrev S128x96 : Shape := ⟨2, ![128, 96]⟩
abbrev S96x1024 : Shape := ⟨2, ![96, 1024]⟩

abbrev nBuf : Space → Nat
  | .hbm => 23
  | .vmem => 34
  | .smem => 0
  | _ => 0

abbrev bufTy : (tb : Table) → Fin (tcTables nBuf tb) → BufTy
  | .hbm, ⟨0, _⟩ => ⟨S96x1x4096, .bf16⟩
  | .hbm, ⟨1, _⟩ => ⟨S4096, .f32⟩
  | .hbm, ⟨2, _⟩ => ⟨S4096, .f32⟩
  | .hbm, ⟨3, _⟩ => ⟨S4048x8192, .i8⟩
  | .hbm, ⟨4, _⟩ => ⟨S8192, .f32⟩
  | .hbm, ⟨5, _⟩ => ⟨S48x8192, .bf16⟩
  | .hbm, ⟨6, _⟩ => ⟨S8192, .f32⟩
  | .hbm, ⟨7, _⟩ => ⟨S8144x4096, .i8⟩
  | .hbm, ⟨8, _⟩ => ⟨S4096, .f32⟩
  | .hbm, ⟨9, _⟩ => ⟨S48x4096, .bf16⟩
  | .hbm, ⟨10, _⟩ => ⟨S4096, .f32⟩
  | .hbm, ⟨11, _⟩ => ⟨S96x4096, .bf16⟩
  | .hbm, ⟨12, _⟩ => ⟨S1x4096, .f32⟩
  | .hbm, ⟨13, _⟩ => ⟨S1x4096, .f32⟩
  | .hbm, ⟨14, _⟩ => ⟨S1x8192, .f32⟩
  | .hbm, ⟨15, _⟩ => ⟨S1x8192, .f32⟩
  | .hbm, ⟨16, _⟩ => ⟨S1x4096, .f32⟩
  | .hbm, ⟨17, _⟩ => ⟨S1x4096, .f32⟩
  | .hbm, ⟨18, _⟩ => ⟨S96x4096, .bf16⟩
  | .hbm, ⟨19, _⟩ => ⟨S96x4048, .i8⟩
  | .hbm, ⟨20, _⟩ => ⟨S1x96, .f32⟩
  | .hbm, ⟨21, _⟩ => ⟨S96x8144, .i8⟩
  | .hbm, ⟨22, _⟩ => ⟨S1x96, .f32⟩
  | .local _ .vmem, ⟨0, _⟩ => ⟨S96x4096, .bf16⟩
  | .local _ .vmem, ⟨1, _⟩ => ⟨S1x4096, .f32⟩
  | .local _ .vmem, ⟨2, _⟩ => ⟨S1x4096, .f32⟩
  | .local _ .vmem, ⟨3, _⟩ => ⟨S4048x1024, .i8⟩
  | .local _ .vmem, ⟨4, _⟩ => ⟨S4048x1024, .i8⟩
  | .local _ .vmem, ⟨5, _⟩ => ⟨S1x1024, .f32⟩
  | .local _ .vmem, ⟨6, _⟩ => ⟨S1x1024, .f32⟩
  | .local _ .vmem, ⟨7, _⟩ => ⟨S48x1024, .bf16⟩
  | .local _ .vmem, ⟨8, _⟩ => ⟨S48x1024, .bf16⟩
  | .local _ .vmem, ⟨9, _⟩ => ⟨S1x1024, .f32⟩
  | .local _ .vmem, ⟨10, _⟩ => ⟨S1x1024, .f32⟩
  | .local _ .vmem, ⟨11, _⟩ => ⟨S96x512, .bf16⟩
  | .local _ .vmem, ⟨12, _⟩ => ⟨S96x512, .bf16⟩
  | .local _ .vmem, ⟨13, _⟩ => ⟨S8144x512, .i8⟩
  | .local _ .vmem, ⟨14, _⟩ => ⟨S8144x512, .i8⟩
  | .local _ .vmem, ⟨15, _⟩ => ⟨S1x512, .f32⟩
  | .local _ .vmem, ⟨16, _⟩ => ⟨S1x512, .f32⟩
  | .local _ .vmem, ⟨17, _⟩ => ⟨S48x512, .bf16⟩
  | .local _ .vmem, ⟨18, _⟩ => ⟨S48x512, .bf16⟩
  | .local _ .vmem, ⟨19, _⟩ => ⟨S1x512, .f32⟩
  | .local _ .vmem, ⟨20, _⟩ => ⟨S1x512, .f32⟩
  | .local _ .vmem, ⟨21, _⟩ => ⟨S96x512, .bf16⟩
  | .local _ .vmem, ⟨22, _⟩ => ⟨S96x512, .bf16⟩
  | .local _ .vmem, ⟨23, _⟩ => ⟨S96x4048, .i8⟩
  | .local _ .vmem, ⟨24, _⟩ => ⟨S1x96, .f32⟩
  | .local _ .vmem, ⟨25, _⟩ => ⟨S96x8144, .i8⟩
  | .local _ .vmem, ⟨26, _⟩ => ⟨S1x96, .f32⟩
  | .local _ .vmem, ⟨27, _⟩ => ⟨S96x4096, .bf16⟩
  | .local _ .vmem, ⟨28, _⟩ => ⟨S96x48, .bf16⟩
  | .local _ .vmem, ⟨29, _⟩ => ⟨S96x128, .f32⟩
  | .local _ .vmem, ⟨30, _⟩ => ⟨S96x8192, .f32⟩
  | .local _ .vmem, ⟨31, _⟩ => ⟨S96x8192, .bf16⟩
  | .local _ .vmem, ⟨32, _⟩ => ⟨S96x48, .bf16⟩
  | .local _ .vmem, ⟨33, _⟩ => ⟨S96x128, .f32⟩
  | _, _ => ⟨S96x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v7_2 : Ref sig .tc := ⟨.hbm, 20, rfl⟩
abbrev main_v7_3 : Ref sig .tc := ⟨.hbm, 21, rfl⟩
abbrev main_v7_4 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_scratch4 : Ref sig .tc := ⟨.vmem, 31, rfl⟩
abbrev cc0_scratch5 : Ref sig .tc := ⟨.vmem, 32, rfl⟩
abbrev cc0_scratch6 : Ref sig .tc := ⟨.vmem, 33, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem14_0 : DmaSem sig := 24
abbrev cc0_sem15_0 : DmaSem sig := 25
abbrev cc0_sem16_0 : DmaSem sig := 26

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c8_i32 : BitVec 32 := 8#32
  let v3 : BitVec 1 := Scalar.cmpi .slt arg0 c8_i32
  let v4 : BitVec 32 := Scalar.extui v3
  let c0_i32_1 : BitVec 32 := 0#32
  let v5 : BitVec 1 := Scalar.cmpi .ne v4 c0_i32_1
  v5

def k0_mult1 (i : grid0.Coords) : BitVec 32 :=
  let arg0 : BitVec 32 := BitVec.ofNat 32 (i 0).val
  let c1024_i32 : BitVec 32 := 1024#32
  let v44 : BitVec 32 := Scalar.muli arg0 c1024_i32
  v44
def k0_off1 (i : grid0.Coords) : Fin 2 → Nat :=
  let c0_24 : Index := 0#32
  let arg0 : BitVec 32 := BitVec.ofNat 32 (i 0).val
  let c1024_i32 : BitVec 32 := 1024#32
  let v44 : BitVec 32 := Scalar.muli arg0 c1024_i32
  let v45 : BitVec 32 := v44
  let v46 : Index := Scalar.indexCast v45
  ![0, v46.toNat]
def k0_cond4 (i : grid0.Coords) : BitVec 1 :=
  let arg0 : BitVec 32 := BitVec.ofNat 32 (i 0).val
  let c8_i32_4 : BitVec 32 := 8#32
  let v9 : BitVec 1 := Scalar.cmpi .sge arg0 c8_i32_4
  let v10 : BitVec 32 := Scalar.extui v9
  let c0_i32_5 : BitVec 32 := 0#32
  let v11 : BitVec 1 := Scalar.cmpi .ne v10 c0_i32_5
  v11

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond3 (i : grid0.Coords) : BitVec 1 :=
  let arg0 : BitVec 32 := BitVec.ofNat 32 (i 0).val
  let c8_i32_2 : BitVec 32 := 8#32
  let v6 : BitVec 1 := Scalar.cmpi .eq arg0 c8_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_8 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_9 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_10 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_11 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_12 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S96x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4048x1024 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S48x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S96x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8144x512 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S48x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S96x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S96x4048 .i8 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x96 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S96x8144 .i8 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x96 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== ReferenceIdeal.lean ====
abbrev S96x1x4096 : Shape := ⟨3, ![96, 1, 4096]⟩
abbrev S4096 : Shape := ⟨1, ![4096]⟩
abbrev S4048x8192 : Shape := ⟨2, ![4048, 8192]⟩
abbrev S8192 : Shape := ⟨1, ![8192]⟩
abbrev S48x8192 : Shape := ⟨2, ![48, 8192]⟩
abbrev S8144x4096 : Shape := ⟨2, ![8144, 4096]⟩
abbrev S48x4096 : Shape := ⟨2, ![48, 4096]⟩
abbrev S96x4096 : Shape := ⟨2, ![96, 4096]⟩
abbrev S1x4096 : Shape := ⟨2, ![1, 4096]⟩
abbrev S1x8192 : Shape := ⟨2, ![1, 8192]⟩
abbrev S96x4048 : Shape := ⟨2, ![96, 4048]⟩
abbrev S1x96 : Shape := ⟨2, ![1, 96]⟩
abbrev S96x8144 : Shape := ⟨2, ![96, 8144]⟩
abbrev S96 : Shape := ⟨1, ![96]⟩
abbrev S96x1 : Shape := ⟨2, ![96, 1]⟩
abbrev S96x8192 : Shape := ⟨2, ![96, 8192]⟩
abbrev S96x48 : Shape := ⟨2, ![96, 48]⟩

abbrev nBuf : Space → Nat
  | .hbm => 23
  | .vmem => 16
  | .smem => 0
  | _ => 0

abbrev bufTy : (tb : Table) → Fin (tcTables nBuf tb) → BufTy
  | .hbm, ⟨0, _⟩ => ⟨S96x1x4096, .bf16⟩
  | .hbm, ⟨1, _⟩ => ⟨S4096, .f32⟩
  | .hbm, ⟨2, _⟩ => ⟨S4096, .f32⟩
  | .hbm, ⟨3, _⟩ => ⟨S4048x8192, .i8⟩
  | .hbm, ⟨4, _⟩ => ⟨S8192, .f32⟩
  | .hbm, ⟨5, _⟩ => ⟨S48x8192, .bf16⟩
  | .hbm, ⟨6, _⟩ => ⟨S8192, .f32⟩
  | .hbm, ⟨7, _⟩ => ⟨S8144x4096, .i8⟩
  | .hbm, ⟨8, _⟩ => ⟨S4096, .f32⟩
  | .hbm, ⟨9, _⟩ => ⟨S48x4096, .bf16⟩
  | .hbm, ⟨10, _⟩ => ⟨S4096, .f32⟩
  | .hbm, ⟨11, _⟩ => ⟨S96x4096, .bf16⟩
  | .hbm, ⟨12, _⟩ => ⟨S1x4096, .f32⟩
  | .hbm, ⟨13, _⟩ => ⟨S1x4096, .f32⟩
  | .hbm, ⟨14, _⟩ => ⟨S1x8192, .f32⟩
  | .hbm, ⟨15, _⟩ => ⟨S1x8192, .f32⟩
  | .hbm, ⟨16, _⟩ => ⟨S1x4096, .f32⟩
  | .hbm, ⟨17, _⟩ => ⟨S1x4096, .f32⟩
  | .hbm, ⟨18, _⟩ => ⟨S96x4096, .bf16⟩
  | .hbm, ⟨19, _⟩ => ⟨S96x4048, .i8⟩
  | .hbm, ⟨20, _⟩ => ⟨S1x96, .f32⟩
  | .hbm, ⟨21, _⟩ => ⟨S96x8144, .i8⟩
  | .hbm, ⟨22, _⟩ => ⟨S1x96, .f32⟩
  | .local _ .vmem, ⟨0, _⟩ => ⟨S96x4096, .bf16⟩
  | .local _ .vmem, ⟨1, _⟩ => ⟨S1x4096, .f32⟩
  | .local _ .vmem, ⟨2, _⟩ => ⟨S1x4096, .f32⟩
  | .local _ .vmem, ⟨3, _⟩ => ⟨S4048x8192, .i8⟩
  | .local _ .vmem, ⟨4, _⟩ => ⟨S1x8192, .f32⟩
  | .local _ .vmem, ⟨5, _⟩ => ⟨S48x8192, .bf16⟩
  | .local _ .vmem, ⟨6, _⟩ => ⟨S1x8192, .f32⟩
  | .local _ .vmem, ⟨7, _⟩ => ⟨S8144x4096, .i8⟩
  | .local _ .vmem, ⟨8, _⟩ => ⟨S1x4096, .f32⟩
  | .local _ .vmem, ⟨9, _⟩ => ⟨S48x4096, .bf16⟩
  | .local _ .vmem, ⟨10, _⟩ => ⟨S1x4096, .f32⟩
  | .local _ .vmem, ⟨11, _⟩ => ⟨S96x4096, .bf16⟩
  | .local _ .vmem, ⟨12, _⟩ => ⟨S96x4048, .i8⟩
  | .local _ .vmem, ⟨13, _⟩ => ⟨S1x96, .f32⟩
  | .local _ .vmem, ⟨14, _⟩ => ⟨S96x8144, .i8⟩
  | .local _ .vmem, ⟨15, _⟩ => ⟨S1x96, .f32⟩
  | _, _ => ⟨S96x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v7_2 : Ref sig .tc := ⟨.hbm, 20, rfl⟩
abbrev main_v7_3 : Ref sig .tc := ⟨.hbm, 21, rfl⟩
abbrev main_v7_4 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S96x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4048x8192 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S48x8192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8144x4096 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S48x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S96x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S96x4048 .i8 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x96 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S96x8144 .i8 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x96 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== QkvKernel.lean ====
abbrev S96x1x4096 : Shape := ⟨3, ![96, 1, 4096]⟩
abbrev S4096 : Shape := ⟨1, ![4096]⟩
abbrev S4048x6144 : Shape := ⟨2, ![4048, 6144]⟩
abbrev S6144 : Shape := ⟨1, ![6144]⟩
abbrev S48x6144 : Shape := ⟨2, ![48, 6144]⟩
abbrev S96x4096 : Shape := ⟨2, ![96, 4096]⟩
abbrev S1x4096 : Shape := ⟨2, ![1, 4096]⟩
abbrev S1x6144 : Shape := ⟨2, ![1, 6144]⟩
abbrev S96x4048 : Shape := ⟨2, ![96, 4048]⟩
abbrev S1x96 : Shape := ⟨2, ![1, 96]⟩
abbrev S96x16x128 : Shape := ⟨3, ![96, 16, 128]⟩
abbrev S16x96 : Shape := ⟨2, ![16, 96]⟩
abbrev S4048x768 : Shape := ⟨2, ![4048, 768]⟩
abbrev S1x768 : Shape := ⟨2, ![1, 768]⟩
abbrev S48x768 : Shape := ⟨2, ![48, 768]⟩
abbrev S96x48 : Shape := ⟨2, ![96, 48]⟩
abbrev S96x128 : Shape := ⟨2, ![96, 128]⟩
abbrev S96 : Shape := ⟨1, ![96]⟩
abbrev S96x1 : Shape := ⟨2, ![96, 1]⟩
abbrev S128x96 : Shape := ⟨2, ![128, 96]⟩
abbrev S96x768 : Shape := ⟨2, ![96, 768]⟩
abbrev S96x1x128 : Shape := ⟨3, ![96, 1, 128]⟩
abbrev S16x128 : Shape := ⟨2, ![16, 128]⟩
abbrev S1x16x128 : Shape := ⟨3, ![1, 16, 128]⟩
abbrev S16 : Shape := ⟨1, ![16]⟩
abbrev S16x1 : Shape := ⟨2, ![16, 1]⟩

abbrev nBuf : Space → Nat
  | .hbm => 22
  | .vmem => 27
  | .smem => 0
  | _ => 0

abbrev bufTy : (tb : Table) → Fin (tcTables nBuf tb) → BufTy
  | .hbm, ⟨0, _⟩ => ⟨S96x1x4096, .bf16⟩
  | .hbm, ⟨1, _⟩ => ⟨S4096, .f32⟩
  | .hbm, ⟨2, _⟩ => ⟨S4096, .f32⟩
  | .hbm, ⟨3, _⟩ => ⟨S4048x6144, .i8⟩
  | .hbm, ⟨4, _⟩ => ⟨S6144, .f32⟩
  | .hbm, ⟨5, _⟩ => ⟨S48x6144, .bf16⟩
  | .hbm, ⟨6, _⟩ => ⟨S6144, .f32⟩
  | .hbm, ⟨7, _⟩ => ⟨S96x4096, .bf16⟩
  | .hbm, ⟨8, _⟩ => ⟨S1x4096, .f32⟩
  | .hbm, ⟨9, _⟩ => ⟨S1x4096, .f32⟩
  | .hbm, ⟨10, _⟩ => ⟨S1x6144, .f32⟩
  | .hbm, ⟨11, _⟩ => ⟨S1x6144, .f32⟩
  | .hbm, ⟨12, _⟩ => ⟨S96x4048, .i8⟩
  | .hbm, ⟨13, _⟩ => ⟨S1x96, .f32⟩
  | .hbm, ⟨14, _⟩ => ⟨S96x16x128, .bf16⟩
  | .hbm, ⟨15, _⟩ => ⟨S96x16x128, .i8⟩
  | .hbm, ⟨16, _⟩ => ⟨S16x96, .f32⟩
  | .hbm, ⟨17, _⟩ => ⟨S96x16x128, .i8⟩
  | .hbm, ⟨18, _⟩ => ⟨S16x96, .f32⟩
  | .hbm, ⟨19, _⟩ => ⟨S96x16x128, .f32⟩
  | .hbm, ⟨20, _⟩ => ⟨S96x16x128, .f32⟩
  | .hbm, ⟨21, _⟩ => ⟨S96x16x128, .f32⟩
  | .local _ .vmem, ⟨0, _⟩ => ⟨S96x4096, .bf16⟩
  | .local _ .vmem, ⟨1, _⟩ => ⟨S1x4096, .f32⟩
  | .local _ .vmem, ⟨2, _⟩ => ⟨S1x4096, .f32⟩
  | .local _ .vmem, ⟨3, _⟩ => ⟨S4048x768, .i8⟩
  | .local _ .vmem, ⟨4, _⟩ => ⟨S4048x768, .i8⟩
  | .local _ .vmem, ⟨5, _⟩ => ⟨S1x768, .f32⟩
  | .local _ .vmem, ⟨6, _⟩ => ⟨S1x768, .f32⟩
  | .local _ .vmem, ⟨7, _⟩ => ⟨S48x768, .bf16⟩
  | .local _ .vmem, ⟨8, _⟩ => ⟨S48x768, .bf16⟩
  | .local _ .vmem, ⟨9, _⟩ => ⟨S1x768, .f32⟩
  | .local _ .vmem, ⟨10, _⟩ => ⟨S1x768, .f32⟩
  | .local _ .vmem, ⟨11, _⟩ => ⟨S96x4048, .i8⟩
  | .local _ .vmem, ⟨12, _⟩ => ⟨S1x96, .f32⟩
  | .local _ .vmem, ⟨13, _⟩ => ⟨S96x16x128, .bf16⟩
  | .local _ .vmem, ⟨14, _⟩ => ⟨S96x16x128, .i8⟩
  | .local _ .vmem, ⟨15, _⟩ => ⟨S16x96, .f32⟩
  | .local _ .vmem, ⟨16, _⟩ => ⟨S96x16x128, .i8⟩
  | .local _ .vmem, ⟨17, _⟩ => ⟨S16x96, .f32⟩
  | .local _ .vmem, ⟨18, _⟩ => ⟨S96x16x128, .f32⟩
  | .local _ .vmem, ⟨19, _⟩ => ⟨S96x16x128, .f32⟩
  | .local _ .vmem, ⟨20, _⟩ => ⟨S96x16x128, .f32⟩
  | .local _ .vmem, ⟨21, _⟩ => ⟨S96x4096, .bf16⟩
  | .local _ .vmem, ⟨22, _⟩ => ⟨S96x48, .bf16⟩
  | .local _ .vmem, ⟨23, _⟩ => ⟨S96x128, .f32⟩
  | .local _ .vmem, ⟨24, _⟩ => ⟨S96x16x128, .f32⟩
  | .local _ .vmem, ⟨25, _⟩ => ⟨S96x16x128, .f32⟩
  | .local _ .vmem, ⟨26, _⟩ => ⟨S96x16x128, .f32⟩
  | _, _ => ⟨S96x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev main_v5_5 : Ref sig .tc := ⟨.hbm, 17, rfl⟩
abbrev main_v5_6 : Ref sig .tc := ⟨.hbm, 18, rfl⟩
abbrev main_v5_7 : Ref sig .tc := ⟨.hbm, 19, rfl⟩
abbrev main_v5_8 : Ref sig .tc := ⟨.hbm, 20, rfl⟩
abbrev main_v5_9 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20

abbrev nD : Nat := 1
abbrev τ : Topo := Topo.v7x

variable {F : FTy → Type} [FloatOps F]

abbrev grid0 : Pipeline.Grid := ⟨1, ![8], ![false]⟩

def k0_off1 (i : grid0.Coords) (c0_i32_15 : BitVec 32) : Fin 3 → Nat :=
  let c0_16 : Index := 0#32
  let arg0 : BitVec 32 := BitVec.ofNat 32 (i 0).val
  let c2_i32 : BitVec 32 := 2#32
  let v22 : BitVec 32 := Scalar.muli arg0 c2_i32
  let v23 : BitVec 32 := Scalar.addi v22 c0_i32_15
  let v25 : Index := Scalar.indexCast v23
  let c0_17 : Index := 0#32
  ![0, v25.toNat, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c7_i32 : BitVec 32 := 7#32
  let v56 : BitVec 1 := Scalar.cmpi .eq arg0 c7_i32
  let v57 : BitVec 32 := Scalar.extui v56
  let c0_i32_29 : BitVec 32 := 0#32
  let v58 : BitVec 1 := Scalar.cmpi .ne v57 c0_i32_29
  v58

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S96x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4048x768 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S48x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S96x4048 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x96 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S96x16x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S96x16x128 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x96 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S96x16x128 .i8 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S16x96 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S96x16x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S96x16x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S96x16x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== QkvReferenceIdeal.lean ====
abbrev S96x1x4096 : Shape := ⟨3, ![96, 1, 4096]⟩
abbrev S4096 : Shape := ⟨1, ![4096]⟩
abbrev S4048x6144 : Shape := ⟨2, ![4048, 6144]⟩
abbrev S6144 : Shape := ⟨1, ![6144]⟩
abbrev S48x6144 : Shape := ⟨2, ![48, 6144]⟩
abbrev S96x4096 : Shape := ⟨2, ![96, 4096]⟩
abbrev S1x4096 : Shape := ⟨2, ![1, 4096]⟩
abbrev S1x6144 : Shape := ⟨2, ![1, 6144]⟩
abbrev S96x4048 : Shape := ⟨2, ![96, 4048]⟩
abbrev S1x96 : Shape := ⟨2, ![1, 96]⟩
abbrev S96x16x128 : Shape := ⟨3, ![96, 16, 128]⟩
abbrev S16x96 : Shape := ⟨2, ![16, 96]⟩
abbrev S96 : Shape := ⟨1, ![96]⟩
abbrev S96x1 : Shape := ⟨2, ![96, 1]⟩
abbrev S96x6144 : Shape := ⟨2, ![96, 6144]⟩
abbrev S96x48 : Shape := ⟨2, ![96, 48]⟩
abbrev S96x16x3x128 : Shape := ⟨4, ![96, 16, 3, 128]⟩
abbrev S96x16x1x128 : Shape := ⟨4, ![96, 16, 1, 128]⟩
abbrev S96x16 : Shape := ⟨2, ![96, 16]⟩
abbrev S96x16x1 : Shape := ⟨3, ![96, 16, 1]⟩

abbrev nBuf : Space → Nat
  | .hbm => 18
  | .vmem => 13
  | .smem => 0
  | _ => 0

abbrev bufTy : (tb : Table) → Fin (tcTables nBuf tb) → BufTy
  | .hbm, ⟨0, _⟩ => ⟨S96x1x4096, .bf16⟩
  | .hbm, ⟨1, _⟩ => ⟨S4096, .f32⟩
  | .hbm, ⟨2, _⟩ => ⟨S4096, .f32⟩
  | .hbm, ⟨3, _⟩ => ⟨S4048x6144, .i8⟩
  | .hbm, ⟨4, _⟩ => ⟨S6144, .f32⟩
  | .hbm, ⟨5, _⟩ => ⟨S48x6144, .bf16⟩
  | .hbm, ⟨6, _⟩ => ⟨S6144, .f32⟩
  | .hbm, ⟨7, _⟩ => ⟨S96x4096, .bf16⟩
  | .hbm, ⟨8, _⟩ => ⟨S1x4096, .f32⟩
  | .hbm, ⟨9, _⟩ => ⟨S1x4096, .f32⟩
  | .hbm, ⟨10, _⟩ => ⟨S1x6144, .f32⟩
  | .hbm, ⟨11, _⟩ => ⟨S1x6144, .f32⟩
  | .hbm, ⟨12, _⟩ => ⟨S96x4048, .i8⟩
  | .hbm, ⟨13, _⟩ => ⟨S1x96, .f32⟩
  | .hbm, ⟨14, _⟩ => ⟨S96x16x128, .i8⟩
  | .hbm, ⟨15, _⟩ => ⟨S16x96, .f32⟩
  | .hbm, ⟨16, _⟩ => ⟨S96x16x128, .i8⟩
  | .hbm, ⟨17, _⟩ => ⟨S16x96, .f32⟩
  | .local _ .vmem, ⟨0, _⟩ => ⟨S96x4096, .bf16⟩
  | .local _ .vmem, ⟨1, _⟩ => ⟨S1x4096, .f32⟩
  | .local _ .vmem, ⟨2, _⟩ => ⟨S1x4096, .f32⟩
  | .local _ .vmem, ⟨3, _⟩ => ⟨S4048x6144, .i8⟩
  | .local _ .vmem, ⟨4, _⟩ => ⟨S1x6144, .f32⟩
  | .local _ .vmem, ⟨5, _⟩ => ⟨S48x6144, .bf16⟩
  | .local _ .vmem, ⟨6, _⟩ => ⟨S1x6144, .f32⟩
  | .local _ .vmem, ⟨7, _⟩ => ⟨S96x4048, .i8⟩
  | .local _ .vmem, ⟨8, _⟩ => ⟨S1x96, .f32⟩
  | .local _ .vmem, ⟨9, _⟩ => ⟨S96x16x128, .i8⟩
  | .local _ .vmem, ⟨10, _⟩ => ⟨S16x96, .f32⟩
  | .local _ .vmem, ⟨11, _⟩ => ⟨S96x16x128, .i8⟩
  | .local _ .vmem, ⟨12, _⟩ => ⟨S16x96, .f32⟩
  | _, _ => ⟨S96x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev main_v5_5 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S96x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4048x6144 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S48x6144 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S96x4048 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x96 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S96x16x128 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16x96 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S96x16x128 .i8 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S16x96 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== OprojKernel.lean ====
abbrev S96x16x128 : Shape := ⟨3, ![96, 16, 128]⟩
abbrev S96x1x4096 : Shape := ⟨3, ![96, 1, 4096]⟩
abbrev S48 : Shape := ⟨1, ![48]⟩
abbrev S2048x4096 : Shape := ⟨2, ![2048, 4096]⟩
abbrev S4096 : Shape := ⟨1, ![4096]⟩
abbrev S48x4096 : Shape := ⟨2, ![48, 4096]⟩
abbrev S96x4096 : Shape := ⟨2, ![96, 4096]⟩
abbrev S48x1 : Shape := ⟨2, ![48, 1]⟩
abbrev S1x4096 : Shape := ⟨2, ![1, 4096]⟩
abbrev S96x2048 : Shape := ⟨2, ![96, 2048]⟩
abbrev S1x96 : Shape := ⟨2, ![1, 96]⟩
abbrev S96x512 : Shape := ⟨2, ![96, 512]⟩
abbrev S2048x512 : Shape := ⟨2, ![2048, 512]⟩
abbrev S1x512 : Shape := ⟨2, ![1, 512]⟩
abbrev S48x512 : Shape := ⟨2, ![48, 512]⟩
abbrev S96x48 : Shape := ⟨2, ![96, 48]⟩
abbrev S96x128 : Shape := ⟨2, ![96, 128]⟩
abbrev S96x1x128 : Shape := ⟨3, ![96, 1, 128]⟩
abbrev S48x2048 : Shape := ⟨2, ![48, 2048]⟩
abbrev S2048 : Shape := ⟨1, ![2048]⟩
abbrev S1x2048 : Shape := ⟨2, ![1, 2048]⟩
abbrev S96 : Shape := ⟨1, ![96]⟩
abbrev S96x1 : Shape := ⟨2, ![96, 1]⟩
abbrev S128x96 : Shape := ⟨2, ![128, 96]⟩

abbrev nBuf : Space → Nat
  | .hbm => 16
  | .vmem => 20
  | .smem => 0
  | _ => 0

abbrev bufTy : (tb : Table) → Fin (tcTables nBuf tb) → BufTy
  | .hbm, ⟨0, _⟩ => ⟨S96x16x128, .f32⟩
  | .hbm, ⟨1, _⟩ => ⟨S96x1x4096, .bf16⟩
  | .hbm, ⟨2, _⟩ => ⟨S48, .i32⟩
  | .hbm, ⟨3, _⟩ => ⟨S48, .i32⟩
  | .hbm, ⟨4, _⟩ => ⟨S2048x4096, .i8⟩
  | .hbm, ⟨5, _⟩ => ⟨S4096, .f32⟩
  | .hbm, ⟨6, _⟩ => ⟨S48x4096, .bf16⟩
  | .hbm, ⟨7, _⟩ => ⟨S4096, .f32⟩
  | .hbm, ⟨8, _⟩ => ⟨S96x4096, .bf16⟩
  | .hbm, ⟨9, _⟩ => ⟨S48x1, .i32⟩
  | .hbm, ⟨10, _⟩ => ⟨S48x1, .i32⟩
  | .hbm, ⟨11, _⟩ => ⟨S1x4096, .f32⟩
  | .hbm, ⟨12, _⟩ => ⟨S1x4096, .f32⟩
  | .hbm, ⟨13, _⟩ => ⟨S96x4096, .bf16⟩
  | .hbm, ⟨14, _⟩ => ⟨S96x2048, .i8⟩
  | .hbm, ⟨15, _⟩ => ⟨S1x96, .f32⟩
  | .local _ .vmem, ⟨0, _⟩ => ⟨S96x16x128, .f32⟩
  | .local _ .vmem, ⟨1, _⟩ => ⟨S96x512, .bf16⟩
  | .local _ .vmem, ⟨2, _⟩ => ⟨S96x512, .bf16⟩
  | .local _ .vmem, ⟨3, _⟩ => ⟨S48x1, .i32⟩
  | .local _ .vmem, ⟨4, _⟩ => ⟨S48x1, .i32⟩
  | .local _ .vmem, ⟨5, _⟩ => ⟨S2048x512, .i8⟩
  | .local _ .vmem, ⟨6, _⟩ => ⟨S2048x512, .i8⟩
  | .local _ .vmem, ⟨7, _⟩ => ⟨S1x512, .f32⟩
  | .local _ .vmem, ⟨8, _⟩ => ⟨S1x512, .f32⟩
  | .local _ .vmem, ⟨9, _⟩ => ⟨S48x512, .bf16⟩
  | .local _ .vmem, ⟨10, _⟩ => ⟨S48x512, .bf16⟩
  | .local _ .vmem, ⟨11, _⟩ => ⟨S1x512, .f32⟩
  | .local _ .vmem, ⟨12, _⟩ => ⟨S1x512, .f32⟩
  | .local _ .vmem, ⟨13, _⟩ => ⟨S96x512, .bf16⟩
  | .local _ .vmem, ⟨14, _⟩ => ⟨S96x512, .bf16⟩
  | .local _ .vmem, ⟨15, _⟩ => ⟨S96x2048, .i8⟩
  | .local _ .vmem, ⟨16, _⟩ => ⟨S1x96, .f32⟩
  | .local _ .vmem, ⟨17, _⟩ => ⟨S96x2048, .bf16⟩
  | .local _ .vmem, ⟨18, _⟩ => ⟨S96x48, .bf16⟩
  | .local _ .vmem, ⟨19, _⟩ => ⟨S96x128, .f32⟩
  | _, _ => ⟨S96x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S96x16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S96x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S48x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S48x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S48x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S96x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S96x2048 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x96 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== OprojReferenceIdeal.lean ====
abbrev S96x16x128 : Shape := ⟨3, ![96, 16, 128]⟩
abbrev S96x1x4096 : Shape := ⟨3, ![96, 1, 4096]⟩
abbrev S48 : Shape := ⟨1, ![48]⟩
abbrev S2048x4096 : Shape := ⟨2, ![2048, 4096]⟩
abbrev S4096 : Shape := ⟨1, ![4096]⟩
abbrev S48x4096 : Shape := ⟨2, ![48, 4096]⟩
abbrev S96x2048 : Shape := ⟨2, ![96, 2048]⟩
abbrev S_ : Shape := ⟨0, ![]⟩
abbrev S48x1 : Shape := ⟨2, ![48, 1]⟩
abbrev S1 : Shape := ⟨1, ![1]⟩
abbrev S1x1 : Shape := ⟨2, ![1, 1]⟩
abbrev S96x48 : Shape := ⟨2, ![96, 48]⟩
abbrev S96x4096 : Shape := ⟨2, ![96, 4096]⟩
abbrev S1x4096 : Shape := ⟨2, ![1, 4096]⟩
abbrev S1x96 : Shape := ⟨2, ![1, 96]⟩
abbrev S48x2048 : Shape := ⟨2, ![48, 2048]⟩
abbrev S2048 : Shape := ⟨1, ![2048]⟩
abbrev S1x48 : Shape := ⟨2, ![1, 48]⟩
abbrev S1x2048 : Shape := ⟨2, ![1, 2048]⟩
abbrev S96 : Shape := ⟨1, ![96]⟩
abbrev S96x1 : Shape := ⟨2, ![96, 1]⟩

abbrev nBuf : Space → Nat
  | .hbm => 40
  | .vmem => 12
  | .smem => 0
  | _ => 0

abbrev bufTy : (tb : Table) → Fin (tcTables nBuf tb) → BufTy
  | .hbm, ⟨0, _⟩ => ⟨S96x16x128, .f32⟩
  | .hbm, ⟨1, _⟩ => ⟨S96x1x4096, .bf16⟩
  | .hbm, ⟨2, _⟩ => ⟨S48, .i32⟩
  | .hbm, ⟨3, _⟩ => ⟨S48, .i32⟩
  | .hbm, ⟨4, _⟩ => ⟨S2048x4096, .i8⟩
  | .hbm, ⟨5, _⟩ => ⟨S4096, .f32⟩
  | .hbm, ⟨6, _⟩ => ⟨S48x4096, .bf16⟩
  | .hbm, ⟨7, _⟩ => ⟨S4096, .f32⟩
  | .hbm, ⟨8, _⟩ => ⟨S96x2048, .f32⟩
  | .hbm, ⟨9, _⟩ => ⟨S_, .i32⟩
  | .hbm, ⟨10, _⟩ => ⟨S48, .i32⟩
  | .hbm, ⟨11, _⟩ => ⟨S48, .i1⟩
  | .hbm, ⟨12, _⟩ => ⟨S_, .i32⟩
  | .hbm, ⟨13, _⟩ => ⟨S48, .i32⟩
  | .hbm, ⟨14, _⟩ => ⟨S48, .i32⟩
  | .hbm, ⟨15, _⟩ => ⟨S48, .i32⟩
  | .hbm, ⟨16, _⟩ => ⟨S48x1, .i32⟩
  | .hbm, ⟨17, _⟩ => ⟨S1, .i32⟩
  | .hbm, ⟨18, _⟩ => ⟨S_, .i32⟩
  | .hbm, ⟨19, _⟩ => ⟨S48x1, .i32⟩
  | .hbm, ⟨20, _⟩ => ⟨S48x1, .i1⟩
  | .hbm, ⟨21, _⟩ => ⟨S1x1, .i32⟩
  | .hbm, ⟨22, _⟩ => ⟨S48x1, .i32⟩
  | .hbm, ⟨23, _⟩ => ⟨S48x1, .i1⟩
  | .hbm, ⟨24, _⟩ => ⟨S48x1, .i1⟩
  | .hbm, ⟨25, _⟩ => ⟨S_, .i1⟩
  | .hbm, ⟨26, _⟩ => ⟨S48, .i1⟩
  | .hbm, ⟨27, _⟩ => ⟨S96x48, .f32⟩
  | .hbm, ⟨28, _⟩ => ⟨S96x48, .i1⟩
  | .hbm, ⟨29, _⟩ => ⟨S_, .f32⟩
  | .hbm, ⟨30, _⟩ => ⟨S96x48, .f32⟩
  | .hbm, ⟨31, _⟩ => ⟨S96x48, .f32⟩
  | .hbm, ⟨32, _⟩ => ⟨S96x4096, .bf16⟩
  | .hbm, ⟨33, _⟩ => ⟨S48x1, .i32⟩
  | .hbm, ⟨34, _⟩ => ⟨S48x1, .i32⟩
  | .hbm, ⟨35, _⟩ => ⟨S1x4096, .f32⟩
  | .hbm, ⟨36, _⟩ => ⟨S1x4096, .f32⟩
  | .hbm, ⟨37, _⟩ => ⟨S96x4096, .bf16⟩
  | .hbm, ⟨38, _⟩ => ⟨S96x2048, .i8⟩
  | .hbm, ⟨39, _⟩ => ⟨S1x96, .f32⟩
  | .local _ .vmem, ⟨0, _⟩ => ⟨S96x2048, .f32⟩
  | .local _ .vmem, ⟨1, _⟩ => ⟨S96x48, .f32⟩
  | .local _ .vmem, ⟨2, _⟩ => ⟨S96x4096, .bf16⟩
  | .local _ .vmem, ⟨3, _⟩ => ⟨S48x1, .i32⟩
  | .local _ .vmem, ⟨4, _⟩ => ⟨S48x1, .i32⟩
  | .local _ .vmem, ⟨5, _⟩ => ⟨S2048x4096, .i8⟩
  | .local _ .vmem, ⟨6, _⟩ => ⟨S1x4096, .f32⟩
  | .local _ .vmem, ⟨7, _⟩ => ⟨S48x4096, .bf16⟩
  | .local _ .vmem, ⟨8, _⟩ => ⟨S1x4096, .f32⟩
  | .local _ .vmem, ⟨9, _⟩ => ⟨S96x4096, .bf16⟩
  | .local _ .vmem, ⟨10, _⟩ => ⟨S96x2048, .i8⟩
  | .local _ .vmem, ⟨11, _⟩ => ⟨S1x96, .f32⟩
  | _, _ => ⟨S96x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7_0 : Ref sig .tc := ⟨.hbm, 37, rfl⟩
abbrev main_v7_1 : Ref sig .tc := ⟨.hbm, 38, rfl⟩
abbrev main_v7_2 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S96x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S96x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S96x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S48x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S48x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x4096 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S48x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S96x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S96x2048 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x96 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Mlp.KernelIdealRun.lean ====
module

public import proofs.«01_k».proof.Proof.Gen.KernelIdeal.Frame
public import proofs.«01_k».proof.Proof.Gen.KernelIdeal.Skeleton
public import Idealize.ShloMosaic.Lib.Tactic
public import Idealize.ShloMosaic.Lib.WritesUnit
public import Idealize.ShloMosaic.Lib.VecWindow
public import Idealize.ShloMosaic.Lib.Pipeline.ValueKit
public import Idealize.ShloMosaic.Lib.Pipeline.TableIdle
public import Idealize.ShloMosaic.Lib.Claim

@[expose] public section

set_option maxRecDepth 16384

noncomputable section

namespace Cert.Proof.KernelIdealRun

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

/-- Columns 0 to 4047 of a 96 by 4096 block. -/
abbrev rA : Rect S96x4096 := Rect.unit (s := S96x4096) ![0, 0] S96x4048.size inb_S96x4096_S96x4048_0_0
/-- Columns 0 to 8143 of a 96 by 8192 block. -/
abbrev rD : Rect S96x8192 := Rect.unit (s := S96x8192) ![0, 0] S96x8144.size inb_S96x8192_S96x8144_0_0
/-- The first column of a 96 by 128 block. -/
abbrev rS : Rect S96x128 := Rect.unit (s := S96x128) ![0, 0] S96x1.size inb_S96x128_S96x1_0_0

/-- The int8 codes of the normalised rows, as the bfloat16 values the first matrix product takes. -/
def upQ (h : Vec F S96x4096 .bf16) (g b : Vec F S1x4096 .f32) : Vec F S96x4048 .bf16 := k0_pay2 (k0_pay11 h g b) k0_pay12
/-- The same codes as integers. -/
def upC (h : Vec F S96x4096 .bf16) (g b : Vec F S1x4096 .f32) : Vec F S96x4048 .i8 := k0_pay3 (k0_pay11 h g b) k0_pay12
/-- The columns left unquantised. -/
def upO (h : Vec F S96x4096 .bf16) (g b : Vec F S1x4096 .f32) : Vec F S96x48 .bf16 := k0_pay4 (k0_pay8 h g b)
/-- The row scales, repeated over 128 lanes. -/
def upS (h : Vec F S96x4096 .bf16) (g b : Vec F S1x4096 .f32) : Vec F S96x128 .f32 := k0_pay5 (k0_pay10 h g b)
/-- The row scales as one row. -/
def upR (h : Vec F S96x4096 .bf16) (g b : Vec F S1x4096 .f32) : Vec F S1x96 .f32 := k0_pay6 (k0_pay10 h g b)

theorem run_first (c : Dev nD) (E : Set ℕ) (i : grid0.Coords) (h1 : k0_cond1 i = 1#1) (h2 : k0_cond2 i = 1#1) (h3 : ¬ k0_cond3 i = 1#1) (h4 : ¬ k0_cond4 i = 1#1)
    (arg1 : Memref sig .tc .vmem S96x4096 .bf16) (harg1 : arg1.IsWhole) (arg2 : Memref sig .tc .vmem S1x4096 .f32) (harg2 : arg2.IsWhole) (arg3 : Memref sig .tc .vmem S1x4096 .f32) (harg3 : arg3.IsWhole) (arg4 : Memref sig .tc .vmem S4048x1024 .i8) (harg4 : arg4.IsWhole) (arg5 : Memref sig .tc .vmem S1x1024 .f32) (harg5 : arg5.IsWhole) (arg6 : Memref sig .tc .vmem S48x1024 .bf16) (harg6 : arg6.IsWhole) (arg7 : Memref sig .tc .vmem S1x1024 .f32) (harg7 : arg7.IsWhole) (arg8 : Memref sig .tc .vmem S96x512 .bf16) (harg8 : arg8.IsWhole) (arg9 : Memref sig .tc .vmem S8144x512 .i8) (harg9 : arg9.IsWhole) (arg10 : Memref sig .tc .vmem S1x512 .f32) (harg10 : arg10.IsWhole) (arg11 : Memref sig .tc .vmem S48x512 .bf16) (harg11 : arg11.IsWhole) (arg12 : Memref sig .tc .vmem S1x512 .f32) (harg12 : arg12.IsWhole) (arg13 : Memref sig .tc .vmem S96x512 .bf16) (harg13 : arg13.IsWhole) (arg14 : Memref sig .tc .vmem S96x4048 .i8) (harg14 : arg14.IsWhole) (arg15 : Memref sig .tc .vmem S1x96 .f32) (harg15 : arg15.IsWhole) (arg16 : Memref sig .tc .vmem S96x8144 .i8) (harg16 : arg16.IsWhole) (arg17 : Memref sig .tc .vmem S1x96 .f32) (harg17 : arg17.IsWhole) (arg18 : Memref sig .tc .vmem S96x4096 .bf16) (harg18 : arg18.IsWhole) (arg19 : Memref sig .tc .vmem S96x48 .bf16) (harg19 : arg19.IsWhole) (arg20 : Memref sig .tc .vmem S96x128 .f32) (harg20 : arg20.IsWhole) (arg21 : Memref sig .tc .vmem S96x8192 .f32) (harg21 : arg21.IsWhole) (arg22 : Memref sig .tc .vmem S96x8192 .bf16) (harg22 : arg22.IsWhole) (arg23 : Memref sig .tc .vmem S96x48 .bf16) (harg23 : arg23.IsWhole) (arg24 : Memref sig .tc .vmem S96x128 .f32) (harg24 : arg24.IsWhole)
    (x1 : Vec F S96x4096 .bf16) (x2 : Vec F S1x4096 .f32) (x3 : Vec F S1x4096 .f32) (x4 : Vec F S4048x1024 .i8) (x5 : Vec F S1x1024 .f32) (x6 : Vec F S48x1024 .bf16) (x7 : Vec F S1x1024 .f32) (x14 : Vec F S96x4048 .i8) (x15 : Vec F S1x96 .f32) (x18 : Vec F S96x4096 .bf16) (x19 : Vec F S96x48 .bf16) (x20 : Vec F S96x128 .f32) (x21 : Vec F S96x8192 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg14 fullShare x14 ∗ owns (c : Thread nD τ) arg15 fullShare x15 ∗ owns (c : Thread nD τ) arg18 fullShare x18 ∗ owns (c : Thread nD τ) arg19 fullShare x19 ∗ owns (c : Thread nD τ) arg20 fullShare x20 ∗ owns (c : Thread nD τ) arg21 fullShare x21
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg14 fullShare (upC x1 x2 x3) ∗ owns (c : Thread nD τ) arg15 fullShare (upR x1 x2 x3) ∗ owns (c : Thread nD τ) arg18 fullShare (VecWindow.put x18 ![0, 0] S96x4048.size (upQ x1 x2 x3)) ∗ owns (c : Thread nD τ) arg19 fullShare (upO x1 x2 x3) ∗ owns (c : Thread nD τ) arg20 fullShare (upS x1 x2 x3) ∗ owns (c : Thread nD τ) arg21 fullShare (VecWindow.put x21 (k0_off1 i) S96x1024.size (k0_pay13 (upQ x1 x2 x3) (View.ld (upS x1 x2 x3) rS) (upO x1 x2 x3) x4 x5 x6 x7))) -∗ K ⟨⟩))
      ⊢ wp frame (wpE (defs₀ (F := F)) Variants.none c none) E (cc0_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0_mlp_eq_skeleton]; unfold cc0_mlp_skel
  rw [dif_pos h1, dif_pos h2, dif_neg h3, dif_neg h4]
  simp only [k0_part1_eq_skeleton, k0_part2_eq_skeleton]; unfold k0_part1_skel k0_part2_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f14, %hf14, H14⟩, ⟨%f15, %hf15, H15⟩, ⟨%f18, %hf18, H18⟩, ⟨%f19, %hf19, H19⟩, ⟨%f20, %hf20, H20⟩, ⟨%f21, %hf21, H21⟩, Hk⟩
  subst hf1 hf2 hf3 hf4 hf5 hf6 hf7 hf14 hf15 hf18 hf19 hf20 hf21
  sl_exec
  have e1 : View.readAt (Elt F) arg1.view (Rect.unit (s := S96x4096) ![0, 0] ![96, 4096] inb_S96x4096_S96x4096_0_0).toLoadRect f1 = View.read (Elt F) arg1.view f1 :=
    View.readAt_full (s := S96x4096) _ _ _
  have e2 : View.readAt (Elt F) arg2.view (Rect.unit (s := S1x4096) ![0, 0] ![1, 4096] inb_S1x4096_S1x4096_0_0).toLoadRect f2 = View.read (Elt F) arg2.view f2 :=
    View.readAt_full (s := S1x4096) _ _ _
  have e3 : View.readAt (Elt F) arg3.view (Rect.unit (s := S1x4096) ![0, 0] ![1, 4096] inb_S1x4096_S1x4096_0_0).toLoadRect f3 = View.read (Elt F) arg3.view f3 :=
    View.readAt_full (s := S1x4096) _ _ _
  have e4 : View.readAt (Elt F) arg4.view (Rect.unit (s := S4048x1024) ![0, 0] ![4048, 1024] inb_S4048x1024_S4048x1024_0_0).toLoadRect f4 = View.read (Elt F) arg4.view f4 :=
    View.readAt_full (s := S4048x1024) _ _ _
  have e5 : View.readAt (Elt F) arg5.view (Rect.unit (s := S1x1024) ![0, 0] ![1, 1024] inb_S1x1024_S1x1024_0_0).toLoadRect f5 = View.read (Elt F) arg5.view f5 :=
    View.readAt_full (s := S1x1024) _ _ _
  have e6 : View.readAt (Elt F) arg6.view (Rect.unit (s := S48x1024) ![0, 0] ![48, 1024] inb_S48x1024_S48x1024_0_0).toLoadRect f6 = View.read (Elt F) arg6.view f6 :=
    View.readAt_full (s := S48x1024) _ _ _
  have e7 : View.readAt (Elt F) arg7.view (Rect.unit (s := S1x1024) ![0, 0] ![1, 1024] inb_S1x1024_S1x1024_0_0).toLoadRect f7 = View.read (Elt F) arg7.view f7 :=
    View.readAt_full (s := S1x1024) _ _ _
  have p18 : ∀ w, View.read (Elt F) arg18.view (arg18.view.writes (Elt F) f18 [⟨Rect.unit (s := S96x4096) ![0, 0] ![96, 4048] inb_S96x4096_S96x4048_0_0, w⟩]) = VecWindow.put (s := S96x4096) (View.read (Elt F) arg18.view f18) ![0, 0] S96x4048.size w := fun w =>
    View.read_writes_cons_put (s := S96x4096) (off := ![0, 0]) (off' := ![0, 0]) (size := S96x4048.size) arg18.view f18 inb_S96x4096_S96x4048_0_0 w [] rfl
  have p21 : ∀ w, View.read (Elt F) arg21.view (arg21.view.writes (Elt F) f21 [⟨Rect.unit (s := S96x8192) (k0_off1 i) ![96, 1024] (k0_off1_inb i h2), w⟩]) = VecWindow.put (s := S96x8192) (View.read (Elt F) arg21.view f21) (k0_off1 i) S96x1024.size w := fun w =>
    View.read_writes_cons_put (s := S96x8192) (off := (k0_off1 i)) (off' := (k0_off1 i)) (size := S96x1024.size) arg21.view f21 (k0_off1_inb i h2) w [] rfl
  have eS : ∀ w, View.readCov (Val := Elt F) arg20.view [⟨Rect.unit (s := S96x128) ![0, 0] ![96, 128] inb_S96x128_S96x128_0_0, w⟩] (Rect.unit (s := S96x128) ![0, 0] ![96, 1] inb_S96x128_S96x1_0_0).toLoadRect = View.ld w rS := fun w =>
    congrArg (fun z => View.ld (Val := Elt F) z rS) (View.read_writes_full (s := S96x128) arg20.view _ _ w [])
  sl_step
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H14]
  · iexists _; isplitr; swap; · iexact H14
    ipureintro
    sl_unfold_words
    refine (View.read_writes_full (s := S96x4048) _ _ _ _ _).trans ?_
    simp only [e1, e2, e3, e4, e5, e6, e7, upQ, upC, upO, upS, upR, eS, View.writes_nil, View.readCov_cons_toLoadRect]
    try rfl
    trace_state
  isplitl [H15]
  · iexists _; isplitr; swap; · iexact H15
    ipureintro
    sl_unfold_words
    refine (View.read_writes_full (s := S1x96) _ _ _ _ _).trans ?_
    simp only [e1, e2, e3, e4, e5, e6, e7, upQ, upC, upO, upS, upR, eS, View.writes_nil, View.readCov_cons_toLoadRect]
    try rfl
    trace_state
  isplitl [H18]
  · iexists _; isplitr; swap; · iexact H18
    ipureintro
    sl_unfold_words
    rw [p18]
    simp only [e1, e2, e3, e4, e5, e6, e7, upQ, upC, upO, upS, upR, eS, View.writes_nil, View.readCov_cons_toLoadRect]
    try rfl
    trace_state
  isplitl [H19]
  · iexists _; isplitr; swap; · iexact H19
    ipureintro
    sl_unfold_words
    refine (View.read_writes_full (s := S96x48) _ _ _ _ _).trans ?_
    simp only [e1, e2, e3, e4, e5, e6, e7, upQ, upC, upO, upS, upR, eS, View.writes_nil, View.readCov_cons_toLoadRect]
    try rfl
    trace_state
  isplitl [H20]
  · iexists _; isplitr; swap; · iexact H20
    ipureintro
    sl_unfold_words
    refine (View.read_writes_full (s := S96x128) _ _ _ _ _).trans ?_
    simp only [e1, e2, e3, e4, e5, e6, e7, upQ, upC, upO, upS, upR, eS, View.writes_nil, View.readCov_cons_toLoadRect]
    try rfl
    trace_state
  iexists _; isplitr; swap; · iexact H21
  ipureintro
  refine (p21 _).trans ?_
  refine congrArg _ ?_
  sl_unfold_words
  simp only [e1, e2, e3, e4, e5, e6, e7, upQ, upC, upO, upS, upR, eS, View.writes_nil, View.readCov_cons_toLoadRect]
  try rfl
  trace_state

theorem run_up (c : Dev nD) (E : Set ℕ) (i : grid0.Coords) (h1 : ¬ k0_cond1 i = 1#1) (h2 : k0_cond2 i = 1#1) (h3 : ¬ k0_cond3 i = 1#1) (h4 : ¬ k0_cond4 i = 1#1)
    (arg1 : Memref sig .tc .vmem S96x4096 .bf16) (harg1 : arg1.IsWhole) (arg2 : Memref sig .tc .vmem S1x4096 .f32) (harg2 : arg2.IsWhole) (arg3 : Memref sig .tc .vmem S1x4096 .f32) (harg3 : arg3.IsWhole) (arg4 : Memref sig .tc .vmem S4048x1024 .i8) (harg4 : arg4.IsWhole) (arg5 : Memref sig .tc .vmem S1x1024 .f32) (harg5 : arg5.IsWhole) (arg6 : Memref sig .tc .vmem S48x1024 .bf16) (harg6 : arg6.IsWhole) (arg7 : Memref sig .tc .vmem S1x1024 .f32) (harg7 : arg7.IsWhole) (arg8 : Memref sig .tc .vmem S96x512 .bf16) (harg8 : arg8.IsWhole) (arg9 : Memref sig .tc .vmem S8144x512 .i8) (harg9 : arg9.IsWhole) (arg10 : Memref sig .tc .vmem S1x512 .f32) (harg10 : arg10.IsWhole) (arg11 : Memref sig .tc .vmem S48x512 .bf16) (harg11 : arg11.IsWhole) (arg12 : Memref sig .tc .vmem S1x512 .f32) (harg12 : arg12.IsWhole) (arg13 : Memref sig .tc .vmem S96x512 .bf16) (harg13 : arg13.IsWhole) (arg14 : Memref sig .tc .vmem S96x4048 .i8) (harg14 : arg14.IsWhole) (arg15 : Memref sig .tc .vmem S1x96 .f32) (harg15 : arg15.IsWhole) (arg16 : Memref sig .tc .vmem S96x8144 .i8) (harg16 : arg16.IsWhole) (arg17 : Memref sig .tc .vmem S1x96 .f32) (harg17 : arg17.IsWhole) (arg18 : Memref sig .tc .vmem S96x4096 .bf16) (harg18 : arg18.IsWhole) (arg19 : Memref sig .tc .vmem S96x48 .bf16) (harg19 : arg19.IsWhole) (arg20 : Memref sig .tc .vmem S96x128 .f32) (harg20 : arg20.IsWhole) (arg21 : Memref sig .tc .vmem S96x8192 .f32) (harg21 : arg21.IsWhole) (arg22 : Memref sig .tc .vmem S96x8192 .bf16) (harg22 : arg22.IsWhole) (arg23 : Memref sig .tc .vmem S96x48 .bf16) (harg23 : arg23.IsWhole) (arg24 : Memref sig .tc .vmem S96x128 .f32) (harg24 : arg24.IsWhole)
    (x4 : Vec F S4048x1024 .i8) (x5 : Vec F S1x1024 .f32) (x6 : Vec F S48x1024 .bf16) (x7 : Vec F S1x1024 .f32) (x18 : Vec F S96x4096 .bf16) (x19 : Vec F S96x48 .bf16) (x20 : Vec F S96x128 .f32) (x21 : Vec F S96x8192 .f32) (K : PUnit → sProp 𝕄) :
    iprop(owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg18 fullShare x18 ∗ owns (c : Thread nD τ) arg19 fullShare x19 ∗ owns (c : Thread nD τ) arg20 fullShare x20 ∗ owns (c : Thread nD τ) arg21 fullShare x21
        ∗ (iprop(owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg18 fullShare x18 ∗ owns (c : Thread nD τ) arg19 fullShare x19 ∗ owns (c : Thread nD τ) arg20 fullShare x20 ∗ owns (c : Thread nD τ) arg21 fullShare (VecWindow.put x21 (k0_off1 i) S96x1024.size (k0_pay13 (View.ld x18 rA) (View.ld x20 rS) x19 x4 x5 x6 x7))) -∗ K ⟨⟩))
      ⊢ wp frame (wpE (defs₀ (F := F)) Variants.none c none) E (cc0_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0_mlp_eq_skeleton]; unfold cc0_mlp_skel
  rw [dif_neg h1, dif_pos h2, dif_neg h3, dif_neg h4]
  simp only [k0_part2_eq_skeleton]; unfold k0_part2_skel
  unfold owns
  iintro ⟨⟨%f4, %hf4, H4⟩, ⟨%f5, %hf5, H5⟩, ⟨%f6, %hf6, H6⟩, ⟨%f7, %hf7, H7⟩, ⟨%f18, %hf18, H18⟩, ⟨%f19, %hf19, H19⟩, ⟨%f20, %hf20, H20⟩, ⟨%f21, %hf21, H21⟩, Hk⟩
  subst hf4 hf5 hf6 hf7 hf18 hf19 hf20 hf21
  sl_exec
  have e4 : View.readAt (Elt F) arg4.view (Rect.unit (s := S4048x1024) ![0, 0] ![4048, 1024] inb_S4048x1024_S4048x1024_0_0).toLoadRect f4 = View.read (Elt F) arg4.view f4 :=
    View.readAt_full (s := S4048x1024) _ _ _
  have e5 : View.readAt (Elt F) arg5.view (Rect.unit (s := S1x1024) ![0, 0] ![1, 1024] inb_S1x1024_S1x1024_0_0).toLoadRect f5 = View.read (Elt F) arg5.view f5 :=
    View.readAt_full (s := S1x1024) _ _ _
  have e6 : View.readAt (Elt F) arg6.view (Rect.unit (s := S48x1024) ![0, 0] ![48, 1024] inb_S48x1024_S48x1024_0_0).toLoadRect f6 = View.read (Elt F) arg6.view f6 :=
    View.readAt_full (s := S48x1024) _ _ _
  have e7 : View.readAt (Elt F) arg7.view (Rect.unit (s := S1x1024) ![0, 0] ![1, 1024] inb_S1x1024_S1x1024_0_0).toLoadRect f7 = View.read (Elt F) arg7.view f7 :=
    View.readAt_full (s := S1x1024) _ _ _
  have e19 : View.readAt (Elt F) arg19.view (Rect.unit (s := S96x48) ![0, 0] ![96, 48] inb_S96x48_S96x48_0_0).toLoadRect f19 = View.read (Elt F) arg19.view f19 :=
    View.readAt_full (s := S96x48) _ _ _
  have p21 : ∀ w, View.read (Elt F) arg21.view (arg21.view.writes (Elt F) f21 [⟨Rect.unit (s := S96x8192) (k0_off1 i) ![96, 1024] (k0_off1_inb i h2), w⟩]) = VecWindow.put (s := S96x8192) (View.read (Elt F) arg21.view f21) (k0_off1 i) S96x1024.size w := fun w =>
    View.read_writes_cons_put (s := S96x8192) (off := (k0_off1 i)) (off' := (k0_off1 i)) (size := S96x1024.size) arg21.view f21 (k0_off1_inb i h2) w [] rfl
  sl_step
  iapply Hk
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H18]
  · iexists _; isplitr; swap; · iexact H18
    ipureintro; rfl
  isplitl [H19]
  · iexists _; isplitr; swap; · iexact H19
    ipureintro; rfl
  isplitl [H20]
  · iexists _; isplitr; swap; · iexact H20
    ipureintro; rfl
  iexists _; isplitr; swap; · iexact H21
  ipureintro
  refine (p21 _).trans ?_
  simp only [e4, e5, e6, e7, e19, upQ, upC, upO, upS, upR, View.writes_nil, View.readCov_cons_toLoadRect]
  try rfl
  trace_state

theorem run_turn (c : Dev nD) (E : Set ℕ) (i : grid0.Coords) (h1 : ¬ k0_cond1 i = 1#1) (h2 : ¬ k0_cond2 i = 1#1) (h3 : k0_cond3 i = 1#1) (h4 : k0_cond4 i = 1#1)
    (arg1 : Memref sig .tc .vmem S96x4096 .bf16) (harg1 : arg1.IsWhole) (arg2 : Memref sig .tc .vmem S1x4096 .f32) (harg2 : arg2.IsWhole) (arg3 : Memref sig .tc .vmem S1x4096 .f32) (harg3 : arg3.IsWhole) (arg4 : Memref sig .tc .vmem S4048x1024 .i8) (harg4 : arg4.IsWhole) (arg5 : Memref sig .tc .vmem S1x1024 .f32) (harg5 : arg5.IsWhole) (arg6 : Memref sig .tc .vmem S48x1024 .bf16) (harg6 : arg6.IsWhole) (arg7 : Memref sig .tc .vmem S1x1024 .f32) (harg7 : arg7.IsWhole) (arg8 : Memref sig .tc .vmem S96x512 .bf16) (harg8 : arg8.IsWhole) (arg9 : Memref sig .tc .vmem S8144x512 .i8) (harg9 : arg9.IsWhole) (arg10 : Memref sig .tc .vmem S1x512 .f32) (harg10 : arg10.IsWhole) (arg11 : Memref sig .tc .vmem S48x512 .bf16) (harg11 : arg11.IsWhole) (arg12 : Memref sig .tc .vmem S1x512 .f32) (harg12 : arg12.IsWhole) (arg13 : Memref sig .tc .vmem S96x512 .bf16) (harg13 : arg13.IsWhole) (arg14 : Memref sig .tc .vmem S96x4048 .i8) (harg14 : arg14.IsWhole) (arg15 : Memref sig .tc .vmem S1x96 .f32) (harg15 : arg15.IsWhole) (arg16 : Memref sig .tc .vmem S96x8144 .i8) (harg16 : arg16.IsWhole) (arg17 : Memref sig .tc .vmem S1x96 .f32) (harg17 : arg17.IsWhole) (arg18 : Memref sig .tc .vmem S96x4096 .bf16) (harg18 : arg18.IsWhole) (arg19 : Memref sig .tc .vmem S96x48 .bf16) (harg19 : arg19.IsWhole) (arg20 : Memref sig .tc .vmem S96x128 .f32) (harg20 : arg20.IsWhole) (arg21 : Memref sig .tc .vmem S96x8192 .f32) (harg21 : arg21.IsWhole) (arg22 : Memref sig .tc .vmem S96x8192 .bf16) (harg22 : arg22.IsWhole) (arg23 : Memref sig .tc .vmem S96x48 .bf16) (harg23 : arg23.IsWhole) (arg24 : Memref sig .tc .vmem S96x128 .f32) (harg24 : arg24.IsWhole)
    (x8 : Vec F S96x512 .bf16) (x9 : Vec F S8144x512 .i8) (x10 : Vec F S1x512 .f32) (x11 : Vec F S48x512 .bf16) (x12 : Vec F S1x512 .f32) (x13 : Vec F S96x512 .bf16) (x16 : Vec F S96x8144 .i8) (x17 : Vec F S1x96 .f32) (x21 : Vec F S96x8192 .f32) (x22 : Vec F S96x8192 .bf16) (x23 : Vec F S96x48 .bf16) (x24 : Vec F S96x128 .f32) (K : PUnit → sProp 𝕄) :
    iprop(owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg16 fullShare x16 ∗ owns (c : Thread nD τ) arg17 fullShare x17 ∗ owns (c : Thread nD τ) arg21 fullShare x21 ∗ owns (c : Thread nD τ) arg22 fullShare x22 ∗ owns (c : Thread nD τ) arg23 fullShare x23 ∗ owns (c : Thread nD τ) arg24 fullShare x24
        ∗ (iprop(owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare (k0_pay7 (k0_pay17 x21) (View.ld (k0_pay20 x21) rS) (k0_pay19 x21) x9 x10 x11 x12 x8) ∗ owns (c : Thread nD τ) arg16 fullShare (k0_pay18 x21) ∗ owns (c : Thread nD τ) arg17 fullShare (k0_pay21 x21) ∗ owns (c : Thread nD τ) arg21 fullShare x21 ∗ owns (c : Thread nD τ) arg22 fullShare (VecWindow.put x22 ![0, 0] S96x8144.size (k0_pay17 x21)) ∗ owns (c : Thread nD τ) arg23 fullShare (k0_pay19 x21) ∗ owns (c : Thread nD τ) arg24 fullShare (k0_pay20 x21)) -∗ K ⟨⟩))
      ⊢ wp frame (wpE (defs₀ (F := F)) Variants.none c none) E (cc0_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0_mlp_eq_skeleton]; unfold cc0_mlp_skel
  rw [dif_neg h1, dif_neg h2, dif_pos h3, dif_pos h4]
  simp only [k0_part3_eq_skeleton]; unfold k0_part3_skel
  unfold owns
  iintro ⟨⟨%f8, %hf8, H8⟩, ⟨%f9, %hf9, H9⟩, ⟨%f10, %hf10, H10⟩, ⟨%f11, %hf11, H11⟩, ⟨%f12, %hf12, H12⟩, ⟨%f13, %hf13, H13⟩, ⟨%f16, %hf16, H16⟩, ⟨%f17, %hf17, H17⟩, ⟨%f21, %hf21, H21⟩, ⟨%f22, %hf22, H22⟩, ⟨%f23, %hf23, H23⟩, ⟨%f24, %hf24, H24⟩, Hk⟩
  subst hf8 hf9 hf10 hf11 hf12 hf13 hf16 hf17 hf21 hf22 hf23 hf24
  sl_exec
  have e8 : View.readAt (Elt F) arg8.view (Rect.unit (s := S96x512) ![0, 0] ![96, 512] inb_S96x512_S96x512_0_0).toLoadRect f8 = View.read (Elt F) arg8.view f8 :=
    View.readAt_full (s := S96x512) _ _ _
  have e9 : View.readAt (Elt F) arg9.view (Rect.unit (s := S8144x512) ![0, 0] ![8144, 512] inb_S8144x512_S8144x512_0_0).toLoadRect f9 = View.read (Elt F) arg9.view f9 :=
    View.readAt_full (s := S8144x512) _ _ _
  have e10 : View.readAt (Elt F) arg10.view (Rect.unit (s := S1x512) ![0, 0] ![1, 512] inb_S1x512_S1x512_0_0).toLoadRect f10 = View.read (Elt F) arg10.view f10 :=
    View.readAt_full (s := S1x512) _ _ _
  have e11 : View.readAt (Elt F) arg11.view (Rect.unit (s := S48x512) ![0, 0] ![48, 512] inb_S48x512_S48x512_0_0).toLoadRect f11 = View.read (Elt F) arg11.view f11 :=
    View.readAt_full (s := S48x512) _ _ _
  have e12 : View.readAt (Elt F) arg12.view (Rect.unit (s := S1x512) ![0, 0] ![1, 512] inb_S1x512_S1x512_0_0).toLoadRect f12 = View.read (Elt F) arg12.view f12 :=
    View.readAt_full (s := S1x512) _ _ _
  have e21 : View.readAt (Elt F) arg21.view (Rect.unit (s := S96x8192) ![0, 0] ![96, 8192] inb_S96x8192_S96x8192_0_0).toLoadRect f21 = View.read (Elt F) arg21.view f21 :=
    View.readAt_full (s := S96x8192) _ _ _
  have e21 : View.readAt (Elt F) arg21.view (Rect.unit (s := S96x8192) ![0, 0] ![96, 8192] inb_S96x8192_S96x8192_0_0).toLoadRect f21 = View.read (Elt F) arg21.view f21 :=
    View.readAt_full (s := S96x8192) _ _ _
  have p22 : ∀ w, View.read (Elt F) arg22.view (arg22.view.writes (Elt F) f22 [⟨Rect.unit (s := S96x8192) ![0, 0] ![96, 8144] inb_S96x8192_S96x8144_0_0, w⟩]) = VecWindow.put (s := S96x8192) (View.read (Elt F) arg22.view f22) ![0, 0] S96x8144.size w := fun w =>
    View.read_writes_cons_put (s := S96x8192) (off := ![0, 0]) (off' := ![0, 0]) (size := S96x8144.size) arg22.view f22 inb_S96x8192_S96x8144_0_0 w [] rfl
  have eS : ∀ w, View.readCov (Val := Elt F) arg24.view [⟨Rect.unit (s := S96x128) ![0, 0] ![96, 128] inb_S96x128_S96x128_0_0, w⟩] (Rect.unit (s := S96x128) ![0, 0] ![96, 1] inb_S96x128_S96x1_0_0).toLoadRect = View.ld w rS := fun w =>
    congrArg (fun z => View.ld (Val := Elt F) z rS) (View.read_writes_full (s := S96x128) arg24.view _ _ w [])
  sl_step
  iapply Hk
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  isplitl [H12]
  · iexists _; isplitr; swap; · iexact H12
    ipureintro; rfl
  isplitl [H13]
  · iexists _; isplitr; swap; · iexact H13
    ipureintro
    sl_unfold_words
    refine (View.read_writes_full (s := S96x512) _ _ _ _ _).trans ?_
    simp only [e8, e9, e10, e11, e12, e21, e21, upQ, upC, upO, upS, upR, eS, View.writes_nil, View.readCov_cons_toLoadRect]
    try rfl
    trace_state
  isplitl [H16]
  · iexists _; isplitr; swap; · iexact H16
    ipureintro
    sl_unfold_words
    refine (View.read_writes_full (s := S96x8144) _ _ _ _ _).trans ?_
    simp only [e8, e9, e10, e11, e12, e21, e21, upQ, upC, upO, upS, upR, eS, View.writes_nil, View.readCov_cons_toLoadRect]
    try rfl
    trace_state
  isplitl [H17]
  · iexists _; isplitr; swap; · iexact H17
    ipureintro
    sl_unfold_words
    refine (View.read_writes_full (s := S1x96) _ _ _ _ _).trans ?_
    simp only [e8, e9, e10, e11, e12, e21, e21, upQ, upC, upO, upS, upR, eS, View.writes_nil, View.readCov_cons_toLoadRect]
    try rfl
    trace_state
  isplitl [H21]
  · iexists _; isplitr; swap; · iexact H21
    ipureintro; rfl
  isplitl [H22]
  · iexists _; isplitr; swap; · iexact H22
    ipureintro
    sl_unfold_words
    rw [p22]
    simp only [e8, e9, e10, e11, e12, e21, e21, upQ, upC, upO, upS, upR, eS, View.writes_nil, View.readCov_cons_toLoadRect]
    try rfl
    trace_state
  isplitl [H23]
  · iexists _; isplitr; swap; · iexact H23
    ipureintro
    sl_unfold_words
    refine (View.read_writes_full (s := S96x48) _ _ _ _ _).trans ?_
    simp only [e8, e9, e10, e11, e12, e21, e21, upQ, upC, upO, upS, upR, eS, View.writes_nil, View.readCov_cons_toLoadRect]
    try rfl
    trace_state
  iexists _; isplitr; swap; · iexact H24
  ipureintro
  sl_unfold_words
  refine (View.read_writes_full (s := S96x128) _ _ _ _ _).trans ?_
  simp only [e8, e9, e10, e11, e12, e21, e21, upQ, upC, upO, upS, upR, eS, View.writes_nil, View.readCov_cons_toLoadRect]
  try rfl
  trace_state

theorem run_down (c : Dev nD) (E : Set ℕ) (i : grid0.Coords) (h1 : ¬ k0_cond1 i = 1#1) (h2 : ¬ k0_cond2 i = 1#1) (h3 : ¬ k0_cond3 i = 1#1) (h4 : k0_cond4 i = 1#1)
    (arg1 : Memref sig .tc .vmem S96x4096 .bf16) (harg1 : arg1.IsWhole) (arg2 : Memref sig .tc .vmem S1x4096 .f32) (harg2 : arg2.IsWhole) (arg3 : Memref sig .tc .vmem S1x4096 .f32) (harg3 : arg3.IsWhole) (arg4 : Memref sig .tc .vmem S4048x1024 .i8) (harg4 : arg4.IsWhole) (arg5 : Memref sig .tc .vmem S1x1024 .f32) (harg5 : arg5.IsWhole) (arg6 : Memref sig .tc .vmem S48x1024 .bf16) (harg6 : arg6.IsWhole) (arg7 : Memref sig .tc .vmem S1x1024 .f32) (harg7 : arg7.IsWhole) (arg8 : Memref sig .tc .vmem S96x512 .bf16) (harg8 : arg8.IsWhole) (arg9 : Memref sig .tc .vmem S8144x512 .i8) (harg9 : arg9.IsWhole) (arg10 : Memref sig .tc .vmem S1x512 .f32) (harg10 : arg10.IsWhole) (arg11 : Memref sig .tc .vmem S48x512 .bf16) (harg11 : arg11.IsWhole) (arg12 : Memref sig .tc .vmem S1x512 .f32) (harg12 : arg12.IsWhole) (arg13 : Memref sig .tc .vmem S96x512 .bf16) (harg13 : arg13.IsWhole) (arg14 : Memref sig .tc .vmem S96x4048 .i8) (harg14 : arg14.IsWhole) (arg15 : Memref sig .tc .vmem S1x96 .f32) (harg15 : arg15.IsWhole) (arg16 : Memref sig .tc .vmem S96x8144 .i8) (harg16 : arg16.IsWhole) (arg17 : Memref sig .tc .vmem S1x96 .f32) (harg17 : arg17.IsWhole) (arg18 : Memref sig .tc .vmem S96x4096 .bf16) (harg18 : arg18.IsWhole) (arg19 : Memref sig .tc .vmem S96x48 .bf16) (harg19 : arg19.IsWhole) (arg20 : Memref sig .tc .vmem S96x128 .f32) (harg20 : arg20.IsWhole) (arg21 : Memref sig .tc .vmem S96x8192 .f32) (harg21 : arg21.IsWhole) (arg22 : Memref sig .tc .vmem S96x8192 .bf16) (harg22 : arg22.IsWhole) (arg23 : Memref sig .tc .vmem S96x48 .bf16) (harg23 : arg23.IsWhole) (arg24 : Memref sig .tc .vmem S96x128 .f32) (harg24 : arg24.IsWhole)
    (x8 : Vec F S96x512 .bf16) (x9 : Vec F S8144x512 .i8) (x10 : Vec F S1x512 .f32) (x11 : Vec F S48x512 .bf16) (x12 : Vec F S1x512 .f32) (x13 : Vec F S96x512 .bf16) (x22 : Vec F S96x8192 .bf16) (x23 : Vec F S96x48 .bf16) (x24 : Vec F S96x128 .f32) (K : PUnit → sProp 𝕄) :
    iprop(owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg22 fullShare x22 ∗ owns (c : Thread nD τ) arg23 fullShare x23 ∗ owns (c : Thread nD τ) arg24 fullShare x24
        ∗ (iprop(owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare (k0_pay7 (View.ld x22 rD) (View.ld x24 rS) x23 x9 x10 x11 x12 x8) ∗ owns (c : Thread nD τ) arg22 fullShare x22 ∗ owns (c : Thread nD τ) arg23 fullShare x23 ∗ owns (c : Thread nD τ) arg24 fullShare x24) -∗ K ⟨⟩))
      ⊢ wp frame (wpE (defs₀ (F := F)) Variants.none c none) E (cc0_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0_mlp_eq_skeleton]; unfold cc0_mlp_skel
  rw [dif_neg h1, dif_neg h2, dif_neg h3, dif_pos h4]
  unfold owns
  iintro ⟨⟨%f8, %hf8, H8⟩, ⟨%f9, %hf9, H9⟩, ⟨%f10, %hf10, H10⟩, ⟨%f11, %hf11, H11⟩, ⟨%f12, %hf12, H12⟩, ⟨%f13, %hf13, H13⟩, ⟨%f22, %hf22, H22⟩, ⟨%f23, %hf23, H23⟩, ⟨%f24, %hf24, H24⟩, Hk⟩
  subst hf8 hf9 hf10 hf11 hf12 hf13 hf22 hf23 hf24
  sl_exec
  have e8 : View.readAt (Elt F) arg8.view (Rect.unit (s := S96x512) ![0, 0] ![96, 512] inb_S96x512_S96x512_0_0).toLoadRect f8 = View.read (Elt F) arg8.view f8 :=
    View.readAt_full (s := S96x512) _ _ _
  have e9 : View.readAt (Elt F) arg9.view (Rect.unit (s := S8144x512) ![0, 0] ![8144, 512] inb_S8144x512_S8144x512_0_0).toLoadRect f9 = View.read (Elt F) arg9.view f9 :=
    View.readAt_full (s := S8144x512) _ _ _
  have e10 : View.readAt (Elt F) arg10.view (Rect.unit (s := S1x512) ![0, 0] ![1, 512] inb_S1x512_S1x512_0_0).toLoadRect f10 = View.read (Elt F) arg10.view f10 :=
    View.readAt_full (s := S1x512) _ _ _
  have e11 : View.readAt (Elt F) arg11.view (Rect.unit (s := S48x512) ![0, 0] ![48, 512] inb_S48x512_S48x512_0_0).toLoadRect f11 = View.read (Elt F) arg11.view f11 :=
    View.readAt_full (s := S48x512) _ _ _
  have e12 : View.readAt (Elt F) arg12.view (Rect.unit (s := S1x512) ![0, 0] ![1, 512] inb_S1x512_S1x512_0_0).toLoadRect f12 = View.read (Elt F) arg12.view f12 :=
    View.readAt_full (s := S1x512) _ _ _
  have e23 : View.readAt (Elt F) arg23.view (Rect.unit (s := S96x48) ![0, 0] ![96, 48] inb_S96x48_S96x48_0_0).toLoadRect f23 = View.read (Elt F) arg23.view f23 :=
    View.readAt_full (s := S96x48) _ _ _
  sl_step
  iapply Hk
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  isplitl [H12]
  · iexists _; isplitr; swap; · iexact H12
    ipureintro; rfl
  isplitl [H13]
  · iexists _; isplitr; swap; · iexact H13
    ipureintro
    refine (View.read_writes_full (s := S96x512) _ _ _ _ _).trans ?_
    simp only [e8, e9, e10, e11, e12, e23, upQ, upC, upO, upS, upR, View.writes_nil, View.readCov_cons_toLoadRect]
    try rfl
    trace_state
  isplitl [H22]
  · iexists _; isplitr; swap; · iexact H22
    ipureintro; rfl
  isplitl [H23]
  · iexists _; isplitr; swap; · iexact H23
    ipureintro; rfl
  iexists _; isplitr; swap; · iexact H24
  ipureintro; rfl

variable (m : (ℓ : Loc nD τ sig) → Buf (Elt F) ℓ) (ρ : Dev nD → PrngReg)

/-! ## The values the points compute -/

/-- The rows the call is given, -/
abbrev gH (c : Dev nD) : Vec F S96x4096 .bf16 := iblk m c 0 t0_0
/-- the layer norm's factors -/
abbrev gG (c : Dev nD) : Vec F S1x4096 .f32 := iblk m c 1 t0_0
/-- and its shifts. -/
abbrev gB (c : Dev nD) : Vec F S1x4096 .f32 := iblk m c 2 t0_0

/-- Columns 1024 j to 1024 j + 1023 of the activations, computed at point j. -/
def actTile (c : Dev nD) (j : Fin cfg0.N) : Vec F S96x1024 .f32 :=
  k0_pay13 (upQ (gH m c) (gG m c) (gB m c)) (View.ld (upS (gH m c) (gG m c) (gB m c)) rS) (upO (gH m c) (gG m c) (gB m c)) (iblk m c 3 j) (iblk m c 4 j) (iblk m c 5 j) (iblk m c 6 j)

theorem colPoint (y : S96x8192.Idx) : (y 1).val / 1024 < cfg0.N := by
  have h : (y 1).val < 8192 := (y 1).isLt
  have hN : cfg0.N = 16 := N_0
  omega

/-- All the activations. -/
def act (c : Dev nD) : Vec F S96x8192 .f32 := fun y =>
  actTile m c ⟨(y 1).val / 1024, colPoint y⟩ (ix2 (y 0) ⟨(y 1).val % 1024, Nat.mod_lt _ (by decide)⟩)

/-- The columns of the result that point t of the second half computes. -/
def outY (c : Dev nD) (t : Fin cfg0.N) : Vec F S96x512 .bf16 :=
  k0_pay7 (k0_pay17 (act m c)) (View.ld (k0_pay20 (act m c)) rS) (k0_pay19 (act m c)) (iblk m c 8 t) (iblk m c 9 t) (iblk m c 10 t) (iblk m c 11 t) (iblk m c 7 t)

/-! ## What the scratch buffers hold before point n -/

/-- The codes after the first point, the activations' columns done so far, the second codes after point 8. -/
def Inv (c : Dev nD) (n : ℕ) (X18 : Vec F S96x4096 .bf16) (X19 : Vec F S96x48 .bf16) (X20 : Vec F S96x128 .f32) (X21 : Vec F S96x8192 .f32)
    (X22 : Vec F S96x8192 .bf16) (X23 : Vec F S96x48 .bf16) (X24 : Vec F S96x128 .f32) : Prop :=
  (0 < n → View.ld X18 rA = upQ (gH m c) (gG m c) (gB m c) ∧ X19 = upO (gH m c) (gG m c) (gB m c) ∧ X20 = upS (gH m c) (gG m c) (gB m c))
    ∧ (∀ y : S96x8192.Idx, (y 1).val < 1024 * n → X21 y = act m c y)
    ∧ (8 < n → View.ld X22 rD = k0_pay17 (act m c) ∧ X23 = k0_pay19 (act m c) ∧ X24 = k0_pay20 (act m c))

/-- The scratch buffers at such contents and the generator register. -/
def phi (c : Dev nD) (n : ℕ) : sProp 𝕄 :=
  iprop(∃ X18 X19 X20 X21 X22 X23 X24, ⌜Inv m c n X18 X19 X20 X21 X22 X23 X24⌝
    ∗ owns (c : Thread nD τ) (Memref.whole cc0_scratch0) fullShare X18 ∗ owns (c : Thread nD τ) (Memref.whole cc0_scratch1) fullShare X19 ∗ owns (c : Thread nD τ) (Memref.whole cc0_scratch2) fullShare X20 ∗ owns (c : Thread nD τ) (Memref.whole cc0_scratch3) fullShare X21 ∗ owns (c : Thread nD τ) (Memref.whole cc0_scratch4) fullShare X22 ∗ owns (c : Thread nD τ) (Memref.whole cc0_scratch5) fullShare X23 ∗ owns (c : Thread nD τ) (Memref.whole cc0_scratch6) fullShare X24 ∗ ∃ r : PrngReg, prngReg c r)

/-! ## The proof data -/

/-- The arrays as the region finds them; after a point every input's buffer at its block, every result's at the values above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => outY m c t
    | ⟨13, _⟩ => upC (gH m c) (gG m c) (gB m c)
    | ⟨14, _⟩ => upR (gH m c) (gG m c) (gB m c)
    | ⟨15, _⟩ => k0_pay18 (act m c)
    | ⟨16, _⟩ => k0_pay21 (act m c)
    | ⟨_ + 17, h⟩ => absurd h (Nat.not_lt.2 (Nat.le_add_left _ _))
  Φ t := phi m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = outY m c t := by dsimp only [dats]
theorem after0_13 (c : Dev nD) (t : Fin cfg0.N) : (dats m 0 c).after 13 t = upC (gH m c) (gG m c) (gB m c) := by dsimp only [dats]
theorem after0_14 (c : Dev nD) (t : Fin cfg0.N) : (dats m 0 c).after 14 t = upR (gH m c) (gG m c) (gB m c) := by dsimp only [dats]
theorem after0_15 (c : Dev nD) (t : Fin cfg0.N) : (dats m 0 c).after 15 t = k0_pay18 (act m c) := by dsimp only [dats]
theorem after0_16 (c : Dev nD) (t : Fin cfg0.N) : (dats m 0 c).after 16 t = k0_pay21 (act m c) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The points -/

theorem cond1_iff (t : Fin cfg0.N) : k0_cond1 (grid0.coords t) = 1#1 ↔ t.val = 0 := by
  rcases fin_N0 t with rfl | rfl | rfl | rfl | rfl | rfl | rfl | rfl | rfl | rfl | rfl | rfl | rfl | rfl | rfl | rfl <;> decide
theorem cond2_iff (t : Fin cfg0.N) : k0_cond2 (grid0.coords t) = 1#1 ↔ t.val < 8 := by
  rcases fin_N0 t with rfl | rfl | rfl | rfl | rfl | rfl | rfl | rfl | rfl | rfl | rfl | rfl | rfl | rfl | rfl | rfl <;> decide
theorem cond3_iff (t : Fin cfg0.N) : k0_cond3 (grid0.coords t) = 1#1 ↔ t.val = 8 := by
  rcases fin_N0 t with rfl | rfl | rfl | rfl | rfl | rfl | rfl | rfl | rfl | rfl | rfl | rfl | rfl | rfl | rfl | rfl <;> decide
theorem cond4_iff (t : Fin cfg0.N) : k0_cond4 (grid0.coords t) = 1#1 ↔ 8 ≤ t.val := by
  rcases fin_N0 t with rfl | rfl | rfl | rfl | rfl | rfl | rfl | rfl | rfl | rfl | rfl | rfl | rfl | rfl | rfl | rfl <;> decide
theorem off1_eq (t : Fin cfg0.N) (h : t.val < 8) : k0_off1 (grid0.coords t) = ![0, 1024 * t.val] := by
  rcases fin_N0 t with rfl | rfl | rfl | rfl | rfl | rfl | rfl | rfl | rfl | rfl | rfl | rfl | rfl | rfl | rfl | rfl <;> first | rfl | (exfalso; revert h; decide)
theorem flush12 (t : Fin cfg0.N) (h : t.val < 8) : (cfg0.win 12).flush t = false := by
  rcases fin_N0 t with rfl | rfl | rfl | rfl | rfl | rfl | rfl | rfl | rfl | rfl | rfl | rfl | rfl | rfl | rfl | rfl <;> first | decide | (exfalso; revert h; decide)

theorem idle12 (t : Fin cfg0.N) : cfg0.idle 12 (cfg0.grid.coords t) = !(k0_cond4 (grid0.coords t) == 1#1) := rfl
theorem idle13 (t : Fin cfg0.N) : cfg0.idle 13 (cfg0.grid.coords t) = !(k0_cond1 (grid0.coords t) == 1#1) := rfl
theorem idle14 (t : Fin cfg0.N) : cfg0.idle 14 (cfg0.grid.coords t) = !(k0_cond1 (grid0.coords t) == 1#1) := rfl
theorem idle15 (t : Fin cfg0.N) : cfg0.idle 15 (cfg0.grid.coords t) = !(k0_cond3 (grid0.coords t) == 1#1) := rfl
theorem idle16 (t : Fin cfg0.N) : cfg0.idle 16 (cfg0.grid.coords t) = !(k0_cond3 (grid0.coords t) == 1#1) := rfl

theorem before13 (c : Dev nD) : ∀ (n : ℕ) (t : Fin cfg0.N), t.val = n → 0 < n → ∀ d, (dats m 0 c).before 13 t d = (dats m 0 c).after 13 t
  | 0, _, _, h, _ => absurd h (by decide)
  | n + 1, t, ht, h, d => by
    have hN : t.val < 16 := lt_of_lt_of_eq t.isLt N_0
    have hfl : (cfg0.win 13).flush ⟨t.val - 1, Nat.lt_of_le_of_lt (Nat.sub_le _ _) t.isLt⟩ = false := by
      have hf := flush0_13 ⟨t.val - 1, Nat.lt_of_le_of_lt (Nat.sub_le _ _) t.isLt⟩
      rw [← Bool.not_eq_true, hf]
      show ¬ (t.val - 1) % 16 = 15
      omega
    rw [(dats m 0 c).before_of_pos 13 t (by omega) ((cfg0.win 13).fetch_out rfl t) d, hfl, if_neg Bool.false_ne_true]
    unfold Dat.left
    by_cases h0 : n = 0
    · have hi : cfg0.idle 13 (cfg0.grid.coords ⟨t.val - 1, Nat.lt_of_le_of_lt (Nat.sub_le _ _) t.isLt⟩) = false := by
        rw [idle13, (cond1_iff _).mpr (by show t.val - 1 = 0; omega)]; rfl
      rw [hi]
      dsimp only [Dat.kept]
      rw [after0_13, after0_13]
      rfl
    · have hi : cfg0.idle 13 (cfg0.grid.coords ⟨t.val - 1, Nat.lt_of_le_of_lt (Nat.sub_le _ _) t.isLt⟩) = true := by
        rw [idle13]
        have hc := (cond1_iff ⟨t.val - 1, Nat.lt_of_le_of_lt (Nat.sub_le _ _) t.isLt⟩).not.mpr (by show ¬ t.val - 1 = 0; omega)
        simp [hc]
      rw [hi]
      dsimp only
      rw [before13 c n _ (by show t.val - 1 = n; omega) (by omega) d, after0_13, after0_13]

theorem before14 (c : Dev nD) : ∀ (n : ℕ) (t : Fin cfg0.N), t.val = n → 0 < n → ∀ d, (dats m 0 c).before 14 t d = (dats m 0 c).after 14 t
  | 0, _, _, h, _ => absurd h (by decide)
  | n + 1, t, ht, h, d => by
    have hN : t.val < 16 := lt_of_lt_of_eq t.isLt N_0
    have hfl : (cfg0.win 14).flush ⟨t.val - 1, Nat.lt_of_le_of_lt (Nat.sub_le _ _) t.isLt⟩ = false := by
      have hf := flush0_14 ⟨t.val - 1, Nat.lt_of_le_of_lt (Nat.sub_le _ _) t.isLt⟩
      rw [← Bool.not_eq_true, hf]
      show ¬ (t.val - 1) % 16 = 15
      omega
    rw [(dats m 0 c).before_of_pos 14 t (by omega) ((cfg0.win 14).fetch_out rfl t) d, hfl, if_neg Bool.false_ne_true]
    unfold Dat.left
    by_cases h0 : n = 0
    · have hi : cfg0.idle 14 (cfg0.grid.coords ⟨t.val - 1, Nat.lt_of_le_of_lt (Nat.sub_le _ _) t.isLt⟩) = false := by
        rw [idle14, (cond1_iff _).mpr (by show t.val - 1 = 0; omega)]; rfl
      rw [hi]
      dsimp only [Dat.kept]
      rw [after0_14, after0_14]
      rfl
    · have hi : cfg0.idle 14 (cfg0.grid.coords ⟨t.val - 1, Nat.lt_of_le_of_lt (Nat.sub_le _ _) t.isLt⟩) = true := by
        rw [idle14]
        have hc := (cond1_iff ⟨t.val - 1, Nat.lt_of_le_of_lt (Nat.sub_le _ _) t.isLt⟩).not.mpr (by show ¬ t.val - 1 = 0; omega)
        simp [hc]
      rw [hi]
      dsimp only
      rw [before14 c n _ (by show t.val - 1 = n; omega) (by omega) d, after0_14, after0_14]

theorem before15 (c : Dev nD) : ∀ (n : ℕ) (t : Fin cfg0.N), t.val = n → 8 < n → ∀ d, (dats m 0 c).before 15 t d = (dats m 0 c).after 15 t
  | 0, _, _, h, _ => absurd h (by decide)
  | n + 1, t, ht, h, d => by
    have hN : t.val < 16 := lt_of_lt_of_eq t.isLt N_0
    have hfl : (cfg0.win 15).flush ⟨t.val - 1, Nat.lt_of_le_of_lt (Nat.sub_le _ _) t.isLt⟩ = false := by
      have hf := flush0_15 ⟨t.val - 1, Nat.lt_of_le_of_lt (Nat.sub_le _ _) t.isLt⟩
      rw [← Bool.not_eq_true, hf]
      show ¬ (t.val - 1) % 16 = 15
      omega
    rw [(dats m 0 c).before_of_pos 15 t (by omega) ((cfg0.win 15).fetch_out rfl t) d, hfl, if_neg Bool.false_ne_true]
    unfold Dat.left
    by_cases h0 : n = 8
    · have hi : cfg0.idle 15 (cfg0.grid.coords ⟨t.val - 1, Nat.lt_of_le_of_lt (Nat.sub_le _ _) t.isLt⟩) = false := by
        rw [idle15, (cond3_iff _).mpr (by show t.val - 1 = 8; omega)]; rfl
      rw [hi]
      dsimp only [Dat.kept]
      rw [after0_15, after0_15]
      rfl
    · have hi : cfg0.idle 15 (cfg0.grid.coords ⟨t.val - 1, Nat.lt_of_le_of_lt (Nat.sub_le _ _) t.isLt⟩) = true := by
        rw [idle15]
        have hc := (cond3_iff ⟨t.val - 1, Nat.lt_of_le_of_lt (Nat.sub_le _ _) t.isLt⟩).not.mpr (by show ¬ t.val - 1 = 8; omega)
        simp [hc]
      rw [hi]
      dsimp only
      rw [before15 c n _ (by show t.val - 1 = n; omega) (by omega) d, after0_15, after0_15]

theorem before16 (c : Dev nD) : ∀ (n : ℕ) (t : Fin cfg0.N), t.val = n → 8 < n → ∀ d, (dats m 0 c).before 16 t d = (dats m 0 c).after 16 t
  | 0, _, _, h, _ => absurd h (by decide)
  | n + 1, t, ht, h, d => by
    have hN : t.val < 16 := lt_of_lt_of_eq t.isLt N_0
    have hfl : (cfg0.win 16).flush ⟨t.val - 1, Nat.lt_of_le_of_lt (Nat.sub_le _ _) t.isLt⟩ = false := by
      have hf := flush0_16 ⟨t.val - 1, Nat.lt_of_le_of_lt (Nat.sub_le _ _) t.isLt⟩
      rw [← Bool.not_eq_true, hf]
      show ¬ (t.val - 1) % 16 = 15
      omega
    rw [(dats m 0 c).before_of_pos 16 t (by omega) ((cfg0.win 16).fetch_out rfl t) d, hfl, if_neg Bool.false_ne_true]
    unfold Dat.left
    by_cases h0 : n = 8
    · have hi : cfg0.idle 16 (cfg0.grid.coords ⟨t.val - 1, Nat.lt_of_le_of_lt (Nat.sub_le _ _) t.isLt⟩) = false := by
        rw [idle16, (cond3_iff _).mpr (by show t.val - 1 = 8; omega)]; rfl
      rw [hi]
      dsimp only [Dat.kept]
      rw [after0_16, after0_16]
      rfl
    · have hi : cfg0.idle 16 (cfg0.grid.coords ⟨t.val - 1, Nat.lt_of_le_of_lt (Nat.sub_le _ _) t.isLt⟩) = true := by
        rw [idle16]
        have hc := (cond3_iff ⟨t.val - 1, Nat.lt_of_le_of_lt (Nat.sub_le _ _) t.isLt⟩).not.mpr (by show ¬ t.val - 1 = 8; omega)
        simp [hc]
      rw [hi]
      dsimp only
      rw [before16 c n _ (by show t.val - 1 = n; omega) (by omega) d, after0_16, after0_16]

/-- A buffer the point does not store into is handed back as found; where it is written back it holds what is stated. -/
theorem pass (c : Dev nD) (w : Fin cfg0.W) (t : Fin cfg0.N) (hi : cfg0.idle w (cfg0.grid.coords t) = true)
    (hb : (cfg0.win w).flush t = true → ∀ d, (dats m 0 c).before w t d = (dats m 0 c).after w t) :
    iprop(∃ d, owns (c : Thread nD τ) ((cfg0.win w).stage (cfg0.slots t w)) fullShare ((dats m 0 c).before w t d)) ⊢ (dats m 0 c).leavesExact w t := by
  unfold Dat.leavesExact
  rw [hi]
  cases hf : (cfg0.win w).flush t
  · exact .rfl
  · dsimp only
    iintro ⟨%d, H⟩
    rw [hb hf d]
    iexact H

/-- A buffer the point stores into is left at what is stated. -/
theorem live (c : Dev nD) (w : Fin cfg0.W) (t : Fin cfg0.N) (hi : cfg0.idle w (cfg0.grid.coords t) = false) :
    owns (c : Thread nD τ) ((cfg0.win w).stage (cfg0.slots t w)) fullShare ((dats m 0 c).after w t) ⊢ (dats m 0 c).leavesExact w t := by
  unfold Dat.leavesExact
  rw [hi]

/-! ## The body obligation -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ (dats m 0 c).leavesExact 12 t
    ∗ (dats m 0 c).leavesExact 13 t
    ∗ (dats m 0 c).leavesExact 14 t
    ∗ (dats m 0 c).leavesExact 15 t
    ∗ (dats m 0 c).leavesExact 16 t)

/-- The store of point t's columns leaves the columns done so far right. -/
theorem put_act (c : Dev nD) (t : Fin cfg0.N) (h : t.val < 8) (X21 : Vec F S96x8192 .f32) (hX : ∀ y : S96x8192.Idx, (y 1).val < 1024 * t.val → X21 y = act m c y)
    (y : S96x8192.Idx) (hy : (y 1).val < 1024 * (t.val + 1)) :
    VecWindow.put (s := S96x8192) X21 (k0_off1 (grid0.coords t)) S96x1024.size (actTile m c t) y = act m c y := by
  rw [off1_eq t h]
  have hy0 : (y 0).val < 96 := (y 0).isLt
  unfold VecWindow.put
  by_cases hm : 1024 * t.val ≤ (y 1).val
  · rw [dif_pos (Fin.forall_fin_two.mpr ⟨⟨Nat.zero_le _, by show (y 0).val < 0 + 96; omega⟩, ⟨hm, by show (y 1).val < 1024 * t.val + 1024; omega⟩⟩)]
    unfold act
    have e : (⟨(y 1).val / 1024, colPoint y⟩ : Fin cfg0.N) = t := Fin.ext (by show (y 1).val / 1024 = t.val; omega)
    rw [e]
    refine congrArg (actTile m c t) (funext (Fin.forall_fin_two.mpr ⟨Fin.ext ?_, Fin.ext ?_⟩))
    · rfl
    · show (y 1).val - 1024 * t.val = (y 1).val % 1024
      omega
  · rw [dif_neg fun hh => hm (hh 1).1]
    exact hX y (by omega)

/-- All columns done, the buffer holds the activations. -/
theorem act_done (c : Dev nD) (n : ℕ) (h : 8 ≤ n) (X21 : Vec F S96x8192 .f32) (hX : ∀ y : S96x8192.Idx, (y 1).val < 1024 * n → X21 y = act m c y) :
    X21 = act m c := funext fun y => hX y (by have : (y 1).val < 8192 := (y 1).isLt; omega)

set_option maxHeartbeats 1600000 in
theorem sound_first (c : Dev nD) (t : Fin cfg0.N) (ht : t.val = 0) :
    bodyPre m c t ⊢ wp frame (wpE (defs₀ (F := F)) Variants.none c none) Set.univ (bodyAt0 t) (fun _ => bodyPost m c t) := by
  have hN : t.val < 16 := lt_of_lt_of_eq t.isLt N_0
  have h1 : k0_cond1 (grid0.coords t) = 1#1 := (cond1_iff t).mpr (by omega)
  have h2 : k0_cond2 (grid0.coords t) = 1#1 := (cond2_iff t).mpr (by omega)
  have h3 : ¬ k0_cond3 (grid0.coords t) = 1#1 := (cond3_iff t).not.mpr (by omega)
  have h4 : ¬ k0_cond4 (grid0.coords t) = 1#1 := (cond4_iff t).not.mpr (by omega)
  have L12 := pass m c 12 t (by rw [idle12]; simp [h4]) (fun hf => absurd hf (by rw [flush12 t (by omega)]; exact Bool.false_ne_true))
  have L13 := live m c 13 t (by rw [idle13, h1]; rfl)
  rw [after0_13] at L13
  have L14 := live m c 14 t (by rw [idle14, h1]; rfl)
  rw [after0_14] at L14
  have L15 := pass m c 15 t (by rw [idle15]; simp [h3]) (fun hf => before15 m c t.val t rfl (by have := (flush0_15 t).mp hf; omega))
  have L16 := pass m c 16 t (by rw [idle16]; simp [h3]) (fun hf => before16 m c t.val t rfl (by have := (flush0_16 t).mp hf; omega))
  unfold bodyPre bodyPost bodyAt0
  simp only [before0_0, before0_1, before0_2, before0_3, before0_4, before0_5, before0_6, before0_7, before0_8, before0_9, before0_10, before0_11]
  rw [show (dats m 0 c).Φ t.castSucc = phi m c t.val from rfl, show (dats m 0 c).Φ t.succ = phi m c (t.val + 1) from rfl,
    show (dats m 0 c).owesAt () t.succ = (dats m 0 c).owesAt () t.castSucc from rfl,
    after0_0, after0_1, after0_2, after0_3, after0_4, after0_5, after0_6, after0_7, after0_8, after0_9, after0_10, after0_11]
  unfold phi
  iintro ⟨⟨%X18, %X19, %X20, %X21, %X22, %X23, %X24, %hInv, S18, S19, S20, S21, S22, S23, S24, HP⟩, Ho, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩, ⟨%d10, W10⟩, ⟨%d11, W11⟩, W12, ⟨%d13, W13⟩, ⟨%d14, W14⟩, W15, W16⟩
  obtain ⟨I1, I2, I3⟩ := hInv
  obtain rfl : t = t0_0 := Fin.ext ht
  iapply (run_first c Set.univ (grid0.coords t0_0) h1 h2 h3 h4 _ _ _ _ _ _ _ _ _ _ _ _ _ _ _ _ _ _ _ _ _ _ _ _ _ _ _ _ _ _ _ _ _ _ _ _ _ _ _ _ _ _ _ _ _ _ _ _ (gH m c) (gG m c) (gB m c) (iblk m c 3 t0_0) (iblk m c 4 t0_0) (iblk m c 5 t0_0) (iblk m c 6 t0_0) _ _ X18 X19 X20 X21 _)
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W13]; · iexact W13
  isplitl [W14]; · iexact W14
  isplitl [S18]; · iexact S18
  isplitl [S19]; · iexact S19
  isplitl [S20]; · iexact S20
  isplitl [S21]; · iexact S21
  iintro ⟨W0, W1, W2, W3, W4, W5, W6, W13, W14, S18, S19, S20, S21⟩
  isplitl [S18 S19 S20 S21 S22 S23 S24 HP]
  · iexists _; iexists _; iexists _; iexists _; iexists _; iexists _; iexists _
    isplitr; swap
    · isplitl [S18]; · iexact S18
      isplitl [S19]; · iexact S19
      isplitl [S20]; · iexact S20
      isplitl [S21]; · iexact S21
      isplitl [S22]; · iexact S22
      isplitl [S23]; · iexact S23
      isplitl [S24]; · iexact S24
      iexact HP
    ipureintro
    exact ⟨fun _ => ⟨VecWindow.window_put_same (s := S96x4096) X18 ![0, 0] S96x4048.size inb_S96x4096_S96x4048_0_0 _, rfl, rfl⟩,
      put_act m c t0_0 (by decide) X21 I2, fun h => absurd h (by decide)⟩
  isplitl [Ho]; · iexact Ho
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [W10]; · iexact W10
  isplitl [W11]; · iexact W11
  isplitl [W12]; · iapply L12; iexact W12
  isplitl [W13]; · iapply L13; iexact W13
  isplitl [W14]; · iapply L14; iexact W14
  isplitl [W15]; · iapply L15; iexact W15
  iapply L16; iexact W16

set_option maxHeartbeats 1600000 in
theorem sound_up (c : Dev nD) (t : Fin cfg0.N) (ht : 0 < t.val ∧ t.val < 8) :
    bodyPre m c t ⊢ wp frame (wpE (defs₀ (F := F)) Variants.none c none) Set.univ (bodyAt0 t) (fun _ => bodyPost m c t) := by
  have hN : t.val < 16 := lt_of_lt_of_eq t.isLt N_0
  have h1 : ¬ k0_cond1 (grid0.coords t) = 1#1 := (cond1_iff t).not.mpr (by omega)
  have h2 : k0_cond2 (grid0.coords t) = 1#1 := (cond2_iff t).mpr (by omega)
  have h3 : ¬ k0_cond3 (grid0.coords t) = 1#1 := (cond3_iff t).not.mpr (by omega)
  have h4 : ¬ k0_cond4 (grid0.coords t) = 1#1 := (cond4_iff t).not.mpr (by omega)
  have L12 := pass m c 12 t (by rw [idle12]; simp [h4]) (fun hf => absurd hf (by rw [flush12 t (by omega)]; exact Bool.false_ne_true))
  have L13 := pass m c 13 t (by rw [idle13]; simp [h1]) (fun hf => before13 m c t.val t rfl (by have := (flush0_13 t).mp hf; omega))
  have L14 := pass m c 14 t (by rw [idle14]; simp [h1]) (fun hf => before14 m c t.val t rfl (by have := (flush0_14 t).mp hf; omega))
  have L15 := pass m c 15 t (by rw [idle15]; simp [h3]) (fun hf => before15 m c t.val t rfl (by have := (flush0_15 t).mp hf; omega))
  have L16 := pass m c 16 t (by rw [idle16]; simp [h3]) (fun hf => before16 m c t.val t rfl (by have := (flush0_16 t).mp hf; omega))
  unfold bodyPre bodyPost bodyAt0
  simp only [before0_0, before0_1, before0_2, before0_3, before0_4, before0_5, before0_6, before0_7, before0_8, before0_9, before0_10, before0_11]
  rw [show (dats m 0 c).Φ t.castSucc = phi m c t.val from rfl, show (dats m 0 c).Φ t.succ = phi m c (t.val + 1) from rfl,
    show (dats m 0 c).owesAt () t.succ = (dats m 0 c).owesAt () t.castSucc from rfl,
    after0_0, after0_1, after0_2, after0_3, after0_4, after0_5, after0_6, after0_7, after0_8, after0_9, after0_10, after0_11]
  unfold phi
  iintro ⟨⟨%X18, %X19, %X20, %X21, %X22, %X23, %X24, %hInv, S18, S19, S20, S21, S22, S23, S24, HP⟩, Ho, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩, ⟨%d10, W10⟩, ⟨%d11, W11⟩, W12, W13, W14, W15, W16⟩
  obtain ⟨I1, I2, I3⟩ := hInv
  obtain ⟨J1, J2, J3⟩ := I1 ht.1
  subst J2 J3
  iapply (run_up c Set.univ (grid0.coords t) h1 h2 h3 h4 _ _ _ _ _ _ _ _ _ _ _ _ _ _ _ _ _ _ _ _ _ _ _ _ _ _ _ _ _ _ _ _ _ _ _ _ _ _ _ _ _ _ _ _ _ _ _ _ (iblk m c 3 t) (iblk m c 4 t) (iblk m c 5 t) (iblk m c 6 t) X18 _ _ X21 _)
  isplitl [W3]; · iexact W3
  isplitl [W4]; · iexact W4
  isplitl [W5]; · iexact W5
  isplitl [W6]; · iexact W6
  isplitl [S18]; · iexact S18
  isplitl [S19]; · iexact S19
  isplitl [S20]; · iexact S20
  isplitl [S21]; · iexact S21
  iintro ⟨W3, W4, W5, W6, S18, S19, S20, S21⟩
  isplitl [S18 S19 S20 S21 S22 S23 S24 HP]
  · iexists _; iexists _; iexists _; iexists _; iexists _; iexists _; iexists _
    isplitr; swap
    · isplitl [S18]; · iexact S18
      isplitl [S19]; · iexact S19
      isplitl [S20]; · iexact S20
      isplitl [S21]; · iexact S21
      isplitl [S22]; · iexact S22
      isplitl [S23]; · iexact S23
      isplitl [S24]; · iexact S24
      iexact HP
    ipureintro
    refine ⟨fun _ => ⟨J1, rfl, rfl⟩, ?_, fun h => absurd h (by omega)⟩
    rw [J1]
    exact put_act m c t ht.2 X21 I2
  isplitl [Ho]; · iexact Ho
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [W10]; · iexact W10
  isplitl [W11]; · iexact W11
  isplitl [W12]; · iapply L12; iexact W12
  isplitl [W13]; · iapply L13; iexact W13
  isplitl [W14]; · iapply L14; iexact W14
  isplitl [W15]; · iapply L15; iexact W15
  iapply L16; iexact W16

set_option maxHeartbeats 1600000 in
theorem sound_turn (c : Dev nD) (t : Fin cfg0.N) (ht : t.val = 8) :
    bodyPre m c t ⊢ wp frame (wpE (defs₀ (F := F)) Variants.none c none) Set.univ (bodyAt0 t) (fun _ => bodyPost m c t) := by
  have hN : t.val < 16 := lt_of_lt_of_eq t.isLt N_0
  have h1 : ¬ k0_cond1 (grid0.coords t) = 1#1 := (cond1_iff t).not.mpr (by omega)
  have h2 : ¬ k0_cond2 (grid0.coords t) = 1#1 := (cond2_iff t).not.mpr (by omega)
  have h3 : k0_cond3 (grid0.coords t) = 1#1 := (cond3_iff t).mpr (by omega)
  have h4 : k0_cond4 (grid0.coords t) = 1#1 := (cond4_iff t).mpr (by omega)
  have L12 := live m c 12 t (by rw [idle12, h4]; rfl)
  rw [after0_12] at L12
  have L13 := pass m c 13 t (by rw [idle13]; simp [h1]) (fun hf => before13 m c t.val t rfl (by have := (flush0_13 t).mp hf; omega))
  have L14 := pass m c 14 t (by rw [idle14]; simp [h1]) (fun hf => before14 m c t.val t rfl (by have := (flush0_14 t).mp hf; omega))
  have L15 := live m c 15 t (by rw [idle15, h3]; rfl)
  rw [after0_15] at L15
  have L16 := live m c 16 t (by rw [idle16, h3]; rfl)
  rw [after0_16] at L16
  unfold bodyPre bodyPost bodyAt0
  simp only [before0_0, before0_1, before0_2, before0_3, before0_4, before0_5, before0_6, before0_7, before0_8, before0_9, before0_10, before0_11]
  rw [show (dats m 0 c).Φ t.castSucc = phi m c t.val from rfl, show (dats m 0 c).Φ t.succ = phi m c (t.val + 1) from rfl,
    show (dats m 0 c).owesAt () t.succ = (dats m 0 c).owesAt () t.castSucc from rfl,
    after0_0, after0_1, after0_2, after0_3, after0_4, after0_5, after0_6, after0_7, after0_8, after0_9, after0_10, after0_11]
  unfold phi
  iintro ⟨⟨%X18, %X19, %X20, %X21, %X22, %X23, %X24, %hInv, S18, S19, S20, S21, S22, S23, S24, HP⟩, Ho, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩, ⟨%d10, W10⟩, ⟨%d11, W11⟩, ⟨%d12, W12⟩, W13, W14, ⟨%d15, W15⟩, ⟨%d16, W16⟩⟩
  obtain ⟨I1, I2, I3⟩ := hInv
  obtain rfl := act_done m c t.val (by omega) X21 I2
  iapply (run_turn c Set.univ (grid0.coords t) h1 h2 h3 h4 _ _ _ _ _ _ _ _ _ _ _ _ _ _ _ _ _ _ _ _ _ _ _ _ _ _ _ _ _ _ _ _ _ _ _ _ _ _ _ _ _ _ _ _ _ _ _ _ (iblk m c 7 t) (iblk m c 8 t) (iblk m c 9 t) (iblk m c 10 t) (iblk m c 11 t) _ _ _ (act m c) X22 X23 X24 _)
  isplitl [W7]; · iexact W7
  isplitl [W8]; · iexact W8
  isplitl [W9]; · iexact W9
  isplitl [W10]; · iexact W10
  isplitl [W11]; · iexact W11
  isplitl [W12]; · iexact W12
  isplitl [W15]; · iexact W15
  isplitl [W16]; · iexact W16
  isplitl [S21]; · iexact S21
  isplitl [S22]; · iexact S22
  isplitl [S23]; · iexact S23
  isplitl [S24]; · iexact S24
  iintro ⟨W7, W8, W9, W10, W11, W12, W15, W16, S21, S22, S23, S24⟩
  isplitl [S18 S19 S20 S21 S22 S23 S24 HP]
  · iexists _; iexists _; iexists _; iexists _; iexists _; iexists _; iexists _
    isplitr; swap
    · isplitl [S18]; · iexact S18
      isplitl [S19]; · iexact S19
      isplitl [S20]; · iexact S20
      isplitl [S21]; · iexact S21
      isplitl [S22]; · iexact S22
      isplitl [S23]; · iexact S23
      isplitl [S24]; · iexact S24
      iexact HP
    ipureintro
    exact ⟨fun _ => I1 (by omega), fun _ _ => rfl,
      fun _ => ⟨VecWindow.window_put_same (s := S96x8192) X22 ![0, 0] S96x8144.size inb_S96x8192_S96x8144_0_0 _, rfl, rfl⟩⟩
  isplitl [Ho]; · iexact Ho
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [W10]; · iexact W10
  isplitl [W11]; · iexact W11
  isplitl [W12]; · iapply L12; iexact W12
  isplitl [W13]; · iapply L13; iexact W13
  isplitl [W14]; · iapply L14; iexact W14
  isplitl [W15]; · iapply L15; iexact W15
  iapply L16; iexact W16

set_option maxHeartbeats 1600000 in
theorem sound_down (c : Dev nD) (t : Fin cfg0.N) (ht : 8 < t.val) :
    bodyPre m c t ⊢ wp frame (wpE (defs₀ (F := F)) Variants.none c none) Set.univ (bodyAt0 t) (fun _ => bodyPost m c t) := by
  have hN : t.val < 16 := lt_of_lt_of_eq t.isLt N_0
  have h1 : ¬ k0_cond1 (grid0.coords t) = 1#1 := (cond1_iff t).not.mpr (by omega)
  have h2 : ¬ k0_cond2 (grid0.coords t) = 1#1 := (cond2_iff t).not.mpr (by omega)
  have h3 : ¬ k0_cond3 (grid0.coords t) = 1#1 := (cond3_iff t).not.mpr (by omega)
  have h4 : k0_cond4 (grid0.coords t) = 1#1 := (cond4_iff t).mpr (by omega)
  have L12 := live m c 12 t (by rw [idle12, h4]; rfl)
  rw [after0_12] at L12
  have L13 := pass m c 13 t (by rw [idle13]; simp [h1]) (fun hf => before13 m c t.val t rfl (by have := (flush0_13 t).mp hf; omega))
  have L14 := pass m c 14 t (by rw [idle14]; simp [h1]) (fun hf => before14 m c t.val t rfl (by have := (flush0_14 t).mp hf; omega))
  have L15 := pass m c 15 t (by rw [idle15]; simp [h3]) (fun hf => before15 m c t.val t rfl (by have := (flush0_15 t).mp hf; omega))
  have L16 := pass m c 16 t (by rw [idle16]; simp [h3]) (fun hf => before16 m c t.val t rfl (by have := (flush0_16 t).mp hf; omega))
  unfold bodyPre bodyPost bodyAt0
  simp only [before0_0, before0_1, before0_2, before0_3, before0_4, before0_5, before0_6, before0_7, before0_8, before0_9, before0_10, before0_11]
  rw [show (dats m 0 c).Φ t.castSucc = phi m c t.val from rfl, show (dats m 0 c).Φ t.succ = phi m c (t.val + 1) from rfl,
    show (dats m 0 c).owesAt () t.succ = (dats m 0 c).owesAt () t.castSucc from rfl,
    after0_0, after0_1, after0_2, after0_3, after0_4, after0_5, after0_6, after0_7, after0_8, after0_9, after0_10, after0_11]
  unfold phi
  iintro ⟨⟨%X18, %X19, %X20, %X21, %X22, %X23, %X24, %hInv, S18, S19, S20, S21, S22, S23, S24, HP⟩, Ho, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩, ⟨%d10, W10⟩, ⟨%d11, W11⟩, ⟨%d12, W12⟩, W13, W14, W15, W16⟩
  obtain ⟨I1, I2, I3⟩ := hInv
  obtain rfl := act_done m c t.val (by omega) X21 I2
  obtain ⟨J1, J2, J3⟩ := I3 ht
  subst J2 J3
  unfold outY at L12
  rw [← J1] at L12
  iapply (run_down c Set.univ (grid0.coords t) h1 h2 h3 h4 _ _ _ _ _ _ _ _ _ _ _ _ _ _ _ _ _ _ _ _ _ _ _ _ _ _ _ _ _ _ _ _ _ _ _ _ _ _ _ _ _ _ _ _ _ _ _ _ (iblk m c 7 t) (iblk m c 8 t) (iblk m c 9 t) (iblk m c 10 t) (iblk m c 11 t) _ X22 _ _ _)
  isplitl [W7]; · iexact W7
  isplitl [W8]; · iexact W8
  isplitl [W9]; · iexact W9
  isplitl [W10]; · iexact W10
  isplitl [W11]; · iexact W11
  isplitl [W12]; · iexact W12
  isplitl [S22]; · iexact S22
  isplitl [S23]; · iexact S23
  isplitl [S24]; · iexact S24
  iintro ⟨W7, W8, W9, W10, W11, W12, S22, S23, S24⟩
  isplitl [S18 S19 S20 S21 S22 S23 S24 HP]
  · iexists _; iexists _; iexists _; iexists _; iexists _; iexists _; iexists _
    isplitr; swap
    · isplitl [S18]; · iexact S18
      isplitl [S19]; · iexact S19
      isplitl [S20]; · iexact S20
      isplitl [S21]; · iexact S21
      isplitl [S22]; · iexact S22
      isplitl [S23]; · iexact S23
      isplitl [S24]; · iexact S24
      iexact HP
    ipureintro
    exact ⟨fun _ => I1 (by omega), fun _ _ => rfl, fun _ => ⟨J1, rfl, rfl⟩⟩
  isplitl [Ho]; · iexact Ho
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [W10]; · iexact W10
  isplitl [W11]; · iexact W11
  isplitl [W12]; · iapply L12; iexact W12
  isplitl [W13]; · iapply L13; iexact W13
  isplitl [W14]; · iapply L14; iexact W14
  isplitl [W15]; · iapply L15; iexact W15
  iapply L16; iexact W16

theorem sound_body (c : Dev nD) (t : Fin cfg0.N) :
    bodyPre m c t ⊢ wp frame (wpE (defs₀ (F := F)) Variants.none c none) Set.univ (bodyAt0 t) (fun _ => bodyPost m c t) := by
  rcases Nat.lt_trichotomy t.val 8 with h | h | h
  · rcases Nat.eq_zero_or_pos t.val with h0 | h0
    · exact sound_first m c t h0
    · exact sound_up m c t ⟨h0, h⟩
  · exact sound_turn m c t h
  · exact sound_down m c t h

/-- The body table's row at point t's slots is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem phi_in (c : Dev nD) : (ΦA spec0 c : sProp 𝕄) ⊢ phi m c 0 := by
  unfold ΦA phi
  rw [scopedRest0_eq]
  simp only [owns_whole]
  iintro ⟨⟨⟨%f0, H0⟩, ⟨%f1, H1⟩, ⟨%f2, H2⟩, ⟨%f3, H3⟩, ⟨%f4, H4⟩, ⟨%f5, H5⟩, ⟨%f6, H6⟩⟩, HP⟩
  iexists f0; iexists f1; iexists f2; iexists f3; iexists f4; iexists f5; iexists f6
  isplitr
  · ipureintro
    exact ⟨fun h => absurd h (by decide), fun y h => absurd h (by omega), fun h => absurd h (by decide)⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact HP

theorem phi_out (c : Dev nD) (n : ℕ) : phi m c n ⊢ (ΦA spec0 c : sProp 𝕄) := by
  unfold ΦA phi
  rw [scopedRest0_eq]
  simp only [owns_whole]
  iintro ⟨%f0, %f1, %f2, %f3, %f4, %f5, %f6, -, H0, H1, H2, H3, H4, H5, H6, HP⟩
  isplitr [HP]; swap; · iexact HP
  isplitl [H0]; · iexists f0; iexact H0
  isplitl [H1]; · iexists f1; iexact H1
  isplitl [H2]; · iexists f2; iexact H2
  isplitl [H3]; · iexists f3; iexact H3
  isplitl [H4]; · iexists f4; iexact H4
  isplitl [H5]; · iexists f5; iexact H5
  iexists f6; iexact H6

set_option backward.isDefEq.respectTransparency.types false in
/-- Every execution of the program ends, every array at what the proof data say, every counter at zero. -/
theorem run_main : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun c => phi_in m c) (hout := fun c => phi_out m c _)

/-- The argument arrays end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_with_sems (frame_of m ρ (dats m) (A_eq m)) (run_main m ρ)

end Cert.Proof.KernelIdealRun
end
-- ==== Proof.Mlp.KernelTwin.lean ====
module

public import proofs.«01_k».proof.Proof.Mlp.KernelIdealRun
public import proofs.«01_k».proof.Proof.Gen.Kernel
public import proofs.«01_k».proof.Defs

/-! The frame of `Kernel` at bits. `Kernel` and `KernelIdeal` are one program under two names, and the frame of
`KernelIdeal` is proved for every reading of the floats, so it is taken over as it stands. -/

@[expose] public section

set_option maxRecDepth 16384
-- the `match`es of the two programs are equal by unfolding
set_option smartUnfolding false

noncomputable section

namespace Cert.Proof.KernelTwin

open Idealize.ShloMosaic Idealize.SL.Sem

theorem frame : Cert.quiescent_Kernel (hKernel := Cert.Kernel.Gen.facts) :=
  fun m ρ _ => Cert.Proof.KernelIdealRun.frame (F := Bits) m ρ

end Cert.Proof.KernelTwin
-- ==== Proof.Mlp.Equation.lean ====
module

public import proofs.«01_k».proof.Proof.Mlp.KernelIdealRun
public import proofs.«01_k».proof.Proof.Gen.ReferenceIdeal.Frame
public import Idealize.ShloMosaic.Lib.Pointwise

@[expose] public section

set_option maxRecDepth 16384

noncomputable section

namespace Cert.Proof.Equation

open Idealize.ShloMosaic
open Cert.KernelIdeal
open scoped BigOperators
open Cert.Proof.KernelIdealRun (upQ upC upO upS upR rA rD rS)

/-! ## Quantised values survive the trip through an 8-bit integer -/

/-- An extended real clipped to [-127, 127] after rounding to an integer is a real integer of 8 bits. -/
theorem clipped_int (x : EReal) :
    ∃ n : ℤ, -127 ≤ n ∧ n ≤ 127 ∧
      min ((127 : ℝ) : EReal) (max ((-127 : ℝ) : EReal) (Ideal.liftRound Ideal.roundHalfEven x)) = ((n : ℝ) : EReal) := by
  induction x using EReal.rec with
  | bot =>
      refine ⟨-127, by norm_num, by norm_num, ?_⟩
      have h : Ideal.liftRound Ideal.roundHalfEven ⊥ = ⊥ := rfl
      rw [h, max_eq_left bot_le, min_eq_right (EReal.coe_le_coe_iff.2 (by norm_num))]
      norm_num
  | top =>
      refine ⟨127, by norm_num, by norm_num, ?_⟩
      have h : Ideal.liftRound Ideal.roundHalfEven ⊤ = ⊤ := rfl
      rw [h, max_eq_right le_top, min_eq_left le_top]
      norm_num
  | coe r =>
      refine ⟨min 127 (max (-127) (Ideal.roundHalfEven r)), by omega, by omega, ?_⟩
      have h : Ideal.liftRound Ideal.roundHalfEven (r : EReal) = ((Ideal.roundHalfEven r : ℝ) : EReal) := rfl
      rw [h]
      have e1 : ((max (-127) (Ideal.roundHalfEven r) : ℤ) : ℝ) = max (-127 : ℝ) (Ideal.roundHalfEven r : ℝ) := by push_cast; rfl
      have e2 : ((min 127 (max (-127) (Ideal.roundHalfEven r)) : ℤ) : ℝ) = min (127 : ℝ) (max (-127 : ℝ) (Ideal.roundHalfEven r : ℝ)) := by
        rw [← e1]; push_cast; rfl
      rw [e2, EReal.coe_strictMono.monotone.map_min, EReal.coe_strictMono.monotone.map_max]

/-- Reading an 8-bit integer back from a real that is one gives that integer. -/
theorem toInt_fptosi {n : ℤ} (h1 : -127 ≤ n) (h2 : n ≤ 127) :
    (Ideal.fptosi 8 ((n : ℝ) : EReal)).toInt = n := by
  have e : Ideal.toIntClamped (-(2 ^ (8 - 1) : ℕ)) ((2 ^ (8 - 1) : ℕ) - 1) ((n : ℝ) : EReal) = n := by
    have e0 : (if (0 : ℝ) ≤ (n : ℝ) then ⌊(n : ℝ)⌋ else ⌈(n : ℝ)⌉) = n := by
      split <;> simp
    show max _ (min _ (if (0 : ℝ) ≤ (n : ℝ) then ⌊(n : ℝ)⌋ else ⌈(n : ℝ)⌉)) = n
    rw [e0]
    norm_num
    omega
  unfold Ideal.fptosi
  rw [e, BitVec.toInt_ofInt]
  exact Int.bmod_eq_of_le (by omega) (by omega)

/-- The rounded and clipped value read back from its 8-bit integer is the value. -/
theorem code_back (x : EReal) :
    (((Ideal.fptosi 8 (min ((127 : ℝ) : EReal) (max ((-127 : ℝ) : EReal) (Ideal.liftRound Ideal.roundHalfEven x)))).toInt : ℝ) : EReal)
      = min ((127 : ℝ) : EReal) (max ((-127 : ℝ) : EReal) (Ideal.liftRound Ideal.roundHalfEven x)) := by
  obtain ⟨n, h1, h2, e⟩ := clipped_int x
  rw [e, toInt_fptosi h1 h2]

theorem bits_127 : Ideal.ofBits .f32 0x42FE0000#32 = ((127 : ℝ) : EReal) := by
  simp [Ideal.ofBits, Ideal.ieee, -EReal.coe_mul]; norm_num

theorem bits_neg127 : Ideal.ofBits .f32 0xC2FE0000#32 = ((-127 : ℝ) : EReal) := by
  simp [Ideal.ofBits, Ideal.ieee, -EReal.coe_mul, -EReal.coe_neg]; norm_num

/-- One rounded and clipped value, as it is printed: the float of its 8-bit integer is the value. -/
theorem code_word (x : Ideal .f32) :
    (FloatOps.sitofp .bf16 (FloatOps.fptosi 8 (FloatOps.minimumf (FloatOps.ofBits .f32 0x42FE0000#32)
        (FloatOps.maximumf (FloatOps.ofBits .f32 0xC2FE0000#32) (FloatOps.roundeven x)))) : Ideal .bf16)
      = FloatOps.minimumf (FloatOps.ofBits .f32 0x42FE0000#32)
        (FloatOps.maximumf (FloatOps.ofBits .f32 0xC2FE0000#32) (FloatOps.roundeven x)) := by
  show (((Ideal.fptosi 8 (min (Ideal.ofBits .f32 0x42FE0000#32) (max (Ideal.ofBits .f32 0xC2FE0000#32) (Ideal.liftRound Ideal.roundHalfEven x)))).toInt : ℝ) : EReal)
    = min (Ideal.ofBits .f32 0x42FE0000#32) (max (Ideal.ofBits .f32 0xC2FE0000#32) (Ideal.liftRound Ideal.roundHalfEven x))
  rw [bits_127, bits_neg127]
  exact code_back x

/-! ## The first quantiser -/

section Up
variable {F : FTy → Type} [FloatOps F]
variable (h : Vec F S96x4096 .bf16) (g b : Vec F S1x4096 .f32)

/-- The layer norm is the same expression on both sides. -/
theorem norm_eq : Cert.KernelIdeal.Gen.k0_pay8 h g b = Cert.ReferenceIdeal.Gen.k0_pay3 h g b := rfl

/-- The row scales of the normalised rows. -/
def scU : FVec F S96 .f32 :=
  Cert.ReferenceIdeal.Gen.k0_pay9 (Cert.ReferenceIdeal.Gen.k0_pay7 h g b) (Cert.ReferenceIdeal.Gen.k0_pay8 h g b) (Scalar.ofBits .f32 0x42FE0000#32)
/-- The integer codes of the normalised rows. -/
def coU : IVec S96x4048 8 :=
  Cert.ReferenceIdeal.Gen.k0_pay10 (Cert.ReferenceIdeal.Gen.k0_pay6 h g b) (Cert.ReferenceIdeal.Gen.k0_pay7 h g b) (Cert.ReferenceIdeal.Gen.k0_pay8 h g b) (Scalar.ofBits .f32 0x42FE0000#32)

theorem scale_eq : Cert.KernelIdeal.Gen.k0_pay10 h g b = shapeCast S96x1 (scU h g b) Cert.KernelIdeal.Gen.shapeCasts_S96_S96x1 := rfl

theorem upC_eq : upC h g b = coU h g b := rfl

/-- The row scales laid out as one row. -/
theorem upR_eq : upR h g b = Cert.ReferenceIdeal.Gen.k0_pay17 (scU h g b) := by
  funext j
  unfold upR Cert.KernelIdeal.Gen.k0_pay6
  rw [scale_eq]
  generalize scU h g b = s
  unfold Cert.ReferenceIdeal.Gen.k0_pay17
  pointwise

/-- The row scale as the first of 128 equal lanes. -/
theorem upS_at (r : Fin 96) : View.ld (upS h g b) rS (ix2 r 0) = scU h g b (ix1 r) := by
  unfold upS Cert.KernelIdeal.Gen.k0_pay5
  rw [scale_eq]
  generalize scU h g b = s
  pointwise

/-- A vector rounded to integers and clipped to [-127, 127]. -/
def clipped {s : Shape} (x : FVec F s .f32) : FVec F s .f32 :=
  minimumf (broadcast s (Scalar.ofBits .f32 0x42FE0000#32)) (maximumf (broadcast s (Scalar.ofBits .f32 0xC2FE0000#32)) (roundeven x))

/-- The normalised rows over their scales. -/
def preU : FVec F S96x4048 .f32 :=
  divf (Cert.ReferenceIdeal.Gen.k0_pay6 h g b) (broadcastTo S96x4048 (shapeCast S96x1 (scU h g b) Cert.KernelIdeal.Gen.shapeCasts_S96_S96x1) Cert.KernelIdeal.Gen.broadcasts_S96x1_S96x4048)

theorem upQ_clip : upQ h g b = truncf .bf16 (clipped (preU h g b)) Cert.KernelIdeal.Gen.bitsLt_bf16_f32 := by
  unfold upQ Cert.KernelIdeal.Gen.k0_pay2
  exact (shapeCast_self _ _).trans rfl
theorem coU_clip : coU h g b = fptosi 8 (clipped (preU h g b)) := rfl

/-- The columns left unquantised. -/
def ouU : FVec F S96x48 .bf16 :=
  truncf .bf16 (extractStridedSlice S96x48 ![0, 4048] (Cert.ReferenceIdeal.Gen.k0_pay3 h g b) Cert.KernelIdeal.Gen.slices_S96x4096_o0_4048_S96x48) Cert.KernelIdeal.Gen.bitsLt_bf16_f32

theorem upO_eq : upO h g b = ouU h g b := by
  unfold upO Cert.KernelIdeal.Gen.k0_pay4
  exact (shapeCast_self _ _).trans rfl

end Up

/-- The bfloat16 values of the codes are the codes' floats. -/
theorem clipped_back {s : Shape} (x : FVec Ideal s .f32) (hb : FTy.bf16.bits < FTy.f32.bits) :
    truncf .bf16 (clipped x) hb = (sitofp .bf16 (fptosi 8 (clipped x) : IVec s 8) : FVec Ideal s .bf16) :=
  funext fun j => (code_word (x j)).symm

section UpIdeal
variable (h : Vec Ideal S96x4096 .bf16) (g b : Vec Ideal S1x4096 .f32)

theorem upQ_eq : upQ h g b = (sitofp .bf16 (coU h g b) : FVec Ideal S96x4048 .bf16) := by
  rw [upQ_clip, coU_clip, clipped_back]

/-- One entry of a mixed linear layer: the quantised products under their scales, the plain products and the bias. -/
def mixed {K : ℕ} (q w : Fin K → EReal) (s ws : EReal) (o wo : Fin 48 → EReal) (bb : EReal) : EReal :=
  (∑ k, q k * w k) * s * ws + ∑ k, o k * wo k + bb

/-- The tanh form of the gelu, in the order the operations are printed. -/
def gelu (u : EReal) : EReal :=
  Ideal.ofBits .f32 0x3F000000#32 * u * (1 + Ideal.tanh (Ideal.ofBits .f32 0x3F4C422A#32 *
    (u + Ideal.ofBits .f32 0x3D372713#32 * u * u * u)))

/-- An 8-bit integer as a real. -/
def asReal (n : BitVec 8) : EReal := (FloatOps.sitofp .bf16 n : Ideal .bf16)

theorem up_tile (Q : Vec Ideal S96x4048 .bf16) (S : Vec Ideal S96x1 .f32) (O : Vec Ideal S96x48 .bf16) (W : Vec Ideal S4048x1024 .i8)
    (ws : Vec Ideal S1x1024 .f32) (wo : Vec Ideal S48x1024 .bf16) (bb : Vec Ideal S1x1024 .f32) (r : Fin 96) (p : Fin 1024) :
    Cert.KernelIdeal.Gen.k0_pay13 Q S O W ws wo bb (ix2 r p)
      = gelu (mixed (fun k => Q (ix2 r k)) (fun k => asReal (W (ix2 k p))) (S (ix2 r 0)) (ws (ix2 0 p))
          (fun k => O (ix2 r k)) (fun k => wo (ix2 k p)) (bb (ix2 0 p))) := by
  unfold Cert.KernelIdeal.Gen.k0_pay13
  pointwise
  rfl

/-- The reference's activations. -/
def refAct (wu : Vec Ideal S4048x8192 .i8) (ws : Vec Ideal S1x8192 .f32) (wo : Vec Ideal S48x8192 .bf16) (bb : Vec Ideal S1x8192 .f32) :
    FVec Ideal S96x8192 .f32 :=
  Cert.ReferenceIdeal.Gen.k0_pay11 (Cert.ReferenceIdeal.Gen.k0_pay3 h g b) wu (Cert.ReferenceIdeal.Gen.k0_pay4 ws) wo (Cert.ReferenceIdeal.Gen.k0_pay5 bb)
    (Cert.ReferenceIdeal.Gen.k0_pay6 h g b) (Cert.ReferenceIdeal.Gen.k0_pay7 h g b) (Cert.ReferenceIdeal.Gen.k0_pay8 h g b) (Scalar.ofBits .f32 0x42FE0000#32)

theorem pay11_at (A : FVec Ideal S96x4096 .f32) (wu : Vec Ideal S4048x8192 .i8) (ws : FVec Ideal S1x8192 .f32) (wo : Vec Ideal S48x8192 .bf16)
    (bb : FVec Ideal S1x8192 .f32) (v33 : FVec Ideal S96x4048 .f32) (v35 : FVec Ideal S96 .f32) (v37 : IVec S96 1) (c : Ideal .f32)
    (r : Fin 96) (q : Fin 8192) :
    Cert.ReferenceIdeal.Gen.k0_pay11 A wu ws wo bb v33 v35 v37 c (ix2 r q)
      = gelu (mixed (fun k => asReal (Cert.ReferenceIdeal.Gen.k0_pay10 v33 v35 v37 c (ix2 r k))) (fun k => asReal (wu (ix2 k q)))
          (Cert.ReferenceIdeal.Gen.k0_pay9 v35 v37 c (ix1 r)) (ws (ix2 0 q))
          (fun k => A (ix2 r ⟨4048 + k.val, by omega⟩)) (fun k => wo (ix2 k q)) (bb (ix2 0 q))) := by
  unfold Cert.ReferenceIdeal.Gen.k0_pay11
  pointwise
  rfl

theorem ouU_at (r : Fin 96) (k : Fin 48) :
    ouU h g b (ix2 r k) = Cert.ReferenceIdeal.Gen.k0_pay3 h g b (ix2 r ⟨4048 + k.val, by omega⟩) := by
  unfold ouU
  generalize Cert.ReferenceIdeal.Gen.k0_pay3 h g b = A
  pointwise

theorem ref_up (wu : Vec Ideal S4048x8192 .i8) (ws : Vec Ideal S1x8192 .f32) (wo : Vec Ideal S48x8192 .bf16) (bb : Vec Ideal S1x8192 .f32)
    (r : Fin 96) (q : Fin 8192) :
    refAct h g b wu ws wo bb (ix2 r q)
      = gelu (mixed (fun k => asReal (coU h g b (ix2 r k))) (fun k => asReal (wu (ix2 k q))) (scU h g b (ix1 r)) (ws (ix2 0 q))
          (fun k => ouU h g b (ix2 r k)) (fun k => wo (ix2 k q)) (bb (ix2 0 q))) := by
  unfold refAct
  rw [pay11_at]
  simp only [ouU_at]
  unfold coU scU Cert.ReferenceIdeal.Gen.k0_pay4 Cert.ReferenceIdeal.Gen.k0_pay5
  simp only [shapeCast_self]

/-- A tile of activations is the reference's activations at the tile's columns. -/
theorem up_eq (W : Vec Ideal S4048x1024 .i8) (ws : Vec Ideal S1x1024 .f32) (wo : Vec Ideal S48x1024 .bf16) (bb : Vec Ideal S1x1024 .f32)
    (W' : Vec Ideal S4048x8192 .i8) (ws' : Vec Ideal S1x8192 .f32) (wo' : Vec Ideal S48x8192 .bf16) (bb' : Vec Ideal S1x8192 .f32)
    (r : Fin 96) (p : Fin 1024) (q : Fin 8192) (hW : ∀ k, W (ix2 k p) = W' (ix2 k q)) (hs : ws (ix2 0 p) = ws' (ix2 0 q))
    (ho : ∀ k, wo (ix2 k p) = wo' (ix2 k q)) (hb : bb (ix2 0 p) = bb' (ix2 0 q)) :
    Cert.KernelIdeal.Gen.k0_pay13 (upQ h g b) (View.ld (upS h g b) rS) (upO h g b) W ws wo bb (ix2 r p)
      = refAct h g b W' ws' wo' bb' (ix2 r q) := by
  rw [up_tile, ref_up, upS_at, upQ_eq, upO_eq, hs, hb]
  simp only [hW, ho]
  rfl

end UpIdeal

section Down
variable {F : FTy → Type} [FloatOps F] (a : FVec F S96x8192 .f32)

theorem scaleD_eq : Cert.KernelIdeal.Gen.k0_pay15 a = shapeCast S96x1 (Cert.ReferenceIdeal.Gen.k0_pay14 a) Cert.KernelIdeal.Gen.shapeCasts_S96_S96x1 := rfl

/-- The activations' codes are the same integers on both sides. -/
theorem dnC_eq : Cert.KernelIdeal.Gen.k0_pay18 a = Cert.ReferenceIdeal.Gen.k0_pay15 a := rfl

end Down

section DownIdeal
variable (a : FVec Ideal S96x8192 .f32)

/-- The activations over their scales. -/
def preD {F : FTy → Type} [FloatOps F] (a : FVec F S96x8192 .f32) : FVec F S96x8144 .f32 :=
  divf (Cert.ReferenceIdeal.Gen.k0_pay13 a) (broadcastTo S96x8144 (shapeCast S96x1 (Cert.ReferenceIdeal.Gen.k0_pay14 a) Cert.KernelIdeal.Gen.shapeCasts_S96_S96x1) Cert.KernelIdeal.Gen.broadcasts_S96x1_S96x8144)

theorem dnQ_clip {F : FTy → Type} [FloatOps F] (a : FVec F S96x8192 .f32) :
    Cert.KernelIdeal.Gen.k0_pay17 a = truncf .bf16 (clipped (preD a)) Cert.KernelIdeal.Gen.bitsLt_bf16_f32 := by
  unfold Cert.KernelIdeal.Gen.k0_pay17
  exact (shapeCast_self _ _).trans rfl

theorem dnC_clip {F : FTy → Type} [FloatOps F] (a : FVec F S96x8192 .f32) :
    Cert.ReferenceIdeal.Gen.k0_pay15 a = fptosi 8 (clipped (preD a)) := rfl

theorem dnQ_eq : Cert.KernelIdeal.Gen.k0_pay17 a = (sitofp .bf16 (Cert.ReferenceIdeal.Gen.k0_pay15 a) : FVec Ideal S96x8144 .bf16) := by
  rw [dnQ_clip, dnC_clip, clipped_back]

theorem dnO_at (r : Fin 96) (k : Fin 48) :
    ((Cert.KernelIdeal.Gen.k0_pay19 a : FVec Ideal S96x48 .bf16) (ix2 r k) : EReal) = (a (ix2 r ⟨8144 + k.val, by omega⟩) : EReal) := by
  unfold Cert.KernelIdeal.Gen.k0_pay19
  pointwise

/-- The activations' row scales as one row. -/
theorem dnR_eq {F : FTy → Type} [FloatOps F] (a : FVec F S96x8192 .f32) :
    Cert.KernelIdeal.Gen.k0_pay21 a = Cert.ReferenceIdeal.Gen.k0_pay1 (Cert.ReferenceIdeal.Gen.k0_pay14 a) := by
  funext j
  unfold Cert.KernelIdeal.Gen.k0_pay21
  rw [scaleD_eq]
  generalize Cert.ReferenceIdeal.Gen.k0_pay14 a = s
  unfold Cert.ReferenceIdeal.Gen.k0_pay1
  pointwise

theorem dnS_at {F : FTy → Type} [FloatOps F] (a : FVec F S96x8192 .f32) (r : Fin 96) :
    View.ld (Val := Elt F) (e' := .f32) (Cert.KernelIdeal.Gen.k0_pay20 a) rS (ix2 r 0) = Cert.ReferenceIdeal.Gen.k0_pay14 a (ix1 r) := by
  unfold Cert.KernelIdeal.Gen.k0_pay20
  rw [scaleD_eq]
  generalize Cert.ReferenceIdeal.Gen.k0_pay14 a = s
  pointwise

theorem down_tile (Q : Vec Ideal S96x8144 .bf16) (S : Vec Ideal S96x1 .f32) (O : Vec Ideal S96x48 .bf16) (W : Vec Ideal S8144x512 .i8)
    (ws : Vec Ideal S1x512 .f32) (wo : Vec Ideal S48x512 .bf16) (bb : Vec Ideal S1x512 .f32) (x : Vec Ideal S96x512 .bf16) (r : Fin 96) (p : Fin 512) :
    Cert.KernelIdeal.Gen.k0_pay7 Q S O W ws wo bb x (ix2 r p)
      = x (ix2 r p) + mixed (fun k => Q (ix2 r k)) (fun k => asReal (W (ix2 k p))) (S (ix2 r 0)) (ws (ix2 0 p))
          (fun k => O (ix2 r k)) (fun k => wo (ix2 k p)) (bb (ix2 0 p)) := by
  unfold Cert.KernelIdeal.Gen.k0_pay7
  pointwise
  rfl

theorem ref_down (x : Vec Ideal S96x4096 .bf16) (wd : Vec Ideal S8144x4096 .i8) (ws : Vec Ideal S1x4096 .f32) (wo : Vec Ideal S48x4096 .bf16)
    (bb : Vec Ideal S1x4096 .f32) (r : Fin 96) (q : Fin 4096) :
    Cert.ReferenceIdeal.Gen.k0_pay16 (Cert.ReferenceIdeal.Gen.k0_pay2 x) a wd (Cert.ReferenceIdeal.Gen.k0_pay12 ws) wo bb (ix2 r q)
      = x (ix2 r q) + mixed (fun k => asReal (Cert.ReferenceIdeal.Gen.k0_pay15 a (ix2 r k))) (fun k => asReal (wd (ix2 k q)))
          (Cert.ReferenceIdeal.Gen.k0_pay14 a (ix1 r)) (ws (ix2 0 q))
          (fun k => a (ix2 r ⟨8144 + k.val, by omega⟩)) (fun k => wo (ix2 k q)) (bb (ix2 0 q)) := by
  unfold Cert.ReferenceIdeal.Gen.k0_pay16 Cert.ReferenceIdeal.Gen.k0_pay2 Cert.ReferenceIdeal.Gen.k0_pay12
  pointwise
  rfl

/-- A tile of the output is the reference's output at the tile's columns. -/
theorem down_eq (W : Vec Ideal S8144x512 .i8) (ws : Vec Ideal S1x512 .f32) (wo : Vec Ideal S48x512 .bf16) (bb : Vec Ideal S1x512 .f32) (x : Vec Ideal S96x512 .bf16)
    (W' : Vec Ideal S8144x4096 .i8) (ws' : Vec Ideal S1x4096 .f32) (wo' : Vec Ideal S48x4096 .bf16) (bb' : Vec Ideal S1x4096 .f32) (x' : Vec Ideal S96x4096 .bf16)
    (r : Fin 96) (p : Fin 512) (q : Fin 4096) (hW : ∀ k, W (ix2 k p) = W' (ix2 k q)) (hs : ws (ix2 0 p) = ws' (ix2 0 q))
    (ho : ∀ k, wo (ix2 k p) = wo' (ix2 k q)) (hb : bb (ix2 0 p) = bb' (ix2 0 q)) (hx : x (ix2 r p) = x' (ix2 r q)) :
    Cert.KernelIdeal.Gen.k0_pay7 (F := Ideal) (Cert.KernelIdeal.Gen.k0_pay17 (F := Ideal) a) (View.ld (Val := Elt Ideal) (e' := .f32) (Cert.KernelIdeal.Gen.k0_pay20 (F := Ideal) a) rS) (Cert.KernelIdeal.Gen.k0_pay19 (F := Ideal) a) W ws wo bb x (ix2 r p)
      = Cert.ReferenceIdeal.Gen.k0_pay16 (Cert.ReferenceIdeal.Gen.k0_pay2 x') a W' (Cert.ReferenceIdeal.Gen.k0_pay12 ws') wo' bb' (ix2 r q) := by
  rw [down_tile, ref_down, dnS_at, dnQ_eq, hs, hb, hx]
  simp only [hW, ho, dnO_at]
  rfl

end DownIdeal

end Cert.Proof.Equation
-- ==== Proof.Mlp.KernelValues.lean ====
module

public import proofs.«01_k».proof.Proof.Mlp.Equation

@[expose] public section

set_option maxRecDepth 16384

noncomputable section

namespace Cert.Proof.KernelValues

open Idealize.ShloMosaic Idealize.ShloMosaic.TcCoe
open Cert.KernelIdeal Cert.KernelIdeal.Gen
open Cert.Proof.Equation (refAct scU coU)
open Cert.Proof.KernelIdealRun (gH gG gB act actTile outY dats upC upR upQ upO upS rS after0_12 after0_13 after0_14 after0_15 after0_16)

variable (m : (ℓ : Loc nD τ sig) → Buf (Elt Ideal) ℓ) (c : Dev nD)

/-! ## Where the grid points read -/

theorem idx3 : ∀ t : Fin cfg0.N, win0_3.index t = ![0, min t.val 7] :=
  (by decide +kernel : ∀ t : Fin grid0.N, win0_3.index t = ![0, min t.val 7])
theorem idx4 : ∀ t : Fin cfg0.N, win0_4.index t = ![0, min t.val 7] :=
  (by decide +kernel : ∀ t : Fin grid0.N, win0_4.index t = ![0, min t.val 7])
theorem idx5 : ∀ t : Fin cfg0.N, win0_5.index t = ![0, min t.val 7] :=
  (by decide +kernel : ∀ t : Fin grid0.N, win0_5.index t = ![0, min t.val 7])
theorem idx6 : ∀ t : Fin cfg0.N, win0_6.index t = ![0, min t.val 7] :=
  (by decide +kernel : ∀ t : Fin grid0.N, win0_6.index t = ![0, min t.val 7])
theorem idx7 : ∀ t : Fin cfg0.N, win0_7.index t = ![0, t.val - 8] :=
  (by decide +kernel : ∀ t : Fin grid0.N, win0_7.index t = ![0, t.val - 8])
theorem idx8 : ∀ t : Fin cfg0.N, win0_8.index t = ![0, t.val - 8] :=
  (by decide +kernel : ∀ t : Fin grid0.N, win0_8.index t = ![0, t.val - 8])
theorem idx9 : ∀ t : Fin cfg0.N, win0_9.index t = ![0, t.val - 8] :=
  (by decide +kernel : ∀ t : Fin grid0.N, win0_9.index t = ![0, t.val - 8])
theorem idx10 : ∀ t : Fin cfg0.N, win0_10.index t = ![0, t.val - 8] :=
  (by decide +kernel : ∀ t : Fin grid0.N, win0_10.index t = ![0, t.val - 8])
theorem idx11 : ∀ t : Fin cfg0.N, win0_11.index t = ![0, t.val - 8] :=
  (by decide +kernel : ∀ t : Fin grid0.N, win0_11.index t = ![0, t.val - 8])
theorem idx12 : ∀ t : Fin cfg0.N, win0_12.index t = ![0, t.val - 8] :=
  (by decide +kernel : ∀ t : Fin grid0.N, win0_12.index t = ![0, t.val - 8])

/-- A column of the output is written at the points of the second half only. -/
theorem late : ∀ t : Fin cfg0.N, (cfg0.win 12).flush t = true → 8 ≤ t.val :=
  (by decide +kernel : ∀ t : Fin grid0.N, (cfg0.win 12).flush t = true → 8 ≤ t.val)

theorem whole0 : gH m c = V m c main_v0 := by
  funext y
  blk_ext [iblk, (by decide +kernel : win0_0.index t0_0 = ![0, 0])]

theorem whole1 : gG m c = V m c main_v1 := by
  funext y
  blk_ext [iblk, (by decide +kernel : win0_1.index t0_0 = ![0, 0])]

theorem whole2 : gB m c = V m c main_v2 := by
  funext y
  blk_ext [iblk, (by decide +kernel : win0_2.index t0_0 = ![0, 0])]

theorem up3 (j : Fin cfg0.N) (hj : j.val < 8) (k : Fin 4048) (p : Fin 1024) (q : Fin 8192) (hq : q.val = j.val * 1024 + p.val) :
    iblk m c 3 j (ix2 k p) = V m c main_arg3 (ix2 k q) := by
  blk_ext [iblk, idx3 j]

theorem up4 (j : Fin cfg0.N) (hj : j.val < 8) (k : Fin 1) (p : Fin 1024) (q : Fin 8192) (hq : q.val = j.val * 1024 + p.val) :
    iblk m c 4 j (ix2 k p) = V m c main_v3 (ix2 k q) := by
  blk_ext [iblk, idx4 j]

theorem up5 (j : Fin cfg0.N) (hj : j.val < 8) (k : Fin 48) (p : Fin 1024) (q : Fin 8192) (hq : q.val = j.val * 1024 + p.val) :
    iblk m c 5 j (ix2 k p) = V m c main_arg5 (ix2 k q) := by
  blk_ext [iblk, idx5 j]

theorem up6 (j : Fin cfg0.N) (hj : j.val < 8) (k : Fin 1) (p : Fin 1024) (q : Fin 8192) (hq : q.val = j.val * 1024 + p.val) :
    iblk m c 6 j (ix2 k p) = V m c main_v4 (ix2 k q) := by
  blk_ext [iblk, idx6 j]

theorem down7 (t : Fin cfg0.N) (ht : 8 ≤ t.val) (k : Fin 96) (p : Fin 512) (q : Fin 4096) (hq : q.val = (t.val - 8) * 512 + p.val) :
    iblk m c 7 t (ix2 k p) = V m c main_v0 (ix2 k q) := by
  blk_ext [iblk, idx7 t]

theorem down8 (t : Fin cfg0.N) (ht : 8 ≤ t.val) (k : Fin 8144) (p : Fin 512) (q : Fin 4096) (hq : q.val = (t.val - 8) * 512 + p.val) :
    iblk m c 8 t (ix2 k p) = V m c main_arg7 (ix2 k q) := by
  blk_ext [iblk, idx8 t]

theorem down9 (t : Fin cfg0.N) (ht : 8 ≤ t.val) (k : Fin 1) (p : Fin 512) (q : Fin 4096) (hq : q.val = (t.val - 8) * 512 + p.val) :
    iblk m c 9 t (ix2 k p) = V m c main_v5 (ix2 k q) := by
  blk_ext [iblk, idx9 t]

theorem down10 (t : Fin cfg0.N) (ht : 8 ≤ t.val) (k : Fin 48) (p : Fin 512) (q : Fin 4096) (hq : q.val = (t.val - 8) * 512 + p.val) :
    iblk m c 10 t (ix2 k p) = V m c main_arg9 (ix2 k q) := by
  blk_ext [iblk, idx10 t]

theorem down11 (t : Fin cfg0.N) (ht : 8 ≤ t.val) (k : Fin 1) (p : Fin 512) (q : Fin 4096) (hq : q.val = (t.val - 8) * 512 + p.val) :
    iblk m c 11 t (ix2 k p) = V m c main_v6 (ix2 k q) := by
  blk_ext [iblk, idx11 t]

/-! ## The five results after the run -/

/-- The activations as a function of the arrays the program finds. -/
abbrev A : FVec Ideal S96x8192 .f32 := refAct (V m c main_v0) (V m c main_v1) (V m c main_v2) (V m c main_arg3) (V m c main_v3) (V m c main_arg5) (V m c main_v4)

/-- The activations collected tile by tile are the reference's. -/
theorem act_eq : act m c = A m c := by
  funext y
  have hy : (y 1).val < 8192 := (y 1).isLt
  have hj : (y 1).val / 1024 < 8 := by omega
  have e : y = ix2 (y 0) (y 1) := by
    funext a
    fin_cases a <;> rfl
  unfold act actTile
  rw [whole0, whole1, whole2]
  refine (Equation.up_eq (V m c main_v0) (V m c main_v1) (V m c main_v2) _ _ _ _ (V m c main_arg3) (V m c main_v3) (V m c main_arg5) (V m c main_v4)
    (y 0) ⟨(y 1).val % 1024, Nat.mod_lt _ (by decide)⟩ (y 1) ?_ ?_ ?_ ?_).trans (congrArg _ e.symm)
  · exact fun k => up3 m c _ hj k _ _ (by simp only; omega)
  · exact up4 m c _ hj 0 _ _ (by simp only; omega)
  · exact fun k => up5 m c _ hj k _ _ (by simp only; omega)
  · exact up6 m c _ hj 0 _ _ (by simp only; omega)

theorem after_13 : (dats m 0 c).after 13 t0_15 = coU (V m c main_v0) (V m c main_v1) (V m c main_v2) := by
  rw [after0_13, whole0, whole1, whole2, Equation.upC_eq]

theorem codes_up : (dats m 0 c).arrAt 13 cfg0.N = coU (V m c main_v0) (V m c main_v1) (V m c main_v2) := by
  refine (dats m 0 c).arrAt_eq_of_after_last 13 t0_15 (by decide +kernel) _ fun j => ?_
  blk_simp
  exact congrFun (after_13 m c) j

theorem after_14 : (dats m 0 c).after 14 t0_15 = Cert.ReferenceIdeal.Gen.k0_pay17 (scU (V m c main_v0) (V m c main_v1) (V m c main_v2)) := by
  rw [after0_14, whole0, whole1, whole2, Equation.upR_eq]

theorem scales_up : (dats m 0 c).arrAt 14 cfg0.N = Cert.ReferenceIdeal.Gen.k0_pay17 (scU (V m c main_v0) (V m c main_v1) (V m c main_v2)) := by
  refine (dats m 0 c).arrAt_eq_of_after_last 14 t0_15 (by decide +kernel) _ fun j => ?_
  blk_simp
  exact congrFun (after_14 m c) j

theorem after_15 : (dats m 0 c).after 15 t0_15 = Cert.ReferenceIdeal.Gen.k0_pay15 (A m c) := by
  rw [after0_15, act_eq, Equation.dnC_eq]

theorem codes_down : (dats m 0 c).arrAt 15 cfg0.N = Cert.ReferenceIdeal.Gen.k0_pay15 (A m c) := by
  refine (dats m 0 c).arrAt_eq_of_after_last 15 t0_15 (by decide +kernel) _ fun j => ?_
  blk_simp
  exact congrFun (after_15 m c) j

theorem after_16 : (dats m 0 c).after 16 t0_15 = Cert.ReferenceIdeal.Gen.k0_pay1 (Cert.ReferenceIdeal.Gen.k0_pay14 (A m c)) := by
  rw [after0_16, act_eq, Equation.dnR_eq]

theorem scales_down : (dats m 0 c).arrAt 16 cfg0.N = Cert.ReferenceIdeal.Gen.k0_pay1 (Cert.ReferenceIdeal.Gen.k0_pay14 (A m c)) := by
  refine (dats m 0 c).arrAt_eq_of_after_last 16 t0_15 (by decide +kernel) _ fun j => ?_
  blk_simp
  exact congrFun (after_16 m c) j

/-- The reference's output from the arrays the program finds. -/
abbrev Y : FVec Ideal S96x4096 .bf16 :=
  Cert.ReferenceIdeal.Gen.k0_pay16 (Cert.ReferenceIdeal.Gen.k0_pay2 (V m c main_v0)) (A m c) (V m c main_arg7) (Cert.ReferenceIdeal.Gen.k0_pay12 (V m c main_v5)) (V m c main_arg9) (V m c main_v6)

theorem out_tile (t : Fin cfg0.N) (ht : 8 ≤ t.val) (r : Fin 96) (p : Fin 512) (q : Fin 4096) (hq : q.val = (t.val - 8) * 512 + p.val) :
    outY m c t (ix2 r p) = Y m c (ix2 r q) := by
  unfold outY
  rw [act_eq]
  exact Equation.down_eq (A m c) _ _ _ _ _ (V m c main_arg7) (V m c main_v5) (V m c main_arg9) (V m c main_v6) (V m c main_v0) r p q
    (fun k => down8 m c t ht k p q hq) (down9 m c t ht 0 p q hq) (fun k => down10 m c t ht k p q hq) (down11 m c t ht 0 p q hq) (down7 m c t ht r p q hq)

theorem hidden : (dats m 0 c).arrAt 12 cfg0.N = Y m c := by
  refine (dats m 0 c).arrAt_eq_of_covers 12 _ (by decide +kernel) fun t hf y => ?_
  have ht := late t hf
  blk_simp
  rw [after0_12]
  have h0 : (y 0).val < 96 := (y 0).isLt
  have h1 : (y 1).val < 512 := (y 1).isLt
  have hN : t.val < 16 := t.isLt
  have ey : y = ix2 (n0 := 96) (n1 := 512) ⟨(y 0).val, h0⟩ ⟨(y 1).val, h1⟩ := by
    funext a
    fin_cases a <;> rfl
  have ee : (win0_12.blk t).view.emb y = ix2 (n0 := 96) (n1 := 4096) ⟨(y 0).val, h0⟩ ⟨(t.val - 8) * 512 + (y 1).val, by omega⟩ := by
    funext a
    fin_cases a
    · refine Fin.ext ?_
      blk_simp [idx12 t]
      simp
    · refine Fin.ext ?_
      blk_simp [idx12 t]
      simp
  exact (congrArg (outY m c t) ey).trans ((out_tile m c t ht _ _ _ rfl).trans (congrArg (Y m c) ee.symm))

end Cert.Proof.KernelValues
-- ==== Proof.Mlp.ReferenceValues.lean ====
module

public import proofs.«01_k».proof.Proof.Mlp.Equation
public import proofs.«01_k».proof.Proof.Gen.ReferenceIdeal.Value

@[expose] public section

set_option maxRecDepth 16384

noncomputable section

namespace Cert.Proof.ReferenceValues

open Idealize.ShloMosaic Idealize.ShloMosaic.TcCoe
open Cert.ReferenceIdeal Cert.ReferenceIdeal.Gen
open Cert.Proof.Equation (refAct scU coU)

/-! ## The reference's stores, over whole operands -/

section Outs
variable {F : FTy → Type} [FloatOps F]
variable (x0 : Vec F S96x4096 .bf16) (x1 x2 : Vec F S1x4096 .f32) (x3 : Vec F S4048x8192 .i8) (x4 : Vec F S1x8192 .f32) (x5 : Vec F S48x8192 .bf16)
  (x6 : Vec F S1x8192 .f32) (x7 : Vec F S8144x4096 .i8) (x8 : Vec F S1x4096 .f32) (x9 : Vec F S48x4096 .bf16) (x10 : Vec F S1x4096 .f32)

theorem zeros : ∀ a : Fin 2, (![0, 0] : Fin 2 → Nat) a = 0 := by decide

theorem part18 : Gen.k0_pay18 x0 x1 x2 x3 x4 x5 x6 x7 x8 x9 x10 = Gen.k0_pay6 x0 x1 x2 := by
  unfold Gen.k0_pay18
  rw [View.ld_unit_lit' _ _ zeros, View.ld_unit_lit' _ _ zeros, View.ld_unit_lit' _ _ zeros]
theorem part19 : Gen.k0_pay19 x0 x1 x2 x3 x4 x5 x6 x7 x8 x9 x10 = Gen.k0_pay7 x0 x1 x2 := by
  unfold Gen.k0_pay19
  rw [View.ld_unit_lit' _ _ zeros, View.ld_unit_lit' _ _ zeros, View.ld_unit_lit' _ _ zeros]
theorem part20 : Gen.k0_pay20 x0 x1 x2 x3 x4 x5 x6 x7 x8 x9 x10 = Gen.k0_pay8 x0 x1 x2 := by
  unfold Gen.k0_pay20
  rw [View.ld_unit_lit' _ _ zeros, View.ld_unit_lit' _ _ zeros, View.ld_unit_lit' _ _ zeros]
theorem part21 : Gen.k0_pay21 x0 x1 x2 x3 x4 x5 x6 x7 x8 x9 x10 = Gen.k0_pay11 (Gen.k0_pay3 x0 x1 x2) x3 (Gen.k0_pay4 x4) x5 (Gen.k0_pay5 x6) (Gen.k0_pay6 x0 x1 x2)
    (Gen.k0_pay7 x0 x1 x2) (Gen.k0_pay8 x0 x1 x2) (Scalar.ofBits .f32 0x42FE0000#32) := by
  unfold Gen.k0_pay21
  rw [part18, part19, part20]
  rw [View.ld_unit_lit' _ _ zeros, View.ld_unit_lit' _ _ zeros, View.ld_unit_lit' _ _ zeros, View.ld_unit_lit' _ _ zeros, View.ld_unit_lit' _ _ zeros, View.ld_unit_lit' _ _ zeros, View.ld_unit_lit' _ _ zeros]

theorem out12 : out0_12 x0 x1 x2 x3 x4 x5 x6 x7 x8 x9 x10 = coU x0 x1 x2 := by
  unfold out0_12
  rw [part18, part19, part20]
  exact View.canon_cons_unit_lit' _ _ _ zeros

theorem out13 : out0_13 x0 x1 x2 x3 x4 x5 x6 x7 x8 x9 x10 = Gen.k0_pay17 (scU x0 x1 x2) := by
  unfold out0_13
  rw [part19, part20]
  exact View.canon_cons_unit_lit' _ _ _ zeros

theorem out14 : out0_14 x0 x1 x2 x3 x4 x5 x6 x7 x8 x9 x10 = Gen.k0_pay15 (Gen.k0_pay21 x0 x1 x2 x3 x4 x5 x6 x7 x8 x9 x10) := by
  unfold out0_14
  exact View.canon_cons_unit_lit' _ _ _ zeros

theorem out15 : out0_15 x0 x1 x2 x3 x4 x5 x6 x7 x8 x9 x10 = Gen.k0_pay1 (Gen.k0_pay14 (Gen.k0_pay21 x0 x1 x2 x3 x4 x5 x6 x7 x8 x9 x10)) := by
  unfold out0_15
  exact View.canon_cons_unit_lit' _ _ _ zeros

theorem out11 : out0_11 x0 x1 x2 x3 x4 x5 x6 x7 x8 x9 x10 = Gen.k0_pay16 (Gen.k0_pay2 x0) (Gen.k0_pay21 x0 x1 x2 x3 x4 x5 x6 x7 x8 x9 x10) x7 (Gen.k0_pay12 x8) x9 x10 := by
  unfold out0_11
  rw [View.ld_unit_lit' _ _ zeros, View.ld_unit_lit' _ _ zeros, View.ld_unit_lit' _ _ zeros, View.ld_unit_lit' _ _ zeros, View.ld_unit_lit' _ _ zeros]
  exact View.canon_cons_unit_lit' _ _ _ zeros
end Outs
variable (m : (ℓ : Loc nD τ sig) → Buf (Elt Ideal) ℓ) (c : Dev nD)

/-! ## What the one grid point reads: every operand whole -/

theorem blk0 : iblk m c 0 t0_0 = V m c main_v0 := by
  funext y
  blk_ext [iblk, (by decide +kernel : win0_0.index t0_0 = ![0, 0])]

theorem blk1 : iblk m c 1 t0_0 = V m c main_v1 := by
  funext y
  blk_ext [iblk, (by decide +kernel : win0_1.index t0_0 = ![0, 0])]

theorem blk2 : iblk m c 2 t0_0 = V m c main_v2 := by
  funext y
  blk_ext [iblk, (by decide +kernel : win0_2.index t0_0 = ![0, 0])]

theorem blk3 : iblk m c 3 t0_0 = V m c main_arg3 := by
  funext y
  blk_ext [iblk, (by decide +kernel : win0_3.index t0_0 = ![0, 0])]

theorem blk4 : iblk m c 4 t0_0 = V m c main_v3 := by
  funext y
  blk_ext [iblk, (by decide +kernel : win0_4.index t0_0 = ![0, 0])]

theorem blk5 : iblk m c 5 t0_0 = V m c main_arg5 := by
  funext y
  blk_ext [iblk, (by decide +kernel : win0_5.index t0_0 = ![0, 0])]

theorem blk6 : iblk m c 6 t0_0 = V m c main_v4 := by
  funext y
  blk_ext [iblk, (by decide +kernel : win0_6.index t0_0 = ![0, 0])]

theorem blk7 : iblk m c 7 t0_0 = V m c main_arg7 := by
  funext y
  blk_ext [iblk, (by decide +kernel : win0_7.index t0_0 = ![0, 0])]

theorem blk8 : iblk m c 8 t0_0 = V m c main_v5 := by
  funext y
  blk_ext [iblk, (by decide +kernel : win0_8.index t0_0 = ![0, 0])]

theorem blk9 : iblk m c 9 t0_0 = V m c main_arg9 := by
  funext y
  blk_ext [iblk, (by decide +kernel : win0_9.index t0_0 = ![0, 0])]

theorem blk10 : iblk m c 10 t0_0 = V m c main_v6 := by
  funext y
  blk_ext [iblk, (by decide +kernel : win0_10.index t0_0 = ![0, 0])]

/-! ## The five results after the run -/

/-- The activations as a function of the arrays the program finds. -/
abbrev A : FVec Ideal S96x8192 .f32 := refAct (V m c main_v0) (V m c main_v1) (V m c main_v2) (V m c main_arg3) (V m c main_v3) (V m c main_arg5) (V m c main_v4)

theorem after_12 : (Gen.dats m 0 c).after 12 t0_0 = coU (V m c main_v0) (V m c main_v1) (V m c main_v2) := by
  rw [after0_12, out12, blk0, blk1, blk2]

theorem codes_up : (Gen.dats m 0 c).arrAt 12 cfg0.N = coU (V m c main_v0) (V m c main_v1) (V m c main_v2) := by
  refine (Gen.dats m 0 c).arrAt_eq_of_after_last 12 t0_0 (by decide +kernel) _ fun j => ?_
  blk_simp
  exact congrFun (after_12 m c) j

theorem after_13 : (Gen.dats m 0 c).after 13 t0_0 = Gen.k0_pay17 (scU (V m c main_v0) (V m c main_v1) (V m c main_v2)) := by
  rw [after0_13, out13, blk0, blk1, blk2]

theorem scales_up : (Gen.dats m 0 c).arrAt 13 cfg0.N = Gen.k0_pay17 (scU (V m c main_v0) (V m c main_v1) (V m c main_v2)) := by
  refine (Gen.dats m 0 c).arrAt_eq_of_after_last 13 t0_0 (by decide +kernel) _ fun j => ?_
  blk_simp
  exact congrFun (after_13 m c) j

theorem after_14 : (Gen.dats m 0 c).after 14 t0_0 = Gen.k0_pay15 (A m c) := by
  rw [after0_14, out14, part21, blk0, blk1, blk2, blk3, blk4, blk5, blk6]
  rfl

theorem codes_down : (Gen.dats m 0 c).arrAt 14 cfg0.N = Gen.k0_pay15 (A m c) := by
  refine (Gen.dats m 0 c).arrAt_eq_of_after_last 14 t0_0 (by decide +kernel) _ fun j => ?_
  blk_simp
  exact congrFun (after_14 m c) j

theorem after_15 : (Gen.dats m 0 c).after 15 t0_0 = Gen.k0_pay1 (Gen.k0_pay14 (A m c)) := by
  rw [after0_15, out15, part21, blk0, blk1, blk2, blk3, blk4, blk5, blk6]
  rfl

theorem scales_down : (Gen.dats m 0 c).arrAt 15 cfg0.N = Gen.k0_pay1 (Gen.k0_pay14 (A m c)) := by
  refine (Gen.dats m 0 c).arrAt_eq_of_after_last 15 t0_0 (by decide +kernel) _ fun j => ?_
  blk_simp
  exact congrFun (after_15 m c) j

theorem after_11 : (Gen.dats m 0 c).after 11 t0_0 = Gen.k0_pay16 (Gen.k0_pay2 (V m c main_v0)) (A m c) (V m c main_arg7) (Gen.k0_pay12 (V m c main_v5)) (V m c main_arg9) (V m c main_v6) := by
  rw [after0_11, out11, part21, blk0, blk1, blk2, blk3, blk4, blk5, blk6, blk7, blk8, blk9, blk10]
  rfl

theorem hidden : (Gen.dats m 0 c).arrAt 11 cfg0.N
    = Gen.k0_pay16 (Gen.k0_pay2 (V m c main_v0)) (A m c) (V m c main_arg7) (Gen.k0_pay12 (V m c main_v5)) (V m c main_arg9) (V m c main_v6) := by
  refine (Gen.dats m 0 c).arrAt_eq_of_after_last 11 t0_0 (by decide +kernel) _ fun j => ?_
  blk_simp
  exact congrFun (after_11 m c) j

end Cert.Proof.ReferenceValues
-- ==== Proof.Mlp.Algebraic.lean ====
module

public import proofs.«01_k».proof.Proof.Mlp.KernelValues
public import proofs.«01_k».proof.Proof.Mlp.ReferenceValues
public import proofs.«01_k».proof.Defs

@[expose] public section

set_option maxRecDepth 16384

noncomputable section

/-! ## The reshaped operands -/

namespace Cert.Proof.KernelValues
open Idealize.ShloMosaic Idealize.ShloMosaic.TcCoe
open Cert.KernelIdeal Cert.KernelIdeal.Gen
variable (m : (ℓ : Loc nD τ sig) → Buf (Elt Ideal) ℓ) (c : Dev nD)

theorem V_v0 : V m c main_v0 = shapeCast S96x4096 (m ((c : Thread nD τ).loc main_arg0)) shapeCasts_S96x1x4096_S96x4096 := by
  entry_read
  rfl
theorem V_v1 : V m c main_v1 = shapeCast S1x4096 (m ((c : Thread nD τ).loc main_arg1)) shapeCasts_S4096_S1x4096 := by
  entry_read
  rfl
theorem V_v2 : V m c main_v2 = shapeCast S1x4096 (m ((c : Thread nD τ).loc main_arg2)) shapeCasts_S4096_S1x4096 := by
  entry_read
  rfl
theorem V_v3 : V m c main_v3 = shapeCast S1x8192 (m ((c : Thread nD τ).loc main_arg4)) shapeCasts_S8192_S1x8192 := by
  entry_read
  rfl
theorem V_v4 : V m c main_v4 = shapeCast S1x8192 (m ((c : Thread nD τ).loc main_arg6)) shapeCasts_S8192_S1x8192 := by
  entry_read
  rfl
theorem V_v5 : V m c main_v5 = shapeCast S1x4096 (m ((c : Thread nD τ).loc main_arg8)) shapeCasts_S4096_S1x4096 := by
  entry_read
  rfl
theorem V_v6 : V m c main_v6 = shapeCast S1x4096 (m ((c : Thread nD τ).loc main_arg10)) shapeCasts_S4096_S1x4096 := by
  entry_read
  rfl

end Cert.Proof.KernelValues

namespace Cert.Proof.ReferenceValues
open Idealize.ShloMosaic Idealize.ShloMosaic.TcCoe
open Cert.ReferenceIdeal Cert.ReferenceIdeal.Gen
variable (m : (ℓ : Loc nD τ sig) → Buf (Elt Ideal) ℓ) (c : Dev nD)

theorem V_v0 : V m c main_v0 = shapeCast S96x4096 (m ((c : Thread nD τ).loc main_arg0)) shapeCasts_S96x1x4096_S96x4096 := by
  entry_read
  rfl
theorem V_v1 : V m c main_v1 = shapeCast S1x4096 (m ((c : Thread nD τ).loc main_arg1)) shapeCasts_S4096_S1x4096 := by
  entry_read
  rfl
theorem V_v2 : V m c main_v2 = shapeCast S1x4096 (m ((c : Thread nD τ).loc main_arg2)) shapeCasts_S4096_S1x4096 := by
  entry_read
  rfl
theorem V_v3 : V m c main_v3 = shapeCast S1x8192 (m ((c : Thread nD τ).loc main_arg4)) shapeCasts_S8192_S1x8192 := by
  entry_read
  rfl
theorem V_v4 : V m c main_v4 = shapeCast S1x8192 (m ((c : Thread nD τ).loc main_arg6)) shapeCasts_S8192_S1x8192 := by
  entry_read
  rfl
theorem V_v5 : V m c main_v5 = shapeCast S1x4096 (m ((c : Thread nD τ).loc main_arg8)) shapeCasts_S4096_S1x4096 := by
  entry_read
  rfl
theorem V_v6 : V m c main_v6 = shapeCast S1x4096 (m ((c : Thread nD τ).loc main_arg10)) shapeCasts_S4096_S1x4096 := by
  entry_read
  rfl

end Cert.Proof.ReferenceValues

namespace Cert.Proof.Algebraic

open Idealize.ShloMosaic Idealize.ShloMosaic.TcCoe Idealize.SL.Sem

section KernelRun
open Cert.KernelIdeal Cert.KernelIdeal.Gen
open Cert.Proof.KernelIdealRun (dats A_eq run_main)
variable (m : (ℓ : Loc nD τ sig) → Buf (Elt Ideal) ℓ) (ρ : Dev nD → PrngReg)

/-- The kernel's run with its five results named, the arguments unchanged. -/
theorem kernel_run : θ_run defs (onTc (τ := τ) (main (F := Ideal))) ⟨m, fun _ => 0, ρ⟩ (fun r => ∀ c : Dev nD,
      r.2.mem ((c.tc : Thread nD τ).loc main_v7_0) = (dats m 0 c).arrAt 12 cfg0.N
      ∧ r.2.mem ((c.tc : Thread nD τ).loc main_v7_1) = (dats m 0 c).arrAt 13 cfg0.N
      ∧ r.2.mem ((c.tc : Thread nD τ).loc main_v7_2) = (dats m 0 c).arrAt 14 cfg0.N
      ∧ r.2.mem ((c.tc : Thread nD τ).loc main_v7_3) = (dats m 0 c).arrAt 15 cfg0.N
      ∧ r.2.mem ((c.tc : Thread nD τ).loc main_v7_4) = (dats m 0 c).arrAt 16 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ hr c => by
    have h := hr.1
    exact ⟨(h c).1 12, (h c).1 13, (h c).1 14, (h c).1 15, (h c).1 16,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).1 5).trans (((dats m 0 c).arrAt_in 5 rfl _).trans ((A_eq m c 5).trans (V_main_arg5 m c))),
      ((h c).2 main_arg6 (Pipeline.mem_restRefs_of main_arg6 (by decide) (by decide))).trans (V_main_arg6 m c),
      ((h c).1 8).trans (((dats m 0 c).arrAt_in 8 rfl _).trans ((A_eq m c 8).trans (V_main_arg7 m c))),
      ((h c).2 main_arg8 (Pipeline.mem_restRefs_of main_arg8 (by decide) (by decide))).trans (V_main_arg8 m c),
      ((h c).1 10).trans (((dats m 0 c).arrAt_in 10 rfl _).trans ((A_eq m c 10).trans (V_main_arg9 m c))),
      ((h c).2 main_arg10 (Pipeline.mem_restRefs_of main_arg10 (by decide) (by decide))).trans (V_main_arg10 m c)⟩) (run_main m ρ)

end KernelRun

section Agree
variable (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD)

theorem agree_v0 (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Cert.ReferenceIdeal.Gen.V m' c Cert.ReferenceIdeal.main_v0 = Cert.KernelIdeal.Gen.V m c Cert.KernelIdeal.main_v0 :=
  (ReferenceValues.V_v0 m' c).trans ((congrArg (fun x => shapeCast Cert.ReferenceIdeal.S96x4096 x Cert.ReferenceIdeal.Gen.shapeCasts_S96x1x4096_S96x4096) h).trans (KernelValues.V_v0 m c).symm)
theorem agree_v1 (h : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.Gen.V m' c Cert.ReferenceIdeal.main_v1 = Cert.KernelIdeal.Gen.V m c Cert.KernelIdeal.main_v1 :=
  (ReferenceValues.V_v1 m' c).trans ((congrArg (fun x => shapeCast Cert.ReferenceIdeal.S1x4096 x Cert.ReferenceIdeal.Gen.shapeCasts_S4096_S1x4096) h).trans (KernelValues.V_v1 m c).symm)
theorem agree_v2 (h : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Gen.V m' c Cert.ReferenceIdeal.main_v2 = Cert.KernelIdeal.Gen.V m c Cert.KernelIdeal.main_v2 :=
  (ReferenceValues.V_v2 m' c).trans ((congrArg (fun x => shapeCast Cert.ReferenceIdeal.S1x4096 x Cert.ReferenceIdeal.Gen.shapeCasts_S4096_S1x4096) h).trans (KernelValues.V_v2 m c).symm)
theorem agree_v3 (h : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Gen.V m' c Cert.ReferenceIdeal.main_v3 = Cert.KernelIdeal.Gen.V m c Cert.KernelIdeal.main_v3 :=
  (ReferenceValues.V_v3 m' c).trans ((congrArg (fun x => shapeCast Cert.ReferenceIdeal.S1x8192 x Cert.ReferenceIdeal.Gen.shapeCasts_S8192_S1x8192) h).trans (KernelValues.V_v3 m c).symm)
theorem agree_v4 (h : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Gen.V m' c Cert.ReferenceIdeal.main_v4 = Cert.KernelIdeal.Gen.V m c Cert.KernelIdeal.main_v4 :=
  (ReferenceValues.V_v4 m' c).trans ((congrArg (fun x => shapeCast Cert.ReferenceIdeal.S1x8192 x Cert.ReferenceIdeal.Gen.shapeCasts_S8192_S1x8192) h).trans (KernelValues.V_v4 m c).symm)
theorem agree_v5 (h : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.Gen.V m' c Cert.ReferenceIdeal.main_v5 = Cert.KernelIdeal.Gen.V m c Cert.KernelIdeal.main_v5 :=
  (ReferenceValues.V_v5 m' c).trans ((congrArg (fun x => shapeCast Cert.ReferenceIdeal.S1x4096 x Cert.ReferenceIdeal.Gen.shapeCasts_S4096_S1x4096) h).trans (KernelValues.V_v5 m c).symm)
theorem agree_v6 (h : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.Gen.V m' c Cert.ReferenceIdeal.main_v6 = Cert.KernelIdeal.Gen.V m c Cert.KernelIdeal.main_v6 :=
  (ReferenceValues.V_v6 m' c).trans ((congrArg (fun x => shapeCast Cert.ReferenceIdeal.S1x4096 x Cert.ReferenceIdeal.Gen.shapeCasts_S4096_S1x4096) h).trans (KernelValues.V_v6 m c).symm)
theorem agree_arg3 (h : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Gen.V m' c Cert.ReferenceIdeal.main_arg3 = Cert.KernelIdeal.Gen.V m c Cert.KernelIdeal.main_arg3 :=
  (Cert.ReferenceIdeal.Gen.V_main_arg3 m' c).trans (h.trans (Cert.KernelIdeal.Gen.V_main_arg3 m c).symm)
theorem agree_arg5 (h : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Gen.V m' c Cert.ReferenceIdeal.main_arg5 = Cert.KernelIdeal.Gen.V m c Cert.KernelIdeal.main_arg5 :=
  (Cert.ReferenceIdeal.Gen.V_main_arg5 m' c).trans (h.trans (Cert.KernelIdeal.Gen.V_main_arg5 m c).symm)
theorem agree_arg7 (h : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Gen.V m' c Cert.ReferenceIdeal.main_arg7 = Cert.KernelIdeal.Gen.V m c Cert.KernelIdeal.main_arg7 :=
  (Cert.ReferenceIdeal.Gen.V_main_arg7 m' c).trans (h.trans (Cert.KernelIdeal.Gen.V_main_arg7 m c).symm)
theorem agree_arg9 (h : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.Gen.V m' c Cert.ReferenceIdeal.main_arg9 = Cert.KernelIdeal.Gen.V m c Cert.KernelIdeal.main_arg9 :=
  (Cert.ReferenceIdeal.Gen.V_main_arg9 m' c).trans (h.trans (Cert.KernelIdeal.Gen.V_main_arg9 m c).symm)

end Agree

/-- The kernel and the reference end with the same five results. -/
theorem algebraic : @Cert.algebraic_KernelIdeal_ReferenceIdeal Cert.KernelIdeal.Gen.facts Cert.ReferenceIdeal.Gen.facts := by
  intro m g m' g' _ hm
  refine ⟨fun c => (KernelIdealRun.dats m 0 c).arrAt 12 Cert.KernelIdeal.cfg0.N, fun c => (KernelIdealRun.dats m 0 c).arrAt 13 Cert.KernelIdeal.cfg0.N,
    fun c => (KernelIdealRun.dats m 0 c).arrAt 14 Cert.KernelIdeal.cfg0.N, fun c => (KernelIdealRun.dats m 0 c).arrAt 15 Cert.KernelIdeal.cfg0.N,
    fun c => (KernelIdealRun.dats m 0 c).arrAt 16 Cert.KernelIdeal.cfg0.N, kernel_run m g, ?_⟩
  refine (θ_run _ _ _).mono (fun r hr c => ?_) (Cert.ReferenceIdeal.Value.run_blocks m' g')
  obtain ⟨h0, h1, h2, h3, h4, hrest⟩ := hr c
  obtain ⟨a0, a1, a2, a3, a4, a5, a6, a7, a8, a9, a10⟩ := hm c
  have e0 := agree_v0 m m' c a0
  have e1 := agree_v1 m m' c a1
  have e2 := agree_v2 m m' c a2
  have e3 := agree_arg3 m m' c a3
  have e4 := agree_v3 m m' c a4
  have e5 := agree_arg5 m m' c a5
  have e6 := agree_v4 m m' c a6
  have e7 := agree_arg7 m m' c a7
  have e8 := agree_v5 m m' c a8
  have e9 := agree_arg9 m m' c a9
  have e10 := agree_v6 m m' c a10
  have eA : ReferenceValues.A m' c = KernelValues.A m c := by
    unfold ReferenceValues.A KernelValues.A
    rw [e0, e1, e2, e3, e4, e5, e6]
  refine ⟨h0.trans ?_, h1.trans ?_, h2.trans ?_, h3.trans ?_, h4.trans ?_, hrest⟩
  · refine (ReferenceValues.hidden m' c).trans (Eq.trans ?_ (KernelValues.hidden m c).symm)
    rw [eA, e0, e7, e8, e9, e10]
  · refine (ReferenceValues.codes_up m' c).trans (Eq.trans ?_ (KernelValues.codes_up m c).symm)
    rw [e0, e1, e2]
  · refine (ReferenceValues.scales_up m' c).trans (Eq.trans ?_ (KernelValues.scales_up m c).symm)
    rw [e0, e1, e2]
  · exact (ReferenceValues.codes_down m' c).trans ((congrArg _ eA).trans (KernelValues.codes_down m c).symm)
  · exact (ReferenceValues.scales_down m' c).trans ((congrArg (fun a => Cert.ReferenceIdeal.Gen.k0_pay1 (Cert.ReferenceIdeal.Gen.k0_pay14 a)) eA).trans (KernelValues.scales_down m c).symm)

end Cert.Proof.Algebraic
-- ==== Proof.Qkv.QkvKernelIdealBase.lean ====
module

public import proofs.«01_k».proof.Proof.Gen.QkvKernelIdeal.Frame
public import proofs.«01_k».proof.Proof.Gen.QkvKernelIdeal.Skeleton
public import Idealize.ShloMosaic.Lib.Tactic
public import Idealize.ShloMosaic.Lib.WritesUnit
public import Idealize.ShloMosaic.Lib.VecWindow
public import Idealize.ShloMosaic.Lib.Pipeline.ValueKit

@[expose] public section

set_option maxRecDepth 16384

noncomputable section

namespace Cert.Proof.QkvKernelIdealRun

open Cert.QkvKernelIdeal Cert.QkvKernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

theorem rowIn (n : ℕ) : ∀ a : Fin 3, (![n % 96, 0, 0] : Fin 3 → ℕ) a + S1x16x128.size a ≤ S96x16x128.size a := by
  intro a; have := Nat.mod_lt n (by decide : 96 > 0)
  fin_cases a
  · show n % 96 + 1 ≤ 96; omega
  · show 0 + 16 ≤ 16; omega
  · show 0 + 128 ≤ 128; omega

/-- One batch row of a 96 by 16 by 128 array. -/
def row {e : EltTy} (X : Vec F S96x16x128 e) (n : ℕ) : Vec F S1x16x128 e := View.ld X (Rect.unit (s := S96x16x128) ![n % 96, 0, 0] S1x16x128.size (rowIn n))

/-- The first `n` rows of an array replaced by those of `G`. -/
def fill {e : EltTy} (Z : Vec F S96x16x128 e) (G : ℕ → Vec F S1x16x128 e) (n : ℕ) : Vec F S96x16x128 e := fun y =>
  if (y 0).val < n then G (y 0).val (ix3 (0 : Fin 1) (y 1) (y 2)) else Z y

theorem fill_zero {e : EltTy} (Z : Vec F S96x16x128 e) (G : ℕ → Vec F S1x16x128 e) : fill Z G 0 = Z :=
  funext fun y => if_neg (Nat.not_lt_zero _)

theorem fill_put {e : EltTy} (Z : Vec F S96x16x128 e) (G : ℕ → Vec F S1x16x128 e) (n : ℕ) :
    VecWindow.put (s := S96x16x128) (fill Z G n) ![n, 0, 0] S1x16x128.size (G n) = fill Z G (n + 1) := by
  funext y
  have h1 : (y 1).val < 16 := (y 1).isLt
  have h2 : (y 2).val < 128 := (y 2).isLt
  unfold VecWindow.put
  by_cases h : (y 0).val = n
  · subst h
    rw [dif_pos (fun a => by
      fin_cases a
      · exact ⟨Nat.le_refl _, Nat.lt_succ_self _⟩
      · exact ⟨Nat.zero_le _, by show (y 1).val < 0 + 16; omega⟩
      · exact ⟨Nat.zero_le _, by show (y 2).val < 0 + 128; omega⟩)]
    unfold fill
    rw [if_pos (Nat.lt_succ_self _)]
    refine congrArg (G (y 0).val) (funext fun a => Fin.ext ?_)
    fin_cases a
    · exact Nat.sub_self _
    · rfl
    · rfl
  · rw [dif_neg fun hh => h (by
      have l := (hh 0).1; have u := (hh 0).2
      change n ≤ (y 0).val at l; change (y 0).val < n + 1 at u; omega)]
    unfold fill
    by_cases hl : (y 0).val < n
    · rw [if_pos hl, if_pos (by omega)]
    · rw [if_neg hl, if_neg (by omega)]

/-! ## What the kernel computes of one batch row -/

/-- The column numbers. -/
def lane : IVec S16x128 32 := iota .tc S16x128 32 [1] iota_S16x128_d1_w32
def kScale (X : Vec F S96x16x128 .f32) (n : ℕ) : FVec F S16x1 .f32 := k0_pay19 (row X n)
def kRound (X : Vec F S96x16x128 .f32) (n : ℕ) : FVec F S16x128 .f32 := k0_pay20 (row X n)
def vScale (X : Vec F S96x16x128 .f32) (n : ℕ) : FVec F S16x1 .f32 := k0_pay22 (row X n)
def vRound (X : Vec F S96x16x128 .f32) (n : ℕ) : FVec F S16x128 .f32 := k0_pay25 (k0_pay23 (row X n)) (Scalar.ofBits .f32 0x42FE0000#32) k0_pay24
def qHalf (X : Vec F S96x16x128 .f32) (n : ℕ) : FVec F S16x128 .bf16 := k0_pay17 (row X n)
/-- The first weight. -/
def wt (X X' : Vec F S96x16x128 .f32) (n : ℕ) : FVec F S16x1 .f32 := k0_pay30 (qHalf X n) (kScale X' n) (kRound X' n)
/-- A column `n` put into an array. -/
def colSet (n : ℕ) (s : FVec F S16x1 .f32) (a : FVec F S16x128 .f32) : FVec F S16x128 .f32 :=
  select (cmpi .eq lane (broadcast S16x128 (BitVec.ofNat 32 n))) (broadcastTo S16x128 (shapeCast S16x1 s shapeCasts_S16x1_S16x1) broadcasts_S16x1_S16x128) a
/-- The first `n` columns of scales. -/
def scales (f : ℕ → FVec F S16x1 .f32) (n : ℕ) : FVec F S16x128 .f32 := Nat.rec k0_pay16 (fun j a => colSet j (f j) a) n
def s10 (X : Vec F S96x16x128 .f32) (n : ℕ) : Vec F S1x16x128 .bf16 := k0_pay31 (qHalf X n)
def s11 (X : Vec F S96x16x128 .f32) (n : ℕ) : Vec F S1x16x128 .i8 := k0_pay32 (kRound X n)
def s13 (X : Vec F S96x16x128 .f32) (n : ℕ) : Vec F S1x16x128 .i8 := k0_pay32 (vRound X n)
def peak (X X' : Vec F S96x16x128 .f32) (n : ℕ) : FVec F S16x128 .f32 := k0_pay34 (qHalf X n) (kScale X' n) (kRound X' n)
def peak0 (X X' : Vec F S96x16x128 .f32) (n : ℕ) : FVec F S16x1 .f32 := k0_pay29 (qHalf X n) (kScale X' n) (kRound X' n)
def vMax (X : Vec F S96x16x128 .f32) (n : ℕ) : FVec F S16x1 .f32 := shapeCast S16x1 (multiReduction .maximumf [1] S16 (absf (k0_pay21 (row X n))) 0xFF800000#32 reduces_S16x128_S16 (.inl rfl) rfl) shapeCasts_S16_S16x1
def s15 (X X' : Vec F S96x16x128 .f32) (n : ℕ) : Vec F S1x16x128 .f32 := k0_pay35 (peak X X' n)
def s16 (X X' : Vec F S96x16x128 .f32) (n : ℕ) : Vec F S1x16x128 .f32 := k0_pay36 lane (wt X X' n)
def accRow (X X' X'' : Vec F S96x16x128 .f32) (n : ℕ) : FVec F S16x128 .f32 :=
  mulf (broadcastTo S16x128 (extf .f32 (truncf .bf16 (mulf (wt X X' n) (vScale X'' n)) bitsLt_bf16_f32) bitsLt_bf16_f32) broadcasts_S16x1_S16x128) (vRound X'' n)
def s17 (X X' X'' : Vec F S96x16x128 .f32) (n : ℕ) : Vec F S1x16x128 .f32 := shapeCast S1x16x128 (accRow X X' X'' n) shapeCasts_S16x128_S1x16x128

/-! ## Programs that end in one state with one result -/

/-- From `P` the program ends in `Q` with the result `r`. -/
def T (c : Dev nD) (E : Set ℕ) {α : Type} (p : Prog (TpuEff nD τ sig (Elt F) Λ₀ .tc) α) (P Q : sProp 𝕄) (r : α) : Prop :=
  ∀ K : α → sProp 𝕄, iprop(P ∗ (Q -∗ K r)) ⊢ wp frame (wpE (defs₀ (F := F)) Variants.none c none) E p K

theorem T.pure {c : Dev nD} {E : Set ℕ} {α : Type} {a : α} {P : sProp 𝕄} : T c E (Pure.pure a) P P a := fun K => by
  iintro ⟨H, Hk⟩
  sl_step
  iapply Hk
  iexact H

theorem T.bind {c : Dev nD} {E : Set ℕ} {α β : Type} {p : Prog (TpuEff nD τ sig (Elt F) Λ₀ .tc) α} {k : α → Prog (TpuEff nD τ sig (Elt F) Λ₀ .tc) β} {P Q R : sProp 𝕄} {a : α} {b : β}
    (h : T c E p P Q a) (h' : T c E (k a) Q R b) : T c E (p >>= k) P R b := fun K => by
  rw [wp_bind]
  iintro ⟨H, Hk⟩
  iapply (h fun x => wp frame (wpE (defs₀ (F := F)) Variants.none c none) E (k x) K)
  isplitl [H]
  · iexact H
  iintro H
  iapply (h' K)
  isplitl [H]
  · iexact H
  iexact Hk

theorem T.left {c : Dev nD} {E : Set ℕ} {α : Type} {p : Prog (TpuEff nD τ sig (Elt F) Λ₀ .tc) α} {P Q R : sProp 𝕄} {a : α}
    (h : T c E p P Q a) : T c E p iprop(P ∗ R) iprop(Q ∗ R) a := fun K => by
  iintro ⟨⟨H, HR⟩, Hk⟩
  iapply (h K)
  isplitl [H]
  · iexact H
  iintro H
  iapply Hk
  isplitl [H]
  · iexact H
  iexact HR

theorem T.right {c : Dev nD} {E : Set ℕ} {α : Type} {p : Prog (TpuEff nD τ sig (Elt F) Λ₀ .tc) α} {P Q R : sProp 𝕄} {a : α}
    (h : T c E p P Q a) : T c E p iprop(R ∗ P) iprop(R ∗ Q) a := fun K => by
  iintro ⟨⟨HR, H⟩, Hk⟩
  iapply (h K)
  isplitl [H]
  · iexact H
  iintro H
  iapply Hk
  isplitl [HR]
  · iexact HR
  iexact H

theorem T.load {c : Dev nD} {E : Set ℕ} {s : Shape} {e : EltTy} {m : Memref sig .tc .vmem s e} {X : Vec F s e} {R : Rect s} {hl : m.view.LoadsAt R.toLoadRect} :
    T c E (Prog.lift (.load m R.toLoadRect hl) : Prog (TpuEff nD τ sig (Elt F) Λ₀ .tc) _) (owns (c : Thread nD τ) m fullShare X) (owns (c : Thread nD τ) m fullShare X) (View.ld X R) := fun K => by
  unfold owns Prog.lift
  iintro ⟨⟨%f, %hf, H⟩, Hk⟩
  subst hf
  sl_step
  sl_step
  rw [show View.readAt (Elt F) m.view R.toLoadRect f = View.ld (View.read (Elt F) m.view f) R from rfl]
  iapply Hk
  iexists _; isplitr; swap; · iexact H
  ipureintro; rfl

theorem T.store {c : Dev nD} {E : Set ℕ} {e : EltTy} {m : Memref sig .tc .vmem S96x16x128 e} {Z : Vec F S96x16x128 e} {G : ℕ → Vec F S1x16x128 e} {n n' : ℕ} {off : Fin 3 → ℕ} {inb} {w : Vec F S1x16x128 e} {hx hm}
    (hn : n' = n + 1) (ho : off = ![n, 0, 0]) (hw : w = G n) :
    T c E (Prog.lift (.store m (Rect.unit (s := S96x16x128) off S1x16x128.size inb) w Finset.univ hx hm) : Prog (TpuEff nD τ sig (Elt F) Λ₀ .tc) _) (owns (c : Thread nD τ) m fullShare (fill Z G n)) (owns (c : Thread nD τ) m fullShare (fill Z G n')) ⟨⟩ := fun K => by
  subst hn ho hw
  unfold owns Prog.lift
  iintro ⟨⟨%f, %hf, H⟩, Hk⟩
  sl_step
  sl_step
  iapply Hk
  iexists _; isplitr; swap; · iexact H
  ipureintro
  refine (View.read_writes_cons_put (s := S96x16x128) (off := ![n, 0, 0]) (off' := ![n, 0, 0]) (size := S1x16x128.size) m.view f inb (G n) [] rfl).trans ?_
  refine (congrArg (fun z => VecWindow.put (s := S96x16x128) z ![n, 0, 0] S1x16x128.size (G n)) hf).trans (fill_put Z G n)

/-- The three arrays read, and the six written with their first rows done. -/
def st (c : Dev nD) (arg21 : Memref sig .tc .vmem S96x16x128 .f32) (arg22 : Memref sig .tc .vmem S96x16x128 .f32) (arg23 : Memref sig .tc .vmem S96x16x128 .f32) (arg10 : Memref sig .tc .vmem S96x16x128 .bf16) (arg11 : Memref sig .tc .vmem S96x16x128 .i8) (arg13 : Memref sig .tc .vmem S96x16x128 .i8) (arg15 : Memref sig .tc .vmem S96x16x128 .f32) (arg16 : Memref sig .tc .vmem S96x16x128 .f32) (arg17 : Memref sig .tc .vmem S96x16x128 .f32) (X21 X22 X23 : Vec F S96x16x128 .f32) (Z10 : Vec F S96x16x128 .bf16) (Z11 : Vec F S96x16x128 .i8) (Z13 : Vec F S96x16x128 .i8) (Z15 : Vec F S96x16x128 .f32) (Z16 : Vec F S96x16x128 .f32) (Z17 : Vec F S96x16x128 .f32) (a b d e g j : ℕ) : sProp 𝕄 :=
  iprop(owns (c : Thread nD τ) arg21 fullShare X21 ∗ owns (c : Thread nD τ) arg22 fullShare X22 ∗ owns (c : Thread nD τ) arg23 fullShare X23 ∗ owns (c : Thread nD τ) arg10 fullShare (fill Z10 (s10 X21) a) ∗ owns (c : Thread nD τ) arg11 fullShare (fill Z11 (s11 X22) b) ∗ owns (c : Thread nD τ) arg13 fullShare (fill Z13 (s13 X23) d) ∗ owns (c : Thread nD τ) arg15 fullShare (fill Z15 (s15 X21 X22) e) ∗ owns (c : Thread nD τ) arg16 fullShare (fill Z16 (s16 X21 X22) g) ∗ owns (c : Thread nD τ) arg17 fullShare (fill Z17 (s17 X21 X22 X23) j))

variable {c : Dev nD} {E : Set ℕ} {arg21 : Memref sig .tc .vmem S96x16x128 .f32} {arg22 : Memref sig .tc .vmem S96x16x128 .f32} {arg23 : Memref sig .tc .vmem S96x16x128 .f32} {arg10 : Memref sig .tc .vmem S96x16x128 .bf16} {arg11 : Memref sig .tc .vmem S96x16x128 .i8} {arg13 : Memref sig .tc .vmem S96x16x128 .i8} {arg15 : Memref sig .tc .vmem S96x16x128 .f32} {arg16 : Memref sig .tc .vmem S96x16x128 .f32} {arg17 : Memref sig .tc .vmem S96x16x128 .f32} {X21 X22 X23 : Vec F S96x16x128 .f32} {Z10 : Vec F S96x16x128 .bf16} {Z11 : Vec F S96x16x128 .i8} {Z13 : Vec F S96x16x128 .i8} {Z15 : Vec F S96x16x128 .f32} {Z16 : Vec F S96x16x128 .f32} {Z17 : Vec F S96x16x128 .f32} {a b d e g j : ℕ}

theorem L21 {β : Type} {Q : sProp 𝕄} {r : β} {R : Rect S96x16x128} {hl : arg21.view.LoadsAt R.toLoadRect} {k : (R.shape.Idx → Elt F .f32) → Prog (TpuEff nD τ sig (Elt F) Λ₀ .tc) β}
    (h : T c E (k (View.ld (Val := Elt F) X21 R)) (st c arg21 arg22 arg23 arg10 arg11 arg13 arg15 arg16 arg17 X21 X22 X23 Z10 Z11 Z13 Z15 Z16 Z17 a b d e g j) Q r) : T c E (Prog.lift (.load arg21 R.toLoadRect hl) >>= k) (st c arg21 arg22 arg23 arg10 arg11 arg13 arg15 arg16 arg17 X21 X22 X23 Z10 Z11 Z13 Z15 Z16 Z17 a b d e g j) Q r := by
  unfold st at *
  exact T.bind (T.left (T.load)) h

theorem L22 {β : Type} {Q : sProp 𝕄} {r : β} {R : Rect S96x16x128} {hl : arg22.view.LoadsAt R.toLoadRect} {k : (R.shape.Idx → Elt F .f32) → Prog (TpuEff nD τ sig (Elt F) Λ₀ .tc) β}
    (h : T c E (k (View.ld (Val := Elt F) X22 R)) (st c arg21 arg22 arg23 arg10 arg11 arg13 arg15 arg16 arg17 X21 X22 X23 Z10 Z11 Z13 Z15 Z16 Z17 a b d e g j) Q r) : T c E (Prog.lift (.load arg22 R.toLoadRect hl) >>= k) (st c arg21 arg22 arg23 arg10 arg11 arg13 arg15 arg16 arg17 X21 X22 X23 Z10 Z11 Z13 Z15 Z16 Z17 a b d e g j) Q r := by
  unfold st at *
  exact T.bind (T.right (T.left (T.load))) h

theorem L23 {β : Type} {Q : sProp 𝕄} {r : β} {R : Rect S96x16x128} {hl : arg23.view.LoadsAt R.toLoadRect} {k : (R.shape.Idx → Elt F .f32) → Prog (TpuEff nD τ sig (Elt F) Λ₀ .tc) β}
    (h : T c E (k (View.ld (Val := Elt F) X23 R)) (st c arg21 arg22 arg23 arg10 arg11 arg13 arg15 arg16 arg17 X21 X22 X23 Z10 Z11 Z13 Z15 Z16 Z17 a b d e g j) Q r) : T c E (Prog.lift (.load arg23 R.toLoadRect hl) >>= k) (st c arg21 arg22 arg23 arg10 arg11 arg13 arg15 arg16 arg17 X21 X22 X23 Z10 Z11 Z13 Z15 Z16 Z17 a b d e g j) Q r := by
  unfold st at *
  exact T.bind (T.right (T.right (T.left (T.load)))) h

theorem L10 {β : Type} {Q : sProp 𝕄} {r : β} {R : Rect S96x16x128} {hl : arg10.view.LoadsAt R.toLoadRect} {k : (R.shape.Idx → Elt F .bf16) → Prog (TpuEff nD τ sig (Elt F) Λ₀ .tc) β}
    (h : T c E (k (View.ld (Val := Elt F) (fill Z10 (s10 X21) a) R)) (st c arg21 arg22 arg23 arg10 arg11 arg13 arg15 arg16 arg17 X21 X22 X23 Z10 Z11 Z13 Z15 Z16 Z17 a b d e g j) Q r) : T c E (Prog.lift (.load arg10 R.toLoadRect hl) >>= k) (st c arg21 arg22 arg23 arg10 arg11 arg13 arg15 arg16 arg17 X21 X22 X23 Z10 Z11 Z13 Z15 Z16 Z17 a b d e g j) Q r := by
  unfold st at *
  exact T.bind (T.right (T.right (T.right (T.left (T.load))))) h

theorem S10 (m : ℕ) {β : Type} {Q : sProp 𝕄} {r : β} {off : Fin 3 → ℕ} {inb} {w : Vec F S1x16x128 .bf16} {hx hm} {k : PUnit → Prog (TpuEff nD τ sig (Elt F) Λ₀ .tc) β}
    (h : T c E (k ⟨⟩) (st c arg21 arg22 arg23 arg10 arg11 arg13 arg15 arg16 arg17 X21 X22 X23 Z10 Z11 Z13 Z15 Z16 Z17 m b d e g j) Q r) (hn : m = a + 1 := by rfl) (ho : off = ![a, 0, 0] := by rfl) (hw : w = s10 X21 a := by rfl) :
    T c E (Prog.lift (.store arg10 (Rect.unit (s := S96x16x128) off S1x16x128.size inb) w Finset.univ hx hm) >>= k) (st c arg21 arg22 arg23 arg10 arg11 arg13 arg15 arg16 arg17 X21 X22 X23 Z10 Z11 Z13 Z15 Z16 Z17 a b d e g j) Q r := by
  unfold st at *
  exact T.bind (T.right (T.right (T.right (T.left (T.store hn ho hw))))) h

theorem L11 {β : Type} {Q : sProp 𝕄} {r : β} {R : Rect S96x16x128} {hl : arg11.view.LoadsAt R.toLoadRect} {k : (R.shape.Idx → Elt F .i8) → Prog (TpuEff nD τ sig (Elt F) Λ₀ .tc) β}
    (h : T c E (k (View.ld (Val := Elt F) (fill Z11 (s11 X22) b) R)) (st c arg21 arg22 arg23 arg10 arg11 arg13 arg15 arg16 arg17 X21 X22 X23 Z10 Z11 Z13 Z15 Z16 Z17 a b d e g j) Q r) : T c E (Prog.lift (.load arg11 R.toLoadRect hl) >>= k) (st c arg21 arg22 arg23 arg10 arg11 arg13 arg15 arg16 arg17 X21 X22 X23 Z10 Z11 Z13 Z15 Z16 Z17 a b d e g j) Q r := by
  unfold st at *
  exact T.bind (T.right (T.right (T.right (T.right (T.left (T.load)))))) h

theorem S11 (m : ℕ) {β : Type} {Q : sProp 𝕄} {r : β} {off : Fin 3 → ℕ} {inb} {w : Vec F S1x16x128 .i8} {hx hm} {k : PUnit → Prog (TpuEff nD τ sig (Elt F) Λ₀ .tc) β}
    (h : T c E (k ⟨⟩) (st c arg21 arg22 arg23 arg10 arg11 arg13 arg15 arg16 arg17 X21 X22 X23 Z10 Z11 Z13 Z15 Z16 Z17 a m d e g j) Q r) (hn : m = b + 1 := by rfl) (ho : off = ![b, 0, 0] := by rfl) (hw : w = s11 X22 b := by rfl) :
    T c E (Prog.lift (.store arg11 (Rect.unit (s := S96x16x128) off S1x16x128.size inb) w Finset.univ hx hm) >>= k) (st c arg21 arg22 arg23 arg10 arg11 arg13 arg15 arg16 arg17 X21 X22 X23 Z10 Z11 Z13 Z15 Z16 Z17 a b d e g j) Q r := by
  unfold st at *
  exact T.bind (T.right (T.right (T.right (T.right (T.left (T.store hn ho hw)))))) h

theorem L13 {β : Type} {Q : sProp 𝕄} {r : β} {R : Rect S96x16x128} {hl : arg13.view.LoadsAt R.toLoadRect} {k : (R.shape.Idx → Elt F .i8) → Prog (TpuEff nD τ sig (Elt F) Λ₀ .tc) β}
    (h : T c E (k (View.ld (Val := Elt F) (fill Z13 (s13 X23) d) R)) (st c arg21 arg22 arg23 arg10 arg11 arg13 arg15 arg16 arg17 X21 X22 X23 Z10 Z11 Z13 Z15 Z16 Z17 a b d e g j) Q r) : T c E (Prog.lift (.load arg13 R.toLoadRect hl) >>= k) (st c arg21 arg22 arg23 arg10 arg11 arg13 arg15 arg16 arg17 X21 X22 X23 Z10 Z11 Z13 Z15 Z16 Z17 a b d e g j) Q r := by
  unfold st at *
  exact T.bind (T.right (T.right (T.right (T.right (T.right (T.left (T.load))))))) h

theorem S13 (m : ℕ) {β : Type} {Q : sProp 𝕄} {r : β} {off : Fin 3 → ℕ} {inb} {w : Vec F S1x16x128 .i8} {hx hm} {k : PUnit → Prog (TpuEff nD τ sig (Elt F) Λ₀ .tc) β}
    (h : T c E (k ⟨⟩) (st c arg21 arg22 arg23 arg10 arg11 arg13 arg15 arg16 arg17 X21 X22 X23 Z10 Z11 Z13 Z15 Z16 Z17 a b m e g j) Q r) (hn : m = d + 1 := by rfl) (ho : off = ![d, 0, 0] := by rfl) (hw : w = s13 X23 d := by rfl) :
    T c E (Prog.lift (.store arg13 (Rect.unit (s := S96x16x128) off S1x16x128.size inb) w Finset.univ hx hm) >>= k) (st c arg21 arg22 arg23 arg10 arg11 arg13 arg15 arg16 arg17 X21 X22 X23 Z10 Z11 Z13 Z15 Z16 Z17 a b d e g j) Q r := by
  unfold st at *
  exact T.bind (T.right (T.right (T.right (T.right (T.right (T.left (T.store hn ho hw))))))) h

theorem L15 {β : Type} {Q : sProp 𝕄} {r : β} {R : Rect S96x16x128} {hl : arg15.view.LoadsAt R.toLoadRect} {k : (R.shape.Idx → Elt F .f32) → Prog (TpuEff nD τ sig (Elt F) Λ₀ .tc) β}
    (h : T c E (k (View.ld (Val := Elt F) (fill Z15 (s15 X21 X22) e) R)) (st c arg21 arg22 arg23 arg10 arg11 arg13 arg15 arg16 arg17 X21 X22 X23 Z10 Z11 Z13 Z15 Z16 Z17 a b d e g j) Q r) : T c E (Prog.lift (.load arg15 R.toLoadRect hl) >>= k) (st c arg21 arg22 arg23 arg10 arg11 arg13 arg15 arg16 arg17 X21 X22 X23 Z10 Z11 Z13 Z15 Z16 Z17 a b d e g j) Q r := by
  unfold st at *
  exact T.bind (T.right (T.right (T.right (T.right (T.right (T.right (T.left (T.load)))))))) h

theorem S15 (m : ℕ) {β : Type} {Q : sProp 𝕄} {r : β} {off : Fin 3 → ℕ} {inb} {w : Vec F S1x16x128 .f32} {hx hm} {k : PUnit → Prog (TpuEff nD τ sig (Elt F) Λ₀ .tc) β}
    (h : T c E (k ⟨⟩) (st c arg21 arg22 arg23 arg10 arg11 arg13 arg15 arg16 arg17 X21 X22 X23 Z10 Z11 Z13 Z15 Z16 Z17 a b d m g j) Q r) (hn : m = e + 1 := by rfl) (ho : off = ![e, 0, 0] := by rfl) (hw : w = s15 X21 X22 e := by rfl) :
    T c E (Prog.lift (.store arg15 (Rect.unit (s := S96x16x128) off S1x16x128.size inb) w Finset.univ hx hm) >>= k) (st c arg21 arg22 arg23 arg10 arg11 arg13 arg15 arg16 arg17 X21 X22 X23 Z10 Z11 Z13 Z15 Z16 Z17 a b d e g j) Q r := by
  unfold st at *
  exact T.bind (T.right (T.right (T.right (T.right (T.right (T.right (T.left (T.store hn ho hw)))))))) h

theorem L16 {β : Type} {Q : sProp 𝕄} {r : β} {R : Rect S96x16x128} {hl : arg16.view.LoadsAt R.toLoadRect} {k : (R.shape.Idx → Elt F .f32) → Prog (TpuEff nD τ sig (Elt F) Λ₀ .tc) β}
    (h : T c E (k (View.ld (Val := Elt F) (fill Z16 (s16 X21 X22) g) R)) (st c arg21 arg22 arg23 arg10 arg11 arg13 arg15 arg16 arg17 X21 X22 X23 Z10 Z11 Z13 Z15 Z16 Z17 a b d e g j) Q r) : T c E (Prog.lift (.load arg16 R.toLoadRect hl) >>= k) (st c arg21 arg22 arg23 arg10 arg11 arg13 arg15 arg16 arg17 X21 X22 X23 Z10 Z11 Z13 Z15 Z16 Z17 a b d e g j) Q r := by
  unfold st at *
  exact T.bind (T.right (T.right (T.right (T.right (T.right (T.right (T.right (T.left (T.load))))))))) h

theorem S16 (m : ℕ) {β : Type} {Q : sProp 𝕄} {r : β} {off : Fin 3 → ℕ} {inb} {w : Vec F S1x16x128 .f32} {hx hm} {k : PUnit → Prog (TpuEff nD τ sig (Elt F) Λ₀ .tc) β}
    (h : T c E (k ⟨⟩) (st c arg21 arg22 arg23 arg10 arg11 arg13 arg15 arg16 arg17 X21 X22 X23 Z10 Z11 Z13 Z15 Z16 Z17 a b d e m j) Q r) (hn : m = g + 1 := by rfl) (ho : off = ![g, 0, 0] := by rfl) (hw : w = s16 X21 X22 g := by rfl) :
    T c E (Prog.lift (.store arg16 (Rect.unit (s := S96x16x128) off S1x16x128.size inb) w Finset.univ hx hm) >>= k) (st c arg21 arg22 arg23 arg10 arg11 arg13 arg15 arg16 arg17 X21 X22 X23 Z10 Z11 Z13 Z15 Z16 Z17 a b d e g j) Q r := by
  unfold st at *
  exact T.bind (T.right (T.right (T.right (T.right (T.right (T.right (T.right (T.left (T.store hn ho hw))))))))) h

theorem L17 {β : Type} {Q : sProp 𝕄} {r : β} {R : Rect S96x16x128} {hl : arg17.view.LoadsAt R.toLoadRect} {k : (R.shape.Idx → Elt F .f32) → Prog (TpuEff nD τ sig (Elt F) Λ₀ .tc) β}
    (h : T c E (k (View.ld (Val := Elt F) (fill Z17 (s17 X21 X22 X23) j) R)) (st c arg21 arg22 arg23 arg10 arg11 arg13 arg15 arg16 arg17 X21 X22 X23 Z10 Z11 Z13 Z15 Z16 Z17 a b d e g j) Q r) : T c E (Prog.lift (.load arg17 R.toLoadRect hl) >>= k) (st c arg21 arg22 arg23 arg10 arg11 arg13 arg15 arg16 arg17 X21 X22 X23 Z10 Z11 Z13 Z15 Z16 Z17 a b d e g j) Q r := by
  unfold st at *
  exact T.bind (T.right (T.right (T.right (T.right (T.right (T.right (T.right (T.right (T.load))))))))) h

theorem S17 (m : ℕ) {β : Type} {Q : sProp 𝕄} {r : β} {off : Fin 3 → ℕ} {inb} {w : Vec F S1x16x128 .f32} {hx hm} {k : PUnit → Prog (TpuEff nD τ sig (Elt F) Λ₀ .tc) β}
    (h : T c E (k ⟨⟩) (st c arg21 arg22 arg23 arg10 arg11 arg13 arg15 arg16 arg17 X21 X22 X23 Z10 Z11 Z13 Z15 Z16 Z17 a b d e g m) Q r) (hn : m = j + 1 := by rfl) (ho : off = ![j, 0, 0] := by rfl) (hw : w = s17 X21 X22 X23 j := by rfl) :
    T c E (Prog.lift (.store arg17 (Rect.unit (s := S96x16x128) off S1x16x128.size inb) w Finset.univ hx hm) >>= k) (st c arg21 arg22 arg23 arg10 arg11 arg13 arg15 arg16 arg17 X21 X22 X23 Z10 Z11 Z13 Z15 Z16 Z17 a b d e g j) Q r := by
  unfold st at *
  exact T.bind (T.right (T.right (T.right (T.right (T.right (T.right (T.right (T.right (T.store hn ho hw))))))))) h

end Cert.Proof.QkvKernelIdealRun
-- ==== Proof.Qkv.QkvKernelIdealRows235.lean ====
module

public import proofs.«01_k».proof.Proof.Qkv.QkvKernelIdealBase

@[expose] public section

set_option maxRecDepth 16384

noncomputable section

namespace Cert.Proof.QkvKernelIdealRun

open Cert.QkvKernelIdeal Cert.QkvKernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

theorem rows235 (c : Dev nD) (E : Set ℕ) (i : grid0.Coords) (arg1 : Memref sig .tc .vmem S96x4096 .bf16) (harg1 : arg1.IsWhole) (arg2 : Memref sig .tc .vmem S1x4096 .f32) (harg2 : arg2.IsWhole) (arg3 : Memref sig .tc .vmem S1x4096 .f32) (harg3 : arg3.IsWhole) (arg4 : Memref sig .tc .vmem S4048x768 .i8) (harg4 : arg4.IsWhole) (arg5 : Memref sig .tc .vmem S1x768 .f32) (harg5 : arg5.IsWhole) (arg6 : Memref sig .tc .vmem S48x768 .bf16) (harg6 : arg6.IsWhole) (arg7 : Memref sig .tc .vmem S1x768 .f32) (harg7 : arg7.IsWhole) (arg8 : Memref sig .tc .vmem S96x4048 .i8) (harg8 : arg8.IsWhole) (arg9 : Memref sig .tc .vmem S1x96 .f32) (harg9 : arg9.IsWhole) (arg10 : Memref sig .tc .vmem S96x16x128 .bf16) (harg10 : arg10.IsWhole) (arg11 : Memref sig .tc .vmem S96x16x128 .i8) (harg11 : arg11.IsWhole) (arg12 : Memref sig .tc .vmem S16x96 .f32) (harg12 : arg12.IsWhole) (arg13 : Memref sig .tc .vmem S96x16x128 .i8) (harg13 : arg13.IsWhole) (arg14 : Memref sig .tc .vmem S16x96 .f32) (harg14 : arg14.IsWhole) (arg15 : Memref sig .tc .vmem S96x16x128 .f32) (harg15 : arg15.IsWhole) (arg16 : Memref sig .tc .vmem S96x16x128 .f32) (harg16 : arg16.IsWhole) (arg17 : Memref sig .tc .vmem S96x16x128 .f32) (harg17 : arg17.IsWhole) (arg18 : Memref sig .tc .vmem S96x4096 .bf16) (harg18 : arg18.IsWhole) (arg19 : Memref sig .tc .vmem S96x48 .bf16) (harg19 : arg19.IsWhole) (arg20 : Memref sig .tc .vmem S96x128 .f32) (harg20 : arg20.IsWhole) (arg21 : Memref sig .tc .vmem S96x16x128 .f32) (harg21 : arg21.IsWhole) (arg22 : Memref sig .tc .vmem S96x16x128 .f32) (harg22 : arg22.IsWhole) (arg23 : Memref sig .tc .vmem S96x16x128 .f32) (harg23 : arg23.IsWhole) (X21 X22 X23 : Vec F S96x16x128 .f32) (Z10 : Vec F S96x16x128 .bf16) (Z11 : Vec F S96x16x128 .i8) (Z13 : Vec F S96x16x128 .i8) (Z15 : Vec F S96x16x128 .f32) (Z16 : Vec F S96x16x128 .f32) (Z17 : Vec F S96x16x128 .f32) :
    T c E (k0_part235 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 ) (st c arg21 arg22 arg23 arg10 arg11 arg13 arg15 arg16 arg17 X21 X22 X23 Z10 Z11 Z13 Z15 Z16 Z17 0 0 0 0 0 0) (st c arg21 arg22 arg23 arg10 arg11 arg13 arg15 arg16 arg17 X21 X22 X23 Z10 Z11 Z13 Z15 Z16 Z17 24 24 24 24 24 24) ⟨lane, kRound X22 24, vScale X23 24, vRound X23 24, scales (kScale X22) 25, scales (vScale X23) 25, peak0 X21 X22 24, wt X21 X22 24, s10 X21 24⟩ := by
  rw [k0_part235_eq_skeleton]; unfold k0_part235_skel
  refine T.bind (by rw [k0_part2_eq_skeleton]; unfold k0_part2_skel; exact (L21 (L22 (L23 T.pure)))) ?_
  refine T.bind (by rw [k0_part3_eq_skeleton]; unfold k0_part3_skel; exact (L10 (S10 1 (L11 (S11 1 (L13 (S13 1 (L15 T.pure)))))))) ?_
  refine T.bind (by rw [k0_part4_eq_skeleton]; unfold k0_part4_skel; exact (S15 1 (L16 (S16 1 (L17 (S17 1 (L21 (L22 T.pure)))))))) ?_
  refine T.bind (by rw [k0_part5_eq_skeleton]; unfold k0_part5_skel; exact (L23 (L10 T.pure))) ?_
  refine T.bind (by rw [k0_part6_eq_skeleton]; unfold k0_part6_skel; exact (S10 2 (L11 (S11 2 (L13 (S13 2 (L15 (S15 2 (L16 (S16 2 (L17 (S17 2 (L21 T.pure))))))))))))) ?_
  refine T.bind (by rw [k0_part7_eq_skeleton]; unfold k0_part7_skel; exact (L22 (L23 T.pure))) ?_
  refine T.bind (by rw [k0_part8_eq_skeleton]; unfold k0_part8_skel; exact (L10 (S10 3 (L11 (S11 3 (L13 (S13 3 (L15 (S15 3 T.pure))))))))) ?_
  refine T.bind (by rw [k0_part9_eq_skeleton]; unfold k0_part9_skel; exact (L16 (S16 3 (L17 (S17 3 (L21 (L22 (L23 T.pure)))))))) ?_
  refine T.bind (by rw [k0_part10_eq_skeleton]; unfold k0_part10_skel; exact (L10 (S10 4 (L11 T.pure)))) ?_
  refine T.bind (by rw [k0_part11_eq_skeleton]; unfold k0_part11_skel; exact (S11 4 (L13 (S13 4 (L15 (S15 4 (L16 (S16 4 (L17 (S17 4 (L21 (L22 T.pure)))))))))))) ?_
  refine T.bind (by rw [k0_part12_eq_skeleton]; unfold k0_part12_skel; exact (L23 T.pure)) ?_
  refine T.bind (by rw [k0_part13_eq_skeleton]; unfold k0_part13_skel; exact (L10 (S10 5 (L11 (S11 5 (L13 (S13 5 (L15 (S15 5 (L16 T.pure)))))))))) ?_
  refine T.bind (by rw [k0_part14_eq_skeleton]; unfold k0_part14_skel; exact (S16 5 (L17 (S17 5 (L21 (L22 (L23 T.pure))))))) ?_
  refine T.bind (by rw [k0_part15_eq_skeleton]; unfold k0_part15_skel; exact (L10 (S10 6 (L11 (S11 6 (L13 T.pure)))))) ?_
  refine T.bind (by rw [k0_part16_eq_skeleton]; unfold k0_part16_skel; exact (S13 6 (L15 (S15 6 (L16 (S16 6 (L17 (S17 6 (L21 (L22 T.pure)))))))))) ?_
  refine T.bind (by rw [k0_part17_eq_skeleton]; unfold k0_part17_skel; exact (L23 T.pure)) ?_
  refine T.bind (by rw [k0_part18_eq_skeleton]; unfold k0_part18_skel; exact (L10 (S10 7 (L11 (S11 7 (L13 (S13 7 (L15 (S15 7 (L16 (S16 7 T.pure))))))))))) ?_
  refine T.bind (by rw [k0_part19_eq_skeleton]; unfold k0_part19_skel; exact (L17 (S17 7 (L21 (L22 (L23 T.pure)))))) ?_
  refine T.bind (by rw [k0_part20_eq_skeleton]; unfold k0_part20_skel; exact (L10 (S10 8 (L11 (S11 8 (L13 (S13 8 T.pure))))))) ?_
  refine T.bind (by rw [k0_part21_eq_skeleton]; unfold k0_part21_skel; exact (L15 (S15 8 (L16 (S16 8 (L17 (S17 8 (L21 (L22 T.pure))))))))) ?_
  refine T.bind (by rw [k0_part22_eq_skeleton]; unfold k0_part22_skel; exact (L23 T.pure)) ?_
  refine T.bind (by rw [k0_part23_eq_skeleton]; unfold k0_part23_skel; exact (L10 (S10 9 (L11 (S11 9 (L13 (S13 9 (L15 (S15 9 (L16 (S16 9 (L17 (S17 9 T.pure))))))))))))) ?_
  refine T.bind (by rw [k0_part24_eq_skeleton]; unfold k0_part24_skel; exact (L21 (L22 (L23 T.pure)))) ?_
  refine T.bind (by rw [k0_part25_eq_skeleton]; unfold k0_part25_skel; exact (L10 (S10 10 (L11 (S11 10 (L13 (S13 10 (L15 (S15 10 T.pure))))))))) ?_
  refine T.bind (by rw [k0_part26_eq_skeleton]; unfold k0_part26_skel; exact (L16 (S16 10 (L17 (S17 10 (L21 (L22 (L23 T.pure)))))))) ?_
  refine T.bind (by rw [k0_part27_eq_skeleton]; unfold k0_part27_skel; exact (L10 (S10 11 T.pure))) ?_
  refine T.bind (by rw [k0_part28_eq_skeleton]; unfold k0_part28_skel; exact (L11 (S11 11 (L13 (S13 11 (L15 (S15 11 (L16 (S16 11 (L17 (S17 11 (L21 (L22 T.pure))))))))))))) ?_
  refine T.bind (by rw [k0_part29_eq_skeleton]; unfold k0_part29_skel; exact (L23 T.pure)) ?_
  refine T.bind (by rw [k0_part30_eq_skeleton]; unfold k0_part30_skel; exact (L10 (S10 12 (L11 (S11 12 (L13 (S13 12 (L15 (S15 12 (L16 T.pure)))))))))) ?_
  refine T.bind (by rw [k0_part31_eq_skeleton]; unfold k0_part31_skel; exact (S16 12 (L17 (S17 12 (L21 (L22 (L23 T.pure))))))) ?_
  refine T.bind (by rw [k0_part32_eq_skeleton]; unfold k0_part32_skel; exact (L10 (S10 13 (L11 (S11 13 T.pure))))) ?_
  refine T.bind (by rw [k0_part33_eq_skeleton]; unfold k0_part33_skel; exact (L13 (S13 13 (L15 (S15 13 (L16 (S16 13 (L17 (S17 13 (L21 (L22 T.pure))))))))))) ?_
  refine T.bind (by rw [k0_part34_eq_skeleton]; unfold k0_part34_skel; exact (L23 T.pure)) ?_
  refine T.bind (by rw [k0_part35_eq_skeleton]; unfold k0_part35_skel; exact (L10 (S10 14 (L11 (S11 14 (L13 (S13 14 (L15 (S15 14 (L16 (S16 14 T.pure))))))))))) ?_
  refine T.bind (by rw [k0_part36_eq_skeleton]; unfold k0_part36_skel; exact (L17 (S17 14 (L21 (L22 (L23 T.pure)))))) ?_
  refine T.bind (by rw [k0_part37_eq_skeleton]; unfold k0_part37_skel; exact (L10 (S10 15 (L11 (S11 15 (L13 (S13 15 T.pure))))))) ?_
  refine T.bind (by rw [k0_part38_eq_skeleton]; unfold k0_part38_skel; exact (L15 (S15 15 (L16 (S16 15 (L17 (S17 15 (L21 (L22 T.pure))))))))) ?_
  refine T.bind (by rw [k0_part39_eq_skeleton]; unfold k0_part39_skel; exact (L23 T.pure)) ?_
  refine T.bind (by rw [k0_part40_eq_skeleton]; unfold k0_part40_skel; exact (L10 (S10 16 (L11 (S11 16 (L13 (S13 16 (L15 (S15 16 (L16 (S16 16 (L17 (S17 16 T.pure))))))))))))) ?_
  refine T.bind (by rw [k0_part41_eq_skeleton]; unfold k0_part41_skel; exact (L21 (L22 (L23 T.pure)))) ?_
  refine T.bind (by rw [k0_part42_eq_skeleton]; unfold k0_part42_skel; exact (L10 (S10 17 (L11 (S11 17 (L13 (S13 17 (L15 (S15 17 T.pure))))))))) ?_
  refine T.bind (by rw [k0_part43_eq_skeleton]; unfold k0_part43_skel; exact (L16 (S16 17 (L17 (S17 17 (L21 (L22 T.pure))))))) ?_
  refine T.bind (by rw [k0_part44_eq_skeleton]; unfold k0_part44_skel; exact (L23 (L10 (S10 18 T.pure)))) ?_
  refine T.bind (by rw [k0_part45_eq_skeleton]; unfold k0_part45_skel; exact (L11 (S11 18 (L13 (S13 18 (L15 (S15 18 (L16 (S16 18 (L17 (S17 18 (L21 T.pure)))))))))))) ?_
  refine T.bind (by rw [k0_part46_eq_skeleton]; unfold k0_part46_skel; exact (L22 (L23 T.pure))) ?_
  refine T.bind (by rw [k0_part47_eq_skeleton]; unfold k0_part47_skel; exact (L10 (S10 19 (L11 (S11 19 (L13 (S13 19 (L15 (S15 19 T.pure))))))))) ?_
  refine T.bind (by rw [k0_part48_eq_skeleton]; unfold k0_part48_skel; exact (L16 (S16 19 (L17 (S17 19 (L21 (L22 (L23 T.pure)))))))) ?_
  refine T.bind (by rw [k0_part49_eq_skeleton]; unfold k0_part49_skel; exact (L10 (S10 20 (L11 (S11 20 T.pure))))) ?_
  refine T.bind (by rw [k0_part50_eq_skeleton]; unfold k0_part50_skel; exact (L13 (S13 20 (L15 (S15 20 (L16 (S16 20 (L17 (S17 20 (L21 (L22 T.pure))))))))))) ?_
  refine T.bind (by rw [k0_part51_eq_skeleton]; unfold k0_part51_skel; exact (L23 T.pure)) ?_
  refine T.bind (by rw [k0_part52_eq_skeleton]; unfold k0_part52_skel; exact (L10 (S10 21 (L11 (S11 21 (L13 (S13 21 (L15 (S15 21 (L16 (S16 21 T.pure))))))))))) ?_
  refine T.bind (by rw [k0_part53_eq_skeleton]; unfold k0_part53_skel; exact (L17 (S17 21 (L21 (L22 (L23 T.pure)))))) ?_
  refine T.bind (by rw [k0_part54_eq_skeleton]; unfold k0_part54_skel; exact (L10 (S10 22 (L11 (S11 22 (L13 (S13 22 T.pure))))))) ?_
  refine T.bind (by rw [k0_part55_eq_skeleton]; unfold k0_part55_skel; exact (L15 (S15 22 (L16 (S16 22 (L17 (S17 22 (L21 (L22 T.pure))))))))) ?_
  refine T.bind (by rw [k0_part56_eq_skeleton]; unfold k0_part56_skel; exact (L23 T.pure)) ?_
  refine T.bind (by rw [k0_part57_eq_skeleton]; unfold k0_part57_skel; exact (L10 (S10 23 (L11 (S11 23 (L13 (S13 23 (L15 (S15 23 (L16 (S16 23 (L17 T.pure)))))))))))) ?_
  refine T.bind (by rw [k0_part58_eq_skeleton]; unfold k0_part58_skel; exact (S17 23 (L21 (L22 (L23 T.pure))))) ?_
  refine T.bind (by rw [k0_part59_eq_skeleton]; unfold k0_part59_skel; exact (L10 (S10 24 (L11 (S11 24 (L13 (S13 24 (L15 (S15 24 T.pure))))))))) ?_
  refine T.bind (by rw [k0_part60_eq_skeleton]; unfold k0_part60_skel; exact (L16 (S16 24 (L17 (S17 24 (L21 (L22 T.pure))))))) ?_
  refine T.bind (by rw [k0_part61_eq_skeleton]; unfold k0_part61_skel; exact (L23 (L10 T.pure))) ?_
  exact T.pure

end Cert.Proof.QkvKernelIdealRun
-- ==== Proof.Qkv.QkvKernelIdealRows236.lean ====
module

public import proofs.«01_k».proof.Proof.Qkv.QkvKernelIdealBase

@[expose] public section

set_option maxRecDepth 16384

noncomputable section

namespace Cert.Proof.QkvKernelIdealRun

open Cert.QkvKernelIdeal Cert.QkvKernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

theorem rows236 (c : Dev nD) (E : Set ℕ) (i : grid0.Coords) (arg1 : Memref sig .tc .vmem S96x4096 .bf16) (harg1 : arg1.IsWhole) (arg2 : Memref sig .tc .vmem S1x4096 .f32) (harg2 : arg2.IsWhole) (arg3 : Memref sig .tc .vmem S1x4096 .f32) (harg3 : arg3.IsWhole) (arg4 : Memref sig .tc .vmem S4048x768 .i8) (harg4 : arg4.IsWhole) (arg5 : Memref sig .tc .vmem S1x768 .f32) (harg5 : arg5.IsWhole) (arg6 : Memref sig .tc .vmem S48x768 .bf16) (harg6 : arg6.IsWhole) (arg7 : Memref sig .tc .vmem S1x768 .f32) (harg7 : arg7.IsWhole) (arg8 : Memref sig .tc .vmem S96x4048 .i8) (harg8 : arg8.IsWhole) (arg9 : Memref sig .tc .vmem S1x96 .f32) (harg9 : arg9.IsWhole) (arg10 : Memref sig .tc .vmem S96x16x128 .bf16) (harg10 : arg10.IsWhole) (arg11 : Memref sig .tc .vmem S96x16x128 .i8) (harg11 : arg11.IsWhole) (arg12 : Memref sig .tc .vmem S16x96 .f32) (harg12 : arg12.IsWhole) (arg13 : Memref sig .tc .vmem S96x16x128 .i8) (harg13 : arg13.IsWhole) (arg14 : Memref sig .tc .vmem S16x96 .f32) (harg14 : arg14.IsWhole) (arg15 : Memref sig .tc .vmem S96x16x128 .f32) (harg15 : arg15.IsWhole) (arg16 : Memref sig .tc .vmem S96x16x128 .f32) (harg16 : arg16.IsWhole) (arg17 : Memref sig .tc .vmem S96x16x128 .f32) (harg17 : arg17.IsWhole) (arg18 : Memref sig .tc .vmem S96x4096 .bf16) (harg18 : arg18.IsWhole) (arg19 : Memref sig .tc .vmem S96x48 .bf16) (harg19 : arg19.IsWhole) (arg20 : Memref sig .tc .vmem S96x128 .f32) (harg20 : arg20.IsWhole) (arg21 : Memref sig .tc .vmem S96x16x128 .f32) (harg21 : arg21.IsWhole) (arg22 : Memref sig .tc .vmem S96x16x128 .f32) (harg22 : arg22.IsWhole) (arg23 : Memref sig .tc .vmem S96x16x128 .f32) (harg23 : arg23.IsWhole) (X21 X22 X23 : Vec F S96x16x128 .f32) (Z10 : Vec F S96x16x128 .bf16) (Z11 : Vec F S96x16x128 .i8) (Z13 : Vec F S96x16x128 .i8) (Z15 : Vec F S96x16x128 .f32) (Z16 : Vec F S96x16x128 .f32) (Z17 : Vec F S96x16x128 .f32) :
    T c E (k0_part236 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 lane (kRound X22 24) (vScale X23 24) (vRound X23 24) (scales (kScale X22) 25) (scales (vScale X23) 25) (peak0 X21 X22 24) (wt X21 X22 24) (s10 X21 24)) (st c arg21 arg22 arg23 arg10 arg11 arg13 arg15 arg16 arg17 X21 X22 X23 Z10 Z11 Z13 Z15 Z16 Z17 24 24 24 24 24 24) (st c arg21 arg22 arg23 arg10 arg11 arg13 arg15 arg16 arg17 X21 X22 X23 Z10 Z11 Z13 Z15 Z16 Z17 49 49 49 49 49 49) ⟨scales (kScale X22) 49, scales (vScale X23) 49, qHalf X21 49, kScale X22 49, kRound X22 49, k0_pay21 (row X23 49), vMax X23 49, Scalar.ofBits .f32 0x00000000#32⟩ := by
  rw [k0_part236_eq_skeleton]; unfold k0_part236_skel
  refine T.bind (by rw [k0_part62_eq_skeleton]; unfold k0_part62_skel; exact (S10 25 (L11 (S11 25 (L13 (S13 25 (L15 (S15 25 (L16 (S16 25 (L17 (S17 25 (L21 T.pure))))))))))))) ?_
  refine T.bind (by rw [k0_part63_eq_skeleton]; unfold k0_part63_skel; exact (L22 (L23 T.pure))) ?_
  refine T.bind (by rw [k0_part64_eq_skeleton]; unfold k0_part64_skel; exact (L10 (S10 26 (L11 (S11 26 (L13 (S13 26 (L15 (S15 26 T.pure))))))))) ?_
  refine T.bind (by rw [k0_part65_eq_skeleton]; unfold k0_part65_skel; exact (L16 (S16 26 (L17 (S17 26 (L21 (L22 (L23 T.pure)))))))) ?_
  refine T.bind (by rw [k0_part66_eq_skeleton]; unfold k0_part66_skel; exact (L10 (S10 27 (L11 T.pure)))) ?_
  refine T.bind (by rw [k0_part67_eq_skeleton]; unfold k0_part67_skel; exact (S11 27 (L13 (S13 27 (L15 (S15 27 (L16 (S16 27 (L17 (S17 27 (L21 (L22 T.pure)))))))))))) ?_
  refine T.bind (by rw [k0_part68_eq_skeleton]; unfold k0_part68_skel; exact (L23 T.pure)) ?_
  refine T.bind (by rw [k0_part69_eq_skeleton]; unfold k0_part69_skel; exact (L10 (S10 28 (L11 (S11 28 (L13 (S13 28 (L15 (S15 28 (L16 (S16 28 T.pure))))))))))) ?_
  refine T.bind (by rw [k0_part70_eq_skeleton]; unfold k0_part70_skel; exact (L17 (S17 28 (L21 (L22 (L23 T.pure)))))) ?_
  refine T.bind (by rw [k0_part71_eq_skeleton]; unfold k0_part71_skel; exact (L10 (S10 29 (L11 (S11 29 (L13 T.pure)))))) ?_
  refine T.bind (by rw [k0_part72_eq_skeleton]; unfold k0_part72_skel; exact (S13 29 (L15 (S15 29 (L16 (S16 29 (L17 (S17 29 (L21 (L22 T.pure)))))))))) ?_
  refine T.bind (by rw [k0_part73_eq_skeleton]; unfold k0_part73_skel; exact (L23 T.pure)) ?_
  refine T.bind (by rw [k0_part74_eq_skeleton]; unfold k0_part74_skel; exact (L10 (S10 30 (L11 (S11 30 (L13 (S13 30 (L15 (S15 30 (L16 (S16 30 (L17 T.pure)))))))))))) ?_
  refine T.bind (by rw [k0_part75_eq_skeleton]; unfold k0_part75_skel; exact (S17 30 (L21 (L22 (L23 T.pure))))) ?_
  refine T.bind (by rw [k0_part76_eq_skeleton]; unfold k0_part76_skel; exact (L10 (S10 31 (L11 (S11 31 (L13 (S13 31 (L15 T.pure)))))))) ?_
  refine T.bind (by rw [k0_part77_eq_skeleton]; unfold k0_part77_skel; exact (S15 31 (L16 (S16 31 (L17 (S17 31 (L21 (L22 T.pure)))))))) ?_
  refine T.bind (by rw [k0_part78_eq_skeleton]; unfold k0_part78_skel; exact (L23 (L10 T.pure))) ?_
  refine T.bind (by rw [k0_part79_eq_skeleton]; unfold k0_part79_skel; exact (S10 32 (L11 (S11 32 (L13 (S13 32 (L15 (S15 32 (L16 (S16 32 (L17 (S17 32 (L21 T.pure))))))))))))) ?_
  refine T.bind (by rw [k0_part80_eq_skeleton]; unfold k0_part80_skel; exact (L22 (L23 T.pure))) ?_
  refine T.bind (by rw [k0_part81_eq_skeleton]; unfold k0_part81_skel; exact (L10 (S10 33 (L11 (S11 33 (L13 (S13 33 (L15 (S15 33 T.pure))))))))) ?_
  refine T.bind (by rw [k0_part82_eq_skeleton]; unfold k0_part82_skel; exact (L16 (S16 33 (L17 (S17 33 (L21 (L22 (L23 T.pure)))))))) ?_
  refine T.bind (by rw [k0_part83_eq_skeleton]; unfold k0_part83_skel; exact (L10 (S10 34 (L11 T.pure)))) ?_
  refine T.bind (by rw [k0_part84_eq_skeleton]; unfold k0_part84_skel; exact (S11 34 (L13 (S13 34 (L15 (S15 34 (L16 (S16 34 (L17 (S17 34 (L21 (L22 T.pure)))))))))))) ?_
  refine T.bind (by rw [k0_part85_eq_skeleton]; unfold k0_part85_skel; exact (L23 T.pure)) ?_
  refine T.bind (by rw [k0_part86_eq_skeleton]; unfold k0_part86_skel; exact (L10 (S10 35 (L11 (S11 35 (L13 (S13 35 (L15 (S15 35 (L16 T.pure)))))))))) ?_
  refine T.bind (by rw [k0_part87_eq_skeleton]; unfold k0_part87_skel; exact (S16 35 (L17 (S17 35 (L21 (L22 (L23 T.pure))))))) ?_
  refine T.bind (by rw [k0_part88_eq_skeleton]; unfold k0_part88_skel; exact (L10 (S10 36 (L11 (S11 36 (L13 T.pure)))))) ?_
  refine T.bind (by rw [k0_part89_eq_skeleton]; unfold k0_part89_skel; exact (S13 36 (L15 (S15 36 (L16 (S16 36 (L17 (S17 36 (L21 (L22 T.pure)))))))))) ?_
  refine T.bind (by rw [k0_part90_eq_skeleton]; unfold k0_part90_skel; exact (L23 T.pure)) ?_
  refine T.bind (by rw [k0_part91_eq_skeleton]; unfold k0_part91_skel; exact (L10 (S10 37 (L11 (S11 37 (L13 (S13 37 (L15 (S15 37 (L16 (S16 37 T.pure))))))))))) ?_
  refine T.bind (by rw [k0_part92_eq_skeleton]; unfold k0_part92_skel; exact (L17 (S17 37 (L21 (L22 (L23 T.pure)))))) ?_
  refine T.bind (by rw [k0_part93_eq_skeleton]; unfold k0_part93_skel; exact (L10 (S10 38 (L11 (S11 38 (L13 (S13 38 T.pure))))))) ?_
  refine T.bind (by rw [k0_part94_eq_skeleton]; unfold k0_part94_skel; exact (L15 (S15 38 (L16 (S16 38 (L17 (S17 38 (L21 (L22 T.pure))))))))) ?_
  refine T.bind (by rw [k0_part95_eq_skeleton]; unfold k0_part95_skel; exact (L23 T.pure)) ?_
  refine T.bind (by rw [k0_part96_eq_skeleton]; unfold k0_part96_skel; exact (L10 (S10 39 (L11 (S11 39 (L13 (S13 39 (L15 (S15 39 (L16 (S16 39 (L17 (S17 39 T.pure))))))))))))) ?_
  refine T.bind (by rw [k0_part97_eq_skeleton]; unfold k0_part97_skel; exact (L21 (L22 (L23 T.pure)))) ?_
  refine T.bind (by rw [k0_part98_eq_skeleton]; unfold k0_part98_skel; exact (L10 (S10 40 (L11 (S11 40 (L13 (S13 40 (L15 (S15 40 T.pure))))))))) ?_
  refine T.bind (by rw [k0_part99_eq_skeleton]; unfold k0_part99_skel; exact (L16 (S16 40 (L17 (S17 40 (L21 (L22 (L23 T.pure)))))))) ?_
  refine T.bind (by rw [k0_part100_eq_skeleton]; unfold k0_part100_skel; exact (L10 (S10 41 T.pure))) ?_
  refine T.bind (by rw [k0_part101_eq_skeleton]; unfold k0_part101_skel; exact (L11 (S11 41 (L13 (S13 41 (L15 (S15 41 (L16 (S16 41 (L17 (S17 41 (L21 (L22 T.pure))))))))))))) ?_
  refine T.bind (by rw [k0_part102_eq_skeleton]; unfold k0_part102_skel; exact (L23 T.pure)) ?_
  refine T.bind (by rw [k0_part103_eq_skeleton]; unfold k0_part103_skel; exact (L10 (S10 42 (L11 (S11 42 (L13 (S13 42 (L15 (S15 42 (L16 T.pure)))))))))) ?_
  refine T.bind (by rw [k0_part104_eq_skeleton]; unfold k0_part104_skel; exact (S16 42 (L17 (S17 42 (L21 (L22 (L23 T.pure))))))) ?_
  refine T.bind (by rw [k0_part105_eq_skeleton]; unfold k0_part105_skel; exact (L10 (S10 43 (L11 (S11 43 T.pure))))) ?_
  refine T.bind (by rw [k0_part106_eq_skeleton]; unfold k0_part106_skel; exact (L13 (S13 43 (L15 (S15 43 (L16 (S16 43 (L17 (S17 43 (L21 (L22 T.pure))))))))))) ?_
  refine T.bind (by rw [k0_part107_eq_skeleton]; unfold k0_part107_skel; exact (L23 T.pure)) ?_
  refine T.bind (by rw [k0_part108_eq_skeleton]; unfold k0_part108_skel; exact (L10 (S10 44 (L11 (S11 44 (L13 (S13 44 (L15 (S15 44 (L16 (S16 44 T.pure))))))))))) ?_
  refine T.bind (by rw [k0_part109_eq_skeleton]; unfold k0_part109_skel; exact (L17 (S17 44 (L21 (L22 (L23 T.pure)))))) ?_
  refine T.bind (by rw [k0_part110_eq_skeleton]; unfold k0_part110_skel; exact (L10 (S10 45 (L11 (S11 45 (L13 (S13 45 T.pure))))))) ?_
  refine T.bind (by rw [k0_part111_eq_skeleton]; unfold k0_part111_skel; exact (L15 (S15 45 (L16 (S16 45 (L17 (S17 45 (L21 (L22 T.pure))))))))) ?_
  refine T.bind (by rw [k0_part112_eq_skeleton]; unfold k0_part112_skel; exact (L23 T.pure)) ?_
  refine T.bind (by rw [k0_part113_eq_skeleton]; unfold k0_part113_skel; exact (L10 (S10 46 (L11 (S11 46 (L13 (S13 46 (L15 (S15 46 (L16 (S16 46 (L17 (S17 46 T.pure))))))))))))) ?_
  refine T.bind (by rw [k0_part114_eq_skeleton]; unfold k0_part114_skel; exact (L21 (L22 (L23 T.pure)))) ?_
  refine T.bind (by rw [k0_part115_eq_skeleton]; unfold k0_part115_skel; exact (L10 (S10 47 (L11 (S11 47 (L13 (S13 47 (L15 (S15 47 T.pure))))))))) ?_
  refine T.bind (by rw [k0_part116_eq_skeleton]; unfold k0_part116_skel; exact (L16 (S16 47 (L17 (S17 47 (L21 (L22 T.pure))))))) ?_
  refine T.bind (by rw [k0_part117_eq_skeleton]; unfold k0_part117_skel; exact (L23 (L10 (S10 48 T.pure)))) ?_
  refine T.bind (by rw [k0_part118_eq_skeleton]; unfold k0_part118_skel; exact (L11 (S11 48 (L13 (S13 48 (L15 (S15 48 (L16 (S16 48 (L17 (S17 48 (L21 T.pure)))))))))))) ?_
  refine T.bind (by rw [k0_part119_eq_skeleton]; unfold k0_part119_skel; exact (L22 (L23 T.pure))) ?_
  refine T.bind (by rw [k0_part120_eq_skeleton]; unfold k0_part120_skel; exact (L10 (S10 49 (L11 (S11 49 (L13 (S13 49 (L15 (S15 49 T.pure))))))))) ?_
  refine T.bind (by rw [k0_part121_eq_skeleton]; unfold k0_part121_skel; exact (L16 (S16 49 (L17 (S17 49 (L21 (L22 (L23 T.pure)))))))) ?_
  exact T.pure

end Cert.Proof.QkvKernelIdealRun
-- ==== Proof.Qkv.QkvKernelIdealRows237.lean ====
module

public import proofs.«01_k».proof.Proof.Qkv.QkvKernelIdealBase

@[expose] public section

set_option maxRecDepth 16384

noncomputable section

namespace Cert.Proof.QkvKernelIdealRun

open Cert.QkvKernelIdeal Cert.QkvKernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

theorem rows237 (c : Dev nD) (E : Set ℕ) (i : grid0.Coords) (arg1 : Memref sig .tc .vmem S96x4096 .bf16) (harg1 : arg1.IsWhole) (arg2 : Memref sig .tc .vmem S1x4096 .f32) (harg2 : arg2.IsWhole) (arg3 : Memref sig .tc .vmem S1x4096 .f32) (harg3 : arg3.IsWhole) (arg4 : Memref sig .tc .vmem S4048x768 .i8) (harg4 : arg4.IsWhole) (arg5 : Memref sig .tc .vmem S1x768 .f32) (harg5 : arg5.IsWhole) (arg6 : Memref sig .tc .vmem S48x768 .bf16) (harg6 : arg6.IsWhole) (arg7 : Memref sig .tc .vmem S1x768 .f32) (harg7 : arg7.IsWhole) (arg8 : Memref sig .tc .vmem S96x4048 .i8) (harg8 : arg8.IsWhole) (arg9 : Memref sig .tc .vmem S1x96 .f32) (harg9 : arg9.IsWhole) (arg10 : Memref sig .tc .vmem S96x16x128 .bf16) (harg10 : arg10.IsWhole) (arg11 : Memref sig .tc .vmem S96x16x128 .i8) (harg11 : arg11.IsWhole) (arg12 : Memref sig .tc .vmem S16x96 .f32) (harg12 : arg12.IsWhole) (arg13 : Memref sig .tc .vmem S96x16x128 .i8) (harg13 : arg13.IsWhole) (arg14 : Memref sig .tc .vmem S16x96 .f32) (harg14 : arg14.IsWhole) (arg15 : Memref sig .tc .vmem S96x16x128 .f32) (harg15 : arg15.IsWhole) (arg16 : Memref sig .tc .vmem S96x16x128 .f32) (harg16 : arg16.IsWhole) (arg17 : Memref sig .tc .vmem S96x16x128 .f32) (harg17 : arg17.IsWhole) (arg18 : Memref sig .tc .vmem S96x4096 .bf16) (harg18 : arg18.IsWhole) (arg19 : Memref sig .tc .vmem S96x48 .bf16) (harg19 : arg19.IsWhole) (arg20 : Memref sig .tc .vmem S96x128 .f32) (harg20 : arg20.IsWhole) (arg21 : Memref sig .tc .vmem S96x16x128 .f32) (harg21 : arg21.IsWhole) (arg22 : Memref sig .tc .vmem S96x16x128 .f32) (harg22 : arg22.IsWhole) (arg23 : Memref sig .tc .vmem S96x16x128 .f32) (harg23 : arg23.IsWhole) (X21 X22 X23 : Vec F S96x16x128 .f32) (Z10 : Vec F S96x16x128 .bf16) (Z11 : Vec F S96x16x128 .i8) (Z13 : Vec F S96x16x128 .i8) (Z15 : Vec F S96x16x128 .f32) (Z16 : Vec F S96x16x128 .f32) (Z17 : Vec F S96x16x128 .f32) :
    T c E (k0_part237 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 lane (scales (kScale X22) 49) (scales (vScale X23) 49) (qHalf X21 49) (kScale X22 49) (kRound X22 49) (k0_pay21 (row X23 49)) (vMax X23 49) (Scalar.ofBits .f32 0x00000000#32)) (st c arg21 arg22 arg23 arg10 arg11 arg13 arg15 arg16 arg17 X21 X22 X23 Z10 Z11 Z13 Z15 Z16 Z17 49 49 49 49 49 49) (st c arg21 arg22 arg23 arg10 arg11 arg13 arg15 arg16 arg17 X21 X22 X23 Z10 Z11 Z13 Z15 Z16 Z17 74 74 74 74 74 73) ⟨scales (kScale X22) 74, scales (vScale X23) 74, accRow X21 X22 X23 73⟩ := by
  rw [k0_part237_eq_skeleton]; unfold k0_part237_skel
  refine T.bind (by rw [k0_part122_eq_skeleton]; unfold k0_part122_skel; exact (L10 (S10 50 (L11 (S11 50 T.pure))))) ?_
  refine T.bind (by rw [k0_part123_eq_skeleton]; unfold k0_part123_skel; exact (L13 (S13 50 (L15 (S15 50 (L16 (S16 50 (L17 (S17 50 (L21 (L22 T.pure))))))))))) ?_
  refine T.bind (by rw [k0_part124_eq_skeleton]; unfold k0_part124_skel; exact (L23 T.pure)) ?_
  refine T.bind (by rw [k0_part125_eq_skeleton]; unfold k0_part125_skel; exact (L10 (S10 51 (L11 (S11 51 (L13 (S13 51 (L15 (S15 51 (L16 (S16 51 T.pure))))))))))) ?_
  refine T.bind (by rw [k0_part126_eq_skeleton]; unfold k0_part126_skel; exact (L17 (S17 51 (L21 (L22 (L23 T.pure)))))) ?_
  refine T.bind (by rw [k0_part127_eq_skeleton]; unfold k0_part127_skel; exact (L10 (S10 52 (L11 (S11 52 (L13 (S13 52 T.pure))))))) ?_
  refine T.bind (by rw [k0_part128_eq_skeleton]; unfold k0_part128_skel; exact (L15 (S15 52 (L16 (S16 52 (L17 (S17 52 (L21 (L22 T.pure))))))))) ?_
  refine T.bind (by rw [k0_part129_eq_skeleton]; unfold k0_part129_skel; exact (L23 T.pure)) ?_
  refine T.bind (by rw [k0_part130_eq_skeleton]; unfold k0_part130_skel; exact (L10 (S10 53 (L11 (S11 53 (L13 (S13 53 (L15 (S15 53 (L16 (S16 53 (L17 T.pure)))))))))))) ?_
  refine T.bind (by rw [k0_part131_eq_skeleton]; unfold k0_part131_skel; exact (S17 53 (L21 (L22 (L23 T.pure))))) ?_
  refine T.bind (by rw [k0_part132_eq_skeleton]; unfold k0_part132_skel; exact (L10 (S10 54 (L11 (S11 54 (L13 (S13 54 (L15 (S15 54 T.pure))))))))) ?_
  refine T.bind (by rw [k0_part133_eq_skeleton]; unfold k0_part133_skel; exact (L16 (S16 54 (L17 (S17 54 (L21 (L22 T.pure))))))) ?_
  refine T.bind (by rw [k0_part134_eq_skeleton]; unfold k0_part134_skel; exact (L23 (L10 T.pure))) ?_
  refine T.bind (by rw [k0_part135_eq_skeleton]; unfold k0_part135_skel; exact (S10 55 (L11 (S11 55 (L13 (S13 55 (L15 (S15 55 (L16 (S16 55 (L17 (S17 55 (L21 T.pure))))))))))))) ?_
  refine T.bind (by rw [k0_part136_eq_skeleton]; unfold k0_part136_skel; exact (L22 (L23 T.pure))) ?_
  refine T.bind (by rw [k0_part137_eq_skeleton]; unfold k0_part137_skel; exact (L10 (S10 56 (L11 (S11 56 (L13 (S13 56 (L15 (S15 56 T.pure))))))))) ?_
  refine T.bind (by rw [k0_part138_eq_skeleton]; unfold k0_part138_skel; exact (L16 (S16 56 (L17 (S17 56 (L21 (L22 (L23 T.pure)))))))) ?_
  refine T.bind (by rw [k0_part139_eq_skeleton]; unfold k0_part139_skel; exact (L10 (S10 57 (L11 T.pure)))) ?_
  refine T.bind (by rw [k0_part140_eq_skeleton]; unfold k0_part140_skel; exact (S11 57 (L13 (S13 57 (L15 (S15 57 (L16 (S16 57 (L17 (S17 57 (L21 (L22 T.pure)))))))))))) ?_
  refine T.bind (by rw [k0_part141_eq_skeleton]; unfold k0_part141_skel; exact (L23 T.pure)) ?_
  refine T.bind (by rw [k0_part142_eq_skeleton]; unfold k0_part142_skel; exact (L10 (S10 58 (L11 (S11 58 (L13 (S13 58 (L15 (S15 58 (L16 (S16 58 T.pure))))))))))) ?_
  refine T.bind (by rw [k0_part143_eq_skeleton]; unfold k0_part143_skel; exact (L17 (S17 58 (L21 (L22 (L23 T.pure)))))) ?_
  refine T.bind (by rw [k0_part144_eq_skeleton]; unfold k0_part144_skel; exact (L10 (S10 59 (L11 (S11 59 (L13 T.pure)))))) ?_
  refine T.bind (by rw [k0_part145_eq_skeleton]; unfold k0_part145_skel; exact (S13 59 (L15 (S15 59 (L16 (S16 59 (L17 (S17 59 (L21 (L22 T.pure)))))))))) ?_
  refine T.bind (by rw [k0_part146_eq_skeleton]; unfold k0_part146_skel; exact (L23 T.pure)) ?_
  refine T.bind (by rw [k0_part147_eq_skeleton]; unfold k0_part147_skel; exact (L10 (S10 60 (L11 (S11 60 (L13 (S13 60 (L15 (S15 60 (L16 (S16 60 (L17 T.pure)))))))))))) ?_
  refine T.bind (by rw [k0_part148_eq_skeleton]; unfold k0_part148_skel; exact (S17 60 (L21 (L22 (L23 T.pure))))) ?_
  refine T.bind (by rw [k0_part149_eq_skeleton]; unfold k0_part149_skel; exact (L10 (S10 61 (L11 (S11 61 (L13 (S13 61 (L15 T.pure)))))))) ?_
  refine T.bind (by rw [k0_part150_eq_skeleton]; unfold k0_part150_skel; exact (S15 61 (L16 (S16 61 (L17 (S17 61 (L21 (L22 T.pure)))))))) ?_
  refine T.bind (by rw [k0_part151_eq_skeleton]; unfold k0_part151_skel; exact (L23 (L10 T.pure))) ?_
  refine T.bind (by rw [k0_part152_eq_skeleton]; unfold k0_part152_skel; exact (S10 62 (L11 (S11 62 (L13 (S13 62 (L15 (S15 62 (L16 (S16 62 (L17 (S17 62 (L21 T.pure))))))))))))) ?_
  refine T.bind (by rw [k0_part153_eq_skeleton]; unfold k0_part153_skel; exact (L22 (L23 T.pure))) ?_
  refine T.bind (by rw [k0_part154_eq_skeleton]; unfold k0_part154_skel; exact (L10 (S10 63 (L11 (S11 63 (L13 (S13 63 (L15 (S15 63 T.pure))))))))) ?_
  refine T.bind (by rw [k0_part155_eq_skeleton]; unfold k0_part155_skel; exact (L16 (S16 63 (L17 (S17 63 (L21 (L22 (L23 T.pure)))))))) ?_
  refine T.bind (by rw [k0_part156_eq_skeleton]; unfold k0_part156_skel; exact (L10 (S10 64 (L11 T.pure)))) ?_
  refine T.bind (by rw [k0_part157_eq_skeleton]; unfold k0_part157_skel; exact (S11 64 (L13 (S13 64 (L15 (S15 64 (L16 (S16 64 (L17 (S17 64 (L21 (L22 T.pure)))))))))))) ?_
  refine T.bind (by rw [k0_part158_eq_skeleton]; unfold k0_part158_skel; exact (L23 T.pure)) ?_
  refine T.bind (by rw [k0_part159_eq_skeleton]; unfold k0_part159_skel; exact (L10 (S10 65 (L11 (S11 65 (L13 (S13 65 (L15 (S15 65 (L16 T.pure)))))))))) ?_
  refine T.bind (by rw [k0_part160_eq_skeleton]; unfold k0_part160_skel; exact (S16 65 (L17 (S17 65 (L21 (L22 (L23 T.pure))))))) ?_
  refine T.bind (by rw [k0_part161_eq_skeleton]; unfold k0_part161_skel; exact (L10 (S10 66 (L11 (S11 66 (L13 T.pure)))))) ?_
  refine T.bind (by rw [k0_part162_eq_skeleton]; unfold k0_part162_skel; exact (S13 66 (L15 (S15 66 (L16 (S16 66 (L17 (S17 66 (L21 (L22 T.pure)))))))))) ?_
  refine T.bind (by rw [k0_part163_eq_skeleton]; unfold k0_part163_skel; exact (L23 T.pure)) ?_
  refine T.bind (by rw [k0_part164_eq_skeleton]; unfold k0_part164_skel; exact (L10 (S10 67 (L11 (S11 67 (L13 (S13 67 (L15 (S15 67 (L16 (S16 67 T.pure))))))))))) ?_
  refine T.bind (by rw [k0_part165_eq_skeleton]; unfold k0_part165_skel; exact (L17 (S17 67 (L21 (L22 (L23 T.pure)))))) ?_
  refine T.bind (by rw [k0_part166_eq_skeleton]; unfold k0_part166_skel; exact (L10 (S10 68 (L11 (S11 68 (L13 (S13 68 T.pure))))))) ?_
  refine T.bind (by rw [k0_part167_eq_skeleton]; unfold k0_part167_skel; exact (L15 (S15 68 (L16 (S16 68 (L17 (S17 68 (L21 (L22 T.pure))))))))) ?_
  refine T.bind (by rw [k0_part168_eq_skeleton]; unfold k0_part168_skel; exact (L23 T.pure)) ?_
  refine T.bind (by rw [k0_part169_eq_skeleton]; unfold k0_part169_skel; exact (L10 (S10 69 (L11 (S11 69 (L13 (S13 69 (L15 (S15 69 (L16 (S16 69 (L17 (S17 69 T.pure))))))))))))) ?_
  refine T.bind (by rw [k0_part170_eq_skeleton]; unfold k0_part170_skel; exact (L21 (L22 (L23 T.pure)))) ?_
  refine T.bind (by rw [k0_part171_eq_skeleton]; unfold k0_part171_skel; exact (L10 (S10 70 (L11 (S11 70 (L13 (S13 70 (L15 (S15 70 T.pure))))))))) ?_
  refine T.bind (by rw [k0_part172_eq_skeleton]; unfold k0_part172_skel; exact (L16 (S16 70 (L17 (S17 70 (L21 (L22 (L23 T.pure)))))))) ?_
  refine T.bind (by rw [k0_part173_eq_skeleton]; unfold k0_part173_skel; exact (L10 (S10 71 T.pure))) ?_
  refine T.bind (by rw [k0_part174_eq_skeleton]; unfold k0_part174_skel; exact (L11 (S11 71 (L13 (S13 71 (L15 (S15 71 (L16 (S16 71 (L17 (S17 71 (L21 (L22 T.pure))))))))))))) ?_
  refine T.bind (by rw [k0_part175_eq_skeleton]; unfold k0_part175_skel; exact (L23 T.pure)) ?_
  refine T.bind (by rw [k0_part176_eq_skeleton]; unfold k0_part176_skel; exact (L10 (S10 72 (L11 (S11 72 (L13 (S13 72 (L15 (S15 72 (L16 T.pure)))))))))) ?_
  refine T.bind (by rw [k0_part177_eq_skeleton]; unfold k0_part177_skel; exact (S16 72 (L17 (S17 72 (L21 (L22 (L23 T.pure))))))) ?_
  refine T.bind (by rw [k0_part178_eq_skeleton]; unfold k0_part178_skel; exact (L10 (S10 73 (L11 (S11 73 T.pure))))) ?_
  refine T.bind (by rw [k0_part179_eq_skeleton]; unfold k0_part179_skel; exact (L13 (S13 73 (L15 (S15 73 (L16 (S16 73 (L17 (S17 73 (L21 (L22 T.pure))))))))))) ?_
  refine T.bind (by rw [k0_part180_eq_skeleton]; unfold k0_part180_skel; exact (L23 T.pure)) ?_
  refine T.bind (by rw [k0_part181_eq_skeleton]; unfold k0_part181_skel; exact (L10 (S10 74 (L11 (S11 74 (L13 (S13 74 (L15 (S15 74 (L16 (S16 74 T.pure))))))))))) ?_
  exact T.pure

end Cert.Proof.QkvKernelIdealRun
-- ==== Proof.Qkv.QkvKernelIdealRows238.lean ====
module

public import proofs.«01_k».proof.Proof.Qkv.QkvKernelIdealBase

@[expose] public section

set_option maxRecDepth 16384

noncomputable section

namespace Cert.Proof.QkvKernelIdealRun

open Cert.QkvKernelIdeal Cert.QkvKernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

theorem rows238 (c : Dev nD) (E : Set ℕ) (i : grid0.Coords) (arg1 : Memref sig .tc .vmem S96x4096 .bf16) (harg1 : arg1.IsWhole) (arg2 : Memref sig .tc .vmem S1x4096 .f32) (harg2 : arg2.IsWhole) (arg3 : Memref sig .tc .vmem S1x4096 .f32) (harg3 : arg3.IsWhole) (arg4 : Memref sig .tc .vmem S4048x768 .i8) (harg4 : arg4.IsWhole) (arg5 : Memref sig .tc .vmem S1x768 .f32) (harg5 : arg5.IsWhole) (arg6 : Memref sig .tc .vmem S48x768 .bf16) (harg6 : arg6.IsWhole) (arg7 : Memref sig .tc .vmem S1x768 .f32) (harg7 : arg7.IsWhole) (arg8 : Memref sig .tc .vmem S96x4048 .i8) (harg8 : arg8.IsWhole) (arg9 : Memref sig .tc .vmem S1x96 .f32) (harg9 : arg9.IsWhole) (arg10 : Memref sig .tc .vmem S96x16x128 .bf16) (harg10 : arg10.IsWhole) (arg11 : Memref sig .tc .vmem S96x16x128 .i8) (harg11 : arg11.IsWhole) (arg12 : Memref sig .tc .vmem S16x96 .f32) (harg12 : arg12.IsWhole) (arg13 : Memref sig .tc .vmem S96x16x128 .i8) (harg13 : arg13.IsWhole) (arg14 : Memref sig .tc .vmem S16x96 .f32) (harg14 : arg14.IsWhole) (arg15 : Memref sig .tc .vmem S96x16x128 .f32) (harg15 : arg15.IsWhole) (arg16 : Memref sig .tc .vmem S96x16x128 .f32) (harg16 : arg16.IsWhole) (arg17 : Memref sig .tc .vmem S96x16x128 .f32) (harg17 : arg17.IsWhole) (arg18 : Memref sig .tc .vmem S96x4096 .bf16) (harg18 : arg18.IsWhole) (arg19 : Memref sig .tc .vmem S96x48 .bf16) (harg19 : arg19.IsWhole) (arg20 : Memref sig .tc .vmem S96x128 .f32) (harg20 : arg20.IsWhole) (arg21 : Memref sig .tc .vmem S96x16x128 .f32) (harg21 : arg21.IsWhole) (arg22 : Memref sig .tc .vmem S96x16x128 .f32) (harg22 : arg22.IsWhole) (arg23 : Memref sig .tc .vmem S96x16x128 .f32) (harg23 : arg23.IsWhole) (X21 X22 X23 : Vec F S96x16x128 .f32) (Z10 : Vec F S96x16x128 .bf16) (Z11 : Vec F S96x16x128 .i8) (Z13 : Vec F S96x16x128 .i8) (Z15 : Vec F S96x16x128 .f32) (Z16 : Vec F S96x16x128 .f32) (Z17 : Vec F S96x16x128 .f32) :
    T c E (k0_part238 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 lane (scales (kScale X22) 74) (scales (vScale X23) 74) (accRow X21 X22 X23 73)) (st c arg21 arg22 arg23 arg10 arg11 arg13 arg15 arg16 arg17 X21 X22 X23 Z10 Z11 Z13 Z15 Z16 Z17 74 74 74 74 74 73) (st c arg21 arg22 arg23 arg10 arg11 arg13 arg15 arg16 arg17 X21 X22 X23 Z10 Z11 Z13 Z15 Z16 Z17 96 96 96 95 95 95) ⟨vScale X23 95, vRound X23 95, scales (kScale X22) 96, scales (vScale X23) 96, wt X21 X22 95, peak X21 X22 95⟩ := by
  rw [k0_part238_eq_skeleton]; unfold k0_part238_skel
  refine T.bind (by rw [k0_part182_eq_skeleton]; unfold k0_part182_skel; exact (L17 (S17 74 (L21 (L22 (L23 T.pure)))))) ?_
  refine T.bind (by rw [k0_part183_eq_skeleton]; unfold k0_part183_skel; exact (L10 (S10 75 (L11 (S11 75 (L13 (S13 75 T.pure))))))) ?_
  refine T.bind (by rw [k0_part184_eq_skeleton]; unfold k0_part184_skel; exact (L15 (S15 75 (L16 (S16 75 (L17 (S17 75 (L21 (L22 T.pure))))))))) ?_
  refine T.bind (by rw [k0_part185_eq_skeleton]; unfold k0_part185_skel; exact (L23 T.pure)) ?_
  refine T.bind (by rw [k0_part186_eq_skeleton]; unfold k0_part186_skel; exact (L10 (S10 76 (L11 (S11 76 (L13 (S13 76 (L15 (S15 76 (L16 (S16 76 (L17 (S17 76 T.pure))))))))))))) ?_
  refine T.bind (by rw [k0_part187_eq_skeleton]; unfold k0_part187_skel; exact (L21 (L22 (L23 T.pure)))) ?_
  refine T.bind (by rw [k0_part188_eq_skeleton]; unfold k0_part188_skel; exact (L10 (S10 77 (L11 (S11 77 (L13 (S13 77 (L15 (S15 77 T.pure))))))))) ?_
  refine T.bind (by rw [k0_part189_eq_skeleton]; unfold k0_part189_skel; exact (L16 (S16 77 (L17 (S17 77 (L21 (L22 T.pure))))))) ?_
  refine T.bind (by rw [k0_part190_eq_skeleton]; unfold k0_part190_skel; exact (L23 (L10 (S10 78 T.pure)))) ?_
  refine T.bind (by rw [k0_part191_eq_skeleton]; unfold k0_part191_skel; exact (L11 (S11 78 (L13 (S13 78 (L15 (S15 78 (L16 (S16 78 (L17 (S17 78 (L21 T.pure)))))))))))) ?_
  refine T.bind (by rw [k0_part192_eq_skeleton]; unfold k0_part192_skel; exact (L22 (L23 T.pure))) ?_
  refine T.bind (by rw [k0_part193_eq_skeleton]; unfold k0_part193_skel; exact (L10 (S10 79 (L11 (S11 79 (L13 (S13 79 (L15 (S15 79 T.pure))))))))) ?_
  refine T.bind (by rw [k0_part194_eq_skeleton]; unfold k0_part194_skel; exact (L16 (S16 79 (L17 (S17 79 (L21 (L22 (L23 T.pure)))))))) ?_
  refine T.bind (by rw [k0_part195_eq_skeleton]; unfold k0_part195_skel; exact (L10 (S10 80 (L11 (S11 80 T.pure))))) ?_
  refine T.bind (by rw [k0_part196_eq_skeleton]; unfold k0_part196_skel; exact (L13 (S13 80 (L15 (S15 80 (L16 (S16 80 (L17 (S17 80 (L21 (L22 T.pure))))))))))) ?_
  refine T.bind (by rw [k0_part197_eq_skeleton]; unfold k0_part197_skel; exact (L23 T.pure)) ?_
  refine T.bind (by rw [k0_part198_eq_skeleton]; unfold k0_part198_skel; exact (L10 (S10 81 (L11 (S11 81 (L13 (S13 81 (L15 (S15 81 (L16 (S16 81 T.pure))))))))))) ?_
  refine T.bind (by rw [k0_part199_eq_skeleton]; unfold k0_part199_skel; exact (L17 (S17 81 (L21 (L22 (L23 T.pure)))))) ?_
  refine T.bind (by rw [k0_part200_eq_skeleton]; unfold k0_part200_skel; exact (L10 (S10 82 (L11 (S11 82 (L13 (S13 82 T.pure))))))) ?_
  refine T.bind (by rw [k0_part201_eq_skeleton]; unfold k0_part201_skel; exact (L15 (S15 82 (L16 (S16 82 (L17 (S17 82 (L21 (L22 T.pure))))))))) ?_
  refine T.bind (by rw [k0_part202_eq_skeleton]; unfold k0_part202_skel; exact (L23 T.pure)) ?_
  refine T.bind (by rw [k0_part203_eq_skeleton]; unfold k0_part203_skel; exact (L10 (S10 83 (L11 (S11 83 (L13 (S13 83 (L15 (S15 83 (L16 (S16 83 (L17 T.pure)))))))))))) ?_
  refine T.bind (by rw [k0_part204_eq_skeleton]; unfold k0_part204_skel; exact (S17 83 (L21 (L22 (L23 T.pure))))) ?_
  refine T.bind (by rw [k0_part205_eq_skeleton]; unfold k0_part205_skel; exact (L10 (S10 84 (L11 (S11 84 (L13 (S13 84 (L15 (S15 84 T.pure))))))))) ?_
  refine T.bind (by rw [k0_part206_eq_skeleton]; unfold k0_part206_skel; exact (L16 (S16 84 (L17 (S17 84 (L21 (L22 T.pure))))))) ?_
  refine T.bind (by rw [k0_part207_eq_skeleton]; unfold k0_part207_skel; exact (L23 (L10 T.pure))) ?_
  refine T.bind (by rw [k0_part208_eq_skeleton]; unfold k0_part208_skel; exact (S10 85 (L11 (S11 85 (L13 (S13 85 (L15 (S15 85 (L16 (S16 85 (L17 (S17 85 (L21 T.pure))))))))))))) ?_
  refine T.bind (by rw [k0_part209_eq_skeleton]; unfold k0_part209_skel; exact (L22 (L23 T.pure))) ?_
  refine T.bind (by rw [k0_part210_eq_skeleton]; unfold k0_part210_skel; exact (L10 (S10 86 (L11 (S11 86 (L13 (S13 86 (L15 (S15 86 T.pure))))))))) ?_
  refine T.bind (by rw [k0_part211_eq_skeleton]; unfold k0_part211_skel; exact (L16 (S16 86 (L17 (S17 86 (L21 (L22 (L23 T.pure)))))))) ?_
  refine T.bind (by rw [k0_part212_eq_skeleton]; unfold k0_part212_skel; exact (L10 (S10 87 (L11 T.pure)))) ?_
  refine T.bind (by rw [k0_part213_eq_skeleton]; unfold k0_part213_skel; exact (S11 87 (L13 (S13 87 (L15 (S15 87 (L16 (S16 87 (L17 (S17 87 (L21 (L22 T.pure)))))))))))) ?_
  refine T.bind (by rw [k0_part214_eq_skeleton]; unfold k0_part214_skel; exact (L23 T.pure)) ?_
  refine T.bind (by rw [k0_part215_eq_skeleton]; unfold k0_part215_skel; exact (L10 (S10 88 (L11 (S11 88 (L13 (S13 88 (L15 (S15 88 (L16 (S16 88 T.pure))))))))))) ?_
  refine T.bind (by rw [k0_part216_eq_skeleton]; unfold k0_part216_skel; exact (L17 (S17 88 (L21 (L22 (L23 T.pure)))))) ?_
  refine T.bind (by rw [k0_part217_eq_skeleton]; unfold k0_part217_skel; exact (L10 (S10 89 (L11 (S11 89 (L13 T.pure)))))) ?_
  refine T.bind (by rw [k0_part218_eq_skeleton]; unfold k0_part218_skel; exact (S13 89 (L15 (S15 89 (L16 (S16 89 (L17 (S17 89 (L21 (L22 T.pure)))))))))) ?_
  refine T.bind (by rw [k0_part219_eq_skeleton]; unfold k0_part219_skel; exact (L23 T.pure)) ?_
  refine T.bind (by rw [k0_part220_eq_skeleton]; unfold k0_part220_skel; exact (L10 (S10 90 (L11 (S11 90 (L13 (S13 90 (L15 (S15 90 (L16 (S16 90 (L17 T.pure)))))))))))) ?_
  refine T.bind (by rw [k0_part221_eq_skeleton]; unfold k0_part221_skel; exact (S17 90 (L21 (L22 (L23 T.pure))))) ?_
  refine T.bind (by rw [k0_part222_eq_skeleton]; unfold k0_part222_skel; exact (L10 (S10 91 (L11 (S11 91 (L13 (S13 91 (L15 T.pure)))))))) ?_
  refine T.bind (by rw [k0_part223_eq_skeleton]; unfold k0_part223_skel; exact (S15 91 (L16 (S16 91 (L17 (S17 91 (L21 (L22 T.pure)))))))) ?_
  refine T.bind (by rw [k0_part224_eq_skeleton]; unfold k0_part224_skel; exact (L23 (L10 T.pure))) ?_
  refine T.bind (by rw [k0_part225_eq_skeleton]; unfold k0_part225_skel; exact (S10 92 (L11 (S11 92 (L13 (S13 92 (L15 (S15 92 (L16 (S16 92 (L17 (S17 92 (L21 T.pure))))))))))))) ?_
  refine T.bind (by rw [k0_part226_eq_skeleton]; unfold k0_part226_skel; exact (L22 (L23 T.pure))) ?_
  refine T.bind (by rw [k0_part227_eq_skeleton]; unfold k0_part227_skel; exact (L10 (S10 93 (L11 (S11 93 (L13 (S13 93 (L15 (S15 93 T.pure))))))))) ?_
  refine T.bind (by rw [k0_part228_eq_skeleton]; unfold k0_part228_skel; exact (L16 (S16 93 (L17 (S17 93 (L21 (L22 (L23 T.pure)))))))) ?_
  refine T.bind (by rw [k0_part229_eq_skeleton]; unfold k0_part229_skel; exact (L10 (S10 94 (L11 T.pure)))) ?_
  refine T.bind (by rw [k0_part230_eq_skeleton]; unfold k0_part230_skel; exact (S11 94 (L13 (S13 94 (L15 (S15 94 (L16 (S16 94 (L17 (S17 94 (L21 (L22 T.pure)))))))))))) ?_
  refine T.bind (by rw [k0_part231_eq_skeleton]; unfold k0_part231_skel; exact (L23 T.pure)) ?_
  refine T.bind (by rw [k0_part232_eq_skeleton]; unfold k0_part232_skel; exact (L10 (S10 95 (L11 (S11 95 (L13 (S13 95 (L15 (S15 95 (L16 T.pure)))))))))) ?_
  refine T.bind (by rw [k0_part233_eq_skeleton]; unfold k0_part233_skel; exact (S16 95 (L17 (S17 95 (L21 (L22 (L23 T.pure))))))) ?_
  refine T.bind (by rw [k0_part234_eq_skeleton]; unfold k0_part234_skel; exact (L10 (S10 96 (L11 (S11 96 (L13 T.pure)))))) ?_
  refine S13 96 ?_
  exact T.pure

end Cert.Proof.QkvKernelIdealRun
-- ==== Proof.Qkv.QkvKernelIdealTail.lean ====
module

public import proofs.«01_k».proof.Proof.Qkv.QkvKernelIdealRows235
public import proofs.«01_k».proof.Proof.Qkv.QkvKernelIdealRows236
public import proofs.«01_k».proof.Proof.Qkv.QkvKernelIdealRows237
public import proofs.«01_k».proof.Proof.Qkv.QkvKernelIdealRows238

@[expose] public section

set_option maxRecDepth 16384

noncomputable section

namespace Cert.Proof.QkvKernelIdealRun

open Cert.QkvKernelIdeal Cert.QkvKernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

theorem T.full {c : Dev nD} {E : Set ℕ} {m : Memref sig .tc .vmem S16x96 .f32} {X w : Vec F S16x96 .f32} {inb hx hm} :
    T c E (Prog.lift (.store m (Rect.unit (s := S16x96) ![0, 0] S16x96.size inb) w Finset.univ hx hm) : Prog (TpuEff nD τ sig (Elt F) Λ₀ .tc) _) (owns (c : Thread nD τ) m fullShare X) (owns (c : Thread nD τ) m fullShare w) ⟨⟩ := fun K => by
  unfold owns Prog.lift
  iintro ⟨⟨%f, %hf, H⟩, Hk⟩
  sl_step
  sl_step
  iapply Hk
  iexists _; isplitr; swap; · iexact H
  ipureintro
  exact View.read_writes_full (s := S16x96) m.view f inb w []

/-- The work of the last point on all batch rows. -/
def tailProg (i : grid0.Coords) (arg1 : Memref sig .tc .vmem S96x4096 .bf16) (harg1 : arg1.IsWhole) (arg2 : Memref sig .tc .vmem S1x4096 .f32) (harg2 : arg2.IsWhole) (arg3 : Memref sig .tc .vmem S1x4096 .f32) (harg3 : arg3.IsWhole) (arg4 : Memref sig .tc .vmem S4048x768 .i8) (harg4 : arg4.IsWhole) (arg5 : Memref sig .tc .vmem S1x768 .f32) (harg5 : arg5.IsWhole) (arg6 : Memref sig .tc .vmem S48x768 .bf16) (harg6 : arg6.IsWhole) (arg7 : Memref sig .tc .vmem S1x768 .f32) (harg7 : arg7.IsWhole) (arg8 : Memref sig .tc .vmem S96x4048 .i8) (harg8 : arg8.IsWhole) (arg9 : Memref sig .tc .vmem S1x96 .f32) (harg9 : arg9.IsWhole) (arg10 : Memref sig .tc .vmem S96x16x128 .bf16) (harg10 : arg10.IsWhole) (arg11 : Memref sig .tc .vmem S96x16x128 .i8) (harg11 : arg11.IsWhole) (arg12 : Memref sig .tc .vmem S16x96 .f32) (harg12 : arg12.IsWhole) (arg13 : Memref sig .tc .vmem S96x16x128 .i8) (harg13 : arg13.IsWhole) (arg14 : Memref sig .tc .vmem S16x96 .f32) (harg14 : arg14.IsWhole) (arg15 : Memref sig .tc .vmem S96x16x128 .f32) (harg15 : arg15.IsWhole) (arg16 : Memref sig .tc .vmem S96x16x128 .f32) (harg16 : arg16.IsWhole) (arg17 : Memref sig .tc .vmem S96x16x128 .f32) (harg17 : arg17.IsWhole) (arg18 : Memref sig .tc .vmem S96x4096 .bf16) (harg18 : arg18.IsWhole) (arg19 : Memref sig .tc .vmem S96x48 .bf16) (harg19 : arg19.IsWhole) (arg20 : Memref sig .tc .vmem S96x128 .f32) (harg20 : arg20.IsWhole) (arg21 : Memref sig .tc .vmem S96x16x128 .f32) (harg21 : arg21.IsWhole) (arg22 : Memref sig .tc .vmem S96x16x128 .f32) (harg22 : arg22.IsWhole) (arg23 : Memref sig .tc .vmem S96x16x128 .f32) (harg23 : arg23.IsWhole) : Prog (TpuEff nD τ sig (Elt F) Λ₀ .tc) PUnit := do
      let ⟨v59, v2337, v2348, v2355, v2360, v2365, v2375, v2377, v2380⟩ ← k0_part235 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23
      let ⟨v4616, v4621, v4669, v4680, v4687, v4689, v4692, cst_2207⟩ ← k0_part236 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v59 v2337 v2348 v2355 v2360 v2365 v2375 v2377 v2380
      let ⟨v6966, v6971, v7013⟩ ← k0_part237 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v59 v4616 v4621 v4669 v4680 v4687 v4689 v4692 cst_2207
      let ⟨v9022, v9029, v9034, v9039, v9051, v9064⟩ ← k0_part238 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v59 v6966 v6971 v7013
      let v9065 ← Prog.lift (.load arg15 (Rect.unit (s := S96x16x128) ![95, 0, 0] S1x16x128.size inb_S96x16x128_S1x16x128_95_0_0).toLoadRect (View.loadsAt_vmem h_S1x16x128))
      Prog.lift (.store arg15 (Rect.unit (s := S96x16x128) ![95, 0, 0] S1x16x128.size inb_S96x16x128_S1x16x128_95_0_0) (k0_pay6 v9064) Finset.univ (View.stores_vmem_bits_univ h_S1x16x128 rfl) (.inl rfl))
      let v9074 ← Prog.lift (.load arg16 (Rect.unit (s := S96x16x128) ![95, 0, 0] S1x16x128.size inb_S96x16x128_S1x16x128_95_0_0).toLoadRect (View.loadsAt_vmem h_S1x16x128))
      Prog.lift (.store arg16 (Rect.unit (s := S96x16x128) ![95, 0, 0] S1x16x128.size inb_S96x16x128_S1x16x128_95_0_0) (k0_pay7 v59 v9051) Finset.univ (View.stores_vmem_bits_univ h_S1x16x128 rfl) (.inl rfl))
      let v9082 ← Prog.lift (.load arg17 (Rect.unit (s := S96x16x128) ![95, 0, 0] S1x16x128.size inb_S96x16x128_S1x16x128_95_0_0).toLoadRect (View.loadsAt_vmem h_S1x16x128))
      Prog.lift (.store arg17 (Rect.unit (s := S96x16x128) ![95, 0, 0] S1x16x128.size inb_S96x16x128_S1x16x128_95_0_0) (k0_pay8 v9022 v9029 v9051) Finset.univ (View.stores_vmem_bits_univ h_S1x16x128 rfl) (.inl rfl))
      let v9086 ← Prog.lift (.load arg12 (Rect.unit (s := S16x96) ![0, 0] S16x96.size inb_S16x96_S16x96_0_0).toLoadRect (View.loadsAt_vmem h_S16x96))
      Prog.lift (.store arg12 (Rect.unit (s := S16x96) ![0, 0] S16x96.size inb_S16x96_S16x96_0_0) (k0_pay9 v9034) Finset.univ (View.stores_vmem_bits_univ h_S16x96 rfl) (.inl rfl))
      let v9088 ← Prog.lift (.load arg14 (Rect.unit (s := S16x96) ![0, 0] S16x96.size inb_S16x96_S16x96_0_0).toLoadRect (View.loadsAt_vmem h_S16x96))
      Prog.lift (.store arg14 (Rect.unit (s := S16x96) ![0, 0] S16x96.size inb_S16x96_S16x96_0_0) (k0_pay10 v9039) Finset.univ (View.stores_vmem_bits_univ h_S16x96 rfl) (.inl rfl))
      pure ⟨⟩

theorem tail (c : Dev nD) (E : Set ℕ) (i : grid0.Coords) (arg1 : Memref sig .tc .vmem S96x4096 .bf16) (harg1 : arg1.IsWhole) (arg2 : Memref sig .tc .vmem S1x4096 .f32) (harg2 : arg2.IsWhole) (arg3 : Memref sig .tc .vmem S1x4096 .f32) (harg3 : arg3.IsWhole) (arg4 : Memref sig .tc .vmem S4048x768 .i8) (harg4 : arg4.IsWhole) (arg5 : Memref sig .tc .vmem S1x768 .f32) (harg5 : arg5.IsWhole) (arg6 : Memref sig .tc .vmem S48x768 .bf16) (harg6 : arg6.IsWhole) (arg7 : Memref sig .tc .vmem S1x768 .f32) (harg7 : arg7.IsWhole) (arg8 : Memref sig .tc .vmem S96x4048 .i8) (harg8 : arg8.IsWhole) (arg9 : Memref sig .tc .vmem S1x96 .f32) (harg9 : arg9.IsWhole) (arg10 : Memref sig .tc .vmem S96x16x128 .bf16) (harg10 : arg10.IsWhole) (arg11 : Memref sig .tc .vmem S96x16x128 .i8) (harg11 : arg11.IsWhole) (arg12 : Memref sig .tc .vmem S16x96 .f32) (harg12 : arg12.IsWhole) (arg13 : Memref sig .tc .vmem S96x16x128 .i8) (harg13 : arg13.IsWhole) (arg14 : Memref sig .tc .vmem S16x96 .f32) (harg14 : arg14.IsWhole) (arg15 : Memref sig .tc .vmem S96x16x128 .f32) (harg15 : arg15.IsWhole) (arg16 : Memref sig .tc .vmem S96x16x128 .f32) (harg16 : arg16.IsWhole) (arg17 : Memref sig .tc .vmem S96x16x128 .f32) (harg17 : arg17.IsWhole) (arg18 : Memref sig .tc .vmem S96x4096 .bf16) (harg18 : arg18.IsWhole) (arg19 : Memref sig .tc .vmem S96x48 .bf16) (harg19 : arg19.IsWhole) (arg20 : Memref sig .tc .vmem S96x128 .f32) (harg20 : arg20.IsWhole) (arg21 : Memref sig .tc .vmem S96x16x128 .f32) (harg21 : arg21.IsWhole) (arg22 : Memref sig .tc .vmem S96x16x128 .f32) (harg22 : arg22.IsWhole) (arg23 : Memref sig .tc .vmem S96x16x128 .f32) (harg23 : arg23.IsWhole) (X21 X22 X23 : Vec F S96x16x128 .f32) (Z10 : Vec F S96x16x128 .bf16) (Z11 : Vec F S96x16x128 .i8) (Z13 : Vec F S96x16x128 .i8) (Z15 : Vec F S96x16x128 .f32) (Z16 : Vec F S96x16x128 .f32) (Z17 : Vec F S96x16x128 .f32) (x12 x14 : Vec F S16x96 .f32) :
    T c E (tailProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23)
      iprop(st c arg21 arg22 arg23 arg10 arg11 arg13 arg15 arg16 arg17 X21 X22 X23 Z10 Z11 Z13 Z15 Z16 Z17 0 0 0 0 0 0 ∗ owns (c : Thread nD τ) arg12 fullShare x12 ∗ owns (c : Thread nD τ) arg14 fullShare x14)
      iprop(st c arg21 arg22 arg23 arg10 arg11 arg13 arg15 arg16 arg17 X21 X22 X23 Z10 Z11 Z13 Z15 Z16 Z17 96 96 96 96 96 96 ∗ owns (c : Thread nD τ) arg12 fullShare (k0_pay9 (scales (kScale X22) 96)) ∗ owns (c : Thread nD τ) arg14 fullShare (k0_pay10 (scales (vScale X23) 96))) ⟨⟩ := by
  unfold tailProg
  refine T.bind (T.left (rows235 c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X21 X22 X23 Z10 Z11 Z13 Z15 Z16 Z17)) ?_
  refine T.bind (T.left (rows236 c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X21 X22 X23 Z10 Z11 Z13 Z15 Z16 Z17)) ?_
  refine T.bind (T.left (rows237 c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X21 X22 X23 Z10 Z11 Z13 Z15 Z16 Z17)) ?_
  refine T.bind (T.left (rows238 c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X21 X22 X23 Z10 Z11 Z13 Z15 Z16 Z17)) ?_
  unfold st
  refine T.bind (T.left (T.right (T.right (T.right (T.right (T.right (T.right (T.left T.load)))))))) ?_
  refine T.bind (T.left (T.right (T.right (T.right (T.right (T.right (T.right (T.left (T.store (n' := 96) rfl rfl rfl))))))))) ?_
  refine T.bind (T.left (T.right (T.right (T.right (T.right (T.right (T.right (T.right (T.left T.load))))))))) ?_
  refine T.bind (T.left (T.right (T.right (T.right (T.right (T.right (T.right (T.right (T.left (T.store (n' := 96) rfl rfl rfl)))))))))) ?_
  refine T.bind (T.left (T.right (T.right (T.right (T.right (T.right (T.right (T.right (T.right (T.load)))))))))) ?_
  refine T.bind (T.left (T.right (T.right (T.right (T.right (T.right (T.right (T.right (T.right ((T.store (n' := 96) rfl rfl rfl))))))))))) ?_
  refine T.bind (T.right (T.left T.load)) ?_
  refine T.bind (T.right (T.left T.full)) ?_
  refine T.bind (T.right (T.right T.load)) ?_
  refine T.bind (T.right (T.right T.full)) ?_
  exact T.pure

end Cert.Proof.QkvKernelIdealRun
-- ==== Proof.Qkv.QkvKernelIdealRun.lean ====
module

public import proofs.«01_k».proof.Proof.Gen.QkvKernelIdeal.Frame
public import proofs.«01_k».proof.Proof.Qkv.QkvKernelIdealTail
public import Idealize.ShloMosaic.Lib.Pipeline.TableIdle
public import Idealize.ShloMosaic.Lib.Claim

@[expose] public section

set_option maxRecDepth 16384

noncomputable section

namespace Cert.Proof.QkvKernelIdealRun

open Cert.QkvKernelIdeal Cert.QkvKernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

/-- The quantised columns of the input. -/
abbrev rA : Rect S96x4096 := Rect.unit (s := S96x4096) ![0, 0] S96x4048.size inb_S96x4096_S96x4048_0_0
/-- The first column of a 96 by 128 block. -/
abbrev rS : Rect S96x128 := Rect.unit (s := S96x128) ![0, 0] S96x1.size inb_S96x128_S96x1_0_0

/-- The int8 codes of the normalised rows, as the bfloat16 values the first matrix product takes. -/
def qkQ (x1 : Vec F S96x4096 .bf16) (x2 x3 : Vec F S1x4096 .f32) : Vec F S96x4048 .bf16 := k0_pay1971 (k0_pay14 x1 x2 x3) (k0_pay15 (F := F))
/-- The same codes as integers. -/
def qkC (x1 : Vec F S96x4096 .bf16) (x2 x3 : Vec F S1x4096 .f32) : Vec F S96x4048 .i8 := k0_pay1972 (k0_pay14 x1 x2 x3) (k0_pay15 (F := F))
/-- The channels left unquantised. -/
def qkO (x1 : Vec F S96x4096 .bf16) (x2 x3 : Vec F S1x4096 .f32) : Vec F S96x48 .bf16 := k0_pay1973 (k0_pay11 x1 x2 x3)
/-- The row scales, repeated over 128 lanes. -/
def qkS (x1 : Vec F S96x4096 .bf16) (x2 x3 : Vec F S1x4096 .f32) : Vec F S96x128 .f32 := k0_pay1974 (k0_pay13 x1 x2 x3)
/-- The row scales as one row. -/
def qkR (x1 : Vec F S96x4096 .bf16) (x2 x3 : Vec F S1x4096 .f32) : Vec F S1x96 .f32 := k0_pay1975 (k0_pay13 x1 x2 x3)

/-- An array with the two heads of a point put in. -/
def heads (i : grid0.Coords) (X : Vec F S96x16x128 .f32) (w0 w1 : Vec F S96x1x128 .f32) : Vec F S96x16x128 .f32 :=
  VecWindow.put (s := S96x16x128) (VecWindow.put (s := S96x16x128) X (k0_off1 i 0#32) S96x1x128.size w0) (k0_off1 i 1#32) S96x1x128.size w1

/-- The array of all heads, from the two of every point. -/
def allHeads (w0 w1 : ℕ → Vec F S96x1x128 .f32) : Vec F S96x16x128 .f32 := fun y =>
  if (y 1).val % 2 = 0 then w0 ((y 1).val / 2) (ix3 (y 0) (0 : Fin 1) (y 2)) else w1 ((y 1).val / 2) (ix3 (y 0) (0 : Fin 1) (y 2))

/-- The array of the given batch rows. -/
def full {e : EltTy} (G : ℕ → Vec F S1x16x128 e) : Vec F S96x16x128 e := fun y => G (y 0).val (ix3 (0 : Fin 1) (y 1) (y 2))

theorem fill_all {e : EltTy} (Z : Vec F S96x16x128 e) (G : ℕ → Vec F S1x16x128 e) : fill Z G 96 = full G :=
  funext fun y => if_pos (y 0).isLt

theorem heads_step (i : grid0.Coords) (n : ℕ) (h0 : k0_off1 i 0#32 = ![0, 2 * n, 0]) (h1 : k0_off1 i 1#32 = ![0, 2 * n + 1, 0])
    (X : Vec F S96x16x128 .f32) (w0 w1 : ℕ → Vec F S96x1x128 .f32)
    (hX : ∀ y : S96x16x128.Idx, (y 1).val < 2 * n → X y = allHeads w0 w1 y) (y : S96x16x128.Idx) (hy : (y 1).val < 2 * (n + 1)) :
    heads i X (w0 n) (w1 n) y = allHeads w0 w1 y := by
  have l0 : (y 0).val < 96 := (y 0).isLt
  have l2 : (y 2).val < 128 := (y 2).isLt
  unfold heads
  rw [h0, h1]
  by_cases e1 : (y 1).val = 2 * n + 1
  · have ed : (y 1).val / 2 = n := by omega
    have em : ¬ (y 1).val % 2 = 0 := by omega
    unfold VecWindow.put
    rw [dif_pos (fun a => by
      fin_cases a
      · exact ⟨Nat.zero_le _, by show (y 0).val < 0 + 96; omega⟩
      · exact ⟨by show 2 * n + 1 ≤ (y 1).val; omega, by show (y 1).val < 2 * n + 1 + 1; omega⟩
      · exact ⟨Nat.zero_le _, by show (y 2).val < 0 + 128; omega⟩)]
    unfold allHeads
    rw [if_neg em, ed]
    refine congrArg (w1 n) (funext fun a => Fin.ext ?_)
    fin_cases a
    · rfl
    · show (y 1).val - (2 * n + 1) = 0; omega
    · rfl
  · rw [show VecWindow.put (s := S96x16x128) (VecWindow.put (s := S96x16x128) X ![0, 2 * n, 0] S96x1x128.size (w0 n)) ![0, 2 * n + 1, 0] S96x1x128.size (w1 n) y
        = VecWindow.put (s := S96x16x128) X ![0, 2 * n, 0] S96x1x128.size (w0 n) y from dif_neg fun hh => e1 (by
        have l := (hh 1).1; have u := (hh 1).2
        change 2 * n + 1 ≤ (y 1).val at l; change (y 1).val < 2 * n + 1 + 1 at u; omega)]
    by_cases e0 : (y 1).val = 2 * n
    · have ed : (y 1).val / 2 = n := by omega
      have em : (y 1).val % 2 = 0 := by omega
      unfold VecWindow.put
      rw [dif_pos (fun a => by
        fin_cases a
        · exact ⟨Nat.zero_le _, by show (y 0).val < 0 + 96; omega⟩
        · exact ⟨by show 2 * n ≤ (y 1).val; omega, by show (y 1).val < 2 * n + 1; omega⟩
        · exact ⟨Nat.zero_le _, by show (y 2).val < 0 + 128; omega⟩)]
      unfold allHeads
      rw [if_pos em, ed]
      refine congrArg (w0 n) (funext fun a => Fin.ext ?_)
      fin_cases a
      · rfl
      · show (y 1).val - 2 * n = 0; omega
      · rfl
    · rw [show VecWindow.put (s := S96x16x128) X ![0, 2 * n, 0] S96x1x128.size (w0 n) y = X y from dif_neg fun hh => e0 (by
        have l := (hh 1).1; have u := (hh 1).2
        change 2 * n ≤ (y 1).val at l; change (y 1).val < 2 * n + 1 at u; omega)]
      exact hX y (by omega)

theorem ld_put18 (x : Vec F S96x4096 .bf16) (w : Vec F S96x4048 .bf16) : View.ld (Val := Elt F) (VecWindow.put (s := S96x4096) x ![0, 0] S96x4048.size w) rA = w :=
  VecWindow.window_put_same (s := S96x4096) x ![0, 0] S96x4048.size inb_S96x4096_S96x4048_0_0 w

set_option maxHeartbeats 1600000 in
theorem run_first (c : Dev nD) (E : Set ℕ) (i : grid0.Coords) (h1 : k0_cond1 i = 1#1) (h2 : ¬ k0_cond2 i = 1#1)
    (arg1 : Memref sig .tc .vmem S96x4096 .bf16) (harg1 : arg1.IsWhole) (arg2 : Memref sig .tc .vmem S1x4096 .f32) (harg2 : arg2.IsWhole) (arg3 : Memref sig .tc .vmem S1x4096 .f32) (harg3 : arg3.IsWhole) (arg4 : Memref sig .tc .vmem S4048x768 .i8) (harg4 : arg4.IsWhole) (arg5 : Memref sig .tc .vmem S1x768 .f32) (harg5 : arg5.IsWhole) (arg6 : Memref sig .tc .vmem S48x768 .bf16) (harg6 : arg6.IsWhole) (arg7 : Memref sig .tc .vmem S1x768 .f32) (harg7 : arg7.IsWhole) (arg8 : Memref sig .tc .vmem S96x4048 .i8) (harg8 : arg8.IsWhole) (arg9 : Memref sig .tc .vmem S1x96 .f32) (harg9 : arg9.IsWhole) (arg10 : Memref sig .tc .vmem S96x16x128 .bf16) (harg10 : arg10.IsWhole) (arg11 : Memref sig .tc .vmem S96x16x128 .i8) (harg11 : arg11.IsWhole) (arg12 : Memref sig .tc .vmem S16x96 .f32) (harg12 : arg12.IsWhole) (arg13 : Memref sig .tc .vmem S96x16x128 .i8) (harg13 : arg13.IsWhole) (arg14 : Memref sig .tc .vmem S16x96 .f32) (harg14 : arg14.IsWhole) (arg15 : Memref sig .tc .vmem S96x16x128 .f32) (harg15 : arg15.IsWhole) (arg16 : Memref sig .tc .vmem S96x16x128 .f32) (harg16 : arg16.IsWhole) (arg17 : Memref sig .tc .vmem S96x16x128 .f32) (harg17 : arg17.IsWhole) (arg18 : Memref sig .tc .vmem S96x4096 .bf16) (harg18 : arg18.IsWhole) (arg19 : Memref sig .tc .vmem S96x48 .bf16) (harg19 : arg19.IsWhole) (arg20 : Memref sig .tc .vmem S96x128 .f32) (harg20 : arg20.IsWhole) (arg21 : Memref sig .tc .vmem S96x16x128 .f32) (harg21 : arg21.IsWhole) (arg22 : Memref sig .tc .vmem S96x16x128 .f32) (harg22 : arg22.IsWhole) (arg23 : Memref sig .tc .vmem S96x16x128 .f32) (harg23 : arg23.IsWhole)
    (x1 : Vec F S96x4096 .bf16) (x2 : Vec F S1x4096 .f32) (x3 : Vec F S1x4096 .f32) (x4 : Vec F S4048x768 .i8) (x5 : Vec F S1x768 .f32) (x6 : Vec F S48x768 .bf16) (x7 : Vec F S1x768 .f32) (x8 : Vec F S96x4048 .i8) (x9 : Vec F S1x96 .f32) (x18 : Vec F S96x4096 .bf16) (x19 : Vec F S96x48 .bf16) (x20 : Vec F S96x128 .f32) (x21 : Vec F S96x16x128 .f32) (x22 : Vec F S96x16x128 .f32) (x23 : Vec F S96x16x128 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (qkC x1 x2 x3) ∗ owns (c : Thread nD τ) arg9 fullShare (qkR x1 x2 x3) ∗ owns (c : Thread nD τ) arg18 fullShare (VecWindow.put (s := S96x4096) x18 ![0, 0] S96x4048.size (qkQ x1 x2 x3)) ∗ owns (c : Thread nD τ) arg19 fullShare (qkO x1 x2 x3) ∗ owns (c : Thread nD τ) arg20 fullShare (qkS x1 x2 x3) ∗ owns (c : Thread nD τ) arg21 fullShare (heads i x21 (k0_pay1977 (qkQ x1 x2 x3) (View.ld (qkS x1 x2 x3) rS) (qkO x1 x2 x3) x4 x5 x6 x7) (k0_pay3 (k0_pay1976 (qkQ x1 x2 x3) (View.ld (qkS x1 x2 x3) rS) (qkO x1 x2 x3) x4 x5 x6 x7))) ∗ owns (c : Thread nD τ) arg22 fullShare (heads i x22 (k0_pay1 (k0_pay1978 (qkQ x1 x2 x3) (View.ld (qkS x1 x2 x3) rS) (qkO x1 x2 x3) x4 x5 x6 x7)) (k0_pay4 (k0_pay1976 (qkQ x1 x2 x3) (View.ld (qkS x1 x2 x3) rS) (qkO x1 x2 x3) x4 x5 x6 x7))) ∗ owns (c : Thread nD τ) arg23 fullShare (heads i x23 (k0_pay2 (k0_pay1976 (qkQ x1 x2 x3) (View.ld (qkS x1 x2 x3) rS) (qkO x1 x2 x3) x4 x5 x6 x7)) (k0_pay5 (k0_pay1976 (qkQ x1 x2 x3) (View.ld (qkS x1 x2 x3) rS) (qkO x1 x2 x3) x4 x5 x6 x7)))) -∗ K ⟨⟩))
      ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_qkv_eq_skeleton]; unfold cc0_qkv_skel
  simp only [k0_part239_eq_skeleton]; unfold k0_part239_skel
  rw [dif_pos h1, dif_neg h2]
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f18, %hf18, H18⟩, ⟨%f19, %hf19, H19⟩, ⟨%f20, %hf20, H20⟩, ⟨%f21, %hf21, H21⟩, ⟨%f22, %hf22, H22⟩, ⟨%f23, %hf23, H23⟩, Hk⟩
  subst hf1 hf2 hf3 hf4 hf5 hf6 hf7 hf8 hf9 hf18 hf19 hf20 hf21 hf22 hf23
  sl_exec
  have e1 : View.readAt (Elt F) arg1.view (Rect.unit (s := S96x4096) ![0, 0] ![96, 4096] inb_S96x4096_S96x4096_0_0).toLoadRect f1 = View.read (Elt F) arg1.view f1 :=
    View.readAt_full (s := S96x4096) _ _ _
  have e2 : View.readAt (Elt F) arg2.view (Rect.unit (s := S1x4096) ![0, 0] ![1, 4096] inb_S1x4096_S1x4096_0_0).toLoadRect f2 = View.read (Elt F) arg2.view f2 :=
    View.readAt_full (s := S1x4096) _ _ _
  have e3 : View.readAt (Elt F) arg3.view (Rect.unit (s := S1x4096) ![0, 0] ![1, 4096] inb_S1x4096_S1x4096_0_0).toLoadRect f3 = View.read (Elt F) arg3.view f3 :=
    View.readAt_full (s := S1x4096) _ _ _
  have e4 : View.readAt (Elt F) arg4.view (Rect.unit (s := S4048x768) ![0, 0] ![4048, 768] inb_S4048x768_S4048x768_0_0).toLoadRect f4 = View.read (Elt F) arg4.view f4 :=
    View.readAt_full (s := S4048x768) _ _ _
  have e5 : View.readAt (Elt F) arg5.view (Rect.unit (s := S1x768) ![0, 0] ![1, 768] inb_S1x768_S1x768_0_0).toLoadRect f5 = View.read (Elt F) arg5.view f5 :=
    View.readAt_full (s := S1x768) _ _ _
  have e6 : View.readAt (Elt F) arg6.view (Rect.unit (s := S48x768) ![0, 0] ![48, 768] inb_S48x768_S48x768_0_0).toLoadRect f6 = View.read (Elt F) arg6.view f6 :=
    View.readAt_full (s := S48x768) _ _ _
  have e7 : View.readAt (Elt F) arg7.view (Rect.unit (s := S1x768) ![0, 0] ![1, 768] inb_S1x768_S1x768_0_0).toLoadRect f7 = View.read (Elt F) arg7.view f7 :=
    View.readAt_full (s := S1x768) _ _ _
  have eS : ∀ w, View.readCov (Val := Elt F) arg20.view [⟨Rect.unit (s := S96x128) ![0, 0] ![96, 128] inb_S96x128_S96x128_0_0, w⟩] (Rect.unit (s := S96x128) ![0, 0] ![96, 1] inb_S96x128_S96x1_0_0).toLoadRect = View.ld w rS := fun w =>
    congrArg (fun z => View.ld (Val := Elt F) z rS) (View.read_writes_full (s := S96x128) arg20.view _ _ w [])
  sl_step
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro
    sl_unfold_words
    refine (View.read_writes_full (s := S96x4048) _ _ _ _ _).trans ?_
    unfold qkC
    simp only [e1, e2, e3, e4, e5, e6, e7, eS, View.writes_nil, View.readCov_cons_toLoadRect]
    try rfl
  isplitl [H9]
  · iexists _; isplitr; swap; · iexact H9
    ipureintro
    sl_unfold_words
    refine (View.read_writes_full (s := S1x96) _ _ _ _ _).trans ?_
    unfold qkR
    simp only [e1, e2, e3, e4, e5, e6, e7, eS, View.writes_nil, View.readCov_cons_toLoadRect]
    try rfl
  isplitl [H18]
  · iexists _; isplitr; swap; · iexact H18
    ipureintro
    sl_unfold_words
    refine (View.read_writes_cons_put (s := S96x4096) (off := ![0, 0]) (off' := ![0, 0]) (size := S96x4048.size) _ _ _ _ _ rfl).trans ?_
    unfold qkQ
    simp only [e1, e2, e3, e4, e5, e6, e7, eS, View.writes_nil, View.readCov_cons_toLoadRect]
    try rfl
  isplitl [H19]
  · iexists _; isplitr; swap; · iexact H19
    ipureintro
    sl_unfold_words
    refine (View.read_writes_full (s := S96x48) _ _ _ _ _).trans ?_
    unfold qkO
    simp only [e1, e2, e3, e4, e5, e6, e7, eS, View.writes_nil, View.readCov_cons_toLoadRect]
    try rfl
  isplitl [H20]
  · iexists _; isplitr; swap; · iexact H20
    ipureintro
    sl_unfold_words
    refine (View.read_writes_full (s := S96x128) _ _ _ _ _).trans ?_
    unfold qkS
    simp only [e1, e2, e3, e4, e5, e6, e7, eS, View.writes_nil, View.readCov_cons_toLoadRect]
    try rfl
  isplitl [H21]
  · iexists _; isplitr; swap; · iexact H21
    ipureintro
    sl_unfold_words
    refine (View.read_writes_cons_put (s := S96x16x128) _ _ _ _ _ rfl).trans ?_
    refine (congrArg (fun z => VecWindow.put (s := S96x16x128) z _ _ _) (View.read_writes_cons_put (s := S96x16x128) _ _ _ _ _ rfl)).trans ?_
    unfold heads
    unfold qkQ qkO qkS
    simp only [e1, e2, e3, e4, e5, e6, e7, eS, View.writes_nil, View.readCov_cons_toLoadRect]
    try rfl
  isplitl [H22]
  · iexists _; isplitr; swap; · iexact H22
    ipureintro
    sl_unfold_words
    refine (View.read_writes_cons_put (s := S96x16x128) _ _ _ _ _ rfl).trans ?_
    refine (congrArg (fun z => VecWindow.put (s := S96x16x128) z _ _ _) (View.read_writes_cons_put (s := S96x16x128) _ _ _ _ _ rfl)).trans ?_
    unfold heads
    unfold qkQ qkO qkS
    simp only [e1, e2, e3, e4, e5, e6, e7, eS, View.writes_nil, View.readCov_cons_toLoadRect]
    try rfl
  iexists _; isplitr; swap; · iexact H23
  ipureintro
  sl_unfold_words
  refine (View.read_writes_cons_put (s := S96x16x128) _ _ _ _ _ rfl).trans ?_
  refine (congrArg (fun z => VecWindow.put (s := S96x16x128) z _ _ _) (View.read_writes_cons_put (s := S96x16x128) _ _ _ _ _ rfl)).trans ?_
  unfold heads
  unfold qkQ qkO qkS
  simp only [e1, e2, e3, e4, e5, e6, e7, eS, View.writes_nil, View.readCov_cons_toLoadRect]
  try rfl

set_option maxHeartbeats 1600000 in
theorem run_mid (c : Dev nD) (E : Set ℕ) (i : grid0.Coords) (h1 : ¬ k0_cond1 i = 1#1) (h2 : ¬ k0_cond2 i = 1#1)
    (arg1 : Memref sig .tc .vmem S96x4096 .bf16) (harg1 : arg1.IsWhole) (arg2 : Memref sig .tc .vmem S1x4096 .f32) (harg2 : arg2.IsWhole) (arg3 : Memref sig .tc .vmem S1x4096 .f32) (harg3 : arg3.IsWhole) (arg4 : Memref sig .tc .vmem S4048x768 .i8) (harg4 : arg4.IsWhole) (arg5 : Memref sig .tc .vmem S1x768 .f32) (harg5 : arg5.IsWhole) (arg6 : Memref sig .tc .vmem S48x768 .bf16) (harg6 : arg6.IsWhole) (arg7 : Memref sig .tc .vmem S1x768 .f32) (harg7 : arg7.IsWhole) (arg8 : Memref sig .tc .vmem S96x4048 .i8) (harg8 : arg8.IsWhole) (arg9 : Memref sig .tc .vmem S1x96 .f32) (harg9 : arg9.IsWhole) (arg10 : Memref sig .tc .vmem S96x16x128 .bf16) (harg10 : arg10.IsWhole) (arg11 : Memref sig .tc .vmem S96x16x128 .i8) (harg11 : arg11.IsWhole) (arg12 : Memref sig .tc .vmem S16x96 .f32) (harg12 : arg12.IsWhole) (arg13 : Memref sig .tc .vmem S96x16x128 .i8) (harg13 : arg13.IsWhole) (arg14 : Memref sig .tc .vmem S16x96 .f32) (harg14 : arg14.IsWhole) (arg15 : Memref sig .tc .vmem S96x16x128 .f32) (harg15 : arg15.IsWhole) (arg16 : Memref sig .tc .vmem S96x16x128 .f32) (harg16 : arg16.IsWhole) (arg17 : Memref sig .tc .vmem S96x16x128 .f32) (harg17 : arg17.IsWhole) (arg18 : Memref sig .tc .vmem S96x4096 .bf16) (harg18 : arg18.IsWhole) (arg19 : Memref sig .tc .vmem S96x48 .bf16) (harg19 : arg19.IsWhole) (arg20 : Memref sig .tc .vmem S96x128 .f32) (harg20 : arg20.IsWhole) (arg21 : Memref sig .tc .vmem S96x16x128 .f32) (harg21 : arg21.IsWhole) (arg22 : Memref sig .tc .vmem S96x16x128 .f32) (harg22 : arg22.IsWhole) (arg23 : Memref sig .tc .vmem S96x16x128 .f32) (harg23 : arg23.IsWhole)
    (x4 : Vec F S4048x768 .i8) (x5 : Vec F S1x768 .f32) (x6 : Vec F S48x768 .bf16) (x7 : Vec F S1x768 .f32) (x18 : Vec F S96x4096 .bf16) (x19 : Vec F S96x48 .bf16) (x20 : Vec F S96x128 .f32) (x21 : Vec F S96x16x128 .f32) (x22 : Vec F S96x16x128 .f32) (x23 : Vec F S96x16x128 .f32) (K : PUnit → sProp 𝕄) :
    iprop(owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23
        ∗ (iprop(owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg18 fullShare x18 ∗ owns (c : Thread nD τ) arg19 fullShare x19 ∗ owns (c : Thread nD τ) arg20 fullShare x20 ∗ owns (c : Thread nD τ) arg21 fullShare (heads i x21 (k0_pay1977 (View.ld x18 rA) (View.ld x20 rS) x19 x4 x5 x6 x7) (k0_pay3 (k0_pay1976 (View.ld x18 rA) (View.ld x20 rS) x19 x4 x5 x6 x7))) ∗ owns (c : Thread nD τ) arg22 fullShare (heads i x22 (k0_pay1 (k0_pay1978 (View.ld x18 rA) (View.ld x20 rS) x19 x4 x5 x6 x7)) (k0_pay4 (k0_pay1976 (View.ld x18 rA) (View.ld x20 rS) x19 x4 x5 x6 x7))) ∗ owns (c : Thread nD τ) arg23 fullShare (heads i x23 (k0_pay2 (k0_pay1976 (View.ld x18 rA) (View.ld x20 rS) x19 x4 x5 x6 x7)) (k0_pay5 (k0_pay1976 (View.ld x18 rA) (View.ld x20 rS) x19 x4 x5 x6 x7)))) -∗ K ⟨⟩))
      ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_qkv_eq_skeleton]; unfold cc0_qkv_skel
  simp only [k0_part239_eq_skeleton]; unfold k0_part239_skel
  rw [dif_neg h1, dif_neg h2]
  unfold owns
  iintro ⟨⟨%f4, %hf4, H4⟩, ⟨%f5, %hf5, H5⟩, ⟨%f6, %hf6, H6⟩, ⟨%f7, %hf7, H7⟩, ⟨%f18, %hf18, H18⟩, ⟨%f19, %hf19, H19⟩, ⟨%f20, %hf20, H20⟩, ⟨%f21, %hf21, H21⟩, ⟨%f22, %hf22, H22⟩, ⟨%f23, %hf23, H23⟩, Hk⟩
  subst hf4 hf5 hf6 hf7 hf18 hf19 hf20 hf21 hf22 hf23
  sl_exec
  have e4 : View.readAt (Elt F) arg4.view (Rect.unit (s := S4048x768) ![0, 0] ![4048, 768] inb_S4048x768_S4048x768_0_0).toLoadRect f4 = View.read (Elt F) arg4.view f4 :=
    View.readAt_full (s := S4048x768) _ _ _
  have e5 : View.readAt (Elt F) arg5.view (Rect.unit (s := S1x768) ![0, 0] ![1, 768] inb_S1x768_S1x768_0_0).toLoadRect f5 = View.read (Elt F) arg5.view f5 :=
    View.readAt_full (s := S1x768) _ _ _
  have e6 : View.readAt (Elt F) arg6.view (Rect.unit (s := S48x768) ![0, 0] ![48, 768] inb_S48x768_S48x768_0_0).toLoadRect f6 = View.read (Elt F) arg6.view f6 :=
    View.readAt_full (s := S48x768) _ _ _
  have e7 : View.readAt (Elt F) arg7.view (Rect.unit (s := S1x768) ![0, 0] ![1, 768] inb_S1x768_S1x768_0_0).toLoadRect f7 = View.read (Elt F) arg7.view f7 :=
    View.readAt_full (s := S1x768) _ _ _
  have e19 : View.readAt (Elt F) arg19.view (Rect.unit (s := S96x48) ![0, 0] ![96, 48] inb_S96x48_S96x48_0_0).toLoadRect f19 = View.read (Elt F) arg19.view f19 :=
    View.readAt_full (s := S96x48) _ _ _
  sl_step
  iapply Hk
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H18]
  · iexists _; isplitr; swap; · iexact H18
    ipureintro; rfl
  isplitl [H19]
  · iexists _; isplitr; swap; · iexact H19
    ipureintro; rfl
  isplitl [H20]
  · iexists _; isplitr; swap; · iexact H20
    ipureintro; rfl
  isplitl [H21]
  · iexists _; isplitr; swap; · iexact H21
    ipureintro
    refine (View.read_writes_cons_put (s := S96x16x128) _ _ _ _ _ rfl).trans ?_
    refine (congrArg (fun z => VecWindow.put (s := S96x16x128) z _ _ _) (View.read_writes_cons_put (s := S96x16x128) _ _ _ _ _ rfl)).trans ?_
    unfold heads
    simp only [e4, e5, e6, e7, e19, View.writes_nil, View.readCov_cons_toLoadRect]
    try rfl
  isplitl [H22]
  · iexists _; isplitr; swap; · iexact H22
    ipureintro
    refine (View.read_writes_cons_put (s := S96x16x128) _ _ _ _ _ rfl).trans ?_
    refine (congrArg (fun z => VecWindow.put (s := S96x16x128) z _ _ _) (View.read_writes_cons_put (s := S96x16x128) _ _ _ _ _ rfl)).trans ?_
    unfold heads
    simp only [e4, e5, e6, e7, e19, View.writes_nil, View.readCov_cons_toLoadRect]
    try rfl
  iexists _; isplitr; swap; · iexact H23
  ipureintro
  refine (View.read_writes_cons_put (s := S96x16x128) _ _ _ _ _ rfl).trans ?_
  refine (congrArg (fun z => VecWindow.put (s := S96x16x128) z _ _ _) (View.read_writes_cons_put (s := S96x16x128) _ _ _ _ _ rfl)).trans ?_
  unfold heads
  simp only [e4, e5, e6, e7, e19, View.writes_nil, View.readCov_cons_toLoadRect]
  try rfl

set_option maxHeartbeats 1600000 in
theorem run_heads (c : Dev nD) (E : Set ℕ) (i : grid0.Coords) (h1 : ¬ k0_cond1 i = 1#1)
    (arg1 : Memref sig .tc .vmem S96x4096 .bf16) (harg1 : arg1.IsWhole) (arg2 : Memref sig .tc .vmem S1x4096 .f32) (harg2 : arg2.IsWhole) (arg3 : Memref sig .tc .vmem S1x4096 .f32) (harg3 : arg3.IsWhole) (arg4 : Memref sig .tc .vmem S4048x768 .i8) (harg4 : arg4.IsWhole) (arg5 : Memref sig .tc .vmem S1x768 .f32) (harg5 : arg5.IsWhole) (arg6 : Memref sig .tc .vmem S48x768 .bf16) (harg6 : arg6.IsWhole) (arg7 : Memref sig .tc .vmem S1x768 .f32) (harg7 : arg7.IsWhole) (arg8 : Memref sig .tc .vmem S96x4048 .i8) (harg8 : arg8.IsWhole) (arg9 : Memref sig .tc .vmem S1x96 .f32) (harg9 : arg9.IsWhole) (arg10 : Memref sig .tc .vmem S96x16x128 .bf16) (harg10 : arg10.IsWhole) (arg11 : Memref sig .tc .vmem S96x16x128 .i8) (harg11 : arg11.IsWhole) (arg12 : Memref sig .tc .vmem S16x96 .f32) (harg12 : arg12.IsWhole) (arg13 : Memref sig .tc .vmem S96x16x128 .i8) (harg13 : arg13.IsWhole) (arg14 : Memref sig .tc .vmem S16x96 .f32) (harg14 : arg14.IsWhole) (arg15 : Memref sig .tc .vmem S96x16x128 .f32) (harg15 : arg15.IsWhole) (arg16 : Memref sig .tc .vmem S96x16x128 .f32) (harg16 : arg16.IsWhole) (arg17 : Memref sig .tc .vmem S96x16x128 .f32) (harg17 : arg17.IsWhole) (arg18 : Memref sig .tc .vmem S96x4096 .bf16) (harg18 : arg18.IsWhole) (arg19 : Memref sig .tc .vmem S96x48 .bf16) (harg19 : arg19.IsWhole) (arg20 : Memref sig .tc .vmem S96x128 .f32) (harg20 : arg20.IsWhole) (arg21 : Memref sig .tc .vmem S96x16x128 .f32) (harg21 : arg21.IsWhole) (arg22 : Memref sig .tc .vmem S96x16x128 .f32) (harg22 : arg22.IsWhole) (arg23 : Memref sig .tc .vmem S96x16x128 .f32) (harg23 : arg23.IsWhole)
    (x4 : Vec F S4048x768 .i8) (x5 : Vec F S1x768 .f32) (x6 : Vec F S48x768 .bf16) (x7 : Vec F S1x768 .f32) (x18 : Vec F S96x4096 .bf16) (x19 : Vec F S96x48 .bf16) (x20 : Vec F S96x128 .f32) (x21 : Vec F S96x16x128 .f32) (x22 : Vec F S96x16x128 .f32) (x23 : Vec F S96x16x128 .f32) (p : Prog (TpuEff nD τ sig (Elt F) Λ₀ .tc) PUnit) (K : PUnit → sProp 𝕄) :
    iprop(owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23
        ∗ (iprop(owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg18 fullShare x18 ∗ owns (c : Thread nD τ) arg19 fullShare x19 ∗ owns (c : Thread nD τ) arg20 fullShare x20 ∗ owns (c : Thread nD τ) arg21 fullShare (heads i x21 (k0_pay1977 (View.ld x18 rA) (View.ld x20 rS) x19 x4 x5 x6 x7) (k0_pay3 (k0_pay1976 (View.ld x18 rA) (View.ld x20 rS) x19 x4 x5 x6 x7))) ∗ owns (c : Thread nD τ) arg22 fullShare (heads i x22 (k0_pay1 (k0_pay1978 (View.ld x18 rA) (View.ld x20 rS) x19 x4 x5 x6 x7)) (k0_pay4 (k0_pay1976 (View.ld x18 rA) (View.ld x20 rS) x19 x4 x5 x6 x7))) ∗ owns (c : Thread nD τ) arg23 fullShare (heads i x23 (k0_pay2 (k0_pay1976 (View.ld x18 rA) (View.ld x20 rS) x19 x4 x5 x6 x7)) (k0_pay5 (k0_pay1976 (View.ld x18 rA) (View.ld x20 rS) x19 x4 x5 x6 x7)))) -∗ wp frame (wpE (defs₀ (F := F)) Variants.none c none) E p K))
      ⊢ wp frame (wpE (defs₀ (F := F)) Variants.none c none) E (do
      let ⟨arg0, v21, v23, v29⟩ : Σ' (arg0 : BitVec 32) (v21 : FVec F S96x768 .f32) (v23 : BitVec 32), FVec F S96x128 .f32 ← k0_part239 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23
      Prog.lift (.store arg22 (Rect.unit (s := S96x16x128) (k0_off1 i 0#32) S96x1x128.size (k0_off1_inb i 0)) (k0_pay1 v29) Finset.univ (View.stores_vmem_bits_univ h_S96x1x128 rfl) (.inl rfl))
      let v36 : Vec F S96x1x128 .f32 ← Prog.lift (.load arg23 (Rect.unit (s := S96x16x128) (k0_off1 i 0#32) S96x1x128.size (k0_off1_inb i 0)).toLoadRect (View.loadsAt_vmem h_S96x1x128))
      Prog.lift (.store arg23 (Rect.unit (s := S96x16x128) (k0_off1 i 0#32) S96x1x128.size (k0_off1_inb i 0)) (k0_pay2 v21) Finset.univ (View.stores_vmem_bits_univ h_S96x1x128 rfl) (.inl rfl))
      let v43 : Vec F S96x1x128 .f32 ← Prog.lift (.load arg21 (Rect.unit (s := S96x16x128) (k0_off1 i 1#32) S96x1x128.size (k0_off1_inb i 1)).toLoadRect (View.loadsAt_vmem h_S96x1x128))
      Prog.lift (.store arg21 (Rect.unit (s := S96x16x128) (k0_off1 i 1#32) S96x1x128.size (k0_off1_inb i 1)) (k0_pay3 v21) Finset.univ (View.stores_vmem_bits_univ h_S96x1x128 rfl) (.inl rfl))
      let v48 : Vec F S96x1x128 .f32 ← Prog.lift (.load arg22 (Rect.unit (s := S96x16x128) (k0_off1 i 1#32) S96x1x128.size (k0_off1_inb i 1)).toLoadRect (View.loadsAt_vmem h_S96x1x128))
      Prog.lift (.store arg22 (Rect.unit (s := S96x16x128) (k0_off1 i 1#32) S96x1x128.size (k0_off1_inb i 1)) (k0_pay4 v21) Finset.univ (View.stores_vmem_bits_univ h_S96x1x128 rfl) (.inl rfl))
      let v53 : Vec F S96x1x128 .f32 ← Prog.lift (.load arg23 (Rect.unit (s := S96x16x128) (k0_off1 i 1#32) S96x1x128.size (k0_off1_inb i 1)).toLoadRect (View.loadsAt_vmem h_S96x1x128))
      Prog.lift (.store arg23 (Rect.unit (s := S96x16x128) (k0_off1 i 1#32) S96x1x128.size (k0_off1_inb i 1)) (k0_pay5 v21) Finset.univ (View.stores_vmem_bits_univ h_S96x1x128 rfl) (.inl rfl))
      p) K := by
  simp only [k0_part239_eq_skeleton]; unfold k0_part239_skel
  rw [dif_neg h1]
  unfold owns
  iintro ⟨⟨%f4, %hf4, H4⟩, ⟨%f5, %hf5, H5⟩, ⟨%f6, %hf6, H6⟩, ⟨%f7, %hf7, H7⟩, ⟨%f18, %hf18, H18⟩, ⟨%f19, %hf19, H19⟩, ⟨%f20, %hf20, H20⟩, ⟨%f21, %hf21, H21⟩, ⟨%f22, %hf22, H22⟩, ⟨%f23, %hf23, H23⟩, Hk⟩
  subst hf4 hf5 hf6 hf7 hf18 hf19 hf20 hf21 hf22 hf23
  sl_exec
  have e4 : View.readAt (Elt F) arg4.view (Rect.unit (s := S4048x768) ![0, 0] ![4048, 768] inb_S4048x768_S4048x768_0_0).toLoadRect f4 = View.read (Elt F) arg4.view f4 :=
    View.readAt_full (s := S4048x768) _ _ _
  have e5 : View.readAt (Elt F) arg5.view (Rect.unit (s := S1x768) ![0, 0] ![1, 768] inb_S1x768_S1x768_0_0).toLoadRect f5 = View.read (Elt F) arg5.view f5 :=
    View.readAt_full (s := S1x768) _ _ _
  have e6 : View.readAt (Elt F) arg6.view (Rect.unit (s := S48x768) ![0, 0] ![48, 768] inb_S48x768_S48x768_0_0).toLoadRect f6 = View.read (Elt F) arg6.view f6 :=
    View.readAt_full (s := S48x768) _ _ _
  have e7 : View.readAt (Elt F) arg7.view (Rect.unit (s := S1x768) ![0, 0] ![1, 768] inb_S1x768_S1x768_0_0).toLoadRect f7 = View.read (Elt F) arg7.view f7 :=
    View.readAt_full (s := S1x768) _ _ _
  have e19 : View.readAt (Elt F) arg19.view (Rect.unit (s := S96x48) ![0, 0] ![96, 48] inb_S96x48_S96x48_0_0).toLoadRect f19 = View.read (Elt F) arg19.view f19 :=
    View.readAt_full (s := S96x48) _ _ _
  iapply Hk
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H18]
  · iexists _; isplitr; swap; · iexact H18
    ipureintro; rfl
  isplitl [H19]
  · iexists _; isplitr; swap; · iexact H19
    ipureintro; rfl
  isplitl [H20]
  · iexists _; isplitr; swap; · iexact H20
    ipureintro; rfl
  isplitl [H21]
  · iexists _; isplitr; swap; · iexact H21
    ipureintro
    refine (View.read_writes_cons_put (s := S96x16x128) _ _ _ _ _ rfl).trans ?_
    refine (congrArg (fun z => VecWindow.put (s := S96x16x128) z _ _ _) (View.read_writes_cons_put (s := S96x16x128) _ _ _ _ _ rfl)).trans ?_
    unfold heads
    simp only [e4, e5, e6, e7, e19, View.writes_nil, View.readCov_cons_toLoadRect]
    try rfl
  isplitl [H22]
  · iexists _; isplitr; swap; · iexact H22
    ipureintro
    refine (View.read_writes_cons_put (s := S96x16x128) _ _ _ _ _ rfl).trans ?_
    refine (congrArg (fun z => VecWindow.put (s := S96x16x128) z _ _ _) (View.read_writes_cons_put (s := S96x16x128) _ _ _ _ _ rfl)).trans ?_
    unfold heads
    simp only [e4, e5, e6, e7, e19, View.writes_nil, View.readCov_cons_toLoadRect]
    try rfl
  iexists _; isplitr; swap; · iexact H23
  ipureintro
  refine (View.read_writes_cons_put (s := S96x16x128) _ _ _ _ _ rfl).trans ?_
  refine (congrArg (fun z => VecWindow.put (s := S96x16x128) z _ _ _) (View.read_writes_cons_put (s := S96x16x128) _ _ _ _ _ rfl)).trans ?_
  unfold heads
  simp only [e4, e5, e6, e7, e19, View.writes_nil, View.readCov_cons_toLoadRect]
  try rfl

theorem run_last (c : Dev nD) (E : Set ℕ) (i : grid0.Coords) (h1 : ¬ k0_cond1 i = 1#1) (h2 : k0_cond2 i = 1#1)
    (arg1 : Memref sig .tc .vmem S96x4096 .bf16) (harg1 : arg1.IsWhole) (arg2 : Memref sig .tc .vmem S1x4096 .f32) (harg2 : arg2.IsWhole) (arg3 : Memref sig .tc .vmem S1x4096 .f32) (harg3 : arg3.IsWhole) (arg4 : Memref sig .tc .vmem S4048x768 .i8) (harg4 : arg4.IsWhole) (arg5 : Memref sig .tc .vmem S1x768 .f32) (harg5 : arg5.IsWhole) (arg6 : Memref sig .tc .vmem S48x768 .bf16) (harg6 : arg6.IsWhole) (arg7 : Memref sig .tc .vmem S1x768 .f32) (harg7 : arg7.IsWhole) (arg8 : Memref sig .tc .vmem S96x4048 .i8) (harg8 : arg8.IsWhole) (arg9 : Memref sig .tc .vmem S1x96 .f32) (harg9 : arg9.IsWhole) (arg10 : Memref sig .tc .vmem S96x16x128 .bf16) (harg10 : arg10.IsWhole) (arg11 : Memref sig .tc .vmem S96x16x128 .i8) (harg11 : arg11.IsWhole) (arg12 : Memref sig .tc .vmem S16x96 .f32) (harg12 : arg12.IsWhole) (arg13 : Memref sig .tc .vmem S96x16x128 .i8) (harg13 : arg13.IsWhole) (arg14 : Memref sig .tc .vmem S16x96 .f32) (harg14 : arg14.IsWhole) (arg15 : Memref sig .tc .vmem S96x16x128 .f32) (harg15 : arg15.IsWhole) (arg16 : Memref sig .tc .vmem S96x16x128 .f32) (harg16 : arg16.IsWhole) (arg17 : Memref sig .tc .vmem S96x16x128 .f32) (harg17 : arg17.IsWhole) (arg18 : Memref sig .tc .vmem S96x4096 .bf16) (harg18 : arg18.IsWhole) (arg19 : Memref sig .tc .vmem S96x48 .bf16) (harg19 : arg19.IsWhole) (arg20 : Memref sig .tc .vmem S96x128 .f32) (harg20 : arg20.IsWhole) (arg21 : Memref sig .tc .vmem S96x16x128 .f32) (harg21 : arg21.IsWhole) (arg22 : Memref sig .tc .vmem S96x16x128 .f32) (harg22 : arg22.IsWhole) (arg23 : Memref sig .tc .vmem S96x16x128 .f32) (harg23 : arg23.IsWhole)
    (x4 : Vec F S4048x768 .i8) (x5 : Vec F S1x768 .f32) (x6 : Vec F S48x768 .bf16) (x7 : Vec F S1x768 .f32) (x10 : Vec F S96x16x128 .bf16) (x11 : Vec F S96x16x128 .i8) (x12 : Vec F S16x96 .f32) (x13 : Vec F S96x16x128 .i8) (x14 : Vec F S16x96 .f32) (x15 : Vec F S96x16x128 .f32) (x16 : Vec F S96x16x128 .f32) (x17 : Vec F S96x16x128 .f32) (x18 : Vec F S96x4096 .bf16) (x19 : Vec F S96x48 .bf16) (x20 : Vec F S96x128 .f32) (x21 : Vec F S96x16x128 .f32) (x22 : Vec F S96x16x128 .f32) (x23 : Vec F S96x16x128 .f32) (X21 X22 X23 : Vec F S96x16x128 .f32) (E21 : (heads i x21 (k0_pay1977 (View.ld x18 rA) (View.ld x20 rS) x19 x4 x5 x6 x7) (k0_pay3 (k0_pay1976 (View.ld x18 rA) (View.ld x20 rS) x19 x4 x5 x6 x7))) = X21) (E22 : (heads i x22 (k0_pay1 (k0_pay1978 (View.ld x18 rA) (View.ld x20 rS) x19 x4 x5 x6 x7)) (k0_pay4 (k0_pay1976 (View.ld x18 rA) (View.ld x20 rS) x19 x4 x5 x6 x7))) = X22) (E23 : (heads i x23 (k0_pay2 (k0_pay1976 (View.ld x18 rA) (View.ld x20 rS) x19 x4 x5 x6 x7)) (k0_pay5 (k0_pay1976 (View.ld x18 rA) (View.ld x20 rS) x19 x4 x5 x6 x7))) = X23) (K : PUnit → sProp 𝕄) :
    iprop(owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23
        ∗ (iprop(owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg10 fullShare (full (s10 X21)) ∗ owns (c : Thread nD τ) arg11 fullShare (full (s11 X22)) ∗ owns (c : Thread nD τ) arg12 fullShare (k0_pay9 (scales (kScale X22) 96)) ∗ owns (c : Thread nD τ) arg13 fullShare (full (s13 X23)) ∗ owns (c : Thread nD τ) arg14 fullShare (k0_pay10 (scales (vScale X23) 96)) ∗ owns (c : Thread nD τ) arg15 fullShare (full (s15 X21 X22)) ∗ owns (c : Thread nD τ) arg16 fullShare (full (s16 X21 X22)) ∗ owns (c : Thread nD τ) arg17 fullShare (full (s17 X21 X22 X23)) ∗ owns (c : Thread nD τ) arg18 fullShare x18 ∗ owns (c : Thread nD τ) arg19 fullShare x19 ∗ owns (c : Thread nD τ) arg20 fullShare x20 ∗ owns (c : Thread nD τ) arg21 fullShare X21 ∗ owns (c : Thread nD τ) arg22 fullShare X22 ∗ owns (c : Thread nD τ) arg23 fullShare X23) -∗ K ⟨⟩))
      ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_qkv_eq_skeleton]; unfold cc0_qkv_skel
  rw [dif_pos h2]
  subst E21 E22 E23
  refine BIBase.Entails.trans ?_ (run_heads c E i h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x4 x5 x6 x7 x18 x19 x20 x21 x22 x23 (tailProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K)
  iintro ⟨H4, H5, H6, H7, H10, H11, H12, H13, H14, H15, H16, H17, H18, H19, H20, H21, H22, H23, Hk⟩
  isplitl [H4]; · iexact H4
  isplitl [H5]; · iexact H5
  isplitl [H6]; · iexact H6
  isplitl [H7]; · iexact H7
  isplitl [H18]; · iexact H18
  isplitl [H19]; · iexact H19
  isplitl [H20]; · iexact H20
  isplitl [H21]; · iexact H21
  isplitl [H22]; · iexact H22
  isplitl [H23]; · iexact H23
  iintro ⟨H4, H5, H6, H7, H18, H19, H20, H21, H22, H23⟩
  iapply (tail c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (heads i x21 (k0_pay1977 (View.ld x18 rA) (View.ld x20 rS) x19 x4 x5 x6 x7) (k0_pay3 (k0_pay1976 (View.ld x18 rA) (View.ld x20 rS) x19 x4 x5 x6 x7))) (heads i x22 (k0_pay1 (k0_pay1978 (View.ld x18 rA) (View.ld x20 rS) x19 x4 x5 x6 x7)) (k0_pay4 (k0_pay1976 (View.ld x18 rA) (View.ld x20 rS) x19 x4 x5 x6 x7))) (heads i x23 (k0_pay2 (k0_pay1976 (View.ld x18 rA) (View.ld x20 rS) x19 x4 x5 x6 x7)) (k0_pay5 (k0_pay1976 (View.ld x18 rA) (View.ld x20 rS) x19 x4 x5 x6 x7))) x10 x11 x13 x15 x16 x17 x12 x14 K)
  unfold st
  simp only [fill_zero, fill_all]
  isplitl [H21 H22 H23 H10 H11 H13 H15 H16 H17 H12 H14]
  · isplitl [H21 H22 H23 H10 H11 H13 H15 H16 H17]
    · isplitl [H21]; · iexact H21
      isplitl [H22]; · iexact H22
      isplitl [H23]; · iexact H23
      isplitl [H10]; · iexact H10
      isplitl [H11]; · iexact H11
      isplitl [H13]; · iexact H13
      isplitl [H15]; · iexact H15
      isplitl [H16]; · iexact H16
      iexact H17
    isplitl [H12]; · iexact H12
    iexact H14
  iintro ⟨⟨H21, H22, H23, H10, H11, H13, H15, H16, H17⟩, H12, H14⟩
  iapply Hk
  isplitl [H4]; · iexact H4
  isplitl [H5]; · iexact H5
  isplitl [H6]; · iexact H6
  isplitl [H7]; · iexact H7
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iexact H23

variable (m : (ℓ : Loc nD τ sig) → Buf (Elt F) ℓ) (ρ : Dev nD → PrngReg)

/-! ## The values the points compute -/

/-- The rows the call is given, -/
abbrev gX (c : Dev nD) : Vec F S96x4096 .bf16 := iblk m c 0 t0_0
/-- the factors of the layer norm -/
abbrev gG (c : Dev nD) : Vec F S1x4096 .f32 := iblk m c 1 t0_0
/-- and its offsets. -/
abbrev gB (c : Dev nD) : Vec F S1x4096 .f32 := iblk m c 2 t0_0

/-- Point `n`. -/
def pt (n : ℕ) : Fin cfg0.N := ⟨n % 8, lt_of_lt_of_eq (Nat.mod_lt _ (by decide)) N_0.symm⟩

theorem pt_val (t : Fin cfg0.N) : pt t.val = t :=
  Fin.ext (Nat.mod_eq_of_lt (lt_of_lt_of_eq t.isLt N_0))

/-- The columns of the product that point `t` computes. -/
def tile (c : Dev nD) (t : Fin cfg0.N) : Vec F S96x768 .f32 := k0_pay1976 (qkQ (gX m c) (gG m c) (gB m c)) (View.ld (qkS (gX m c) (gG m c) (gB m c)) rS) (qkO (gX m c) (gG m c) (gB m c)) (iblk m c 3 t) (iblk m c 4 t) (iblk m c 5 t) (iblk m c 6 t)
/-- The two heads of `q` that it stores, -/
def q0 (c : Dev nD) (t : Fin cfg0.N) : Vec F S96x1x128 .f32 := k0_pay1977 (qkQ (gX m c) (gG m c) (gB m c)) (View.ld (qkS (gX m c) (gG m c) (gB m c)) rS) (qkO (gX m c) (gG m c) (gB m c)) (iblk m c 3 t) (iblk m c 4 t) (iblk m c 5 t) (iblk m c 6 t)
def q1 (c : Dev nD) (t : Fin cfg0.N) : Vec F S96x1x128 .f32 := k0_pay3 (tile m c t)
/-- those of `k` -/
def k0 (c : Dev nD) (t : Fin cfg0.N) : Vec F S96x1x128 .f32 := k0_pay1 (k0_pay1978 (qkQ (gX m c) (gG m c) (gB m c)) (View.ld (qkS (gX m c) (gG m c) (gB m c)) rS) (qkO (gX m c) (gG m c) (gB m c)) (iblk m c 3 t) (iblk m c 4 t) (iblk m c 5 t) (iblk m c 6 t))
def k1 (c : Dev nD) (t : Fin cfg0.N) : Vec F S96x1x128 .f32 := k0_pay4 (tile m c t)
/-- and those of `v`. -/
def v0 (c : Dev nD) (t : Fin cfg0.N) : Vec F S96x1x128 .f32 := k0_pay2 (tile m c t)
def v1 (c : Dev nD) (t : Fin cfg0.N) : Vec F S96x1x128 .f32 := k0_pay5 (tile m c t)

/-- All heads of `q`, -/
def arrQ (c : Dev nD) : Vec F S96x16x128 .f32 := allHeads (fun n => q0 m c (pt n)) (fun n => q1 m c (pt n))
/-- of `k` -/
def arrK (c : Dev nD) : Vec F S96x16x128 .f32 := allHeads (fun n => k0 m c (pt n)) (fun n => k1 m c (pt n))
/-- and of `v`. -/
def arrV (c : Dev nD) : Vec F S96x16x128 .f32 := allHeads (fun n => v0 m c (pt n)) (fun n => v1 m c (pt n))

/-! ## What the scratch buffers hold before point n -/

/-- The codes, the unquantised channels and the scales after the first point; the heads of the points passed. -/
def Inv (c : Dev nD) (n : ℕ) (X18 : Vec F S96x4096 .bf16) (X19 : Vec F S96x48 .bf16) (X20 : Vec F S96x128 .f32) (X21 X22 X23 : Vec F S96x16x128 .f32) : Prop :=
  (0 < n → View.ld (Val := Elt F) X18 rA = qkQ (gX m c) (gG m c) (gB m c) ∧ X19 = qkO (gX m c) (gG m c) (gB m c) ∧ X20 = qkS (gX m c) (gG m c) (gB m c))
    ∧ ∀ y : S96x16x128.Idx, (y 1).val < 2 * n → X21 y = arrQ m c y ∧ X22 y = arrK m c y ∧ X23 y = arrV m c y

/-- The scratch buffers at such contents and the generator register. -/
def phi (c : Dev nD) (n : ℕ) : sProp 𝕄 :=
  iprop(∃ X18 X19 X20 X21 X22 X23, ⌜Inv m c n X18 X19 X20 X21 X22 X23⌝
    ∗ owns (c : Thread nD τ) (Memref.whole cc0_scratch0) fullShare X18 ∗ owns (c : Thread nD τ) (Memref.whole cc0_scratch1) fullShare X19 ∗ owns (c : Thread nD τ) (Memref.whole cc0_scratch2) fullShare X20 ∗ owns (c : Thread nD τ) (Memref.whole cc0_scratch3) fullShare X21 ∗ owns (c : Thread nD τ) (Memref.whole cc0_scratch4) fullShare X22 ∗ owns (c : Thread nD τ) (Memref.whole cc0_scratch5) fullShare X23 ∗ ∃ r : PrngReg, prngReg c r)

/-! ## The proof data -/

/-- The arrays as the region finds them; after a point every input's buffer at its block, every result's at the values above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => qkC (gX m c) (gG m c) (gB m c)
    | ⟨8, _⟩ => qkR (gX m c) (gG m c) (gB m c)
    | ⟨9, _⟩ => full (s10 (arrQ m c))
    | ⟨10, _⟩ => full (s11 (arrK m c))
    | ⟨11, _⟩ => k0_pay9 (scales (kScale (arrK m c)) 96)
    | ⟨12, _⟩ => full (s13 (arrV m c))
    | ⟨13, _⟩ => k0_pay10 (scales (vScale (arrV m c)) 96)
    | ⟨14, _⟩ => full (s15 (arrQ m c) (arrK m c))
    | ⟨15, _⟩ => full (s16 (arrQ m c) (arrK m c))
    | ⟨16, _⟩ => full (s17 (arrQ m c) (arrK m c) (arrV m c))
    | ⟨_ + 17, h⟩ => absurd h (Nat.not_lt.2 (Nat.le_add_left _ _))
  Φ t := phi m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = qkC (gX m c) (gG m c) (gB m c) := by dsimp only [dats]
theorem after0_8 (c : Dev nD) (t : Fin cfg0.N) : (dats m 0 c).after 8 t = qkR (gX m c) (gG m c) (gB m c) := by dsimp only [dats]
theorem after0_9 (c : Dev nD) (t : Fin cfg0.N) : (dats m 0 c).after 9 t = full (s10 (arrQ m c)) := by dsimp only [dats]
theorem after0_10 (c : Dev nD) (t : Fin cfg0.N) : (dats m 0 c).after 10 t = full (s11 (arrK m c)) := by dsimp only [dats]
theorem after0_11 (c : Dev nD) (t : Fin cfg0.N) : (dats m 0 c).after 11 t = k0_pay9 (scales (kScale (arrK m c)) 96) := by dsimp only [dats]
theorem after0_12 (c : Dev nD) (t : Fin cfg0.N) : (dats m 0 c).after 12 t = full (s13 (arrV m c)) := by dsimp only [dats]
theorem after0_13 (c : Dev nD) (t : Fin cfg0.N) : (dats m 0 c).after 13 t = k0_pay10 (scales (vScale (arrV m c)) 96) := by dsimp only [dats]
theorem after0_14 (c : Dev nD) (t : Fin cfg0.N) : (dats m 0 c).after 14 t = full (s15 (arrQ m c) (arrK m c)) := by dsimp only [dats]
theorem after0_15 (c : Dev nD) (t : Fin cfg0.N) : (dats m 0 c).after 15 t = full (s16 (arrQ m c) (arrK m c)) := by dsimp only [dats]
theorem after0_16 (c : Dev nD) (t : Fin cfg0.N) : (dats m 0 c).after 16 t = full (s17 (arrQ m c) (arrK m c) (arrV m c)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The points -/

theorem cond1_iff (t : Fin cfg0.N) : k0_cond1 (grid0.coords t) = 1#1 ↔ t.val = 0 := by
  rcases fin_N0 t with rfl | rfl | rfl | rfl | rfl | rfl | rfl | rfl <;> decide

theorem cond2_iff (t : Fin cfg0.N) : k0_cond2 (grid0.coords t) = 1#1 ↔ t.val = 7 := by
  rcases fin_N0 t with rfl | rfl | rfl | rfl | rfl | rfl | rfl | rfl <;> decide

theorem off_0 (t : Fin cfg0.N) : k0_off1 (grid0.coords t) 0#32 = ![0, 2 * t.val, 0] := by
  rcases fin_N0 t with rfl | rfl | rfl | rfl | rfl | rfl | rfl | rfl <;> rfl

theorem off_1 (t : Fin cfg0.N) : k0_off1 (grid0.coords t) 1#32 = ![0, 2 * t.val + 1, 0] := by
  rcases fin_N0 t with rfl | rfl | rfl | rfl | rfl | rfl | rfl | rfl <;> rfl

theorem idle7 (t : Fin cfg0.N) : cfg0.idle 7 (cfg0.grid.coords t) = !(k0_cond1 (grid0.coords t) == 1#1) := rfl
theorem idle8 (t : Fin cfg0.N) : cfg0.idle 8 (cfg0.grid.coords t) = !(k0_cond1 (grid0.coords t) == 1#1) := rfl
theorem idle9 (t : Fin cfg0.N) : cfg0.idle 9 (cfg0.grid.coords t) = !(k0_cond2 (grid0.coords t) == 1#1) := rfl
theorem idle10 (t : Fin cfg0.N) : cfg0.idle 10 (cfg0.grid.coords t) = !(k0_cond2 (grid0.coords t) == 1#1) := rfl
theorem idle11 (t : Fin cfg0.N) : cfg0.idle 11 (cfg0.grid.coords t) = !(k0_cond2 (grid0.coords t) == 1#1) := rfl
theorem idle12 (t : Fin cfg0.N) : cfg0.idle 12 (cfg0.grid.coords t) = !(k0_cond2 (grid0.coords t) == 1#1) := rfl
theorem idle13 (t : Fin cfg0.N) : cfg0.idle 13 (cfg0.grid.coords t) = !(k0_cond2 (grid0.coords t) == 1#1) := rfl
theorem idle14 (t : Fin cfg0.N) : cfg0.idle 14 (cfg0.grid.coords t) = !(k0_cond2 (grid0.coords t) == 1#1) := rfl
theorem idle15 (t : Fin cfg0.N) : cfg0.idle 15 (cfg0.grid.coords t) = !(k0_cond2 (grid0.coords t) == 1#1) := rfl
theorem idle16 (t : Fin cfg0.N) : cfg0.idle 16 (cfg0.grid.coords t) = !(k0_cond2 (grid0.coords t) == 1#1) := rfl

theorem before7 (c : Dev nD) : ∀ (n : ℕ) (t : Fin cfg0.N), t.val = n → 0 < n → ∀ d, (dats m 0 c).before 7 t d = (dats m 0 c).after 7 t
  | 0, _, _, h, _ => absurd h (by decide)
  | n + 1, t, ht, h, d => by
    have hN : t.val < 8 := lt_of_lt_of_eq t.isLt N_0
    have hfl : (cfg0.win 7).flush ⟨t.val - 1, Nat.lt_of_le_of_lt (Nat.sub_le _ _) t.isLt⟩ = false := by
      have hf := flush0_7 ⟨t.val - 1, Nat.lt_of_le_of_lt (Nat.sub_le _ _) t.isLt⟩
      rw [← Bool.not_eq_true, hf]
      show ¬ (t.val - 1) % 8 = 7
      omega
    rw [(dats m 0 c).before_of_pos 7 t (by omega) ((cfg0.win 7).fetch_out rfl t) d, hfl, if_neg Bool.false_ne_true]
    unfold Dat.left
    by_cases h0 : n = 0
    · have hi : cfg0.idle 7 (cfg0.grid.coords ⟨t.val - 1, Nat.lt_of_le_of_lt (Nat.sub_le _ _) t.isLt⟩) = false := by
        rw [idle7, (cond1_iff _).mpr (by show t.val - 1 = 0; omega)]; rfl
      rw [hi]
      dsimp only [Dat.kept]
      rw [after0_7, after0_7]
      rfl
    · have hi : cfg0.idle 7 (cfg0.grid.coords ⟨t.val - 1, Nat.lt_of_le_of_lt (Nat.sub_le _ _) t.isLt⟩) = true := by
        rw [idle7]
        have hc := (cond1_iff ⟨t.val - 1, Nat.lt_of_le_of_lt (Nat.sub_le _ _) t.isLt⟩).not.mpr (by show ¬ t.val - 1 = 0; omega)
        simp [hc]
      rw [hi]
      dsimp only
      rw [before7 c n _ (by show t.val - 1 = n; omega) (by omega) d, after0_7, after0_7]

theorem before8 (c : Dev nD) : ∀ (n : ℕ) (t : Fin cfg0.N), t.val = n → 0 < n → ∀ d, (dats m 0 c).before 8 t d = (dats m 0 c).after 8 t
  | 0, _, _, h, _ => absurd h (by decide)
  | n + 1, t, ht, h, d => by
    have hN : t.val < 8 := lt_of_lt_of_eq t.isLt N_0
    have hfl : (cfg0.win 8).flush ⟨t.val - 1, Nat.lt_of_le_of_lt (Nat.sub_le _ _) t.isLt⟩ = false := by
      have hf := flush0_8 ⟨t.val - 1, Nat.lt_of_le_of_lt (Nat.sub_le _ _) t.isLt⟩
      rw [← Bool.not_eq_true, hf]
      show ¬ (t.val - 1) % 8 = 7
      omega
    rw [(dats m 0 c).before_of_pos 8 t (by omega) ((cfg0.win 8).fetch_out rfl t) d, hfl, if_neg Bool.false_ne_true]
    unfold Dat.left
    by_cases h0 : n = 0
    · have hi : cfg0.idle 8 (cfg0.grid.coords ⟨t.val - 1, Nat.lt_of_le_of_lt (Nat.sub_le _ _) t.isLt⟩) = false := by
        rw [idle8, (cond1_iff _).mpr (by show t.val - 1 = 0; omega)]; rfl
      rw [hi]
      dsimp only [Dat.kept]
      rw [after0_8, after0_8]
      rfl
    · have hi : cfg0.idle 8 (cfg0.grid.coords ⟨t.val - 1, Nat.lt_of_le_of_lt (Nat.sub_le _ _) t.isLt⟩) = true := by
        rw [idle8]
        have hc := (cond1_iff ⟨t.val - 1, Nat.lt_of_le_of_lt (Nat.sub_le _ _) t.isLt⟩).not.mpr (by show ¬ t.val - 1 = 0; omega)
        simp [hc]
      rw [hi]
      dsimp only
      rw [before8 c n _ (by show t.val - 1 = n; omega) (by omega) d, after0_8, after0_8]

/-- A point's two heads put in are those of the whole arrays. -/
theorem heads_inv (c : Dev nD) (t : Fin cfg0.N) (X21 X22 X23 : Vec F S96x16x128 .f32)
    (h : ∀ y : S96x16x128.Idx, (y 1).val < 2 * t.val → X21 y = arrQ m c y ∧ X22 y = arrK m c y ∧ X23 y = arrV m c y)
    (y : S96x16x128.Idx) (hy : (y 1).val < 2 * (t.val + 1)) :
    heads (grid0.coords t) X21 (q0 m c t) (q1 m c t) y = arrQ m c y
      ∧ heads (grid0.coords t) X22 (k0 m c t) (k1 m c t) y = arrK m c y
      ∧ heads (grid0.coords t) X23 (v0 m c t) (v1 m c t) y = arrV m c y := by
  have eQ := heads_step (grid0.coords t) t.val (off_0 t) (off_1 t) X21 (fun n => q0 m c (pt n)) (fun n => q1 m c (pt n)) (fun y hy => (h y hy).1) y hy
  have eK := heads_step (grid0.coords t) t.val (off_0 t) (off_1 t) X22 (fun n => k0 m c (pt n)) (fun n => k1 m c (pt n)) (fun y hy => (h y hy).2.1) y hy
  have eV := heads_step (grid0.coords t) t.val (off_0 t) (off_1 t) X23 (fun n => v0 m c (pt n)) (fun n => v1 m c (pt n)) (fun y hy => (h y hy).2.2) y hy
  simp only [pt_val] at eQ eK eV
  exact ⟨eQ, eK, eV⟩

/-- A buffer the point does not store into is handed back as found; where it is written back it holds what is stated. -/
theorem pass (c : Dev nD) (w : Fin cfg0.W) (t : Fin cfg0.N) (hi : cfg0.idle w (cfg0.grid.coords t) = true)
    (hb : (cfg0.win w).flush t = true → ∀ d, (dats m 0 c).before w t d = (dats m 0 c).after w t) :
    iprop(∃ d, owns (c : Thread nD τ) ((cfg0.win w).stage (cfg0.slots t w)) fullShare ((dats m 0 c).before w t d)) ⊢ (dats m 0 c).leavesExact w t := by
  unfold Dat.leavesExact
  rw [hi]
  cases hf : (cfg0.win w).flush t
  · exact .rfl
  · dsimp only
    iintro ⟨%d, H⟩
    rw [hb hf d]
    iexact H

/-- A buffer the point stores into is left at what is stated. -/
theorem live (c : Dev nD) (w : Fin cfg0.W) (t : Fin cfg0.N) (hi : cfg0.idle w (cfg0.grid.coords t) = false) :
    owns (c : Thread nD τ) ((cfg0.win w).stage (cfg0.slots t w)) fullShare ((dats m 0 c).after w t) ⊢ (dats m 0 c).leavesExact w t := by
  unfold Dat.leavesExact
  rw [hi]

/-! ## The body obligation -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t)

set_option maxHeartbeats 1600000 in
theorem sound_first (c : Dev nD) (t : Fin cfg0.N) (ht : t.val = 0) :
    bodyPre m c t ⊢ wp frame (wpE (defs₀ (F := F)) Variants.none c none) Set.univ (bodyAt0 t) (fun _ => bodyPost m c t) := by
  have hN : t.val < 8 := lt_of_lt_of_eq t.isLt N_0
  have h1 : k0_cond1 (grid0.coords t) = 1#1 := (cond1_iff t).mpr (by omega)
  have h2 : ¬ k0_cond2 (grid0.coords t) = 1#1 := (cond2_iff t).not.mpr (by omega)
  have L7 := live m c 7 t (by rw [idle7, h1]; rfl)
  rw [after0_7] at L7
  have L8 := live m c 8 t (by rw [idle8, h1]; rfl)
  rw [after0_8] at L8
  have L9 := pass m c 9 t (by rw [idle9]; simp [h2]) (fun hf => absurd ((flush0_9 t).mp hf) (by omega))
  have L10 := pass m c 10 t (by rw [idle10]; simp [h2]) (fun hf => absurd ((flush0_10 t).mp hf) (by omega))
  have L11 := pass m c 11 t (by rw [idle11]; simp [h2]) (fun hf => absurd ((flush0_11 t).mp hf) (by omega))
  have L12 := pass m c 12 t (by rw [idle12]; simp [h2]) (fun hf => absurd ((flush0_12 t).mp hf) (by omega))
  have L13 := pass m c 13 t (by rw [idle13]; simp [h2]) (fun hf => absurd ((flush0_13 t).mp hf) (by omega))
  have L14 := pass m c 14 t (by rw [idle14]; simp [h2]) (fun hf => absurd ((flush0_14 t).mp hf) (by omega))
  have L15 := pass m c 15 t (by rw [idle15]; simp [h2]) (fun hf => absurd ((flush0_15 t).mp hf) (by omega))
  have L16 := pass m c 16 t (by rw [idle16]; simp [h2]) (fun hf => absurd ((flush0_16 t).mp hf) (by omega))
  unfold bodyPre bodyPost bodyAt0
  simp only [before0_0, before0_1, before0_2, before0_3, before0_4, before0_5, before0_6]
  rw [show (dats m 0 c).Φ t.castSucc = phi m c t.val from rfl, show (dats m 0 c).Φ t.succ = phi m c (t.val + 1) from rfl,
    show (dats m 0 c).owesAt () t.succ = (dats m 0 c).owesAt () t.castSucc from rfl,
    after0_0, after0_1, after0_2, after0_3, after0_4, after0_5, after0_6]
  unfold phi
  iintro ⟨⟨%X18, %X19, %X20, %X21, %X22, %X23, %hInv, S18, S19, S20, S21, S22, S23, HP⟩, Ho, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, W9, W10, W11, W12, W13, W14, W15, W16⟩
  obtain rfl : t = t0_0 := Fin.ext ht
  iapply (run_first c Set.univ (grid0.coords t0_0) h1 h2 _ _ _ _ _ _ _ _ _ _ _ _ _ _ _ _ _ _ _ _ _ _ _ _ _ _ _ _ _ _ _ _ _ _ _ _ _ _ _ _ _ _ _ _ _ _ (gX m c) (gG m c) (gB m c) (iblk m c 3 t0_0) (iblk m c 4 t0_0) (iblk m c 5 t0_0) (iblk m c 6 t0_0) _ _ X18 X19 X20 X21 X22 X23 _)
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [S18]; · iexact S18
  isplitl [S19]; · iexact S19
  isplitl [S20]; · iexact S20
  isplitl [S21]; · iexact S21
  isplitl [S22]; · iexact S22
  isplitl [S23]; · iexact S23
  iintro ⟨W0, W1, W2, W3, W4, W5, W6, W7, W8, S18, S19, S20, S21, S22, S23⟩
  isplitl [S18 S19 S20 S21 S22 S23 HP]
  · iexists _; iexists _; iexists _; iexists _; iexists _; iexists _
    isplitr; swap
    · isplitl [S18]; · iexact S18
      isplitl [S19]; · iexact S19
      isplitl [S20]; · iexact S20
      isplitl [S21]; · iexact S21
      isplitl [S22]; · iexact S22
      isplitl [S23]; · iexact S23
      iexact HP
    ipureintro
    exact ⟨fun _ => ⟨ld_put18 _ _, rfl, rfl⟩, fun y hy => heads_inv m c t0_0 X21 X22 X23 hInv.2 y hy⟩
  isplitl [Ho]; · iexact Ho
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iapply L7; iexact W7
  isplitl [W8]; · iapply L8; iexact W8
  isplitl [W9]; · iapply L9; iexact W9
  isplitl [W10]; · iapply L10; iexact W10
  isplitl [W11]; · iapply L11; iexact W11
  isplitl [W12]; · iapply L12; iexact W12
  isplitl [W13]; · iapply L13; iexact W13
  isplitl [W14]; · iapply L14; iexact W14
  isplitl [W15]; · iapply L15; iexact W15
  iapply L16; iexact W16

set_option maxHeartbeats 1600000 in
theorem sound_mid (c : Dev nD) (t : Fin cfg0.N) (ht : 0 < t.val ∧ t.val < 7) :
    bodyPre m c t ⊢ wp frame (wpE (defs₀ (F := F)) Variants.none c none) Set.univ (bodyAt0 t) (fun _ => bodyPost m c t) := by
  have hN : t.val < 8 := lt_of_lt_of_eq t.isLt N_0
  have h1 : ¬ k0_cond1 (grid0.coords t) = 1#1 := (cond1_iff t).not.mpr (by omega)
  have h2 : ¬ k0_cond2 (grid0.coords t) = 1#1 := (cond2_iff t).not.mpr (by omega)
  have L7 := pass m c 7 t (by rw [idle7]; simp [h1]) (fun hf => before7 m c t.val t rfl (by omega))
  have L8 := pass m c 8 t (by rw [idle8]; simp [h1]) (fun hf => before8 m c t.val t rfl (by omega))
  have L9 := pass m c 9 t (by rw [idle9]; simp [h2]) (fun hf => absurd ((flush0_9 t).mp hf) (by omega))
  have L10 := pass m c 10 t (by rw [idle10]; simp [h2]) (fun hf => absurd ((flush0_10 t).mp hf) (by omega))
  have L11 := pass m c 11 t (by rw [idle11]; simp [h2]) (fun hf => absurd ((flush0_11 t).mp hf) (by omega))
  have L12 := pass m c 12 t (by rw [idle12]; simp [h2]) (fun hf => absurd ((flush0_12 t).mp hf) (by omega))
  have L13 := pass m c 13 t (by rw [idle13]; simp [h2]) (fun hf => absurd ((flush0_13 t).mp hf) (by omega))
  have L14 := pass m c 14 t (by rw [idle14]; simp [h2]) (fun hf => absurd ((flush0_14 t).mp hf) (by omega))
  have L15 := pass m c 15 t (by rw [idle15]; simp [h2]) (fun hf => absurd ((flush0_15 t).mp hf) (by omega))
  have L16 := pass m c 16 t (by rw [idle16]; simp [h2]) (fun hf => absurd ((flush0_16 t).mp hf) (by omega))
  unfold bodyPre bodyPost bodyAt0
  simp only [before0_0, before0_1, before0_2, before0_3, before0_4, before0_5, before0_6]
  rw [show (dats m 0 c).Φ t.castSucc = phi m c t.val from rfl, show (dats m 0 c).Φ t.succ = phi m c (t.val + 1) from rfl,
    show (dats m 0 c).owesAt () t.succ = (dats m 0 c).owesAt () t.castSucc from rfl,
    after0_0, after0_1, after0_2, after0_3, after0_4, after0_5, after0_6]
  unfold phi
  iintro ⟨⟨%X18, %X19, %X20, %X21, %X22, %X23, %hInv, S18, S19, S20, S21, S22, S23, HP⟩, Ho, ⟨%d0, W0⟩, ⟨%d1, W1⟩, ⟨%d2, W2⟩, ⟨%d3, W3⟩, ⟨%d4, W4⟩, ⟨%d5, W5⟩, ⟨%d6, W6⟩, W7, W8, W9, W10, W11, W12, W13, W14, W15, W16⟩
  obtain ⟨J, JH⟩ := hInv
  obtain ⟨J1, J2, J3⟩ := J (by omega)
  subst J2 J3
  have eH := heads_inv m c t X21 X22 X23 JH
  unfold q0 q1 k0 k1 v0 v1 tile at eH
  rw [← J1] at eH
  iapply (run_mid c Set.univ (grid0.coords t) h1 h2 _ _ _ _ _ _ _ _ _ _ _ _ _ _ _ _ _ _ _ _ _ _ _ _ _ _ _ _ _ _ _ _ _ _ _ _ _ _ _ _ _ _ _ _ _ _ (iblk m c 3 t) (iblk m c 4 t) (iblk m c 5 t) (iblk m c 6 t) X18 _ _ X21 X22 X23 _)
  isplitl [W3]; · iexact W3
  isplitl [W4]; · iexact W4
  isplitl [W5]; · iexact W5
  isplitl [W6]; · iexact W6
  isplitl [S18]; · iexact S18
  isplitl [S19]; · iexact S19
  isplitl [S20]; · iexact S20
  isplitl [S21]; · iexact S21
  isplitl [S22]; · iexact S22
  isplitl [S23]; · iexact S23
  iintro ⟨W3, W4, W5, W6, S18, S19, S20, S21, S22, S23⟩
  isplitl [S18 S19 S20 S21 S22 S23 HP]
  · iexists _; iexists _; iexists _; iexists _; iexists _; iexists _
    isplitr; swap
    · isplitl [S18]; · iexact S18
      isplitl [S19]; · iexact S19
      isplitl [S20]; · iexact S20
      isplitl [S21]; · iexact S21
      isplitl [S22]; · iexact S22
      isplitl [S23]; · iexact S23
      iexact HP
    ipureintro
    exact ⟨fun _ => ⟨J1, rfl, rfl⟩, eH⟩
  isplitl [Ho]; · iexact Ho
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iapply L7; iexact W7
  isplitl [W8]; · iapply L8; iexact W8
  isplitl [W9]; · iapply L9; iexact W9
  isplitl [W10]; · iapply L10; iexact W10
  isplitl [W11]; · iapply L11; iexact W11
  isplitl [W12]; · iapply L12; iexact W12
  isplitl [W13]; · iapply L13; iexact W13
  isplitl [W14]; · iapply L14; iexact W14
  isplitl [W15]; · iapply L15; iexact W15
  iapply L16; iexact W16

set_option maxHeartbeats 1600000 in
theorem sound_last (c : Dev nD) (t : Fin cfg0.N) (ht : t.val = 7) :
    bodyPre m c t ⊢ wp frame (wpE (defs₀ (F := F)) Variants.none c none) Set.univ (bodyAt0 t) (fun _ => bodyPost m c t) := by
  have hN : t.val < 8 := lt_of_lt_of_eq t.isLt N_0
  have h1 : ¬ k0_cond1 (grid0.coords t) = 1#1 := (cond1_iff t).not.mpr (by omega)
  have h2 : k0_cond2 (grid0.coords t) = 1#1 := (cond2_iff t).mpr (by omega)
  have L7 := pass m c 7 t (by rw [idle7]; simp [h1]) (fun hf => before7 m c t.val t rfl (by omega))
  have L8 := pass m c 8 t (by rw [idle8]; simp [h1]) (fun hf => before8 m c t.val t rfl (by omega))
  have L9 := live m c 9 t (by rw [idle9, h2]; rfl)
  rw [after0_9] at L9
  have L10 := live m c 10 t (by rw [idle10, h2]; rfl)
  rw [after0_10] at L10
  have L11 := live m c 11 t (by rw [idle11, h2]; rfl)
  rw [after0_11] at L11
  have L12 := live m c 12 t (by rw [idle12, h2]; rfl)
  rw [after0_12] at L12
  have L13 := live m c 13 t (by rw [idle13, h2]; rfl)
  rw [after0_13] at L13
  have L14 := live m c 14 t (by rw [idle14, h2]; rfl)
  rw [after0_14] at L14
  have L15 := live m c 15 t (by rw [idle15, h2]; rfl)
  rw [after0_15] at L15
  have L16 := live m c 16 t (by rw [idle16, h2]; rfl)
  rw [after0_16] at L16
  unfold bodyPre bodyPost bodyAt0
  simp only [before0_0, before0_1, before0_2, before0_3, before0_4, before0_5, before0_6]
  rw [show (dats m 0 c).Φ t.castSucc = phi m c t.val from rfl, show (dats m 0 c).Φ t.succ = phi m c (t.val + 1) from rfl,
    show (dats m 0 c).owesAt () t.succ = (dats m 0 c).owesAt () t.castSucc from rfl,
    after0_0, after0_1, after0_2, after0_3, after0_4, after0_5, after0_6]
  unfold phi
  iintro ⟨⟨%X18, %X19, %X20, %X21, %X22, %X23, %hInv, S18, S19, S20, S21, S22, S23, HP⟩, Ho, ⟨%d0, W0⟩, ⟨%d1, W1⟩, ⟨%d2, W2⟩, ⟨%d3, W3⟩, ⟨%d4, W4⟩, ⟨%d5, W5⟩, ⟨%d6, W6⟩, W7, W8, ⟨%d9, W9⟩, ⟨%d10, W10⟩, ⟨%d11, W11⟩, ⟨%d12, W12⟩, ⟨%d13, W13⟩, ⟨%d14, W14⟩, ⟨%d15, W15⟩, ⟨%d16, W16⟩⟩
  obtain ⟨J, JH⟩ := hInv
  obtain ⟨J1, J2, J3⟩ := J (by omega)
  subst J2 J3
  have eH := heads_inv m c t X21 X22 X23 JH
  unfold q0 q1 k0 k1 v0 v1 tile at eH
  rw [← J1] at eH
  have lt (y : S96x16x128.Idx) : (y 1).val < 2 * (t.val + 1) := by
    have l : (y 1).val < 16 := (y 1).isLt
    omega
  iapply (run_last c Set.univ (grid0.coords t) h1 h2 _ _ _ _ _ _ _ _ _ _ _ _ _ _ _ _ _ _ _ _ _ _ _ _ _ _ _ _ _ _ _ _ _ _ _ _ _ _ _ _ _ _ _ _ _ _ (iblk m c 3 t) (iblk m c 4 t) (iblk m c 5 t) (iblk m c 6 t) _ _ _ _ _ _ _ _ X18 _ _ X21 X22 X23 (arrQ m c) (arrK m c) (arrV m c)
    (funext fun y => (eH y (lt y)).1) (funext fun y => (eH y (lt y)).2.1) (funext fun y => (eH y (lt y)).2.2) _)
  isplitl [W3]; · iexact W3
  isplitl [W4]; · iexact W4
  isplitl [W5]; · iexact W5
  isplitl [W6]; · iexact W6
  isplitl [W9]; · iexact W9
  isplitl [W10]; · iexact W10
  isplitl [W11]; · iexact W11
  isplitl [W12]; · iexact W12
  isplitl [W13]; · iexact W13
  isplitl [W14]; · iexact W14
  isplitl [W15]; · iexact W15
  isplitl [W16]; · iexact W16
  isplitl [S18]; · iexact S18
  isplitl [S19]; · iexact S19
  isplitl [S20]; · iexact S20
  isplitl [S21]; · iexact S21
  isplitl [S22]; · iexact S22
  isplitl [S23]; · iexact S23
  iintro ⟨W3, W4, W5, W6, W9, W10, W11, W12, W13, W14, W15, W16, S18, S19, S20, S21, S22, S23⟩
  isplitl [S18 S19 S20 S21 S22 S23 HP]
  · iexists _; iexists _; iexists _; iexists _; iexists _; iexists _
    isplitr; swap
    · isplitl [S18]; · iexact S18
      isplitl [S19]; · iexact S19
      isplitl [S20]; · iexact S20
      isplitl [S21]; · iexact S21
      isplitl [S22]; · iexact S22
      isplitl [S23]; · iexact S23
      iexact HP
    ipureintro
    exact ⟨fun _ => ⟨J1, rfl, rfl⟩, fun y _ => ⟨rfl, rfl, rfl⟩⟩
  isplitl [Ho]; · iexact Ho
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iapply L7; iexact W7
  isplitl [W8]; · iapply L8; iexact W8
  isplitl [W9]; · iapply L9; iexact W9
  isplitl [W10]; · iapply L10; iexact W10
  isplitl [W11]; · iapply L11; iexact W11
  isplitl [W12]; · iapply L12; iexact W12
  isplitl [W13]; · iapply L13; iexact W13
  isplitl [W14]; · iapply L14; iexact W14
  isplitl [W15]; · iapply L15; iexact W15
  iapply L16; iexact W16

theorem sound_body (c : Dev nD) (t : Fin cfg0.N) :
    bodyPre m c t ⊢ wp frame (wpE (defs₀ (F := F)) Variants.none c none) Set.univ (bodyAt0 t) (fun _ => bodyPost m c t) := by
  have hN : t.val < 8 := lt_of_lt_of_eq t.isLt N_0
  rcases Nat.eq_zero_or_pos t.val with h0 | h0
  · exact sound_first m c t h0
  · rcases Nat.lt_or_ge t.val 7 with h7 | h7
    · exact sound_mid m c t ⟨h0, h7⟩
    · exact sound_last m c t (by omega)

/-- The body table's row at point t's slots is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem phi_in (c : Dev nD) : (ΦA spec0 c : sProp 𝕄) ⊢ phi m c 0 := by
  unfold ΦA phi
  rw [scopedRest0_eq]
  simp only [owns_whole]
  iintro ⟨⟨⟨%f0, H0⟩, ⟨%f1, H1⟩, ⟨%f2, H2⟩, ⟨%f3, H3⟩, ⟨%f4, H4⟩, ⟨%f5, H5⟩⟩, HP⟩
  iexists f0; iexists f1; iexists f2; iexists f3; iexists f4; iexists f5
  isplitr
  · ipureintro
    exact ⟨fun h => absurd h (by decide), fun y h => absurd h (Nat.not_lt_zero _)⟩
  isplitl [H0]; · iexact H0
  isplitl [H1]; · iexact H1
  isplitl [H2]; · iexact H2
  isplitl [H3]; · iexact H3
  isplitl [H4]; · iexact H4
  isplitl [H5]; · iexact H5
  iexact HP

theorem phi_out (c : Dev nD) (n : ℕ) : phi m c n ⊢ (ΦA spec0 c : sProp 𝕄) := by
  unfold ΦA phi
  rw [scopedRest0_eq]
  simp only [owns_whole]
  iintro ⟨%f0, %f1, %f2, %f3, %f4, %f5, -, H0, H1, H2, H3, H4, H5, HP⟩
  isplitr [HP]; swap; · iexact HP
  isplitl [H0]; · iexists f0; iexact H0
  isplitl [H1]; · iexists f1; iexact H1
  isplitl [H2]; · iexists f2; iexact H2
  isplitl [H3]; · iexists f3; iexact H3
  isplitl [H4]; · iexists f4; iexact H4
  iexists f5; iexact H5

set_option backward.isDefEq.respectTransparency.types false in
/-- Every execution of the program ends, every array at what the proof data say, every counter at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => phi_in m c) (hout := fun c => phi_out m c _)

/-- The argument arrays end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_with_sems (frame_of m ρ (dats m) (A_eq m)) (run_main m ρ)

end Cert.Proof.QkvKernelIdealRun
end
-- ==== Proof.Qkv.QkvKernelTwin.lean ====
module

public import proofs.«01_k».proof.Proof.Qkv.QkvKernelIdealRun
public import proofs.«01_k».proof.Proof.Gen.QkvKernel
public import proofs.«01_k».proof.Defs

/-! The frame of `QkvKernel` at bits. `QkvKernel` and `QkvKernelIdeal` are one program under two names, and the frame of
`QkvKernelIdeal` is proved for every reading of the floats, so it is taken over as it stands. -/

@[expose] public section

set_option maxRecDepth 16384
-- the `match`es of the two programs are equal by unfolding
set_option smartUnfolding false

noncomputable section

namespace Cert.Proof.QkvKernelTwin

open Idealize.ShloMosaic Idealize.SL.Sem

theorem frame : Cert.quiescent_QkvKernel (hQkvKernel := Cert.QkvKernel.Gen.facts) :=
  fun m ρ _ => Cert.Proof.QkvKernelIdealRun.frame (F := Bits) m ρ

end Cert.Proof.QkvKernelTwin
-- ==== Proof.Qkv.QkvEquation.lean ====
module

public import proofs.«01_k».proof.Proof.Qkv.QkvKernelIdealRun
public import proofs.«01_k».proof.Proof.Gen.QkvReferenceIdeal.Frame
public import proofs.«01_k».proof.Proof.Mlp.Equation
public import Idealize.ShloMosaic.Lib.Pointwise

@[expose] public section

set_option maxRecDepth 16384

noncomputable section

namespace Cert.Proof.QkvEquation

open Idealize.ShloMosaic
open Cert.QkvKernelIdeal Cert.QkvKernelIdeal.Gen
open scoped BigOperators
open Cert.Proof.QkvKernelIdealRun
open Cert.Proof.Equation (mixed asReal clipped clipped_back)

/-! ## The quantised rows -/

section Rows
variable {F : FTy → Type} [FloatOps F]
variable (x : Vec F S96x4096 .bf16) (g b : Vec F S1x4096 .f32)

/-- The layer norm is the same expression on both sides. -/
theorem norm_eq : k0_pay11 x g b = Cert.QkvReferenceIdeal.Gen.k0_pay6 x g b := rfl

/-- The row scales of the normalised rows. -/
def sc : FVec F S96 .f32 :=
  Cert.QkvReferenceIdeal.Gen.k0_pay12 (Cert.QkvReferenceIdeal.Gen.k0_pay10 x g b) (Cert.QkvReferenceIdeal.Gen.k0_pay11 x g b) (Scalar.ofBits .f32 0x42FE0000#32)
/-- The integer codes of the normalised rows. -/
def co : IVec S96x4048 8 :=
  Cert.QkvReferenceIdeal.Gen.k0_pay13 (Cert.QkvReferenceIdeal.Gen.k0_pay9 x g b) (Cert.QkvReferenceIdeal.Gen.k0_pay10 x g b) (Cert.QkvReferenceIdeal.Gen.k0_pay11 x g b) (Scalar.ofBits .f32 0x42FE0000#32)

theorem scale_eq : k0_pay13 x g b = shapeCast S96x1 (sc x g b) shapeCasts_S96_S96x1 := rfl

theorem codes_eq : qkC x g b = co x g b := rfl

/-- The row scales laid out as one row. -/
theorem lanes_eq : qkR x g b = Cert.QkvReferenceIdeal.Gen.k0_pay3 (sc x g b) := by
  funext j
  unfold qkR k0_pay1975
  rw [scale_eq]
  generalize sc x g b = s
  unfold Cert.QkvReferenceIdeal.Gen.k0_pay3
  pointwise

/-- The row scale as the first of 128 equal lanes. -/
theorem scale_at (r : Fin 96) : View.ld (qkS x g b) rS (ix2 r 0) = sc x g b (ix1 r) := by
  unfold qkS k0_pay1974
  rw [scale_eq]
  generalize sc x g b = s
  pointwise

/-- The normalised rows over their scales. -/
def pre : FVec F S96x4048 .f32 :=
  divf (Cert.QkvReferenceIdeal.Gen.k0_pay9 x g b) (broadcastTo S96x4048 (shapeCast S96x1 (sc x g b) shapeCasts_S96_S96x1) broadcasts_S96x1_S96x4048)

theorem quant_clip : qkQ x g b = truncf .bf16 (clipped (pre x g b)) bitsLt_bf16_f32 := by
  unfold qkQ k0_pay1971
  exact (shapeCast_self _ _).trans rfl

theorem co_clip : co x g b = fptosi 8 (clipped (pre x g b)) := rfl

/-- The columns left unquantised. -/
def ou : FVec F S96x48 .bf16 :=
  truncf .bf16 (extractStridedSlice S96x48 ![0, 4048] (Cert.QkvReferenceIdeal.Gen.k0_pay6 x g b) slices_S96x4096_o0_4048_S96x48) bitsLt_bf16_f32

theorem out_eq : qkO x g b = ou x g b := by
  unfold qkO k0_pay1973
  exact (shapeCast_self _ _).trans rfl

end Rows

/-! ## The linear layer -/

section Linear
variable (x : Vec Ideal S96x4096 .bf16) (g b : Vec Ideal S1x4096 .f32)

theorem quant_eq : qkQ x g b = (sitofp .bf16 (co x g b) : FVec Ideal S96x4048 .bf16) := by
  rw [quant_clip, co_clip, clipped_back]

theorem tile_at (Q : Vec Ideal S96x4048 .bf16) (S : Vec Ideal S96x1 .f32) (O : Vec Ideal S96x48 .bf16) (W : Vec Ideal S4048x768 .i8)
    (ws : Vec Ideal S1x768 .f32) (wo : Vec Ideal S48x768 .bf16) (bb : Vec Ideal S1x768 .f32) (r : Fin 96) (p : Fin 768) :
    k0_pay1976 Q S O W ws wo bb (ix2 r p)
      = mixed (fun k => Q (ix2 r k)) (fun k => asReal (W (ix2 k p))) (S (ix2 r 0)) (ws (ix2 0 p))
          (fun k => O (ix2 r k)) (fun k => wo (ix2 k p)) (bb (ix2 0 p)) := by
  unfold k0_pay1976
  pointwise
  rfl

/-- The reference's projections, all columns side by side. -/
def flat {F : FTy → Type} [FloatOps F] (A : FVec F S96x4096 .f32) (w : Vec F S4048x6144 .i8) (ws : FVec F Cert.QkvReferenceIdeal.S1x6144 .f32) (wo : Vec F S48x6144 .bf16)
    (bb : FVec F Cert.QkvReferenceIdeal.S1x6144 .f32) (v33 : FVec F S96x4048 .f32) (v35 : FVec F S96 .f32) (v37 : IVec S96 1) (c : F .f32) :
    FVec F Cert.QkvReferenceIdeal.S96x6144 .f32 :=
  addf (addf (mulf (mulf (matmul Cert.QkvReferenceIdeal.dot_S96x4048_S4048x6144_S96x6144_1_0_0_1_n_n none (sitofp .bf16 (Cert.QkvReferenceIdeal.Gen.k0_pay13 v33 v35 v37 c)) (sitofp .bf16 w) (constant _ .f32 0x00000000#32))
    (broadcastTo Cert.QkvReferenceIdeal.S96x6144 (shapeCast S96x1 (Cert.QkvReferenceIdeal.Gen.k0_pay12 v35 v37 c) Cert.QkvReferenceIdeal.Gen.shapeCasts_S96_S96x1) Cert.QkvReferenceIdeal.Gen.broadcasts_S96x1_S96x6144))
    (broadcastTo Cert.QkvReferenceIdeal.S96x6144 ws Cert.QkvReferenceIdeal.Gen.broadcasts_S1x6144_S96x6144))
    (matmul Cert.QkvReferenceIdeal.dot_S96x48_S48x6144_S96x6144_1_0_0_1_n_n none (truncf .bf16 (extractStridedSlice S96x48 ![0, 4048] A Cert.QkvReferenceIdeal.Gen.slices_S96x4096_o0_4048_S96x48) Cert.QkvReferenceIdeal.Gen.bitsLt_bf16_f32) wo (constant _ .f32 0x00000000#32)))
    (broadcastTo Cert.QkvReferenceIdeal.S96x6144 bb Cert.QkvReferenceIdeal.Gen.broadcasts_S1x6144_S96x6144)

theorem flat_eq {F : FTy → Type} [FloatOps F] (A : FVec F S96x4096 .f32) (w : Vec F S4048x6144 .i8) (ws : FVec F Cert.QkvReferenceIdeal.S1x6144 .f32) (wo : Vec F S48x6144 .bf16)
    (bb : FVec F Cert.QkvReferenceIdeal.S1x6144 .f32) (v33 : FVec F S96x4048 .f32) (v35 : FVec F S96 .f32) (v37 : IVec S96 1) (c : F .f32) :
    Cert.QkvReferenceIdeal.Gen.k0_pay14 A w ws wo bb v33 v35 v37 c = shapeCast _ (flat A w ws wo bb v33 v35 v37 c) Cert.QkvReferenceIdeal.Gen.shapeCasts_S96x6144_S96x16x3x128 := rfl

theorem flat_at (A : FVec Ideal S96x4096 .f32) (w : Vec Ideal S4048x6144 .i8) (ws : FVec Ideal Cert.QkvReferenceIdeal.S1x6144 .f32) (wo : Vec Ideal S48x6144 .bf16)
    (bb : FVec Ideal Cert.QkvReferenceIdeal.S1x6144 .f32) (v33 : FVec Ideal S96x4048 .f32) (v35 : FVec Ideal S96 .f32) (v37 : IVec S96 1) (c : Ideal .f32)
    (r : Fin 96) (q : Fin 6144) :
    flat A w ws wo bb v33 v35 v37 c (ix2 r q)
      = mixed (fun k => asReal (Cert.QkvReferenceIdeal.Gen.k0_pay13 v33 v35 v37 c (ix2 r k))) (fun k => asReal (w (ix2 k q)))
          (Cert.QkvReferenceIdeal.Gen.k0_pay12 v35 v37 c (ix1 r)) (ws (ix2 0 q))
          (fun k => A (ix2 r ⟨4048 + k.val, by omega⟩)) (fun k => wo (ix2 k q)) (bb (ix2 0 q)) := by
  unfold flat
  pointwise
  rfl

theorem ou_at (r : Fin 96) (k : Fin 48) :
    ou x g b (ix2 r k) = Cert.QkvReferenceIdeal.Gen.k0_pay6 x g b (ix2 r ⟨4048 + k.val, by omega⟩) := by
  unfold ou
  generalize Cert.QkvReferenceIdeal.Gen.k0_pay6 x g b = A
  pointwise

/-- The reference's projections of the normalised rows. -/
def proj (w : Vec Ideal S4048x6144 .i8) (ws : Vec Ideal Cert.QkvReferenceIdeal.S1x6144 .f32) (wo : Vec Ideal S48x6144 .bf16) (bb : Vec Ideal Cert.QkvReferenceIdeal.S1x6144 .f32) :
    FVec Ideal Cert.QkvReferenceIdeal.S96x6144 .f32 :=
  flat (Cert.QkvReferenceIdeal.Gen.k0_pay6 x g b) w (Cert.QkvReferenceIdeal.Gen.k0_pay7 ws) wo (Cert.QkvReferenceIdeal.Gen.k0_pay8 bb)
    (Cert.QkvReferenceIdeal.Gen.k0_pay9 x g b) (Cert.QkvReferenceIdeal.Gen.k0_pay10 x g b) (Cert.QkvReferenceIdeal.Gen.k0_pay11 x g b) (Scalar.ofBits .f32 0x42FE0000#32)

theorem proj_at (w : Vec Ideal S4048x6144 .i8) (ws : Vec Ideal Cert.QkvReferenceIdeal.S1x6144 .f32) (wo : Vec Ideal S48x6144 .bf16) (bb : Vec Ideal Cert.QkvReferenceIdeal.S1x6144 .f32)
    (r : Fin 96) (q : Fin 6144) :
    proj x g b w ws wo bb (ix2 r q)
      = mixed (fun k => asReal (co x g b (ix2 r k))) (fun k => asReal (w (ix2 k q))) (sc x g b (ix1 r)) (ws (ix2 0 q))
          (fun k => ou x g b (ix2 r k)) (fun k => wo (ix2 k q)) (bb (ix2 0 q)) := by
  unfold proj
  rw [flat_at]
  simp only [ou_at]
  unfold co sc Cert.QkvReferenceIdeal.Gen.k0_pay7 Cert.QkvReferenceIdeal.Gen.k0_pay8
  simp only [shapeCast_self]

/-- A tile of projections is the reference's at the tile's columns. -/
theorem tile_eq (W : Vec Ideal S4048x768 .i8) (ws : Vec Ideal S1x768 .f32) (wo : Vec Ideal S48x768 .bf16) (bb : Vec Ideal S1x768 .f32)
    (W' : Vec Ideal S4048x6144 .i8) (ws' : Vec Ideal Cert.QkvReferenceIdeal.S1x6144 .f32) (wo' : Vec Ideal S48x6144 .bf16) (bb' : Vec Ideal Cert.QkvReferenceIdeal.S1x6144 .f32)
    (r : Fin 96) (p : Fin 768) (q : Fin 6144) (hW : ∀ k, W (ix2 k p) = W' (ix2 k q)) (hs : ws (ix2 0 p) = ws' (ix2 0 q))
    (ho : ∀ k, wo (ix2 k p) = wo' (ix2 k q)) (hb : bb (ix2 0 p) = bb' (ix2 0 q)) :
    k0_pay1976 (qkQ x g b) (View.ld (qkS x g b) rS) (qkO x g b) W ws wo bb (ix2 r p) = proj x g b W' ws' wo' bb' (ix2 r q) := by
  rw [tile_at, proj_at, scale_at, quant_eq, out_eq, hs, hb]
  simp only [hW, ho]
  rfl

end Linear

/-! ## The heads -/

section Heads
variable {F : FTy → Type} [FloatOps F]

/-- The second of each head's three projections. -/
def kPart (y : FVec F Cert.QkvReferenceIdeal.S96x6144 .f32) : FVec F S96x16x128 .f32 :=
  shapeCast S96x16x128 (extractStridedSlice Cert.QkvReferenceIdeal.S96x16x1x128 ![0, 0, 1, 0] (shapeCast Cert.QkvReferenceIdeal.S96x16x3x128 y Cert.QkvReferenceIdeal.Gen.shapeCasts_S96x6144_S96x16x3x128) Cert.QkvReferenceIdeal.Gen.slices_S96x16x3x128_o0_0_1_0_S96x16x1x128) Cert.QkvReferenceIdeal.Gen.shapeCasts_S96x16x1x128_S96x16x128

/-- That of head `h` begins at column `384 h + 128`. -/
theorem kHead (y : FVec F Cert.QkvReferenceIdeal.S96x6144 .f32) (r : Fin 96) (h : Fin 16) (d : Fin 128) :
    kPart y (ix3 r h d) = y (ix2 r ⟨h.val * 384 + 128 + d.val, by omega⟩) := by
  unfold kPart
  pointwise

/-- The third of each head's three projections. -/
def vPart (y : FVec F Cert.QkvReferenceIdeal.S96x6144 .f32) : FVec F S96x16x128 .f32 :=
  shapeCast S96x16x128 (extractStridedSlice Cert.QkvReferenceIdeal.S96x16x1x128 ![0, 0, 2, 0] (shapeCast Cert.QkvReferenceIdeal.S96x16x3x128 y Cert.QkvReferenceIdeal.Gen.shapeCasts_S96x6144_S96x16x3x128) Cert.QkvReferenceIdeal.Gen.slices_S96x16x3x128_o0_0_2_0_S96x16x1x128) Cert.QkvReferenceIdeal.Gen.shapeCasts_S96x16x1x128_S96x16x128

/-- That of head `h` begins at column `384 h + 256`. -/
theorem vHead (y : FVec F Cert.QkvReferenceIdeal.S96x6144 .f32) (r : Fin 96) (h : Fin 16) (d : Fin 128) :
    vPart y (ix3 r h d) = y (ix2 r ⟨h.val * 384 + 256 + d.val, by omega⟩) := by
  unfold vPart
  pointwise

variable (t : FVec F S96x768 .f32) (r : Fin 96) (d : Fin 128)

theorem k0_at : k0_pay1 (extractStridedSlice S96x128 ![0, 128] t slices_S96x768_o0_128_S96x128) (ix3 r 0 d) = t (ix2 r ⟨128 + d.val, by omega⟩) := by
  unfold k0_pay1
  pointwise
theorem k1_at : k0_pay4 t (ix3 r 0 d) = t (ix2 r ⟨512 + d.val, by omega⟩) := by
  unfold k0_pay4
  pointwise
theorem v0_at : k0_pay2 t (ix3 r 0 d) = t (ix2 r ⟨256 + d.val, by omega⟩) := by
  unfold k0_pay2
  pointwise
theorem v1_at : k0_pay5 t (ix3 r 0 d) = t (ix2 r ⟨640 + d.val, by omega⟩) := by
  unfold k0_pay5
  pointwise

end Heads

end Cert.Proof.QkvEquation
-- ==== Proof.Qkv.QkvHeads.lean ====
module

public import proofs.«01_k».proof.Proof.Qkv.QkvKernelIdealRun
public import proofs.«01_k».proof.Proof.Gen.QkvReferenceIdeal.Frame
public import Idealize.ShloMosaic.Lib.Pointwise
public import Idealize.ShloMosaic.Lib.StableHlo.Predicate

@[expose] public section

set_option maxRecDepth 16384

noncomputable section

namespace Cert.Proof.QkvHeads

open Idealize.ShloMosaic
open Cert.QkvKernelIdeal Cert.QkvKernelIdeal.Gen
open Cert.Proof.QkvKernelIdealRun

/-! ## One row of heads at a time, and all of them at once -/

variable (X : Vec Ideal S96x16x128 .f32)

theorem row_at (n : Fin 96) (h : Fin 16) (d : Fin 128) : row (F := Ideal) (e := .f32) X n.val (ix3 (0 : Fin 1) h d) = X (ix3 n h d) := by
  unfold row
  refine congrArg X ?_
  have hn := n.isLt
  funext a
  fin_cases a <;> refine Fin.ext ?_
  · show n.val % 96 + 1 * 0 = n.val
    omega
  · show 0 + 1 * h.val = h.val
    omega
  · show 0 + 1 * d.val = d.val
    omega

/-- The scale of a head's row is the same maximum. -/
theorem scale_at (n : Fin 96) (h : Fin 16) : kScale X n.val (ix2 h 0) = Cert.QkvReferenceIdeal.Gen.k0_pay1 (F := Ideal) X (ix2 n h) := by
  have e := row_at X n
  unfold kScale k0_pay19 k0_pay18 Cert.QkvReferenceIdeal.Gen.k0_pay1
  generalize row X n.val = R at e
  pointwise
  simp only [e]

theorem codes_at (n : Fin 96) (h : Fin 16) (d : Fin 128) : s11 X n.val (ix3 (0 : Fin 1) h d) = Cert.QkvReferenceIdeal.Gen.k0_pay2 (F := Ideal) X (ix3 n h d) := by
  have e := row_at X n
  have es := scale_at X n h
  unfold s11 kRound k0_pay20 k0_pay18 k0_pay32
  unfold kScale at es
  generalize k0_pay19 (row X n.val) = S at es ⊢
  unfold Cert.QkvReferenceIdeal.Gen.k0_pay2
  generalize Cert.QkvReferenceIdeal.Gen.k0_pay1 (F := Ideal) X = S' at es ⊢
  generalize row X n.val = R at e ⊢
  pointwise
  simp only [e, es]

theorem k_codes : full (s11 X) = Cert.QkvReferenceIdeal.Gen.k0_pay2 (F := Ideal) X := by
  funext y
  refine (codes_at X (y 0) (y 1) (y 2)).trans (congrArg (Cert.QkvReferenceIdeal.Gen.k0_pay2 (F := Ideal) X) ?_)
  funext a
  fin_cases a <;> rfl

/-- Both quantisers are one. -/
theorem v_scale : vScale X = kScale X := rfl
theorem v_codes' : s13 X = s11 X := rfl
theorem v_codes : full (s13 X) = Cert.QkvReferenceIdeal.Gen.k0_pay2 (F := Ideal) X := k_codes X

/-- Scales gathered one column at a time. -/
theorem scales_at (f : ℕ → FVec Ideal S16x1 .f32) (n : ℕ) (hn : n ≤ 128) (h : Fin 16) (l : Fin 128) (hl : l.val < n) :
    scales f n (ix2 h l) = f l.val (ix2 h 0) := by
  induction n with
  | zero => exact absurd hl (Nat.not_lt_zero _)
  | succ n ih =>
    show colSet n (f n) (scales f n) (ix2 h l) = _
    have hc : colSet n (f n) (scales f n) (ix2 h l) = if l.val = n then f n (ix2 h 0) else scales f n (ix2 h l) := by
      generalize scales f n = a
      unfold colSet
      rw [shapeCast_self]
      have hb : broadcastTo S16x128 (f n) broadcasts_S16x1_S16x128 (ix2 h l) = f n (ix2 h 0) := by
        generalize f n = g
        pointwise
      have hi : lane (ix2 h l) = BitVec.ofNat 32 l.val := by
        unfold lane
        pointwise
      show (if IntOp.cmpi .eq (lane (ix2 h l)) (BitVec.ofNat 32 n) = 1#1 then broadcastTo S16x128 (f n) broadcasts_S16x1_S16x128 (ix2 h l) else a (ix2 h l)) = _
      rw [hb, hi]
      have hl' := l.isLt
      have hv : (IntOp.cmpi .eq (BitVec.ofNat 32 l.val) (BitVec.ofNat 32 n) = 1#1) ↔ l.val = n := by
        show BitVec.ofBool (BitVec.ofNat 32 l.val == BitVec.ofNat 32 n) = 1#1 ↔ _
        rw [StableHlo.Predicate.ofBool_eq_one_iff, beq_iff_eq]
        constructor
        · intro h
          have := congrArg BitVec.toNat h
          simp only [BitVec.toNat_ofNat] at this
          omega
        · intro h
          rw [h]
      simp only [hv]
    rw [hc]
    by_cases he : l.val = n
    · rw [if_pos he, he]
    · rw [if_neg he]
      exact ih (by omega) (by omega)

theorem k_scales : k0_pay9 (scales (kScale X) 96) = Cert.QkvReferenceIdeal.Gen.k0_pay5 (F := Ideal) X := by
  funext y
  have h0 : (y 0).val < 16 := (y 0).isLt
  have h1 : (y 1).val < 96 := (y 1).isLt
  have ey : y = ix2 (n0 := 16) (n1 := 96) ⟨(y 0).val, h0⟩ ⟨(y 1).val, h1⟩ := by
    funext a
    fin_cases a <;> rfl
  generalize (⟨(y 0).val, h0⟩ : Fin 16) = h at ey
  generalize (⟨(y 1).val, h1⟩ : Fin 96) = n at ey
  subst ey
  have e := scales_at (kScale X) 96 (by omega) h ⟨n.val, by omega⟩ n.isLt
  have es := scale_at X n h
  unfold k0_pay9 Cert.QkvReferenceIdeal.Gen.k0_pay5
  generalize scales (kScale X) 96 = C at e ⊢
  generalize Cert.QkvReferenceIdeal.Gen.k0_pay1 (F := Ideal) X = S' at es ⊢
  pointwise
  exact e.trans es

theorem v_scales : k0_pay10 (scales (vScale X) 96) = Cert.QkvReferenceIdeal.Gen.k0_pay5 (F := Ideal) X := k_scales X

end Cert.Proof.QkvHeads
-- ==== Proof.Qkv.QkvKernelValues.lean ====
module

public import proofs.«01_k».proof.Proof.Qkv.QkvEquation
public import proofs.«01_k».proof.Proof.Qkv.QkvHeads

@[expose] public section

set_option maxRecDepth 16384

noncomputable section

namespace Cert.Proof.QkvKernelValues

open Idealize.ShloMosaic Idealize.ShloMosaic.TcCoe
open Cert.QkvKernelIdeal Cert.QkvKernelIdeal.Gen
open Cert.Proof.QkvEquation (proj co sc)
open Cert.Proof.QkvKernelIdealRun

variable (m : (ℓ : Loc nD τ sig) → Buf (Elt Ideal) ℓ) (c : Dev nD)

/-! ## Where the grid points read -/

theorem idx3 : ∀ t : Fin cfg0.N, win0_3.index t = ![0, t.val] :=
  (by decide +kernel : ∀ t : Fin grid0.N, win0_3.index t = ![0, t.val])
theorem idx4 : ∀ t : Fin cfg0.N, win0_4.index t = ![0, t.val] :=
  (by decide +kernel : ∀ t : Fin grid0.N, win0_4.index t = ![0, t.val])
theorem idx5 : ∀ t : Fin cfg0.N, win0_5.index t = ![0, t.val] :=
  (by decide +kernel : ∀ t : Fin grid0.N, win0_5.index t = ![0, t.val])
theorem idx6 : ∀ t : Fin cfg0.N, win0_6.index t = ![0, t.val] :=
  (by decide +kernel : ∀ t : Fin grid0.N, win0_6.index t = ![0, t.val])

theorem whole0 : gX m c = V m c main_v0 := by
  funext y
  blk_ext [iblk, (by decide +kernel : win0_0.index t0_0 = ![0, 0])]

theorem whole1 : gG m c = V m c main_v1 := by
  funext y
  blk_ext [iblk, (by decide +kernel : win0_1.index t0_0 = ![0, 0])]

theorem whole2 : gB m c = V m c main_v2 := by
  funext y
  blk_ext [iblk, (by decide +kernel : win0_2.index t0_0 = ![0, 0])]

theorem blk3 (t : Fin cfg0.N) (k : Fin 4048) (p : Fin 768) (q : Fin 6144) (hq : q.val = t.val * 768 + p.val) :
    iblk m c 3 t (ix2 k p) = V m c main_arg3 (ix2 k q) := by
  blk_ext [iblk, idx3 t]

theorem blk4 (t : Fin cfg0.N) (k : Fin 1) (p : Fin 768) (q : Fin 6144) (hq : q.val = t.val * 768 + p.val) :
    iblk m c 4 t (ix2 k p) = V m c main_v3 (ix2 k q) := by
  blk_ext [iblk, idx4 t]

theorem blk5 (t : Fin cfg0.N) (k : Fin 48) (p : Fin 768) (q : Fin 6144) (hq : q.val = t.val * 768 + p.val) :
    iblk m c 5 t (ix2 k p) = V m c main_arg5 (ix2 k q) := by
  blk_ext [iblk, idx5 t]

theorem blk6 (t : Fin cfg0.N) (k : Fin 1) (p : Fin 768) (q : Fin 6144) (hq : q.val = t.val * 768 + p.val) :
    iblk m c 6 t (ix2 k p) = V m c main_v4 (ix2 k q) := by
  blk_ext [iblk, idx6 t]

/-! ## The heads -/

/-- The reference's projections from the arrays the program finds. -/
abbrev P : FVec Ideal Cert.QkvReferenceIdeal.S96x6144 .f32 :=
  proj (V m c main_v0) (V m c main_v1) (V m c main_v2) (V m c main_arg3) (V m c main_v3) (V m c main_arg5) (V m c main_v4)

/-- The second of each head's three projections -/
def K : FVec Ideal S96x16x128 .f32 := QkvEquation.kPart (P m c)
/-- and the third. -/
def W : FVec Ideal S96x16x128 .f32 := QkvEquation.vPart (P m c)

theorem tile_at (t : Fin cfg0.N) (r : Fin 96) (p : Fin 768) (q : Fin 6144) (hq : q.val = t.val * 768 + p.val) :
    tile m c t (ix2 r p) = P m c (ix2 r q) := by
  unfold tile
  rw [whole0, whole1, whole2]
  exact QkvEquation.tile_eq _ _ _ _ _ _ _ (V m c main_arg3) (V m c main_v3) (V m c main_arg5) (V m c main_v4) r p q
    (fun k => blk3 m c t k p q hq) (blk4 m c t 0 p q hq) (fun k => blk5 m c t k p q hq) (blk6 m c t 0 p q hq)

theorem pt_at (h : Fin 16) : (pt (h.val / 2)).val = h.val / 2 := by
  have := h.isLt
  exact congrArg Fin.val (pt_val ⟨h.val / 2, by show h.val / 2 < 8; omega⟩)

theorem arrK_at (r : Fin 96) (h : Fin 16) (d : Fin 128) : arrK m c (ix3 r h d) = P m c (ix2 r ⟨h.val * 384 + 128 + d.val, by omega⟩) := by
  have ht := pt_at h
  show (if h.val % 2 = 0 then k0 m c (pt (h.val / 2)) (ix3 r 0 d) else k1 m c (pt (h.val / 2)) (ix3 r 0 d)) = _
  split
  · exact (QkvEquation.k0_at (tile m c (pt (h.val / 2))) r d).trans (tile_at m c _ r _ _ (by show h.val * 384 + 128 + d.val = _ * 768 + (128 + d.val); omega))
  · exact (QkvEquation.k1_at (tile m c (pt (h.val / 2))) r d).trans (tile_at m c _ r _ _ (by show h.val * 384 + 128 + d.val = _ * 768 + (512 + d.val); omega))

theorem arrV_at (r : Fin 96) (h : Fin 16) (d : Fin 128) : arrV m c (ix3 r h d) = P m c (ix2 r ⟨h.val * 384 + 256 + d.val, by omega⟩) := by
  have ht := pt_at h
  show (if h.val % 2 = 0 then v0 m c (pt (h.val / 2)) (ix3 r 0 d) else v1 m c (pt (h.val / 2)) (ix3 r 0 d)) = _
  split
  · exact (QkvEquation.v0_at (tile m c (pt (h.val / 2))) r d).trans (tile_at m c _ r _ _ (by show h.val * 384 + 256 + d.val = _ * 768 + (256 + d.val); omega))
  · exact (QkvEquation.v1_at (tile m c (pt (h.val / 2))) r d).trans (tile_at m c _ r _ _ (by show h.val * 384 + 256 + d.val = _ * 768 + (640 + d.val); omega))

theorem ix_self (y : S96x16x128.Idx) : y = ix3 (n0 := 96) (n1 := 16) (n2 := 128) (y 0) (y 1) (y 2) := by
  funext a
  fin_cases a <;> rfl

theorem arrK_eq : arrK m c = K m c := by
  funext y
  rw [ix_self y]
  exact (arrK_at m c (y 0) (y 1) (y 2)).trans (QkvEquation.kHead (P m c) (y 0) (y 1) (y 2)).symm

theorem arrV_eq : arrV m c = W m c := by
  funext y
  rw [ix_self y]
  exact (arrV_at m c (y 0) (y 1) (y 2)).trans (QkvEquation.vHead (P m c) (y 0) (y 1) (y 2)).symm

/-! ## The six results after the run -/

theorem after_7 : (dats m 0 c).after 7 t0_7 = co (V m c main_v0) (V m c main_v1) (V m c main_v2) := by
  rw [after0_7, whole0, whole1, whole2]
  exact QkvEquation.codes_eq _ _ _
theorem after_8 : (dats m 0 c).after 8 t0_7 = Cert.QkvReferenceIdeal.Gen.k0_pay3 (sc (V m c main_v0) (V m c main_v1) (V m c main_v2)) := by
  rw [after0_8, whole0, whole1, whole2]
  exact QkvEquation.lanes_eq _ _ _
theorem after_10 : (dats m 0 c).after 10 t0_7 = Cert.QkvReferenceIdeal.Gen.k0_pay2 (K m c) := by
  rw [after0_10, arrK_eq]
  exact QkvHeads.k_codes _
theorem after_11 : (dats m 0 c).after 11 t0_7 = Cert.QkvReferenceIdeal.Gen.k0_pay5 (K m c) := by
  rw [after0_11, arrK_eq]
  exact QkvHeads.k_scales _
theorem after_12 : (dats m 0 c).after 12 t0_7 = Cert.QkvReferenceIdeal.Gen.k0_pay2 (W m c) := by
  rw [after0_12, arrV_eq]
  exact QkvHeads.v_codes _
theorem after_13 : (dats m 0 c).after 13 t0_7 = Cert.QkvReferenceIdeal.Gen.k0_pay5 (W m c) := by
  rw [after0_13, arrV_eq]
  exact QkvHeads.v_scales _

theorem codes : (dats m 0 c).arrAt 7 cfg0.N = co (V m c main_v0) (V m c main_v1) (V m c main_v2) := by
  refine (dats m 0 c).arrAt_eq_of_after_last 7 t0_7 (by decide +kernel) _ fun j => ?_
  blk_simp
  exact congrFun (after_7 m c) j
theorem scales : (dats m 0 c).arrAt 8 cfg0.N = Cert.QkvReferenceIdeal.Gen.k0_pay3 (sc (V m c main_v0) (V m c main_v1) (V m c main_v2)) := by
  refine (dats m 0 c).arrAt_eq_of_after_last 8 t0_7 (by decide +kernel) _ fun j => ?_
  blk_simp
  exact congrFun (after_8 m c) j
theorem k_codes : (dats m 0 c).arrAt 10 cfg0.N = Cert.QkvReferenceIdeal.Gen.k0_pay2 (K m c) := by
  refine (dats m 0 c).arrAt_eq_of_after_last 10 t0_7 (by decide +kernel) _ fun j => ?_
  blk_simp
  exact congrFun (after_10 m c) j
theorem k_scales : (dats m 0 c).arrAt 11 cfg0.N = Cert.QkvReferenceIdeal.Gen.k0_pay5 (K m c) := by
  refine (dats m 0 c).arrAt_eq_of_after_last 11 t0_7 (by decide +kernel) _ fun j => ?_
  blk_simp
  exact congrFun (after_11 m c) j
theorem v_codes : (dats m 0 c).arrAt 12 cfg0.N = Cert.QkvReferenceIdeal.Gen.k0_pay2 (W m c) := by
  refine (dats m 0 c).arrAt_eq_of_after_last 12 t0_7 (by decide +kernel) _ fun j => ?_
  blk_simp
  exact congrFun (after_12 m c) j
theorem v_scales : (dats m 0 c).arrAt 13 cfg0.N = Cert.QkvReferenceIdeal.Gen.k0_pay5 (W m c) := by
  refine (dats m 0 c).arrAt_eq_of_after_last 13 t0_7 (by decide +kernel) _ fun j => ?_
  blk_simp
  exact congrFun (after_13 m c) j

/-! ## The reshaped operands -/

theorem V_v0 : V m c main_v0 = shapeCast S96x4096 (m ((c : Thread nD τ).loc main_arg0)) shapeCasts_S96x1x4096_S96x4096 := by
  entry_read
  rfl
theorem V_v1 : V m c main_v1 = shapeCast S1x4096 (m ((c : Thread nD τ).loc main_arg1)) shapeCasts_S4096_S1x4096 := by
  entry_read
  rfl
theorem V_v2 : V m c main_v2 = shapeCast S1x4096 (m ((c : Thread nD τ).loc main_arg2)) shapeCasts_S4096_S1x4096 := by
  entry_read
  rfl
theorem V_v3 : V m c main_v3 = shapeCast S1x6144 (m ((c : Thread nD τ).loc main_arg4)) shapeCasts_S6144_S1x6144 := by
  entry_read
  rfl
theorem V_v4 : V m c main_v4 = shapeCast S1x6144 (m ((c : Thread nD τ).loc main_arg6)) shapeCasts_S6144_S1x6144 := by
  entry_read
  rfl

end Cert.Proof.QkvKernelValues
-- ==== Proof.Qkv.QkvReferenceValues.lean ====
module

public import proofs.«01_k».proof.Proof.Qkv.QkvEquation
public import proofs.«01_k».proof.Proof.Gen.QkvReferenceIdeal.Value

@[expose] public section

set_option maxRecDepth 16384

noncomputable section

namespace Cert.Proof.QkvReferenceValues

open Idealize.ShloMosaic Idealize.ShloMosaic.TcCoe
open Cert.QkvReferenceIdeal Cert.QkvReferenceIdeal.Gen
open Cert.Proof.QkvEquation (proj co sc)

/-! ## The reference's stores, over whole operands -/

section Outs
variable {F : FTy → Type} [FloatOps F]
variable (x0 : Vec F S96x4096 .bf16) (x1 x2 : Vec F S1x4096 .f32) (x3 : Vec F S4048x6144 .i8) (x4 : Vec F S1x6144 .f32) (x5 : Vec F S48x6144 .bf16) (x6 : Vec F S1x6144 .f32)

theorem zeros : ∀ a : Fin 2, (![0, 0] : Fin 2 → Nat) a = 0 := by decide
theorem zeros3 : ∀ a : Fin 3, (![0, 0, 0] : Fin 3 → Nat) a = 0 := by decide

theorem part19 : Gen.k0_pay19 x0 x1 x2 x3 x4 x5 x6 = Gen.k0_pay6 x0 x1 x2 := by
  unfold Gen.k0_pay19
  rw [View.ld_unit_lit' _ _ zeros, View.ld_unit_lit' _ _ zeros, View.ld_unit_lit' _ _ zeros]
theorem part20 : Gen.k0_pay20 x0 x1 x2 x3 x4 x5 x6 = Gen.k0_pay7 x4 := by
  unfold Gen.k0_pay20
  rw [View.ld_unit_lit' _ _ zeros]
theorem part21 : Gen.k0_pay21 x0 x1 x2 x3 x4 x5 x6 = Gen.k0_pay8 x6 := by
  unfold Gen.k0_pay21
  rw [View.ld_unit_lit' _ _ zeros]
theorem part22 : Gen.k0_pay22 x0 x1 x2 x3 x4 x5 x6 = Gen.k0_pay9 x0 x1 x2 := by
  unfold Gen.k0_pay22
  rw [View.ld_unit_lit' _ _ zeros, View.ld_unit_lit' _ _ zeros, View.ld_unit_lit' _ _ zeros]
theorem part23 : Gen.k0_pay23 x0 x1 x2 x3 x4 x5 x6 = Gen.k0_pay10 x0 x1 x2 := by
  unfold Gen.k0_pay23
  rw [View.ld_unit_lit' _ _ zeros, View.ld_unit_lit' _ _ zeros, View.ld_unit_lit' _ _ zeros]
theorem part24 : Gen.k0_pay24 x0 x1 x2 x3 x4 x5 x6 = Gen.k0_pay11 x0 x1 x2 := by
  unfold Gen.k0_pay24
  rw [View.ld_unit_lit' _ _ zeros, View.ld_unit_lit' _ _ zeros, View.ld_unit_lit' _ _ zeros]

/-- The projections. -/
abbrev PF : FVec F S96x6144 .f32 :=
  QkvEquation.flat (Gen.k0_pay6 x0 x1 x2) x3 (Gen.k0_pay7 x4) x5 (Gen.k0_pay8 x6) (Gen.k0_pay9 x0 x1 x2) (Gen.k0_pay10 x0 x1 x2) (Gen.k0_pay11 x0 x1 x2) (Scalar.ofBits .f32 0x42FE0000#32)

theorem part25 : Gen.k0_pay25 x0 x1 x2 x3 x4 x5 x6 = QkvEquation.vPart (PF x0 x1 x2 x3 x4 x5 x6) := by
  unfold Gen.k0_pay25
  rw [part19, part20, part21, part22, part23, part24]
  rw [View.ld_unit_lit' _ _ zeros, View.ld_unit_lit' _ _ zeros]
  rfl
theorem out7 : out0_7 x0 x1 x2 x3 x4 x5 x6 = co x0 x1 x2 := by
  unfold out0_7
  rw [part22, part23, part24]
  exact View.canon_cons_unit_lit' _ _ _ zeros
theorem out8 : out0_8 x0 x1 x2 x3 x4 x5 x6 = Gen.k0_pay3 (sc x0 x1 x2) := by
  unfold out0_8
  rw [part23, part24]
  exact View.canon_cons_unit_lit' _ _ _ zeros
theorem out9 : out0_9 x0 x1 x2 x3 x4 x5 x6 = Gen.k0_pay2 (QkvEquation.kPart (PF x0 x1 x2 x3 x4 x5 x6)) := by
  unfold out0_9
  rw [part19, part20, part21, part22, part23, part24]
  rw [View.ld_unit_lit' _ _ zeros, View.ld_unit_lit' _ _ zeros]
  exact View.canon_cons_unit_lit' _ _ _ zeros3
theorem out10 : out0_10 x0 x1 x2 x3 x4 x5 x6 = Gen.k0_pay5 (QkvEquation.kPart (PF x0 x1 x2 x3 x4 x5 x6)) := by
  unfold out0_10
  rw [part19, part20, part21, part22, part23, part24]
  rw [View.ld_unit_lit' _ _ zeros, View.ld_unit_lit' _ _ zeros]
  exact View.canon_cons_unit_lit' _ _ _ zeros
theorem out11 : out0_11 x0 x1 x2 x3 x4 x5 x6 = Gen.k0_pay2 (QkvEquation.vPart (PF x0 x1 x2 x3 x4 x5 x6)) := by
  unfold out0_11
  rw [part25]
  exact View.canon_cons_unit_lit' _ _ _ zeros3
theorem out12 : out0_12 x0 x1 x2 x3 x4 x5 x6 = Gen.k0_pay5 (QkvEquation.vPart (PF x0 x1 x2 x3 x4 x5 x6)) := by
  unfold out0_12
  rw [part25]
  exact View.canon_cons_unit_lit' _ _ _ zeros

end Outs

variable (m : (ℓ : Loc nD τ sig) → Buf (Elt Ideal) ℓ) (c : Dev nD)

/-! ## What the one grid point reads: every operand whole -/

theorem blk0 : iblk m c 0 t0_0 = V m c main_v0 := by
  funext y
  blk_ext [iblk, (by decide +kernel : win0_0.index t0_0 = ![0, 0])]
theorem blk1 : iblk m c 1 t0_0 = V m c main_v1 := by
  funext y
  blk_ext [iblk, (by decide +kernel : win0_1.index t0_0 = ![0, 0])]
theorem blk2 : iblk m c 2 t0_0 = V m c main_v2 := by
  funext y
  blk_ext [iblk, (by decide +kernel : win0_2.index t0_0 = ![0, 0])]
theorem blk3 : iblk m c 3 t0_0 = V m c main_arg3 := by
  funext y
  blk_ext [iblk, (by decide +kernel : win0_3.index t0_0 = ![0, 0])]
theorem blk4 : iblk m c 4 t0_0 = V m c main_v3 := by
  funext y
  blk_ext [iblk, (by decide +kernel : win0_4.index t0_0 = ![0, 0])]
theorem blk5 : iblk m c 5 t0_0 = V m c main_arg5 := by
  funext y
  blk_ext [iblk, (by decide +kernel : win0_5.index t0_0 = ![0, 0])]
theorem blk6 : iblk m c 6 t0_0 = V m c main_v4 := by
  funext y
  blk_ext [iblk, (by decide +kernel : win0_6.index t0_0 = ![0, 0])]

/-! ## The six results after the run -/

/-- The projections of the arrays the program finds. -/
abbrev P : FVec Ideal S96x6144 .f32 :=
  proj (V m c main_v0) (V m c main_v1) (V m c main_v2) (V m c main_arg3) (V m c main_v3) (V m c main_arg5) (V m c main_v4)

theorem after_7 : (Gen.dats m 0 c).after 7 t0_0 = co (V m c main_v0) (V m c main_v1) (V m c main_v2) := by
  rw [after0_7, out7, blk0, blk1, blk2]
theorem after_8 : (Gen.dats m 0 c).after 8 t0_0 = Gen.k0_pay3 (sc (V m c main_v0) (V m c main_v1) (V m c main_v2)) := by
  rw [after0_8, out8, blk0, blk1, blk2]
theorem after_9 : (Gen.dats m 0 c).after 9 t0_0 = Gen.k0_pay2 (QkvEquation.kPart (P m c)) := by
  rw [after0_9, out9, blk0, blk1, blk2, blk3, blk4, blk5, blk6]
  rfl
theorem after_10 : (Gen.dats m 0 c).after 10 t0_0 = Gen.k0_pay5 (QkvEquation.kPart (P m c)) := by
  rw [after0_10, out10, blk0, blk1, blk2, blk3, blk4, blk5, blk6]
  rfl
theorem after_11 : (Gen.dats m 0 c).after 11 t0_0 = Gen.k0_pay2 (QkvEquation.vPart (P m c)) := by
  rw [after0_11, out11, blk0, blk1, blk2, blk3, blk4, blk5, blk6]
  rfl
theorem after_12 : (Gen.dats m 0 c).after 12 t0_0 = Gen.k0_pay5 (QkvEquation.vPart (P m c)) := by
  rw [after0_12, out12, blk0, blk1, blk2, blk3, blk4, blk5, blk6]
  rfl

theorem codes : (Gen.dats m 0 c).arrAt 7 cfg0.N = co (V m c main_v0) (V m c main_v1) (V m c main_v2) := by
  refine (Gen.dats m 0 c).arrAt_eq_of_after_last 7 t0_0 (by decide +kernel) _ fun j => ?_
  blk_simp
  exact congrFun (after_7 m c) j
theorem scales : (Gen.dats m 0 c).arrAt 8 cfg0.N = Gen.k0_pay3 (sc (V m c main_v0) (V m c main_v1) (V m c main_v2)) := by
  refine (Gen.dats m 0 c).arrAt_eq_of_after_last 8 t0_0 (by decide +kernel) _ fun j => ?_
  blk_simp
  exact congrFun (after_8 m c) j
theorem k_codes : (Gen.dats m 0 c).arrAt 9 cfg0.N = Gen.k0_pay2 (QkvEquation.kPart (P m c)) := by
  refine (Gen.dats m 0 c).arrAt_eq_of_after_last 9 t0_0 (by decide +kernel) _ fun j => ?_
  blk_simp
  exact congrFun (after_9 m c) j
theorem k_scales : (Gen.dats m 0 c).arrAt 10 cfg0.N = Gen.k0_pay5 (QkvEquation.kPart (P m c)) := by
  refine (Gen.dats m 0 c).arrAt_eq_of_after_last 10 t0_0 (by decide +kernel) _ fun j => ?_
  blk_simp
  exact congrFun (after_10 m c) j
theorem v_codes : (Gen.dats m 0 c).arrAt 11 cfg0.N = Gen.k0_pay2 (QkvEquation.vPart (P m c)) := by
  refine (Gen.dats m 0 c).arrAt_eq_of_after_last 11 t0_0 (by decide +kernel) _ fun j => ?_
  blk_simp
  exact congrFun (after_11 m c) j
theorem v_scales : (Gen.dats m 0 c).arrAt 12 cfg0.N = Gen.k0_pay5 (QkvEquation.vPart (P m c)) := by
  refine (Gen.dats m 0 c).arrAt_eq_of_after_last 12 t0_0 (by decide +kernel) _ fun j => ?_
  blk_simp
  exact congrFun (after_12 m c) j

/-! ## The reshaped operands -/

theorem V_v0 : V m c main_v0 = shapeCast S96x4096 (m ((c : Thread nD τ).loc main_arg0)) shapeCasts_S96x1x4096_S96x4096 := by
  entry_read
  rfl
theorem V_v1 : V m c main_v1 = shapeCast S1x4096 (m ((c : Thread nD τ).loc main_arg1)) shapeCasts_S4096_S1x4096 := by
  entry_read
  rfl
theorem V_v2 : V m c main_v2 = shapeCast S1x4096 (m ((c : Thread nD τ).loc main_arg2)) shapeCasts_S4096_S1x4096 := by
  entry_read
  rfl
theorem V_v3 : V m c main_v3 = shapeCast S1x6144 (m ((c : Thread nD τ).loc main_arg4)) shapeCasts_S6144_S1x6144 := by
  entry_read
  rfl
theorem V_v4 : V m c main_v4 = shapeCast S1x6144 (m ((c : Thread nD τ).loc main_arg6)) shapeCasts_S6144_S1x6144 := by
  entry_read
  rfl

end Cert.Proof.QkvReferenceValues
-- ==== Proof.Qkv.QkvAlgebraic.lean ====
module

public import proofs.«01_k».proof.Proof.Qkv.QkvKernelValues
public import proofs.«01_k».proof.Proof.Qkv.QkvReferenceValues
public import proofs.«01_k».proof.Defs

@[expose] public section

set_option maxRecDepth 16384

noncomputable section

namespace Cert.Proof.QkvAlgebraic

open Idealize.ShloMosaic Idealize.ShloMosaic.TcCoe Idealize.SL.Sem

section KernelRun
open Cert.QkvKernelIdeal Cert.QkvKernelIdeal.Gen
open Cert.Proof.QkvKernelIdealRun (dats A_eq run_main)
variable (m : (ℓ : Loc nD τ sig) → Buf (Elt Ideal) ℓ) (ρ : Dev nD → PrngReg)

/-- The kernel's run with its six results named, the arguments unchanged. -/
theorem kernel_run : θ_run defs (onTc (τ := τ) (main (F := Ideal))) ⟨m, fun _ => 0, ρ⟩ (fun r => ∀ c : Dev nD,
      r.2.mem ((c.tc : Thread nD τ).loc main_v5_0) = (dats m 0 c).arrAt 7 cfg0.N
      ∧ r.2.mem ((c.tc : Thread nD τ).loc main_v5_1) = (dats m 0 c).arrAt 8 cfg0.N
      ∧ r.2.mem ((c.tc : Thread nD τ).loc main_v5_3) = (dats m 0 c).arrAt 10 cfg0.N
      ∧ r.2.mem ((c.tc : Thread nD τ).loc main_v5_4) = (dats m 0 c).arrAt 11 cfg0.N
      ∧ r.2.mem ((c.tc : Thread nD τ).loc main_v5_5) = (dats m 0 c).arrAt 12 cfg0.N
      ∧ r.2.mem ((c.tc : Thread nD τ).loc main_v5_6) = (dats m 0 c).arrAt 13 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ hr c => by
    have h := hr.1
    exact ⟨(h c).1 7, (h c).1 8, (h c).1 10, (h c).1 11, (h c).1 12, (h c).1 13,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).1 5).trans (((dats m 0 c).arrAt_in 5 rfl _).trans ((A_eq m c 5).trans (V_main_arg5 m c))),
      ((h c).2 main_arg6 (Pipeline.mem_restRefs_of main_arg6 (by decide) (by decide))).trans (V_main_arg6 m c)⟩) (run_main m ρ)

end KernelRun

section Agree
variable (m : (ℓ : Loc Cert.QkvKernelIdeal.nD Cert.QkvKernelIdeal.τ Cert.QkvKernelIdeal.sig) → Buf (Elt Ideal) ℓ) (m' : (ℓ : Loc Cert.QkvReferenceIdeal.nD Cert.QkvReferenceIdeal.τ Cert.QkvReferenceIdeal.sig) → Buf (Elt Ideal) ℓ) (c : Dev Cert.QkvKernelIdeal.nD)

theorem agree_v0 (h : m' ((c.tc : Thread Cert.QkvReferenceIdeal.nD Cert.QkvReferenceIdeal.τ).loc Cert.QkvReferenceIdeal.main_arg0) = m ((c.tc : Thread Cert.QkvKernelIdeal.nD Cert.QkvKernelIdeal.τ).loc Cert.QkvKernelIdeal.main_arg0)) :
    Cert.QkvReferenceIdeal.Gen.V m' c Cert.QkvReferenceIdeal.main_v0 = Cert.QkvKernelIdeal.Gen.V m c Cert.QkvKernelIdeal.main_v0 :=
  (QkvReferenceValues.V_v0 m' c).trans ((congrArg (fun x => shapeCast Cert.QkvReferenceIdeal.S96x4096 x Cert.QkvReferenceIdeal.Gen.shapeCasts_S96x1x4096_S96x4096) h).trans (QkvKernelValues.V_v0 m c).symm)
theorem agree_v1 (h : m' ((c.tc : Thread Cert.QkvReferenceIdeal.nD Cert.QkvReferenceIdeal.τ).loc Cert.QkvReferenceIdeal.main_arg1) = m ((c.tc : Thread Cert.QkvKernelIdeal.nD Cert.QkvKernelIdeal.τ).loc Cert.QkvKernelIdeal.main_arg1)) :
    Cert.QkvReferenceIdeal.Gen.V m' c Cert.QkvReferenceIdeal.main_v1 = Cert.QkvKernelIdeal.Gen.V m c Cert.QkvKernelIdeal.main_v1 :=
  (QkvReferenceValues.V_v1 m' c).trans ((congrArg (fun x => shapeCast Cert.QkvReferenceIdeal.S1x4096 x Cert.QkvReferenceIdeal.Gen.shapeCasts_S4096_S1x4096) h).trans (QkvKernelValues.V_v1 m c).symm)
theorem agree_v2 (h : m' ((c.tc : Thread Cert.QkvReferenceIdeal.nD Cert.QkvReferenceIdeal.τ).loc Cert.QkvReferenceIdeal.main_arg2) = m ((c.tc : Thread Cert.QkvKernelIdeal.nD Cert.QkvKernelIdeal.τ).loc Cert.QkvKernelIdeal.main_arg2)) :
    Cert.QkvReferenceIdeal.Gen.V m' c Cert.QkvReferenceIdeal.main_v2 = Cert.QkvKernelIdeal.Gen.V m c Cert.QkvKernelIdeal.main_v2 :=
  (QkvReferenceValues.V_v2 m' c).trans ((congrArg (fun x => shapeCast Cert.QkvReferenceIdeal.S1x4096 x Cert.QkvReferenceIdeal.Gen.shapeCasts_S4096_S1x4096) h).trans (QkvKernelValues.V_v2 m c).symm)
theorem agree_v3 (h : m' ((c.tc : Thread Cert.QkvReferenceIdeal.nD Cert.QkvReferenceIdeal.τ).loc Cert.QkvReferenceIdeal.main_arg4) = m ((c.tc : Thread Cert.QkvKernelIdeal.nD Cert.QkvKernelIdeal.τ).loc Cert.QkvKernelIdeal.main_arg4)) :
    Cert.QkvReferenceIdeal.Gen.V m' c Cert.QkvReferenceIdeal.main_v3 = Cert.QkvKernelIdeal.Gen.V m c Cert.QkvKernelIdeal.main_v3 :=
  (QkvReferenceValues.V_v3 m' c).trans ((congrArg (fun x => shapeCast Cert.QkvReferenceIdeal.S1x6144 x Cert.QkvReferenceIdeal.Gen.shapeCasts_S6144_S1x6144) h).trans (QkvKernelValues.V_v3 m c).symm)
theorem agree_v4 (h : m' ((c.tc : Thread Cert.QkvReferenceIdeal.nD Cert.QkvReferenceIdeal.τ).loc Cert.QkvReferenceIdeal.main_arg6) = m ((c.tc : Thread Cert.QkvKernelIdeal.nD Cert.QkvKernelIdeal.τ).loc Cert.QkvKernelIdeal.main_arg6)) :
    Cert.QkvReferenceIdeal.Gen.V m' c Cert.QkvReferenceIdeal.main_v4 = Cert.QkvKernelIdeal.Gen.V m c Cert.QkvKernelIdeal.main_v4 :=
  (QkvReferenceValues.V_v4 m' c).trans ((congrArg (fun x => shapeCast Cert.QkvReferenceIdeal.S1x6144 x Cert.QkvReferenceIdeal.Gen.shapeCasts_S6144_S1x6144) h).trans (QkvKernelValues.V_v4 m c).symm)
theorem agree_arg3 (h : m' ((c.tc : Thread Cert.QkvReferenceIdeal.nD Cert.QkvReferenceIdeal.τ).loc Cert.QkvReferenceIdeal.main_arg3) = m ((c.tc : Thread Cert.QkvKernelIdeal.nD Cert.QkvKernelIdeal.τ).loc Cert.QkvKernelIdeal.main_arg3)) :
    Cert.QkvReferenceIdeal.Gen.V m' c Cert.QkvReferenceIdeal.main_arg3 = Cert.QkvKernelIdeal.Gen.V m c Cert.QkvKernelIdeal.main_arg3 :=
  (Cert.QkvReferenceIdeal.Gen.V_main_arg3 m' c).trans (h.trans (Cert.QkvKernelIdeal.Gen.V_main_arg3 m c).symm)
theorem agree_arg5 (h : m' ((c.tc : Thread Cert.QkvReferenceIdeal.nD Cert.QkvReferenceIdeal.τ).loc Cert.QkvReferenceIdeal.main_arg5) = m ((c.tc : Thread Cert.QkvKernelIdeal.nD Cert.QkvKernelIdeal.τ).loc Cert.QkvKernelIdeal.main_arg5)) :
    Cert.QkvReferenceIdeal.Gen.V m' c Cert.QkvReferenceIdeal.main_arg5 = Cert.QkvKernelIdeal.Gen.V m c Cert.QkvKernelIdeal.main_arg5 :=
  (Cert.QkvReferenceIdeal.Gen.V_main_arg5 m' c).trans (h.trans (Cert.QkvKernelIdeal.Gen.V_main_arg5 m c).symm)

end Agree

/-- The kernel and the reference end with the same six results. -/
theorem algebraic : @Cert.algebraic_QkvKernelIdeal_QkvReferenceIdeal Cert.QkvKernelIdeal.Gen.facts Cert.QkvReferenceIdeal.Gen.facts := by
  intro m g m' g' _ hm
  refine ⟨fun c => (QkvKernelIdealRun.dats m 0 c).arrAt 7 Cert.QkvKernelIdeal.cfg0.N, fun c => (QkvKernelIdealRun.dats m 0 c).arrAt 8 Cert.QkvKernelIdeal.cfg0.N, fun c => (QkvKernelIdealRun.dats m 0 c).arrAt 10 Cert.QkvKernelIdeal.cfg0.N, fun c => (QkvKernelIdealRun.dats m 0 c).arrAt 11 Cert.QkvKernelIdeal.cfg0.N, fun c => (QkvKernelIdealRun.dats m 0 c).arrAt 12 Cert.QkvKernelIdeal.cfg0.N, fun c => (QkvKernelIdealRun.dats m 0 c).arrAt 13 Cert.QkvKernelIdeal.cfg0.N, kernel_run m g, ?_⟩
  refine (θ_run _ _ _).mono (fun r hr c => ?_) (Cert.QkvReferenceIdeal.Value.run_blocks m' g')
  obtain ⟨h0, h1, h2, h3, h4, h5, hrest⟩ := hr c
  obtain ⟨a0, a1, a2, a3, a4, a5, a6⟩ := hm c
  have e0 := agree_v0 m m' c a0
  have e1 := agree_v1 m m' c a1
  have e2 := agree_v2 m m' c a2
  have e3 := agree_arg3 m m' c a3
  have e4 := agree_v3 m m' c a4
  have e5 := agree_arg5 m m' c a5
  have e6 := agree_v4 m m' c a6
  have eP : QkvReferenceValues.P m' c = QkvKernelValues.P m c := by
    unfold QkvReferenceValues.P QkvKernelValues.P
    rw [e0, e1, e2, e3, e4, e5, e6]
  refine ⟨h0.trans ?_, h1.trans ?_, h2.trans ?_, h3.trans ?_, h4.trans ?_, h5.trans ?_, hrest⟩
  · refine (QkvReferenceValues.codes m' c).trans (Eq.trans ?_ (QkvKernelValues.codes m c).symm)
    rw [e0, e1, e2]
  · refine (QkvReferenceValues.scales m' c).trans (Eq.trans ?_ (QkvKernelValues.scales m c).symm)
    rw [e0, e1, e2]
  · exact (QkvReferenceValues.k_codes m' c).trans ((congrArg (fun y => Cert.QkvReferenceIdeal.Gen.k0_pay2 (QkvEquation.kPart y)) eP).trans (QkvKernelValues.k_codes m c).symm)
  · exact (QkvReferenceValues.k_scales m' c).trans ((congrArg (fun y => Cert.QkvReferenceIdeal.Gen.k0_pay5 (QkvEquation.kPart y)) eP).trans (QkvKernelValues.k_scales m c).symm)
  · exact (QkvReferenceValues.v_codes m' c).trans ((congrArg (fun y => Cert.QkvReferenceIdeal.Gen.k0_pay2 (QkvEquation.vPart y)) eP).trans (QkvKernelValues.v_codes m c).symm)
  · exact (QkvReferenceValues.v_scales m' c).trans ((congrArg (fun y => Cert.QkvReferenceIdeal.Gen.k0_pay5 (QkvEquation.vPart y)) eP).trans (QkvKernelValues.v_scales m c).symm)

end Cert.Proof.QkvAlgebraic
-- ==== Proof.Oproj.OprojKernelIdealRun.lean ====
module

public import proofs.«01_k».proof.Proof.Gen.OprojKernelIdeal.Frame
public import proofs.«01_k».proof.Proof.Gen.OprojKernelIdeal.Skeleton
public import Idealize.ShloMosaic.Lib.Tactic
public import Idealize.ShloMosaic.Lib.WritesUnit
public import Idealize.ShloMosaic.Lib.VecWindow
public import Idealize.ShloMosaic.Lib.Pipeline.ValueKit
public import Idealize.ShloMosaic.Lib.Pipeline.TableIdle
public import Idealize.ShloMosaic.Lib.Claim

@[expose] public section

set_option maxRecDepth 16384

noncomputable section

namespace Cert.Proof.OprojKernelIdealRun

open Cert.OprojKernelIdeal Cert.OprojKernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

/-- Head 0 of a block of 16 heads. -/
abbrev rH0 : Rect S96x16x128 := Rect.unit (s := S96x16x128) ![0, 0, 0] S96x1x128.size inb_S96x16x128_S96x1x128_0_0_0
/-- Head 1 of a block of 16 heads. -/
abbrev rH1 : Rect S96x16x128 := Rect.unit (s := S96x16x128) ![0, 1, 0] S96x1x128.size inb_S96x16x128_S96x1x128_0_1_0
/-- Head 2 of a block of 16 heads. -/
abbrev rH2 : Rect S96x16x128 := Rect.unit (s := S96x16x128) ![0, 2, 0] S96x1x128.size inb_S96x16x128_S96x1x128_0_2_0
/-- Head 3 of a block of 16 heads. -/
abbrev rH3 : Rect S96x16x128 := Rect.unit (s := S96x16x128) ![0, 3, 0] S96x1x128.size inb_S96x16x128_S96x1x128_0_3_0
/-- Head 4 of a block of 16 heads. -/
abbrev rH4 : Rect S96x16x128 := Rect.unit (s := S96x16x128) ![0, 4, 0] S96x1x128.size inb_S96x16x128_S96x1x128_0_4_0
/-- Head 5 of a block of 16 heads. -/
abbrev rH5 : Rect S96x16x128 := Rect.unit (s := S96x16x128) ![0, 5, 0] S96x1x128.size inb_S96x16x128_S96x1x128_0_5_0
/-- Head 6 of a block of 16 heads. -/
abbrev rH6 : Rect S96x16x128 := Rect.unit (s := S96x16x128) ![0, 6, 0] S96x1x128.size inb_S96x16x128_S96x1x128_0_6_0
/-- Head 7 of a block of 16 heads. -/
abbrev rH7 : Rect S96x16x128 := Rect.unit (s := S96x16x128) ![0, 7, 0] S96x1x128.size inb_S96x16x128_S96x1x128_0_7_0
/-- Head 8 of a block of 16 heads. -/
abbrev rH8 : Rect S96x16x128 := Rect.unit (s := S96x16x128) ![0, 8, 0] S96x1x128.size inb_S96x16x128_S96x1x128_0_8_0
/-- Head 9 of a block of 16 heads. -/
abbrev rH9 : Rect S96x16x128 := Rect.unit (s := S96x16x128) ![0, 9, 0] S96x1x128.size inb_S96x16x128_S96x1x128_0_9_0
/-- Head 10 of a block of 16 heads. -/
abbrev rH10 : Rect S96x16x128 := Rect.unit (s := S96x16x128) ![0, 10, 0] S96x1x128.size inb_S96x16x128_S96x1x128_0_10_0
/-- Head 11 of a block of 16 heads. -/
abbrev rH11 : Rect S96x16x128 := Rect.unit (s := S96x16x128) ![0, 11, 0] S96x1x128.size inb_S96x16x128_S96x1x128_0_11_0
/-- Head 12 of a block of 16 heads. -/
abbrev rH12 : Rect S96x16x128 := Rect.unit (s := S96x16x128) ![0, 12, 0] S96x1x128.size inb_S96x16x128_S96x1x128_0_12_0
/-- Head 13 of a block of 16 heads. -/
abbrev rH13 : Rect S96x16x128 := Rect.unit (s := S96x16x128) ![0, 13, 0] S96x1x128.size inb_S96x16x128_S96x1x128_0_13_0
/-- Head 14 of a block of 16 heads. -/
abbrev rH14 : Rect S96x16x128 := Rect.unit (s := S96x16x128) ![0, 14, 0] S96x1x128.size inb_S96x16x128_S96x1x128_0_14_0
/-- Head 15 of a block of 16 heads. -/
abbrev rH15 : Rect S96x16x128 := Rect.unit (s := S96x16x128) ![0, 15, 0] S96x1x128.size inb_S96x16x128_S96x1x128_0_15_0
/-- The first column of a 96 by 128 block. -/
abbrev rS : Rect S96x128 := Rect.unit (s := S96x128) ![0, 0] S96x1.size inb_S96x128_S96x1_0_0

/-- The 16 heads side by side. -/
def opA (x1 : Vec F S96x16x128 .f32) : Vec F S96x2048 .f32 := k0_pay21 (k0_pay9 (View.ld x1 rH0)) (k0_pay10 (View.ld x1 rH1)) (k0_pay11 (View.ld x1 rH2)) (k0_pay12 (View.ld x1 rH3)) (k0_pay13 (View.ld x1 rH4)) (k0_pay14 (View.ld x1 rH5)) (k0_pay15 (View.ld x1 rH6)) (k0_pay16 (View.ld x1 rH7)) (k0_pay17 (View.ld x1 rH8)) (k0_pay18 (View.ld x1 rH9)) (k0_pay19 (View.ld x1 rH10)) (k0_pay20 (View.ld x1 rH11)) (View.ld x1 rH12) (View.ld x1 rH13) (View.ld x1 rH14) (View.ld x1 rH15)
/-- The channels left unquantised. -/
def opO (x1 : Vec F S96x16x128 .f32) (x3 x4 : Vec F S48x1 .i32) : Vec F S96x48 .bf16 := k0_pay24 (k0_pay9 (View.ld x1 rH0)) (k0_pay10 (View.ld x1 rH1)) (k0_pay11 (View.ld x1 rH2)) (k0_pay12 (View.ld x1 rH3)) (k0_pay13 (View.ld x1 rH4)) (k0_pay14 (View.ld x1 rH5)) (k0_pay15 (View.ld x1 rH6)) (k0_pay16 (View.ld x1 rH7)) (k0_pay17 (View.ld x1 rH8)) (k0_pay18 (View.ld x1 rH9)) (k0_pay19 (View.ld x1 rH10)) (k0_pay20 (View.ld x1 rH11)) (View.ld x1 rH12) (View.ld x1 rH13) (View.ld x1 rH14) (View.ld x1 rH15) x3 x4
/-- The int8 codes of the other channels, as the bfloat16 values the first matrix product takes. -/
def opQ (x1 : Vec F S96x16x128 .f32) (x3 x4 : Vec F S48x1 .i32) : Vec F S96x2048 .bf16 := k0_pay4 (opA x1) (k0_pay23 x3 x4) (Scalar.ofBits .f32 0x00000000#32)
/-- The same codes as integers. -/
def opC (x1 : Vec F S96x16x128 .f32) (x3 x4 : Vec F S48x1 .i32) : Vec F S96x2048 .i8 := k0_pay5 (opA x1) (k0_pay23 x3 x4) (Scalar.ofBits .f32 0x00000000#32)
/-- The row scales, repeated over 128 lanes. -/
def opS (x1 : Vec F S96x16x128 .f32) (x3 x4 : Vec F S48x1 .i32) : Vec F S96x128 .f32 := k0_pay6 (opA x1) (k0_pay23 x3 x4) (Scalar.ofBits .f32 0x00000000#32)
/-- The row scales as one row. -/
def opR (x1 : Vec F S96x16x128 .f32) (x3 x4 : Vec F S48x1 .i32) : Vec F S1x96 .f32 := k0_pay7 (opA x1) (k0_pay23 x3 x4) (Scalar.ofBits .f32 0x00000000#32)

set_option maxHeartbeats 1600000 in
theorem run_first (c : Dev nD) (E : Set ℕ) (i : grid0.Coords) (h1 : k0_cond1 i = 1#1)
    (arg1 : Memref sig .tc .vmem S96x16x128 .f32) (harg1 : arg1.IsWhole) (arg2 : Memref sig .tc .vmem S96x512 .bf16) (harg2 : arg2.IsWhole) (arg3 : Memref sig .tc .vmem S48x1 .i32) (harg3 : arg3.IsWhole) (arg4 : Memref sig .tc .vmem S48x1 .i32) (harg4 : arg4.IsWhole) (arg5 : Memref sig .tc .vmem S2048x512 .i8) (harg5 : arg5.IsWhole) (arg6 : Memref sig .tc .vmem S1x512 .f32) (harg6 : arg6.IsWhole) (arg7 : Memref sig .tc .vmem S48x512 .bf16) (harg7 : arg7.IsWhole) (arg8 : Memref sig .tc .vmem S1x512 .f32) (harg8 : arg8.IsWhole) (arg9 : Memref sig .tc .vmem S96x512 .bf16) (harg9 : arg9.IsWhole) (arg10 : Memref sig .tc .vmem S96x2048 .i8) (harg10 : arg10.IsWhole) (arg11 : Memref sig .tc .vmem S1x96 .f32) (harg11 : arg11.IsWhole) (arg12 : Memref sig .tc .vmem S96x2048 .bf16) (harg12 : arg12.IsWhole) (arg13 : Memref sig .tc .vmem S96x48 .bf16) (harg13 : arg13.IsWhole) (arg14 : Memref sig .tc .vmem S96x128 .f32) (harg14 : arg14.IsWhole)
    (x1 : Vec F S96x16x128 .f32) (x2 : Vec F S96x512 .bf16) (x3 : Vec F S48x1 .i32) (x4 : Vec F S48x1 .i32) (x5 : Vec F S2048x512 .i8) (x6 : Vec F S1x512 .f32) (x7 : Vec F S48x512 .bf16) (x8 : Vec F S1x512 .f32) (x9 : Vec F S96x512 .bf16) (x10 : Vec F S96x2048 .i8) (x11 : Vec F S1x96 .f32) (x12 : Vec F S96x2048 .bf16) (x13 : Vec F S96x48 .bf16) (x14 : Vec F S96x128 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (k0_pay8 (opQ x1 x3 x4) (View.ld (opS x1 x3 x4) rS) (opO x1 x3 x4) x5 x6 x7 x8 x2) ∗ owns (c : Thread nD τ) arg10 fullShare (opC x1 x3 x4) ∗ owns (c : Thread nD τ) arg11 fullShare (opR x1 x3 x4) ∗ owns (c : Thread nD τ) arg12 fullShare (opQ x1 x3 x4) ∗ owns (c : Thread nD τ) arg13 fullShare (opO x1 x3 x4) ∗ owns (c : Thread nD τ) arg14 fullShare (opS x1 x3 x4)) -∗ K ⟨⟩))
      ⊢ wp frame (wpE (defs₀ (F := F)) Variants.none c none) E (cc0_oproj i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_oproj_eq_skeleton]; unfold cc0_oproj_skel
  rw [dif_pos h1]
  simp only [k0_part1_eq_skeleton, k0_part2_eq_skeleton]; unfold k0_part1_skel k0_part2_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  subst hf1 hf2 hf3 hf4 hf5 hf6 hf7 hf8 hf9 hf10 hf11 hf12 hf13 hf14
  sl_exec
  have e2 : View.readAt (Elt F) arg2.view (Rect.unit (s := S96x512) ![0, 0] ![96, 512] inb_S96x512_S96x512_0_0).toLoadRect f2 = View.read (Elt F) arg2.view f2 :=
    View.readAt_full (s := S96x512) _ _ _
  have e3 : View.readAt (Elt F) arg3.view (Rect.unit (s := S48x1) ![0, 0] ![48, 1] inb_S48x1_S48x1_0_0).toLoadRect f3 = View.read (Elt F) arg3.view f3 :=
    View.readAt_full (s := S48x1) _ _ _
  have e4 : View.readAt (Elt F) arg4.view (Rect.unit (s := S48x1) ![0, 0] ![48, 1] inb_S48x1_S48x1_0_0).toLoadRect f4 = View.read (Elt F) arg4.view f4 :=
    View.readAt_full (s := S48x1) _ _ _
  have e5 : View.readAt (Elt F) arg5.view (Rect.unit (s := S2048x512) ![0, 0] ![2048, 512] inb_S2048x512_S2048x512_0_0).toLoadRect f5 = View.read (Elt F) arg5.view f5 :=
    View.readAt_full (s := S2048x512) _ _ _
  have e6 : View.readAt (Elt F) arg6.view (Rect.unit (s := S1x512) ![0, 0] ![1, 512] inb_S1x512_S1x512_0_0).toLoadRect f6 = View.read (Elt F) arg6.view f6 :=
    View.readAt_full (s := S1x512) _ _ _
  have e7 : View.readAt (Elt F) arg7.view (Rect.unit (s := S48x512) ![0, 0] ![48, 512] inb_S48x512_S48x512_0_0).toLoadRect f7 = View.read (Elt F) arg7.view f7 :=
    View.readAt_full (s := S48x512) _ _ _
  have e8 : View.readAt (Elt F) arg8.view (Rect.unit (s := S1x512) ![0, 0] ![1, 512] inb_S1x512_S1x512_0_0).toLoadRect f8 = View.read (Elt F) arg8.view f8 :=
    View.readAt_full (s := S1x512) _ _ _
  have eS : ∀ w, View.readCov (Val := Elt F) arg14.view [⟨Rect.unit (s := S96x128) ![0, 0] ![96, 128] inb_S96x128_S96x128_0_0, w⟩] (Rect.unit (s := S96x128) ![0, 0] ![96, 1] inb_S96x128_S96x1_0_0).toLoadRect = View.ld w rS := fun w =>
    congrArg (fun z => View.ld (Val := Elt F) z rS) (View.read_writes_full (s := S96x128) arg14.view _ _ w [])
  sl_step
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro
    sl_unfold_words
    refine (View.read_writes_full (s := S96x512) _ _ _ _ _).trans ?_
    unfold opQ opS opO opA
    simp only [e2, e3, e4, e5, e6, e7, e8, eS, View.writes_nil, View.readCov_cons_toLoadRect]
    try rfl
  isplitl [H10]
  · iexists _; isplitr; swap; · iexact H10
    ipureintro
    sl_unfold_words
    refine (View.read_writes_full (s := S96x2048) _ _ _ _ _).trans ?_
    unfold opC opA
    simp only [e2, e3, e4, e5, e6, e7, e8, eS, View.writes_nil, View.readCov_cons_toLoadRect]
    try rfl
  isplitl [H11]
  · iexists _; isplitr; swap; · iexact H11
    ipureintro
    sl_unfold_words
    refine (View.read_writes_full (s := S1x96) _ _ _ _ _).trans ?_
    unfold opR opA
    simp only [e2, e3, e4, e5, e6, e7, e8, eS, View.writes_nil, View.readCov_cons_toLoadRect]
    try rfl
  isplitl [H12]
  · iexists _; isplitr; swap; · iexact H12
    ipureintro
    sl_unfold_words
    refine (View.read_writes_full (s := S96x2048) _ _ _ _ _).trans ?_
    unfold opQ opA
    simp only [e2, e3, e4, e5, e6, e7, e8, eS, View.writes_nil, View.readCov_cons_toLoadRect]
    try rfl
  isplitl [H13]
  · iexists _; isplitr; swap; · iexact H13
    ipureintro
    sl_unfold_words
    refine (View.read_writes_full (s := S96x48) _ _ _ _ _).trans ?_
    unfold opO
    simp only [e2, e3, e4, e5, e6, e7, e8, eS, View.writes_nil, View.readCov_cons_toLoadRect]
    try rfl
  iexists _; isplitr; swap; · iexact H14
  ipureintro
  sl_unfold_words
  refine (View.read_writes_full (s := S96x128) _ _ _ _ _).trans ?_
  unfold opS opA
  simp only [e2, e3, e4, e5, e6, e7, e8, eS, View.writes_nil, View.readCov_cons_toLoadRect]
  try rfl

set_option maxHeartbeats 1600000 in
theorem run_rest (c : Dev nD) (E : Set ℕ) (i : grid0.Coords) (h1 : ¬ k0_cond1 i = 1#1)
    (arg1 : Memref sig .tc .vmem S96x16x128 .f32) (harg1 : arg1.IsWhole) (arg2 : Memref sig .tc .vmem S96x512 .bf16) (harg2 : arg2.IsWhole) (arg3 : Memref sig .tc .vmem S48x1 .i32) (harg3 : arg3.IsWhole) (arg4 : Memref sig .tc .vmem S48x1 .i32) (harg4 : arg4.IsWhole) (arg5 : Memref sig .tc .vmem S2048x512 .i8) (harg5 : arg5.IsWhole) (arg6 : Memref sig .tc .vmem S1x512 .f32) (harg6 : arg6.IsWhole) (arg7 : Memref sig .tc .vmem S48x512 .bf16) (harg7 : arg7.IsWhole) (arg8 : Memref sig .tc .vmem S1x512 .f32) (harg8 : arg8.IsWhole) (arg9 : Memref sig .tc .vmem S96x512 .bf16) (harg9 : arg9.IsWhole) (arg10 : Memref sig .tc .vmem S96x2048 .i8) (harg10 : arg10.IsWhole) (arg11 : Memref sig .tc .vmem S1x96 .f32) (harg11 : arg11.IsWhole) (arg12 : Memref sig .tc .vmem S96x2048 .bf16) (harg12 : arg12.IsWhole) (arg13 : Memref sig .tc .vmem S96x48 .bf16) (harg13 : arg13.IsWhole) (arg14 : Memref sig .tc .vmem S96x128 .f32) (harg14 : arg14.IsWhole)
    (x2 : Vec F S96x512 .bf16) (x5 : Vec F S2048x512 .i8) (x6 : Vec F S1x512 .f32) (x7 : Vec F S48x512 .bf16) (x8 : Vec F S1x512 .f32) (x9 : Vec F S96x512 .bf16) (x12 : Vec F S96x2048 .bf16) (x13 : Vec F S96x48 .bf16) (x14 : Vec F S96x128 .f32) (K : PUnit → sProp 𝕄) :
    iprop(owns (c : Thread nD τ) arg2 fullShare x2 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg12 fullShare x12 ∗ owns (c : Thread nD τ) arg13 fullShare x13 ∗ owns (c : Thread nD τ) arg14 fullShare x14
        ∗ (iprop(owns (c : Thread nD τ) arg2 fullShare x2 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (k0_pay8 x12 (View.ld x14 rS) x13 x5 x6 x7 x8 x2) ∗ owns (c : Thread nD τ) arg12 fullShare x12 ∗ owns (c : Thread nD τ) arg13 fullShare x13 ∗ owns (c : Thread nD τ) arg14 fullShare x14) -∗ K ⟨⟩))
      ⊢ wp frame (wpE (defs₀ (F := F)) Variants.none c none) E (cc0_oproj i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_oproj_eq_skeleton]; unfold cc0_oproj_skel
  rw [dif_neg h1]
  unfold owns
  iintro ⟨⟨%f2, %hf2, H2⟩, ⟨%f5, %hf5, H5⟩, ⟨%f6, %hf6, H6⟩, ⟨%f7, %hf7, H7⟩, ⟨%f8, %hf8, H8⟩, ⟨%f9, %hf9, H9⟩, ⟨%f12, %hf12, H12⟩, ⟨%f13, %hf13, H13⟩, ⟨%f14, %hf14, H14⟩, Hk⟩
  subst hf2 hf5 hf6 hf7 hf8 hf9 hf12 hf13 hf14
  sl_exec
  have e2 : View.readAt (Elt F) arg2.view (Rect.unit (s := S96x512) ![0, 0] ![96, 512] inb_S96x512_S96x512_0_0).toLoadRect f2 = View.read (Elt F) arg2.view f2 :=
    View.readAt_full (s := S96x512) _ _ _
  have e5 : View.readAt (Elt F) arg5.view (Rect.unit (s := S2048x512) ![0, 0] ![2048, 512] inb_S2048x512_S2048x512_0_0).toLoadRect f5 = View.read (Elt F) arg5.view f5 :=
    View.readAt_full (s := S2048x512) _ _ _
  have e6 : View.readAt (Elt F) arg6.view (Rect.unit (s := S1x512) ![0, 0] ![1, 512] inb_S1x512_S1x512_0_0).toLoadRect f6 = View.read (Elt F) arg6.view f6 :=
    View.readAt_full (s := S1x512) _ _ _
  have e7 : View.readAt (Elt F) arg7.view (Rect.unit (s := S48x512) ![0, 0] ![48, 512] inb_S48x512_S48x512_0_0).toLoadRect f7 = View.read (Elt F) arg7.view f7 :=
    View.readAt_full (s := S48x512) _ _ _
  have e8 : View.readAt (Elt F) arg8.view (Rect.unit (s := S1x512) ![0, 0] ![1, 512] inb_S1x512_S1x512_0_0).toLoadRect f8 = View.read (Elt F) arg8.view f8 :=
    View.readAt_full (s := S1x512) _ _ _
  have e12 : View.readAt (Elt F) arg12.view (Rect.unit (s := S96x2048) ![0, 0] ![96, 2048] inb_S96x2048_S96x2048_0_0).toLoadRect f12 = View.read (Elt F) arg12.view f12 :=
    View.readAt_full (s := S96x2048) _ _ _
  have e13 : View.readAt (Elt F) arg13.view (Rect.unit (s := S96x48) ![0, 0] ![96, 48] inb_S96x48_S96x48_0_0).toLoadRect f13 = View.read (Elt F) arg13.view f13 :=
    View.readAt_full (s := S96x48) _ _ _
  sl_step
  iapply Hk
  isplitl [H2]
  · iexists _; isplitr; swap; · iexact H2
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro
    refine (View.read_writes_full (s := S96x512) _ _ _ _ _).trans ?_
    simp only [e2, e5, e6, e7, e8, e12, e13, View.writes_nil, View.readCov_cons_toLoadRect]
    try rfl
  isplitl [H12]
  · iexists _; isplitr; swap; · iexact H12
    ipureintro; rfl
  isplitl [H13]
  · iexists _; isplitr; swap; · iexact H13
    ipureintro; rfl
  iexists _; isplitr; swap; · iexact H14
  ipureintro; rfl

variable (m : (ℓ : Loc nD τ sig) → Buf (Elt F) ℓ) (ρ : Dev nD → PrngReg)

/-! ## The values the points compute -/

/-- The attention rows the call is given, -/
abbrev gA (c : Dev nD) : Vec F S96x16x128 .f32 := iblk m c 0 t0_0
/-- the channels left unquantised -/
abbrev gI (c : Dev nD) : Vec F S48x1 .i32 := iblk m c 2 t0_0
/-- and which of them count. -/
abbrev gM (c : Dev nD) : Vec F S48x1 .i32 := iblk m c 3 t0_0

/-- The columns of the result that point t computes. -/
def outY (c : Dev nD) (t : Fin cfg0.N) : Vec F S96x512 .bf16 :=
  k0_pay8 (opQ (gA m c) (gI m c) (gM m c)) (View.ld (opS (gA m c) (gI m c) (gM m c)) rS) (opO (gA m c) (gI m c) (gM m c)) (iblk m c 4 t) (iblk m c 5 t) (iblk m c 6 t) (iblk m c 7 t) (iblk m c 1 t)

/-! ## What the scratch buffers hold before point n -/

/-- The codes, the unquantised channels and the scales after the first point. -/
def Inv (c : Dev nD) (n : ℕ) (X12 : Vec F S96x2048 .bf16) (X13 : Vec F S96x48 .bf16) (X14 : Vec F S96x128 .f32) : Prop :=
  0 < n → X12 = opQ (gA m c) (gI m c) (gM m c) ∧ X13 = opO (gA m c) (gI m c) (gM m c) ∧ X14 = opS (gA m c) (gI m c) (gM m c)

/-- The scratch buffers at such contents and the generator register. -/
def phi (c : Dev nD) (n : ℕ) : sProp 𝕄 :=
  iprop(∃ X12 X13 X14, ⌜Inv m c n X12 X13 X14⌝
    ∗ owns (c : Thread nD τ) (Memref.whole cc0_scratch0) fullShare X12 ∗ owns (c : Thread nD τ) (Memref.whole cc0_scratch1) fullShare X13 ∗ owns (c : Thread nD τ) (Memref.whole cc0_scratch2) fullShare X14 ∗ ∃ r : PrngReg, prngReg c r)

/-! ## The proof data -/

/-- The arrays as the region finds them; after a point every input's buffer at its block, every result's at the values above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outY m c t
    | ⟨9, _⟩ => opC (gA m c) (gI m c) (gM m c)
    | ⟨10, _⟩ => opR (gA m c) (gI m c) (gM m c)
    | ⟨_ + 11, h⟩ => absurd h (Nat.not_lt.2 (Nat.le_add_left _ _))
  Φ t := phi m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outY m c t := by dsimp only [dats]
theorem after0_9 (c : Dev nD) (t : Fin cfg0.N) : (dats m 0 c).after 9 t = opC (gA m c) (gI m c) (gM m c) := by dsimp only [dats]
theorem after0_10 (c : Dev nD) (t : Fin cfg0.N) : (dats m 0 c).after 10 t = opR (gA m c) (gI m c) (gM m c) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The points -/

theorem cond1_iff (t : Fin cfg0.N) : k0_cond1 (grid0.coords t) = 1#1 ↔ t.val = 0 := by
  rcases fin_N0 t with rfl | rfl | rfl | rfl | rfl | rfl | rfl | rfl <;> decide

theorem idle8 (t : Fin cfg0.N) : cfg0.idle 8 (cfg0.grid.coords t) = false := rfl
theorem idle9 (t : Fin cfg0.N) : cfg0.idle 9 (cfg0.grid.coords t) = !(k0_cond1 (grid0.coords t) == 1#1) := rfl
theorem idle10 (t : Fin cfg0.N) : cfg0.idle 10 (cfg0.grid.coords t) = !(k0_cond1 (grid0.coords t) == 1#1) := rfl

theorem before9 (c : Dev nD) : ∀ (n : ℕ) (t : Fin cfg0.N), t.val = n → 0 < n → ∀ d, (dats m 0 c).before 9 t d = (dats m 0 c).after 9 t
  | 0, _, _, h, _ => absurd h (by decide)
  | n + 1, t, ht, h, d => by
    have hN : t.val < 8 := lt_of_lt_of_eq t.isLt N_0
    have hfl : (cfg0.win 9).flush ⟨t.val - 1, Nat.lt_of_le_of_lt (Nat.sub_le _ _) t.isLt⟩ = false := by
      have hf := flush0_9 ⟨t.val - 1, Nat.lt_of_le_of_lt (Nat.sub_le _ _) t.isLt⟩
      rw [← Bool.not_eq_true, hf]
      show ¬ (t.val - 1) % 8 = 7
      omega
    rw [(dats m 0 c).before_of_pos 9 t (by omega) ((cfg0.win 9).fetch_out rfl t) d, hfl, if_neg Bool.false_ne_true]
    unfold Dat.left
    by_cases h0 : n = 0
    · have hi : cfg0.idle 9 (cfg0.grid.coords ⟨t.val - 1, Nat.lt_of_le_of_lt (Nat.sub_le _ _) t.isLt⟩) = false := by
        rw [idle9, (cond1_iff _).mpr (by show t.val - 1 = 0; omega)]; rfl
      rw [hi]
      dsimp only [Dat.kept]
      rw [after0_9, after0_9]
      rfl
    · have hi : cfg0.idle 9 (cfg0.grid.coords ⟨t.val - 1, Nat.lt_of_le_of_lt (Nat.sub_le _ _) t.isLt⟩) = true := by
        rw [idle9]
        have hc := (cond1_iff ⟨t.val - 1, Nat.lt_of_le_of_lt (Nat.sub_le _ _) t.isLt⟩).not.mpr (by show ¬ t.val - 1 = 0; omega)
        simp [hc]
      rw [hi]
      dsimp only
      rw [before9 c n _ (by show t.val - 1 = n; omega) (by omega) d, after0_9, after0_9]

theorem before10 (c : Dev nD) : ∀ (n : ℕ) (t : Fin cfg0.N), t.val = n → 0 < n → ∀ d, (dats m 0 c).before 10 t d = (dats m 0 c).after 10 t
  | 0, _, _, h, _ => absurd h (by decide)
  | n + 1, t, ht, h, d => by
    have hN : t.val < 8 := lt_of_lt_of_eq t.isLt N_0
    have hfl : (cfg0.win 10).flush ⟨t.val - 1, Nat.lt_of_le_of_lt (Nat.sub_le _ _) t.isLt⟩ = false := by
      have hf := flush0_10 ⟨t.val - 1, Nat.lt_of_le_of_lt (Nat.sub_le _ _) t.isLt⟩
      rw [← Bool.not_eq_true, hf]
      show ¬ (t.val - 1) % 8 = 7
      omega
    rw [(dats m 0 c).before_of_pos 10 t (by omega) ((cfg0.win 10).fetch_out rfl t) d, hfl, if_neg Bool.false_ne_true]
    unfold Dat.left
    by_cases h0 : n = 0
    · have hi : cfg0.idle 10 (cfg0.grid.coords ⟨t.val - 1, Nat.lt_of_le_of_lt (Nat.sub_le _ _) t.isLt⟩) = false := by
        rw [idle10, (cond1_iff _).mpr (by show t.val - 1 = 0; omega)]; rfl
      rw [hi]
      dsimp only [Dat.kept]
      rw [after0_10, after0_10]
      rfl
    · have hi : cfg0.idle 10 (cfg0.grid.coords ⟨t.val - 1, Nat.lt_of_le_of_lt (Nat.sub_le _ _) t.isLt⟩) = true := by
        rw [idle10]
        have hc := (cond1_iff ⟨t.val - 1, Nat.lt_of_le_of_lt (Nat.sub_le _ _) t.isLt⟩).not.mpr (by show ¬ t.val - 1 = 0; omega)
        simp [hc]
      rw [hi]
      dsimp only
      rw [before10 c n _ (by show t.val - 1 = n; omega) (by omega) d, after0_10, after0_10]

/-- A buffer the point does not store into is handed back as found; where it is written back it holds what is stated. -/
theorem pass (c : Dev nD) (w : Fin cfg0.W) (t : Fin cfg0.N) (hi : cfg0.idle w (cfg0.grid.coords t) = true)
    (hb : (cfg0.win w).flush t = true → ∀ d, (dats m 0 c).before w t d = (dats m 0 c).after w t) :
    iprop(∃ d, owns (c : Thread nD τ) ((cfg0.win w).stage (cfg0.slots t w)) fullShare ((dats m 0 c).before w t d)) ⊢ (dats m 0 c).leavesExact w t := by
  unfold Dat.leavesExact
  rw [hi]
  cases hf : (cfg0.win w).flush t
  · exact .rfl
  · dsimp only
    iintro ⟨%d, H⟩
    rw [hb hf d]
    iexact H

/-- A buffer the point stores into is left at what is stated. -/
theorem live (c : Dev nD) (w : Fin cfg0.W) (t : Fin cfg0.N) (hi : cfg0.idle w (cfg0.grid.coords t) = false) :
    owns (c : Thread nD τ) ((cfg0.win w).stage (cfg0.slots t w)) fullShare ((dats m 0 c).after w t) ⊢ (dats m 0 c).leavesExact w t := by
  unfold Dat.leavesExact
  rw [hi]

/-! ## The body obligation -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (dats m 0 c).leavesExact 8 t
    ∗ (dats m 0 c).leavesExact 9 t
    ∗ (dats m 0 c).leavesExact 10 t)

set_option maxHeartbeats 1600000 in
theorem sound_first (c : Dev nD) (t : Fin cfg0.N) (ht : t.val = 0) :
    bodyPre m c t ⊢ wp frame (wpE (defs₀ (F := F)) Variants.none c none) Set.univ (bodyAt0 t) (fun _ => bodyPost m c t) := by
  have hN : t.val < 8 := lt_of_lt_of_eq t.isLt N_0
  have h1 : k0_cond1 (grid0.coords t) = 1#1 := (cond1_iff t).mpr (by omega)
  have L8 := live m c 8 t (idle8 t)
  rw [after0_8] at L8
  have L9 := live m c 9 t (by rw [idle9, h1]; rfl)
  rw [after0_9] at L9
  have L10 := live m c 10 t (by rw [idle10, h1]; rfl)
  rw [after0_10] at L10
  unfold bodyPre bodyPost bodyAt0
  simp only [before0_0, before0_1, before0_2, before0_3, before0_4, before0_5, before0_6, before0_7]
  rw [show (dats m 0 c).Φ t.castSucc = phi m c t.val from rfl, show (dats m 0 c).Φ t.succ = phi m c (t.val + 1) from rfl,
    show (dats m 0 c).owesAt () t.succ = (dats m 0 c).owesAt () t.castSucc from rfl,
    after0_0, after0_1, after0_2, after0_3, after0_4, after0_5, after0_6, after0_7]
  unfold phi
  iintro ⟨⟨%X12, %X13, %X14, %hInv, S12, S13, S14, HP⟩, Ho, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩, ⟨%d10, W10⟩⟩
  obtain rfl : t = t0_0 := Fin.ext ht
  iapply (run_first c Set.univ (grid0.coords t0_0) h1 _ _ _ _ _ _ _ _ _ _ _ _ _ _ _ _ _ _ _ _ _ _ _ _ _ _ _ _ (gA m c) (iblk m c 1 t0_0) (gI m c) (gM m c) (iblk m c 4 t0_0) (iblk m c 5 t0_0) (iblk m c 6 t0_0) (iblk m c 7 t0_0) _ _ _ X12 X13 X14 _)
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [W10]; · iexact W10
  isplitl [S12]; · iexact S12
  isplitl [S13]; · iexact S13
  isplitl [S14]; · iexact S14
  iintro ⟨W0, W1, W2, W3, W4, W5, W6, W7, W8, W9, W10, S12, S13, S14⟩
  isplitl [S12 S13 S14 HP]
  · iexists _; iexists _; iexists _
    isplitr; swap
    · isplitl [S12]; · iexact S12
      isplitl [S13]; · iexact S13
      isplitl [S14]; · iexact S14
      iexact HP
    ipureintro
    exact fun _ => ⟨rfl, rfl, rfl⟩
  isplitl [Ho]; · iexact Ho
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iapply L8; iexact W8
  isplitl [W9]; · iapply L9; iexact W9
  iapply L10; iexact W10

set_option maxHeartbeats 1600000 in
theorem sound_rest (c : Dev nD) (t : Fin cfg0.N) (ht : 0 < t.val) :
    bodyPre m c t ⊢ wp frame (wpE (defs₀ (F := F)) Variants.none c none) Set.univ (bodyAt0 t) (fun _ => bodyPost m c t) := by
  have hN : t.val < 8 := lt_of_lt_of_eq t.isLt N_0
  have h1 : ¬ k0_cond1 (grid0.coords t) = 1#1 := (cond1_iff t).not.mpr (by omega)
  have L8 := live m c 8 t (idle8 t)
  rw [after0_8] at L8
  have L9 := pass m c 9 t (by rw [idle9]; simp [h1]) (fun hf => before9 m c t.val t rfl (by have := (flush0_9 t).mp hf; omega))
  have L10 := pass m c 10 t (by rw [idle10]; simp [h1]) (fun hf => before10 m c t.val t rfl (by have := (flush0_10 t).mp hf; omega))
  unfold bodyPre bodyPost bodyAt0
  simp only [before0_0, before0_1, before0_2, before0_3, before0_4, before0_5, before0_6, before0_7]
  rw [show (dats m 0 c).Φ t.castSucc = phi m c t.val from rfl, show (dats m 0 c).Φ t.succ = phi m c (t.val + 1) from rfl,
    show (dats m 0 c).owesAt () t.succ = (dats m 0 c).owesAt () t.castSucc from rfl,
    after0_0, after0_1, after0_2, after0_3, after0_4, after0_5, after0_6, after0_7]
  unfold phi
  iintro ⟨⟨%X12, %X13, %X14, %hInv, S12, S13, S14, HP⟩, Ho, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, W9, W10⟩
  obtain ⟨J1, J2, J3⟩ := hInv ht
  subst J1 J2 J3
  iapply (run_rest c Set.univ (grid0.coords t) h1 _ _ _ _ _ _ _ _ _ _ _ _ _ _ _ _ _ _ _ _ _ _ _ _ _ _ _ _ (iblk m c 1 t) (iblk m c 4 t) (iblk m c 5 t) (iblk m c 6 t) (iblk m c 7 t) _ _ _ _ _)
  isplitl [W1]; · iexact W1
  isplitl [W4]; · iexact W4
  isplitl [W5]; · iexact W5
  isplitl [W6]; · iexact W6
  isplitl [W7]; · iexact W7
  isplitl [W8]; · iexact W8
  isplitl [S12]; · iexact S12
  isplitl [S13]; · iexact S13
  isplitl [S14]; · iexact S14
  iintro ⟨W1, W4, W5, W6, W7, W8, S12, S13, S14⟩
  isplitl [S12 S13 S14 HP]
  · iexists _; iexists _; iexists _
    isplitr; swap
    · isplitl [S12]; · iexact S12
      isplitl [S13]; · iexact S13
      isplitl [S14]; · iexact S14
      iexact HP
    ipureintro
    exact fun _ => ⟨rfl, rfl, rfl⟩
  isplitl [Ho]; · iexact Ho
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iapply L8; iexact W8
  isplitl [W9]; · iapply L9; iexact W9
  iapply L10; iexact W10

theorem sound_body (c : Dev nD) (t : Fin cfg0.N) :
    bodyPre m c t ⊢ wp frame (wpE (defs₀ (F := F)) Variants.none c none) Set.univ (bodyAt0 t) (fun _ => bodyPost m c t) := by
  rcases Nat.eq_zero_or_pos t.val with h0 | h0
  · exact sound_first m c t h0
  · exact sound_rest m c t h0

/-- The body table's row at point t's slots is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem phi_in (c : Dev nD) : (ΦA spec0 c : sProp 𝕄) ⊢ phi m c 0 := by
  unfold ΦA phi
  rw [scopedRest0_eq]
  simp only [owns_whole]
  iintro ⟨⟨⟨%f0, H0⟩, ⟨%f1, H1⟩, ⟨%f2, H2⟩⟩, HP⟩
  iexists f0; iexists f1; iexists f2
  isplitr
  · ipureintro
    exact fun h => absurd h (by decide)
  isplitl [H0]; · iexact H0
  isplitl [H1]; · iexact H1
  isplitl [H2]; · iexact H2
  iexact HP

theorem phi_out (c : Dev nD) (n : ℕ) : phi m c n ⊢ (ΦA spec0 c : sProp 𝕄) := by
  unfold ΦA phi
  rw [scopedRest0_eq]
  simp only [owns_whole]
  iintro ⟨%f0, %f1, %f2, -, H0, H1, H2, HP⟩
  isplitr [HP]; swap; · iexact HP
  isplitl [H0]; · iexists f0; iexact H0
  isplitl [H1]; · iexists f1; iexact H1
  iexists f2; iexact H2

set_option backward.isDefEq.respectTransparency.types false in
/-- Every execution of the program ends, every array at what the proof data say, every counter at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => phi_in m c) (hout := fun c => phi_out m c _)

/-- The argument arrays end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_with_sems (frame_of m ρ (dats m) (A_eq m)) (run_main m ρ)

end Cert.Proof.OprojKernelIdealRun
end
-- ==== Proof.Oproj.OprojKernelTwin.lean ====
module

public import proofs.«01_k».proof.Proof.Oproj.OprojKernelIdealRun
public import proofs.«01_k».proof.Proof.Gen.OprojKernel
public import proofs.«01_k».proof.Defs

/-! The frame of `OprojKernel` at bits. `OprojKernel` and `OprojKernelIdeal` are one program under two names, and the frame of
`OprojKernelIdeal` is proved for every reading of the floats, so it is taken over as it stands. -/

@[expose] public section

set_option maxRecDepth 16384
-- the `match`es of the two programs are equal by unfolding
set_option smartUnfolding false

noncomputable section

namespace Cert.Proof.OprojKernelTwin

open Idealize.ShloMosaic Idealize.SL.Sem

theorem frame : Cert.quiescent_OprojKernel (hOprojKernel := Cert.OprojKernel.Gen.facts) :=
  fun m ρ _ => Cert.Proof.OprojKernelIdealRun.frame (F := Bits) m ρ

end Cert.Proof.OprojKernelTwin
-- ==== Proof.Oproj.OprojRows.lean ====
module

public import proofs.«01_k».proof.Proof.Oproj.OprojKernelIdealRun
public import Idealize.ShloMosaic.Lib.Pointwise
public import Idealize.ShloMosaic.Lib.Pipeline.Value

@[expose] public section

set_option maxRecDepth 16384

noncomputable section

namespace Cert.Proof.OprojRows

open Idealize.ShloMosaic
open Cert.OprojKernelIdeal Cert.OprojKernelIdeal.Gen
open Cert.Proof.OprojKernelIdealRun (opA rH0 rH1 rH2 rH3 rH4 rH5 rH6 rH7 rH8 rH9 rH10 rH11 rH12 rH13 rH14 rH15)

variable {F : FTy → Type} [FloatOps F]
variable (x1 : Vec F S96x16x128 .f32)

/-! ## The heads side by side are the rows reshaped -/

/-- Head h of every row. -/
def piece (h : Fin 16) : FVec F S96x128 .f32 := match h with
  | ⟨0, _⟩ => k0_pay9 (View.ld x1 rH0)
  | ⟨1, _⟩ => k0_pay10 (View.ld x1 rH1)
  | ⟨2, _⟩ => k0_pay11 (View.ld x1 rH2)
  | ⟨3, _⟩ => k0_pay12 (View.ld x1 rH3)
  | ⟨4, _⟩ => k0_pay13 (View.ld x1 rH4)
  | ⟨5, _⟩ => k0_pay14 (View.ld x1 rH5)
  | ⟨6, _⟩ => k0_pay15 (View.ld x1 rH6)
  | ⟨7, _⟩ => k0_pay16 (View.ld x1 rH7)
  | ⟨8, _⟩ => k0_pay17 (View.ld x1 rH8)
  | ⟨9, _⟩ => k0_pay18 (View.ld x1 rH9)
  | ⟨10, _⟩ => k0_pay19 (View.ld x1 rH10)
  | ⟨11, _⟩ => k0_pay20 (View.ld x1 rH11)
  | ⟨12, _⟩ => shapeCast S96x128 (View.ld x1 rH12) shapeCasts_S96x1x128_S96x128
  | ⟨13, _⟩ => shapeCast S96x128 (View.ld x1 rH13) shapeCasts_S96x1x128_S96x128
  | ⟨14, _⟩ => shapeCast S96x128 (View.ld x1 rH14) shapeCasts_S96x1x128_S96x128
  | ⟨15, _⟩ => shapeCast S96x128 (View.ld x1 rH15) shapeCasts_S96x1x128_S96x128
  | ⟨_ + 16, h⟩ => absurd h (Nat.not_lt.2 (Nat.le_add_left _ _))

theorem piece_at (r : Fin 96) (d : Fin 128) : ∀ h : Fin 16, piece x1 h (ix2 r d) = x1 (ix3 r h d)
  | ⟨0, _⟩ => by
    show k0_pay9 (View.ld x1 rH0) (ix2 r d) = _
    unfold k0_pay9
    pointwise
  | ⟨1, _⟩ => by
    show k0_pay10 (View.ld x1 rH1) (ix2 r d) = _
    unfold k0_pay10
    pointwise
  | ⟨2, _⟩ => by
    show k0_pay11 (View.ld x1 rH2) (ix2 r d) = _
    unfold k0_pay11
    pointwise
  | ⟨3, _⟩ => by
    show k0_pay12 (View.ld x1 rH3) (ix2 r d) = _
    unfold k0_pay12
    pointwise
  | ⟨4, _⟩ => by
    show k0_pay13 (View.ld x1 rH4) (ix2 r d) = _
    unfold k0_pay13
    pointwise
  | ⟨5, _⟩ => by
    show k0_pay14 (View.ld x1 rH5) (ix2 r d) = _
    unfold k0_pay14
    pointwise
  | ⟨6, _⟩ => by
    show k0_pay15 (View.ld x1 rH6) (ix2 r d) = _
    unfold k0_pay15
    pointwise
  | ⟨7, _⟩ => by
    show k0_pay16 (View.ld x1 rH7) (ix2 r d) = _
    unfold k0_pay16
    pointwise
  | ⟨8, _⟩ => by
    show k0_pay17 (View.ld x1 rH8) (ix2 r d) = _
    unfold k0_pay17
    pointwise
  | ⟨9, _⟩ => by
    show k0_pay18 (View.ld x1 rH9) (ix2 r d) = _
    unfold k0_pay18
    pointwise
  | ⟨10, _⟩ => by
    show k0_pay19 (View.ld x1 rH10) (ix2 r d) = _
    unfold k0_pay19
    pointwise
  | ⟨11, _⟩ => by
    show k0_pay20 (View.ld x1 rH11) (ix2 r d) = _
    unfold k0_pay20
    pointwise
  | ⟨12, _⟩ => by
    show shapeCast S96x128 (View.ld x1 rH12) shapeCasts_S96x1x128_S96x128 (ix2 r d) = _
    pointwise
  | ⟨13, _⟩ => by
    show shapeCast S96x128 (View.ld x1 rH13) shapeCasts_S96x1x128_S96x128 (ix2 r d) = _
    pointwise
  | ⟨14, _⟩ => by
    show shapeCast S96x128 (View.ld x1 rH14) shapeCasts_S96x1x128_S96x128 (ix2 r d) = _
    pointwise
  | ⟨15, _⟩ => by
    show shapeCast S96x128 (View.ld x1 rH15) shapeCasts_S96x1x128_S96x128 (ix2 r d) = _
    pointwise
  | ⟨_ + 16, h⟩ => absurd h (Nat.not_lt.2 (Nat.le_add_left _ _))

theorem opA_list : opA x1 = concatenate S96x2048 1 (List.ofFn fun h : Fin 16 => (⟨S96x128, piece x1 h⟩ : (s : Shape) × (s.Idx → F .f32)))
    concatenates_S96x128_S96x128_S96x128_S96x128_S96x128_S96x128_S96x128_S96x128_S96x128_S96x128_S96x128_S96x128_S96x128_S96x128_S96x128_S96x128_S96x2048_d1 := rfl

theorem opA_at (r : Fin 96) (k : Fin 2048) :
    opA x1 (ix2 r k) = x1 (ix3 r (⟨k.val / 128, by omega⟩ : Fin 16) (⟨k.val % 128, by omega⟩ : Fin 128)) := by
  rw [opA_list]
  refine (concatenate_ofFn_apply (t := S96x2048) (s₁ := S96x128) 1 (piece x1) _ rfl 128 rfl (ix2 r k) ⟨k.val / 128, by omega⟩ rfl (ix2 r ⟨k.val % 128, by omega⟩) rfl ?_).trans (piece_at x1 _ _ _)
  intro b hb
  fin_cases b
  · rfl
  · exact absurd rfl hb

theorem rows_at (hs : S96x16x128.ShapeCasts S96x2048) (r : Fin 96) (k : Fin 2048) :
    shapeCast S96x2048 x1 hs (ix2 r k) = x1 (ix3 r (⟨k.val / 128, by omega⟩ : Fin 16) (⟨k.val % 128, by omega⟩ : Fin 128)) := by
  pointwise

/-- The rows the kernel quantises are the attention rows reshaped. -/
theorem opA_eq (hs : S96x16x128.ShapeCasts S96x2048) : opA x1 = shapeCast S96x2048 x1 hs := by
  funext y
  have e : y = ix2 (n0 := 96) (n1 := 2048) (y 0) (y 1) := by
    funext a
    fin_cases a <;> rfl
  rw [e]
  exact (opA_at x1 _ _).trans (rows_at x1 hs _ _).symm

end Cert.Proof.OprojRows
-- ==== Proof.Oproj.OprojEquation.lean ====
module

public import proofs.«01_k».proof.Proof.Oproj.OprojRows
public import proofs.«01_k».proof.Proof.Gen.OprojReferenceIdeal.Frame
public import proofs.«01_k».proof.Proof.Mlp.Equation
public import Idealize.ShloMosaic.Lib.Pointwise

@[expose] public section

set_option maxRecDepth 16384

noncomputable section

namespace Cert.Proof.OprojEquation

open Idealize.ShloMosaic
open Cert.OprojKernelIdeal
open scoped BigOperators
open Cert.Proof.OprojKernelIdealRun (opA opQ opC opO opS opR rS)
open Cert.Proof.Equation (mixed asReal clipped clipped_back)

section Codes
variable {F : FTy → Type} [FloatOps F]
variable (a : FVec F S96x2048 .f32) (I M : Vec F S48x1 .i32)

/-! ## The quantised channels -/

theorem cmpi_eq_swap {s : Shape} {w : ℕ} (x y : IVec s w) : cmpi .eq x y = cmpi .eq y x := by
  funext i
  show IntOp.cmpi .eq (x i) (y i) = IntOp.cmpi .eq (y i) (x i)
  unfold IntOp.cmpi
  simp only [BEq.comm]

/-- The rows with the unquantised channels cleared. -/
def kept : FVec F S96x2048 .f32 := Cert.OprojReferenceIdeal.Gen.k0_pay9 a I M

theorem kept_eq : Cert.OprojKernelIdeal.Gen.k0_pay1 a (Cert.OprojKernelIdeal.Gen.k0_pay23 I M) (Scalar.ofBits .f32 0x00000000#32) = kept a I M := by
  unfold kept Cert.OprojKernelIdeal.Gen.k0_pay1 Cert.OprojKernelIdeal.Gen.k0_pay23 Cert.OprojKernelIdeal.Gen.k0_pay22 Cert.OprojReferenceIdeal.Gen.k0_pay9 Cert.OprojReferenceIdeal.Gen.k0_pay6
  simp only [shapeCast_self]
  rw [cmpi_eq_swap (iota .tc S48x2048 32 [1] _)]
  rfl

/-- The row scales. -/
def sc : FVec F S96 .f32 := Cert.OprojReferenceIdeal.Gen.k0_pay1 (kept a I M)
/-- The integer codes. -/
def co : IVec S96x2048 8 := Cert.OprojReferenceIdeal.Gen.k0_pay2 (kept a I M)

theorem scale_eq : Cert.OprojKernelIdeal.Gen.k0_pay2 a (Cert.OprojKernelIdeal.Gen.k0_pay23 I M) (Scalar.ofBits .f32 0x00000000#32)
    = shapeCast S96x1 (sc a I M) Cert.OprojReferenceIdeal.Gen.shapeCasts_S96_S96x1 := by
  unfold Cert.OprojKernelIdeal.Gen.k0_pay2
  rw [kept_eq]
  rfl

/-- The rows over their scales. -/
def pre : FVec F S96x2048 .f32 :=
  divf (kept a I M) (broadcastTo S96x2048 (shapeCast S96x1 (sc a I M) Cert.OprojReferenceIdeal.Gen.shapeCasts_S96_S96x1) Cert.OprojKernelIdeal.Gen.broadcasts_S96x1_S96x2048)

theorem clip_eq : Cert.OprojKernelIdeal.Gen.k0_pay3 a (Cert.OprojKernelIdeal.Gen.k0_pay23 I M) (Scalar.ofBits .f32 0x00000000#32) = clipped (pre a I M) := by
  unfold Cert.OprojKernelIdeal.Gen.k0_pay3
  rw [kept_eq, scale_eq]
  rfl

theorem co_clip : co a I M = fptosi 8 (clipped (pre a I M)) := rfl

theorem codes_eq : Cert.OprojKernelIdeal.Gen.k0_pay5 a (Cert.OprojKernelIdeal.Gen.k0_pay23 I M) (Scalar.ofBits .f32 0x00000000#32) = co a I M := by
  unfold Cert.OprojKernelIdeal.Gen.k0_pay5
  rw [clip_eq, co_clip]

theorem lanes_eq : Cert.OprojKernelIdeal.Gen.k0_pay7 a (Cert.OprojKernelIdeal.Gen.k0_pay23 I M) (Scalar.ofBits .f32 0x00000000#32)
    = Cert.OprojReferenceIdeal.Gen.k0_pay4 (kept a I M) := by
  funext j
  unfold Cert.OprojKernelIdeal.Gen.k0_pay7 Cert.OprojReferenceIdeal.Gen.k0_pay4
  rw [scale_eq]
  show _ = shapeCast _ (sc a I M) _ j
  generalize sc a I M = s
  pointwise

theorem scale_at (r : Fin 96) : View.ld (Val := Elt F) (e' := .f32) (Cert.OprojKernelIdeal.Gen.k0_pay6 a (Cert.OprojKernelIdeal.Gen.k0_pay23 I M) (Scalar.ofBits .f32 0x00000000#32)) rS (ix2 r 0)
    = sc a I M (ix1 r) := by
  unfold Cert.OprojKernelIdeal.Gen.k0_pay6
  rw [scale_eq]
  generalize sc a I M = s
  pointwise

theorem quant_clip : Cert.OprojKernelIdeal.Gen.k0_pay4 a (Cert.OprojKernelIdeal.Gen.k0_pay23 I M) (Scalar.ofBits .f32 0x00000000#32)
    = truncf .bf16 (clipped (pre a I M)) Cert.OprojKernelIdeal.Gen.bitsLt_bf16_f32 := by
  unfold Cert.OprojKernelIdeal.Gen.k0_pay4
  rw [clip_eq]
  exact shapeCast_self _ _

end Codes

section CodesIdeal
variable (a : FVec Ideal S96x2048 .f32) (I M : Vec Ideal S48x1 .i32)

theorem quant_eq : Cert.OprojKernelIdeal.Gen.k0_pay4 a (Cert.OprojKernelIdeal.Gen.k0_pay23 I M) (Scalar.ofBits .f32 0x00000000#32)
    = (sitofp .bf16 (co a I M) : FVec Ideal S96x2048 .bf16) := by
  rw [quant_clip, co_clip, clipped_back]

/-! ## The linear layer -/

theorem tile (Q : Vec Ideal S96x2048 .bf16) (S : Vec Ideal S96x1 .f32) (O : Vec Ideal S96x48 .bf16) (W : Vec Ideal S2048x512 .i8)
    (ws : Vec Ideal S1x512 .f32) (wo : Vec Ideal S48x512 .bf16) (bb : Vec Ideal S1x512 .f32) (x : Vec Ideal S96x512 .bf16) (r : Fin 96) (p : Fin 512) :
    Cert.OprojKernelIdeal.Gen.k0_pay8 Q S O W ws wo bb x (ix2 r p)
      = x (ix2 r p) + mixed (fun k => Q (ix2 r k)) (fun k => asReal (W (ix2 k p))) (S (ix2 r 0)) (ws (ix2 0 p))
          (fun k => O (ix2 r k)) (fun k => wo (ix2 k p)) (bb (ix2 0 p)) := by
  unfold Cert.OprojKernelIdeal.Gen.k0_pay8
  pointwise
  rfl

theorem ref_tile (A : FVec Ideal S96x2048 .f32) (O : FVec Ideal S96x48 .bf16) (x : Vec Ideal S96x4096 .bf16) (w : Vec Ideal S2048x4096 .i8)
    (ws : Vec Ideal S1x4096 .f32) (wo : Vec Ideal S48x4096 .bf16) (bb : Vec Ideal S1x4096 .f32) (r : Fin 96) (q : Fin 4096) :
    Cert.OprojReferenceIdeal.Gen.k0_pay3 w (Cert.OprojReferenceIdeal.Gen.k0_pay5 ws) wo (Cert.OprojReferenceIdeal.Gen.k0_pay7 bb) O A x (ix2 r q)
      = x (ix2 r q) + mixed (fun k => asReal (Cert.OprojReferenceIdeal.Gen.k0_pay2 A (ix2 r k))) (fun k => asReal (w (ix2 k q)))
          (Cert.OprojReferenceIdeal.Gen.k0_pay1 A (ix1 r)) (ws (ix2 0 q))
          (fun k => O (ix2 r k)) (fun k => wo (ix2 k q)) (bb (ix2 0 q)) := by
  unfold Cert.OprojReferenceIdeal.Gen.k0_pay3 Cert.OprojReferenceIdeal.Gen.k0_pay5 Cert.OprojReferenceIdeal.Gen.k0_pay7
  pointwise
  rfl

/-! ## The unquantised channels -/

/-- A channel index in range where the mask is one, or a mask of zero. -/
def Valid (I M : Vec Ideal S48x1 .i32) : Prop :=
  ∀ j : Fin 48, M (ix2 j 0) = 0#32 ∨ (M (ix2 j 0) = 1#32 ∧ ∃ k : Fin 2048, I (ix2 j 0) = BitVec.ofNat 32 k.val)

theorem onehot_at (j : Fin 48) (k : Fin 2048) :
    Cert.OprojKernelIdeal.Gen.k0_pay22 (F := Ideal) I M (ix2 j k)
      = if BitVec.ofNat 32 k.val = I (ix2 j 0) ∧ M (ix2 j 0) = 1#32 then (1 : EReal) else 0 := by
  unfold Cert.OprojKernelIdeal.Gen.k0_pay22
  pointwise
  unfold Scalar.select IntOp.andi IntOp.cmpi
  by_cases h1 : BitVec.ofNat 32 k.val = I (ix2 j 0) <;> by_cases h2 : M (ix2 j 0) = 1#32
  · simp [h1, h2]
  · simp [h1, h2, beq_eq_false_iff_ne.mpr h2]
  · simp [h1, h2, beq_eq_false_iff_ne.mpr h1]
  · simp [h1, h2, beq_eq_false_iff_ne.mpr h1]

/-- The product of the rows and the one-hot channels. -/
def taken {F : FTy → Type} [FloatOps F] (a : FVec F S96x2048 .f32) (oh : FVec F S48x2048 .f32) : FVec F S96x48 .bf16 :=
  shapeCast S96x48 (truncf .bf16 (matmul Cert.OprojKernelIdeal.dot_S96x2048_S48x2048_S96x48_1_1_0_0_n_n none (truncf .bf16 a Cert.OprojKernelIdeal.Gen.bitsLt_bf16_f32)
    (truncf .bf16 oh Cert.OprojKernelIdeal.Gen.bitsLt_bf16_f32) (constant S96x48 .f32 0x00000000#32)) Cert.OprojKernelIdeal.Gen.bitsLt_bf16_f32) Cert.OprojKernelIdeal.Gen.shapeCasts_S96x48_S96x48

theorem opO_eq {F : FTy → Type} [FloatOps F] (x1 : Vec F S96x16x128 .f32) (I M : Vec F S48x1 .i32) :
    opO x1 I M = taken (opA x1) (Cert.OprojKernelIdeal.Gen.k0_pay22 I M) := rfl

theorem taken_at (oh : FVec Ideal S48x2048 .f32) (r : Fin 96) (j : Fin 48) :
    (taken a oh (ix2 r j) : EReal) = ∑ k : Fin 2048, (a (ix2 r k) * oh (ix2 j k) : EReal) := by
  unfold taken
  pointwise

theorem ofNat_inj {k l : Fin 2048} (h : BitVec.ofNat 32 k.val = BitVec.ofNat 32 l.val) : k = l := by
  have h' := congrArg BitVec.toNat h
  rw [BitVec.toNat_ofNat, BitVec.toNat_ofNat, Nat.mod_eq_of_lt (by omega), Nat.mod_eq_of_lt (by omega)] at h'
  exact Fin.ext h'

/-- Where the mask is zero the product is zero; -/
theorem taken_zero (r : Fin 96) (j : Fin 48) (h : M (ix2 j 0) = 0#32) :
    (taken a (Cert.OprojKernelIdeal.Gen.k0_pay22 I M) (ix2 r j) : EReal) = 0 := by
  rw [taken_at]
  refine Finset.sum_eq_zero fun k _ => ?_
  rw [onehot_at, if_neg (fun e => absurd (h.symm.trans e.2) (by decide))]
  exact mul_zero _

/-- where it is one, the row's entry in the channel. -/
theorem taken_one (r : Fin 96) (j : Fin 48) (k : Fin 2048) (h : M (ix2 j 0) = 1#32) (hk : I (ix2 j 0) = BitVec.ofNat 32 k.val) :
    (taken a (Cert.OprojKernelIdeal.Gen.k0_pay22 I M) (ix2 r j) : EReal) = a (ix2 r k) := by
  rw [taken_at, Finset.sum_eq_single k]
  · rw [onehot_at, if_pos ⟨hk.symm, h⟩]
    exact mul_one _
  · intro l _ hl
    rw [onehot_at, if_neg (fun e => hl (ofNat_inj (e.1.trans hk)))]
    exact mul_zero _
  · exact fun h => absurd (Finset.mem_univ _) h

theorem masked_at (A : FVec Ideal S96x48 .f32) (r : Fin 96) (j : Fin 48) :
    (Cert.OprojReferenceIdeal.Gen.k0_pay8 A M (ix2 r j) : EReal) = (A (ix2 r j) * (((M (ix2 j 0)).toInt : ℝ) : EReal) : EReal) := by
  unfold Cert.OprojReferenceIdeal.Gen.k0_pay8 Cert.OprojReferenceIdeal.Gen.k0_pay6
  pointwise
  rfl

/-- The reference's unquantised channels are the kernel's, for channels in range. -/
theorem channels_eq (hV : Valid I M) (A : FVec Ideal S96x48 .f32)
    (hA : ∀ (r : Fin 96) (j : Fin 48) (k : Fin 2048), I (ix2 j 0) = BitVec.ofNat 32 k.val → A (ix2 r j) = a (ix2 r k)) (r : Fin 96) (j : Fin 48) :
    (taken a (Cert.OprojKernelIdeal.Gen.k0_pay22 I M) (ix2 r j) : EReal) = Cert.OprojReferenceIdeal.Gen.k0_pay8 A M (ix2 r j) := by
  rw [masked_at]
  rcases hV j with h | ⟨h, k, hk⟩
  · rw [taken_zero a I M r j h, h]
    simp
  · rw [taken_one a I M r j k h hk, hA r j k hk, h]
    simp

/-- A tile of the result is the reference's result at the tile's columns. -/
theorem out_eq (x1 : Vec Ideal S96x16x128 .f32) (hV : Valid I M) (A : FVec Ideal S96x48 .f32)
    (hA : ∀ (r : Fin 96) (j : Fin 48) (k : Fin 2048), I (ix2 j 0) = BitVec.ofNat 32 k.val → A (ix2 r j) = opA x1 (ix2 r k))
    (W : Vec Ideal S2048x512 .i8) (ws : Vec Ideal S1x512 .f32) (wo : Vec Ideal S48x512 .bf16) (bb : Vec Ideal S1x512 .f32) (x : Vec Ideal S96x512 .bf16)
    (W' : Vec Ideal S2048x4096 .i8) (ws' : Vec Ideal Cert.OprojReferenceIdeal.S1x4096 .f32) (wo' : Vec Ideal S48x4096 .bf16) (bb' : Vec Ideal Cert.OprojReferenceIdeal.S1x4096 .f32) (x' : Vec Ideal S96x4096 .bf16)
    (r : Fin 96) (p : Fin 512) (q : Fin 4096) (hW : ∀ k, W (ix2 k p) = W' (ix2 k q)) (hs : ws (ix2 0 p) = ws' (ix2 0 q))
    (ho : ∀ k, wo (ix2 k p) = wo' (ix2 k q)) (hb : bb (ix2 0 p) = bb' (ix2 0 q)) (hx : x (ix2 r p) = x' (ix2 r q)) :
    Cert.OprojKernelIdeal.Gen.k0_pay8 (opQ x1 I M) (View.ld (opS x1 I M) rS) (opO x1 I M) W ws wo bb x (ix2 r p)
      = Cert.OprojReferenceIdeal.Gen.k0_pay3 W' (Cert.OprojReferenceIdeal.Gen.k0_pay5 ws') wo' (Cert.OprojReferenceIdeal.Gen.k0_pay7 bb')
          (Cert.OprojReferenceIdeal.Gen.k0_pay8 A M) (kept (opA x1) I M) x' (ix2 r q) := by
  rw [tile, ref_tile, hs, hb, hx, opO_eq]
  unfold opS opQ
  rw [scale_at, quant_eq]
  simp only [hW, ho]
  rw [show (fun k => taken (opA x1) (Cert.OprojKernelIdeal.Gen.k0_pay22 I M) (ix2 r k)) = fun k => Cert.OprojReferenceIdeal.Gen.k0_pay8 A M (ix2 r k) from
    funext fun k => channels_eq (opA x1) I M hV A hA r k]
  rfl

end CodesIdeal

end Cert.Proof.OprojEquation
-- ==== Proof.Oproj.OprojKernelValues.lean ====
module

public import proofs.«01_k».proof.Proof.Oproj.OprojEquation

@[expose] public section

set_option maxRecDepth 16384

noncomputable section

namespace Cert.Proof.OprojKernelValues

open Idealize.ShloMosaic Idealize.ShloMosaic.TcCoe
open Cert.OprojKernelIdeal Cert.OprojKernelIdeal.Gen
open Cert.Proof.OprojEquation (kept co sc Valid)
open Cert.Proof.OprojKernelIdealRun (gA gI gM outY dats opA opC opR opQ opO opS rS after0_8 after0_9 after0_10)

variable (m : (ℓ : Loc nD τ sig) → Buf (Elt Ideal) ℓ) (c : Dev nD)

/-! ## Where the grid points read -/

theorem idx1 : ∀ t : Fin cfg0.N, win0_1.index t = ![0, t.val] :=
  (by decide +kernel : ∀ t : Fin grid0.N, win0_1.index t = ![0, t.val])
theorem idx4 : ∀ t : Fin cfg0.N, win0_4.index t = ![0, t.val] :=
  (by decide +kernel : ∀ t : Fin grid0.N, win0_4.index t = ![0, t.val])
theorem idx5 : ∀ t : Fin cfg0.N, win0_5.index t = ![0, t.val] :=
  (by decide +kernel : ∀ t : Fin grid0.N, win0_5.index t = ![0, t.val])
theorem idx6 : ∀ t : Fin cfg0.N, win0_6.index t = ![0, t.val] :=
  (by decide +kernel : ∀ t : Fin grid0.N, win0_6.index t = ![0, t.val])
theorem idx7 : ∀ t : Fin cfg0.N, win0_7.index t = ![0, t.val] :=
  (by decide +kernel : ∀ t : Fin grid0.N, win0_7.index t = ![0, t.val])
theorem idx8 : ∀ t : Fin cfg0.N, win0_8.index t = ![0, t.val] :=
  (by decide +kernel : ∀ t : Fin grid0.N, win0_8.index t = ![0, t.val])

theorem whole0 : gA m c = V m c main_arg0 := by
  funext y
  blk_ext [iblk, (by decide +kernel : win0_0.index t0_0 = ![0, 0, 0])]

theorem whole2 : gI m c = V m c main_v1 := by
  funext y
  blk_ext [iblk, (by decide +kernel : win0_2.index t0_0 = ![0, 0])]

theorem whole3 : gM m c = V m c main_v2 := by
  funext y
  blk_ext [iblk, (by decide +kernel : win0_3.index t0_0 = ![0, 0])]

theorem blk1 (t : Fin cfg0.N) (k : Fin 96) (p : Fin 512) (q : Fin 4096) (hq : q.val = t.val * 512 + p.val) :
    iblk m c 1 t (ix2 k p) = V m c main_v0 (ix2 k q) := by
  blk_ext [iblk, idx1 t]

theorem blk4 (t : Fin cfg0.N) (k : Fin 2048) (p : Fin 512) (q : Fin 4096) (hq : q.val = t.val * 512 + p.val) :
    iblk m c 4 t (ix2 k p) = V m c main_arg4 (ix2 k q) := by
  blk_ext [iblk, idx4 t]

theorem blk5 (t : Fin cfg0.N) (k : Fin 1) (p : Fin 512) (q : Fin 4096) (hq : q.val = t.val * 512 + p.val) :
    iblk m c 5 t (ix2 k p) = V m c main_v3 (ix2 k q) := by
  blk_ext [iblk, idx5 t]

theorem blk6 (t : Fin cfg0.N) (k : Fin 48) (p : Fin 512) (q : Fin 4096) (hq : q.val = t.val * 512 + p.val) :
    iblk m c 6 t (ix2 k p) = V m c main_arg6 (ix2 k q) := by
  blk_ext [iblk, idx6 t]

theorem blk7 (t : Fin cfg0.N) (k : Fin 1) (p : Fin 512) (q : Fin 4096) (hq : q.val = t.val * 512 + p.val) :
    iblk m c 7 t (ix2 k p) = V m c main_v4 (ix2 k q) := by
  blk_ext [iblk, idx7 t]

/-! ## The three results after the run -/

/-- The rows with the unquantised channels cleared. -/
abbrev K : FVec Ideal S96x2048 .f32 := kept (opA (V m c main_arg0)) (V m c main_v1) (V m c main_v2)

theorem after_9 : (dats m 0 c).after 9 t0_7 = Cert.OprojReferenceIdeal.Gen.k0_pay2 (K m c) := by
  rw [after0_9, whole0, whole2, whole3]
  exact OprojEquation.codes_eq _ _ _

theorem codes : (dats m 0 c).arrAt 9 cfg0.N = Cert.OprojReferenceIdeal.Gen.k0_pay2 (K m c) := by
  refine (dats m 0 c).arrAt_eq_of_after_last 9 t0_7 (by decide +kernel) _ fun j => ?_
  blk_simp
  exact congrFun (after_9 m c) j

theorem after_10 : (dats m 0 c).after 10 t0_7 = Cert.OprojReferenceIdeal.Gen.k0_pay4 (K m c) := by
  rw [after0_10, whole0, whole2, whole3]
  exact OprojEquation.lanes_eq _ _ _

theorem scales : (dats m 0 c).arrAt 10 cfg0.N = Cert.OprojReferenceIdeal.Gen.k0_pay4 (K m c) := by
  refine (dats m 0 c).arrAt_eq_of_after_last 10 t0_7 (by decide +kernel) _ fun j => ?_
  blk_simp
  exact congrFun (after_10 m c) j

section Out
variable (A : FVec Ideal S96x48 .f32)

/-- The reference's output from the arrays the program finds and the channels A taken from the rows. -/
abbrev Y : FVec Ideal S96x4096 .bf16 :=
  Cert.OprojReferenceIdeal.Gen.k0_pay3 (V m c main_arg4) (Cert.OprojReferenceIdeal.Gen.k0_pay5 (V m c main_v3)) (V m c main_arg6)
    (Cert.OprojReferenceIdeal.Gen.k0_pay7 (V m c main_v4)) (Cert.OprojReferenceIdeal.Gen.k0_pay8 A (V m c main_v2)) (K m c) (V m c main_v0)

variable (hV : Valid (V m c main_v1) (V m c main_v2))
  (hA : ∀ (r : Fin 96) (j : Fin 48) (k : Fin 2048), V m c main_v1 (ix2 j 0) = BitVec.ofNat 32 k.val → A (ix2 r j) = opA (V m c main_arg0) (ix2 r k))
include hV hA

theorem out_tile (t : Fin cfg0.N) (r : Fin 96) (p : Fin 512) (q : Fin 4096) (hq : q.val = t.val * 512 + p.val) :
    outY m c t (ix2 r p) = Y m c A (ix2 r q) := by
  unfold outY
  rw [whole0, whole2, whole3]
  exact OprojEquation.out_eq _ _ _ hV A hA _ _ _ _ _ (V m c main_arg4) (V m c main_v3) (V m c main_arg6) (V m c main_v4) (V m c main_v0) r p q
    (fun k => blk4 m c t k p q hq) (blk5 m c t 0 p q hq) (fun k => blk6 m c t k p q hq) (blk7 m c t 0 p q hq) (blk1 m c t r p q hq)

theorem out : (dats m 0 c).arrAt 8 cfg0.N = Y m c A := by
  refine (dats m 0 c).arrAt_eq_of_covers 8 _ (by decide +kernel) fun t hf y => ?_
  blk_simp
  rw [after0_8]
  have h0 : (y 0).val < 96 := (y 0).isLt
  have h1 : (y 1).val < 512 := (y 1).isLt
  have hN : t.val < 8 := t.isLt
  have ey : y = ix2 (n0 := 96) (n1 := 512) ⟨(y 0).val, h0⟩ ⟨(y 1).val, h1⟩ := by
    funext a
    fin_cases a <;> rfl
  have ee : (win0_8.blk t).view.emb y = ix2 (n0 := 96) (n1 := 4096) ⟨(y 0).val, h0⟩ ⟨t.val * 512 + (y 1).val, by omega⟩ := by
    funext a
    fin_cases a
    · refine Fin.ext ?_
      blk_simp [idx8 t]
      simp
    · refine Fin.ext ?_
      blk_simp [idx8 t]
      simp
  exact (congrArg (outY m c t) ey).trans ((out_tile m c A hV hA t _ _ _ rfl).trans (congrArg (Y m c A) ee.symm))

end Out

/-! ## The reshaped operands -/

theorem V_v0 : V m c main_v0 = shapeCast S96x4096 (m ((c : Thread nD τ).loc main_arg1)) shapeCasts_S96x1x4096_S96x4096 := by
  entry_read
  rfl
theorem V_v1 : V m c main_v1 = shapeCast S48x1 (m ((c : Thread nD τ).loc main_arg2)) shapeCasts_S48_S48x1 := by
  entry_read
  rfl
theorem V_v2 : V m c main_v2 = shapeCast S48x1 (m ((c : Thread nD τ).loc main_arg3)) shapeCasts_S48_S48x1 := by
  entry_read
  rfl
theorem V_v3 : V m c main_v3 = shapeCast S1x4096 (m ((c : Thread nD τ).loc main_arg5)) shapeCasts_S4096_S1x4096 := by
  entry_read
  rfl
theorem V_v4 : V m c main_v4 = shapeCast S1x4096 (m ((c : Thread nD τ).loc main_arg7)) shapeCasts_S4096_S1x4096 := by
  entry_read
  rfl

end Cert.Proof.OprojKernelValues
-- ==== Proof.Oproj.OprojReferenceValues.lean ====
module

public import proofs.«01_k».proof.Proof.Oproj.OprojEquation
public import proofs.«01_k».proof.Proof.Gen.OprojReferenceIdeal.Value

@[expose] public section

set_option maxRecDepth 16384

noncomputable section

namespace Cert.Proof.OprojReferenceValues

open Idealize.ShloMosaic Idealize.ShloMosaic.TcCoe
open Cert.OprojReferenceIdeal Cert.OprojReferenceIdeal.Gen
open Cert.Proof.OprojEquation (kept)

/-! ## The reference's stores, over whole operands -/

section Outs
variable {F : FTy → Type} [FloatOps F]
variable (x0 : Vec F S96x2048 .f32) (x1 : Vec F S96x48 .f32) (x2 : Vec F S96x4096 .bf16) (x3 x4 : Vec F S48x1 .i32) (x5 : Vec F S2048x4096 .i8)
  (x6 : Vec F S1x4096 .f32) (x7 : Vec F S48x4096 .bf16) (x8 : Vec F S1x4096 .f32)

theorem zeros : ∀ a : Fin 2, (![0, 0] : Fin 2 → Nat) a = 0 := by decide

theorem part10 : Gen.k0_pay10 x0 x1 x2 x3 x4 x5 x6 x7 x8 = kept x0 x3 x4 := by
  unfold Gen.k0_pay10
  rw [View.ld_unit_lit' _ _ zeros, View.ld_unit_lit' _ _ zeros, View.ld_unit_lit' _ _ zeros]
  rfl

theorem out9 : out0_9 x0 x1 x2 x3 x4 x5 x6 x7 x8
    = Gen.k0_pay3 x5 (Gen.k0_pay5 x6) x7 (Gen.k0_pay7 x8) (Gen.k0_pay8 x1 x4) (kept x0 x3 x4) x2 := by
  unfold out0_9
  rw [part10]
  rw [View.ld_unit_lit' _ _ zeros, View.ld_unit_lit' _ _ zeros, View.ld_unit_lit' _ _ zeros, View.ld_unit_lit' _ _ zeros, View.ld_unit_lit' _ _ zeros, View.ld_unit_lit' _ _ zeros, View.ld_unit_lit' _ _ zeros]
  exact View.canon_cons_unit_lit' _ _ _ zeros

theorem out10 : out0_10 x0 x1 x2 x3 x4 x5 x6 x7 x8 = Gen.k0_pay2 (kept x0 x3 x4) := by
  unfold out0_10
  rw [part10]
  exact View.canon_cons_unit_lit' _ _ _ zeros

theorem out11 : out0_11 x0 x1 x2 x3 x4 x5 x6 x7 x8 = Gen.k0_pay4 (kept x0 x3 x4) := by
  unfold out0_11
  rw [part10]
  exact View.canon_cons_unit_lit' _ _ _ zeros

end Outs

variable (m : (ℓ : Loc nD τ sig) → Buf (Elt Ideal) ℓ) (c : Dev nD)

/-! ## What the one grid point reads: every operand whole -/

theorem blk0 : iblk m c 0 t0_0 = V m c main_v0 := by
  funext y
  blk_ext [iblk, (by decide +kernel : win0_0.index t0_0 = ![0, 0])]

theorem blk1 : iblk m c 1 t0_0 = V m c main_v1 := by
  funext y
  blk_ext [iblk, (by decide +kernel : win0_1.index t0_0 = ![0, 0])]

theorem blk2 : iblk m c 2 t0_0 = V m c main_v2 := by
  funext y
  blk_ext [iblk, (by decide +kernel : win0_2.index t0_0 = ![0, 0])]

theorem blk3 : iblk m c 3 t0_0 = V m c main_v3 := by
  funext y
  blk_ext [iblk, (by decide +kernel : win0_3.index t0_0 = ![0, 0])]

theorem blk4 : iblk m c 4 t0_0 = V m c main_v4 := by
  funext y
  blk_ext [iblk, (by decide +kernel : win0_4.index t0_0 = ![0, 0])]

theorem blk5 : iblk m c 5 t0_0 = V m c main_arg4 := by
  funext y
  blk_ext [iblk, (by decide +kernel : win0_5.index t0_0 = ![0, 0])]

theorem blk6 : iblk m c 6 t0_0 = V m c main_v5 := by
  funext y
  blk_ext [iblk, (by decide +kernel : win0_6.index t0_0 = ![0, 0])]

theorem blk7 : iblk m c 7 t0_0 = V m c main_arg6 := by
  funext y
  blk_ext [iblk, (by decide +kernel : win0_7.index t0_0 = ![0, 0])]

theorem blk8 : iblk m c 8 t0_0 = V m c main_v6 := by
  funext y
  blk_ext [iblk, (by decide +kernel : win0_8.index t0_0 = ![0, 0])]

/-! ## The three results after the run -/

/-- The rows with the unquantised channels cleared. -/
abbrev K : FVec Ideal S96x2048 .f32 := kept (V m c main_v0) (V m c main_v3) (V m c main_v4)

/-- The result. -/
abbrev Y : FVec Ideal S96x4096 .bf16 :=
  Gen.k0_pay3 (V m c main_arg4) (Gen.k0_pay5 (V m c main_v5)) (V m c main_arg6) (Gen.k0_pay7 (V m c main_v6)) (Gen.k0_pay8 (V m c main_v1) (V m c main_v4)) (K m c) (V m c main_v2)

theorem after_9 : (Gen.dats m 0 c).after 9 t0_0 = Y m c := by
  rw [after0_9, out9, blk0, blk1, blk2, blk3, blk4, blk5, blk6, blk7, blk8]

theorem out : (Gen.dats m 0 c).arrAt 9 cfg0.N = Y m c := by
  refine (Gen.dats m 0 c).arrAt_eq_of_after_last 9 t0_0 (by decide +kernel) _ fun j => ?_
  blk_simp
  exact congrFun (after_9 m c) j

theorem after_10 : (Gen.dats m 0 c).after 10 t0_0 = Gen.k0_pay2 (K m c) := by
  rw [after0_10, out10, blk0, blk3, blk4]

theorem codes : (Gen.dats m 0 c).arrAt 10 cfg0.N = Gen.k0_pay2 (K m c) := by
  refine (Gen.dats m 0 c).arrAt_eq_of_after_last 10 t0_0 (by decide +kernel) _ fun j => ?_
  blk_simp
  exact congrFun (after_10 m c) j

theorem after_11 : (Gen.dats m 0 c).after 11 t0_0 = Gen.k0_pay4 (K m c) := by
  rw [after0_11, out11, blk0, blk3, blk4]

theorem scales : (Gen.dats m 0 c).arrAt 11 cfg0.N = Gen.k0_pay4 (K m c) := by
  refine (Gen.dats m 0 c).arrAt_eq_of_after_last 11 t0_0 (by decide +kernel) _ fun j => ?_
  blk_simp
  exact congrFun (after_11 m c) j

/-! ## The reshaped operands -/

theorem V_v0 : V m c main_v0 = shapeCast S96x2048 (m ((c : Thread nD τ).loc main_arg0)) shapeCasts_S96x16x128_S96x2048 := by
  entry_read
  rfl
theorem V_v2 : V m c main_v2 = shapeCast S96x4096 (m ((c : Thread nD τ).loc main_arg1)) shapeCasts_S96x1x4096_S96x4096 := by
  entry_read
  rfl
theorem V_v3 : V m c main_v3 = shapeCast S48x1 (m ((c : Thread nD τ).loc main_arg2)) shapeCasts_S48_S48x1 := by
  entry_read
  rfl
theorem V_v4 : V m c main_v4 = shapeCast S48x1 (m ((c : Thread nD τ).loc main_arg3)) shapeCasts_S48_S48x1 := by
  entry_read
  rfl
theorem V_v5 : V m c main_v5 = shapeCast S1x4096 (m ((c : Thread nD τ).loc main_arg5)) shapeCasts_S4096_S1x4096 := by
  entry_read
  rfl
theorem V_v6 : V m c main_v6 = shapeCast S1x4096 (m ((c : Thread nD τ).loc main_arg7)) shapeCasts_S4096_S1x4096 := by
  entry_read
  rfl

/-! ## The channels taken from the rows -/

/-- The channel indices, a negative one counted from the end. -/
def wrapped (I : IVec S48 32) : IVec S48x1 32 :=
  broadcastInDim S48x1 ![0] bcast_S48_S48x1_0 (select (cmpi .slt I (broadcastInDim S48 ![] bcast_S_S48 (constantI S_ 32 0#32)))
    (addi I (broadcastInDim S48 ![] bcast_S_S48 (constantI S_ 32 2048#32))) I)

/-- Which of them lie in the rows, as a column. -/
def within (v : IVec S48x1 32) : IVec S48x1 1 :=
  andi (cmpi .sge v (broadcastInDim S48x1 ![] bcast_S_S48x1 (constantI S_ 32 0#32)))
    (cmpi .sle v (broadcastInDim S48x1 ![0, 1] bcast_S1x1_S48x1_0_1 (broadcastInDim S1x1 ![1] bcast_S1_S1x1_1 (constantI S1 32 2047#32))))

/-- Which of them lie in the rows. -/
def inside (v : IVec S48x1 32) : IVec S48 1 :=
  Host.reduce IntOp.andi (within v) (constantI S_ 1 1#1) reducesTo_S48x1_S48_d1 h_S_

/-- The channels, and a NaN in place of those that lie outside. -/
def channels {F : FTy → Type} [FloatOps F] (a : FVec F S96x2048 .f32) (I : IVec S48 32) : FVec F S96x48 .f32 :=
  select (broadcastInDim S96x48 ![1] bcast_S48_S96x48_1 (inside (wrapped I)))
    (Host.gather Cert.OprojReferenceIdeal.gather_S96x2048_S48x1_S96x48_0_1_n_n_1_1_961 a (wrapped I))
    (broadcastInDim S96x48 ![] bcast_S_S96x48 (constant S_ .f32 0x7FC00000#32))

theorem V_v1 : V m c main_v1 = channels (F := Ideal) (shapeCast S96x2048 (m ((c : Thread nD τ).loc main_arg0)) shapeCasts_S96x16x128_S96x2048) (m ((c : Thread nD τ).loc main_arg2)) := by
  entry_read
  rfl

end Cert.Proof.OprojReferenceValues
-- ==== Proof.Oproj.OprojTake.lean ====
module

public import proofs.«01_k».proof.Proof.Oproj.OprojReferenceValues
public import Idealize.ShloMosaic.Lib.StableHlo.Predicate
public import Idealize.ShloMosaic.Lib.Routing.Shapes

@[expose] public section

set_option maxRecDepth 16384

noncomputable section

namespace Cert.Proof.OprojTake

open Idealize.ShloMosaic Idealize.ShloMosaic.Routing
open Cert.OprojReferenceIdeal Cert.OprojReferenceIdeal.Gen
open Cert.Proof.OprojReferenceValues (wrapped within inside channels)

/-! ## The channels taken from the rows, where the index lies in them -/

theorem zero_not_mem (l : List (Fin 2)) (hl : l = [1]) : (0 : Fin 2) ∉ l := fun h => by
  subst hl
  exact absurd (List.mem_singleton.1 h) (by decide)

theorem gather_col {α : Type} {nb B n : Nat} (d : GatherDims (shape2 B nb) (shape2 n 1) (shape2 B n)) (hoff : d.offsetDims = [0])
    (hcoll : d.collapsedSliceDims = [1]) (hob : d.operandBatchingDims = [])
    (hsim : d.startIndexMap = [1]) (hivd : d.indexVectorDim = 1) (x : (shape2 B nb).Idx → α) (idx : IVec (shape2 n 1) 32)
    (y : Fin B) (c : Fin n) (b : Fin nb) (hb : idx (ix2 c (0 : Fin 1)) = BitVec.ofNat 32 b.val) (hnb : nb < 2 ^ 31) :
    Host.gather d x idx (ix2 y c) = x (ix2 y b) := by
  unfold Host.gather
  refine congrArg x (funext fun a => Fin.ext ?_)
  have hbN : ∀ a', a' ∉ d.operandBatchingDims := fun a' => by rw [hob]; exact List.not_mem_nil
  have hk1 : ∀ k ∈ d.batchDims, k = (1 : Fin 2) := fun k hk => by
    have hk' : k ∉ d.offsetDims := of_decide_eq_true (List.mem_filter.1 hk).2
    rw [hoff] at hk'
    have h1 : k.val ≠ 0 := fun e => hk' (List.mem_singleton.2 (Fin.ext e))
    have h2 : k.val < 2 := k.isLt
    exact Fin.ext (by show k.val = 1; omega)
  have hk0 : ∀ k ∈ d.offsetDims, k = (0 : Fin 2) := fun k hk => by rw [hoff] at hk; exact List.mem_singleton.1 hk
  have e0 : ∀ X : Fin 2, X = 0 → (ix2 y c X).val = y.val := fun X h => by subst h; rfl
  have e1 : ∀ X : Fin 2, X = 1 → (ix2 y c X).val = c.val := fun X h => by subst h; rfl
  match a with
  | ⟨1, _⟩ =>
    have hk : (1 : Fin 2) ∉ d.sKept := fun h => ((d.mem_sKept 1).1 h).1 (by rw [hcoll]; exact List.mem_singleton.2 rfl)
    have hm : (1 : Fin 2) ∈ d.startIndexMap := by rw [hsim]; exact List.mem_singleton.2 rfl
    have hsl : d.sliceSizes 1 = 1 := d.slice_collapsed 1 (by rw [hcoll]; exact List.mem_singleton.2 rfl)
    show d.start (ix2 y c) idx 1 + d.batchCoord (ix2 y c) 1 + d.offCoord (ix2 y c) 1 = b.val
    rw [d.batchCoord_eq_zero _ _ (hbN 1), d.offCoord_eq_zero _ _ hk]
    simp only [Nat.add_zero]
    unfold GatherDims.start
    rw [dif_pos hm]
    have hsi : d.siIdx (ix2 y c) ⟨d.startIndexMap.idxOf 1, List.idxOf_lt_length_iff.2 hm⟩ = ix2 c (0 : Fin 1) := by
      funext b'
      apply Fin.ext
      match b' with
      | ⟨0, _⟩ =>
        unfold GatherDims.siIdx
        rw [dif_neg (by rw [hivd]; exact Nat.zero_ne_one)]
        unfold GatherDims.siCoord
        simp only [Fin.val_cast]
        exact e1 _ (hk1 _ (List.getElem_mem _))
      | ⟨1, _⟩ =>
        unfold GatherDims.siIdx
        rw [dif_pos (by rw [hivd])]
        show List.idxOf (1 : Fin 2) d.startIndexMap = 0
        rw [hsim]; simp
    have hbl := b.isLt
    rw [hsi, hb, hsl, StableHlo.Predicate.toInt_ofNat_small _ (by omega)]
    show min ((b.val : Int)).toNat (nb - 1) = b.val
    omega
  | ⟨0, _⟩ =>
    have hk : (0 : Fin 2) ∈ d.sKept := (d.mem_sKept 0).2 ⟨zero_not_mem _ hcoll, hbN 0⟩
    have hm : (0 : Fin 2) ∉ d.startIndexMap := zero_not_mem _ hsim
    show d.start (ix2 y c) idx 0 + d.batchCoord (ix2 y c) 0 + d.offCoord (ix2 y c) 0 = y.val
    rw [d.batchCoord_eq_zero _ _ (hbN 0), Nat.add_zero]
    unfold GatherDims.start GatherDims.offCoord
    rw [dif_neg hm, dif_pos hk, Nat.zero_add]
    exact e0 _ (hk0 _ (List.getElem_mem _))

theorem fold_one (f : Fin 1 → BitVec 1) (h : f 0 = 1#1) : Finset.fold IntOp.andi 1#1 f Finset.univ = 1#1 := by
  rw [show (Finset.univ : Finset (Fin 1)) = {0} from rfl, Finset.fold_singleton, h]
  rfl

variable (I : IVec S48 32) (j : Fin 48) (k : Fin 2048) (h : I (ix1 j) = BitVec.ofNat 32 k.val)
include h

theorem wrapped_at : wrapped I (ix2 j 0) = BitVec.ofNat 32 k.val := by
  have hk := k.isLt
  have hn : ¬ (BitVec.ofBool ((BitVec.ofNat 32 k.val).slt (BitVec.ofNat 32 0)) = 1#1) := fun e => by
    have := (StableHlo.Predicate.slt_ofNat_iff k.val 0 (by omega) (by omega)).1 e
    omega
  unfold wrapped
  pointwise
  rw [h]
  unfold Scalar.select IntOp.cmpi
  exact if_neg hn

theorem reduces : S48x1.Reduces [1] S48 := ⟨rfl, Nat.one_pos, reducesTo_S48x1_S48_d1.2⟩

theorem lift_at (u : Fin (S48x1.size 1)) : (reduces I j k h).lift (ix1 j) u = ix2 (n0 := 48) (n1 := 1) j 0 := by
  funext a
  apply Fin.ext
  fin_cases a
  · rfl
  · have hu : u.val < 1 := u.isLt
    show u.val = 0
    omega

theorem within_at : within (wrapped I) (ix2 j 0) = 1#1 := by
  have hk := k.isLt
  have h1 : BitVec.ofBool ((BitVec.ofNat 32 0).sle (BitVec.ofNat 32 k.val)) = 1#1 := (StableHlo.Predicate.sle_ofNat_iff 0 k.val (by omega) (by omega)).2 (by omega)
  have h2 : BitVec.ofBool ((BitVec.ofNat 32 k.val).sle (BitVec.ofNat 32 2047)) = 1#1 := (StableHlo.Predicate.sle_ofNat_iff k.val 2047 (by omega) (by omega)).2 (by omega)
  unfold within
  pointwise
  rw [wrapped_at I j k h]
  unfold IntOp.cmpi IntOp.andi
  show (BitVec.ofBool ((BitVec.ofNat 32 0).sle (BitVec.ofNat 32 k.val)) &&& BitVec.ofBool ((BitVec.ofNat 32 k.val).sle (BitVec.ofNat 32 2047))) = 1#1
  rw [h1, h2]
  rfl

theorem inside_at : inside (wrapped I) (ix1 j) = 1#1 := by
  unfold inside
  rw [Host.reduce_eq_fold_single IntOp.andi _ _ _ (reduces I j k h) _ (ix1 j)]
  exact fold_one (fun u => within (wrapped I) ((reduces I j k h).lift (ix1 j) u)) ((congrArg (within (wrapped I)) (lift_at I j k h _)).trans (within_at I j k h))

theorem channels_at {F : FTy → Type} [FloatOps F] (a : FVec F S96x2048 .f32) (r : Fin 96) : channels a I (ix2 r j) = a (ix2 r k) := by
  unfold channels
  show Scalar.select (broadcastInDim S96x48 ![1] bcast_S48_S96x48_1 (inside (wrapped I)) (ix2 r j)) (Host.gather _ a (wrapped I) (ix2 r j)) _ = _
  have hb : broadcastInDim S96x48 ![1] bcast_S48_S96x48_1 (inside (wrapped I)) (ix2 r j) = 1#1 := by
    pointwise
    exact inside_at I j k h
  rw [hb]
  exact gather_col _ rfl rfl rfl rfl rfl a (wrapped I) r j k (wrapped_at I j k h) (by decide)

end Cert.Proof.OprojTake
-- ==== Proof.Oproj.OprojAlgebraic.lean ====
module

public import proofs.«01_k».proof.Proof.Oproj.OprojKernelValues
public import proofs.«01_k».proof.Proof.Oproj.OprojTake
public import proofs.«01_k».proof.Defs

@[expose] public section

set_option maxRecDepth 16384

noncomputable section

namespace Cert.Proof.OprojAlgebraic

open Idealize.ShloMosaic Idealize.ShloMosaic.TcCoe Idealize.SL.Sem

/-! ## What the precondition says of one channel -/

theorem preFacts : Cert.Pre_o_channels_valid.Facts := ⟨by decide⟩

theorem channel_valid (i k : BitVec 32)
    (h : IntOp.ori (IntOp.cmpi .eq k 0#32) (IntOp.andi (IntOp.cmpi .eq k 1#32) (IntOp.andi (IntOp.cmpi .sge i 0#32) (IntOp.cmpi .slt i 2048#32))) = 1#1) :
    k = 0#32 ∨ (k = 1#32 ∧ ∃ n : Fin 2048, i = BitVec.ofNat 32 n.val) := by
  by_cases h0 : k = 0#32
  · exact Or.inl h0
  · right
    have hb : ∀ x y : BitVec 1, x ||| y = 1#1 → x = 0#1 → y = 1#1 := by decide
    have ha : ∀ x y : BitVec 1, x &&& y = 1#1 → x = 1#1 ∧ y = 1#1 := by decide
    have h1 := hb _ _ h (by show BitVec.ofBool (k == 0#32) = 0#1; rw [beq_eq_false_iff_ne.mpr h0]; rfl)
    obtain ⟨h2, h3⟩ := ha _ _ h1
    obtain ⟨h4, h5⟩ := ha _ _ h3
    have e4 : BitVec.ofBool ((0#32).sle i) = 1#1 := h4
    have e5 : BitVec.ofBool (i.slt 2048#32) = 1#1 := h5
    have e2 : BitVec.ofBool (k == 1#32) = 1#1 := h2
    rw [StableHlo.Predicate.ofBool_eq_one_iff] at e2 e4 e5
    refine ⟨eq_of_beq e2, ⟨i.toNat, ?_⟩, ?_⟩
    · simp only [BitVec.sle, BitVec.slt, decide_eq_true_eq] at e4 e5
      have z : (0#32).toInt = 0 := by decide
      have t : (2048#32).toInt = 2048 := by decide
      rw [z] at e4
      rw [t] at e5
      have hi := BitVec.toInt_eq_toNat_cond i
      have hl := i.isLt
      split at hi <;> omega
    · exact (BitVec.ofNat_toNat 32 i).symm ▸ (BitVec.setWidth_eq i).symm

section KernelRun
open Cert.OprojKernelIdeal Cert.OprojKernelIdeal.Gen
open Cert.Proof.OprojKernelIdealRun (dats A_eq run_main)
variable (m : (ℓ : Loc nD τ sig) → Buf (Elt Ideal) ℓ) (ρ : Dev nD → PrngReg)

/-- The kernel's run with its three results named, the arguments unchanged. -/
theorem kernel_run : θ_run defs (onTc (τ := τ) (main (F := Ideal))) ⟨m, fun _ => 0, ρ⟩ (fun r => ∀ c : Dev nD,
      r.2.mem ((c.tc : Thread nD τ).loc main_v5_0) = (dats m 0 c).arrAt 8 cfg0.N
      ∧ r.2.mem ((c.tc : Thread nD τ).loc main_v5_1) = (dats m 0 c).arrAt 9 cfg0.N
      ∧ r.2.mem ((c.tc : Thread nD τ).loc main_v5_2) = (dats m 0 c).arrAt 10 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ hr c => by
    have h := hr.1
    exact ⟨(h c).1 8, (h c).1 9, (h c).1 10,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c),
      ((h c).1 6).trans (((dats m 0 c).arrAt_in 6 rfl _).trans ((A_eq m c 6).trans (V_main_arg6 m c))),
      ((h c).2 main_arg7 (Pipeline.mem_restRefs_of main_arg7 (by decide) (by decide))).trans (V_main_arg7 m c)⟩) (run_main m ρ)

end KernelRun

section Agree
variable (m : (ℓ : Loc Cert.OprojKernelIdeal.nD Cert.OprojKernelIdeal.τ Cert.OprojKernelIdeal.sig) → Buf (Elt Ideal) ℓ) (m' : (ℓ : Loc Cert.OprojReferenceIdeal.nD Cert.OprojReferenceIdeal.τ Cert.OprojReferenceIdeal.sig) → Buf (Elt Ideal) ℓ) (c : Dev Cert.OprojKernelIdeal.nD)

theorem agree_arg1 (h : m' ((c.tc : Thread Cert.OprojReferenceIdeal.nD Cert.OprojReferenceIdeal.τ).loc Cert.OprojReferenceIdeal.main_arg1) = m ((c.tc : Thread Cert.OprojKernelIdeal.nD Cert.OprojKernelIdeal.τ).loc Cert.OprojKernelIdeal.main_arg1)) :
    Cert.OprojReferenceIdeal.Gen.V m' c Cert.OprojReferenceIdeal.main_v2 = Cert.OprojKernelIdeal.Gen.V m c Cert.OprojKernelIdeal.main_v0 :=
  (OprojReferenceValues.V_v2 m' c).trans ((congrArg (fun x => shapeCast Cert.OprojReferenceIdeal.S96x4096 x Cert.OprojReferenceIdeal.Gen.shapeCasts_S96x1x4096_S96x4096) h).trans (OprojKernelValues.V_v0 m c).symm)
theorem agree_arg2 (h : m' ((c.tc : Thread Cert.OprojReferenceIdeal.nD Cert.OprojReferenceIdeal.τ).loc Cert.OprojReferenceIdeal.main_arg2) = m ((c.tc : Thread Cert.OprojKernelIdeal.nD Cert.OprojKernelIdeal.τ).loc Cert.OprojKernelIdeal.main_arg2)) :
    Cert.OprojReferenceIdeal.Gen.V m' c Cert.OprojReferenceIdeal.main_v3 = Cert.OprojKernelIdeal.Gen.V m c Cert.OprojKernelIdeal.main_v1 :=
  (OprojReferenceValues.V_v3 m' c).trans ((congrArg (fun x => shapeCast Cert.OprojReferenceIdeal.S48x1 x Cert.OprojReferenceIdeal.Gen.shapeCasts_S48_S48x1) h).trans (OprojKernelValues.V_v1 m c).symm)
theorem agree_arg3 (h : m' ((c.tc : Thread Cert.OprojReferenceIdeal.nD Cert.OprojReferenceIdeal.τ).loc Cert.OprojReferenceIdeal.main_arg3) = m ((c.tc : Thread Cert.OprojKernelIdeal.nD Cert.OprojKernelIdeal.τ).loc Cert.OprojKernelIdeal.main_arg3)) :
    Cert.OprojReferenceIdeal.Gen.V m' c Cert.OprojReferenceIdeal.main_v4 = Cert.OprojKernelIdeal.Gen.V m c Cert.OprojKernelIdeal.main_v2 :=
  (OprojReferenceValues.V_v4 m' c).trans ((congrArg (fun x => shapeCast Cert.OprojReferenceIdeal.S48x1 x Cert.OprojReferenceIdeal.Gen.shapeCasts_S48_S48x1) h).trans (OprojKernelValues.V_v2 m c).symm)
theorem agree_arg5 (h : m' ((c.tc : Thread Cert.OprojReferenceIdeal.nD Cert.OprojReferenceIdeal.τ).loc Cert.OprojReferenceIdeal.main_arg5) = m ((c.tc : Thread Cert.OprojKernelIdeal.nD Cert.OprojKernelIdeal.τ).loc Cert.OprojKernelIdeal.main_arg5)) :
    Cert.OprojReferenceIdeal.Gen.V m' c Cert.OprojReferenceIdeal.main_v5 = Cert.OprojKernelIdeal.Gen.V m c Cert.OprojKernelIdeal.main_v3 :=
  (OprojReferenceValues.V_v5 m' c).trans ((congrArg (fun x => shapeCast Cert.OprojReferenceIdeal.S1x4096 x Cert.OprojReferenceIdeal.Gen.shapeCasts_S4096_S1x4096) h).trans (OprojKernelValues.V_v3 m c).symm)
theorem agree_arg7 (h : m' ((c.tc : Thread Cert.OprojReferenceIdeal.nD Cert.OprojReferenceIdeal.τ).loc Cert.OprojReferenceIdeal.main_arg7) = m ((c.tc : Thread Cert.OprojKernelIdeal.nD Cert.OprojKernelIdeal.τ).loc Cert.OprojKernelIdeal.main_arg7)) :
    Cert.OprojReferenceIdeal.Gen.V m' c Cert.OprojReferenceIdeal.main_v6 = Cert.OprojKernelIdeal.Gen.V m c Cert.OprojKernelIdeal.main_v4 :=
  (OprojReferenceValues.V_v6 m' c).trans ((congrArg (fun x => shapeCast Cert.OprojReferenceIdeal.S1x4096 x Cert.OprojReferenceIdeal.Gen.shapeCasts_S4096_S1x4096) h).trans (OprojKernelValues.V_v4 m c).symm)
theorem agree_arg4 (h : m' ((c.tc : Thread Cert.OprojReferenceIdeal.nD Cert.OprojReferenceIdeal.τ).loc Cert.OprojReferenceIdeal.main_arg4) = m ((c.tc : Thread Cert.OprojKernelIdeal.nD Cert.OprojKernelIdeal.τ).loc Cert.OprojKernelIdeal.main_arg4)) :
    Cert.OprojReferenceIdeal.Gen.V m' c Cert.OprojReferenceIdeal.main_arg4 = Cert.OprojKernelIdeal.Gen.V m c Cert.OprojKernelIdeal.main_arg4 :=
  (Cert.OprojReferenceIdeal.Gen.V_main_arg4 m' c).trans (h.trans (Cert.OprojKernelIdeal.Gen.V_main_arg4 m c).symm)
theorem agree_arg6 (h : m' ((c.tc : Thread Cert.OprojReferenceIdeal.nD Cert.OprojReferenceIdeal.τ).loc Cert.OprojReferenceIdeal.main_arg6) = m ((c.tc : Thread Cert.OprojKernelIdeal.nD Cert.OprojKernelIdeal.τ).loc Cert.OprojKernelIdeal.main_arg6)) :
    Cert.OprojReferenceIdeal.Gen.V m' c Cert.OprojReferenceIdeal.main_arg6 = Cert.OprojKernelIdeal.Gen.V m c Cert.OprojKernelIdeal.main_arg6 :=
  (Cert.OprojReferenceIdeal.Gen.V_main_arg6 m' c).trans (h.trans (Cert.OprojKernelIdeal.Gen.V_main_arg6 m c).symm)

theorem agree_rows (h : m' ((c.tc : Thread Cert.OprojReferenceIdeal.nD Cert.OprojReferenceIdeal.τ).loc Cert.OprojReferenceIdeal.main_arg0) = m ((c.tc : Thread Cert.OprojKernelIdeal.nD Cert.OprojKernelIdeal.τ).loc Cert.OprojKernelIdeal.main_arg0)) :
    Cert.OprojReferenceIdeal.Gen.V m' c Cert.OprojReferenceIdeal.main_v0 = OprojKernelIdealRun.opA (F := Ideal) (Cert.OprojKernelIdeal.Gen.V m c Cert.OprojKernelIdeal.main_arg0) :=
  (OprojReferenceValues.V_v0 m' c).trans ((congrArg (fun x => shapeCast Cert.OprojReferenceIdeal.S96x2048 x Cert.OprojReferenceIdeal.Gen.shapeCasts_S96x16x128_S96x2048) (h.trans (Cert.OprojKernelIdeal.Gen.V_main_arg0 m c).symm)).trans
    (OprojRows.opA_eq _ Cert.OprojReferenceIdeal.Gen.shapeCasts_S96x16x128_S96x2048).symm)

/-- The indices and the mask, as columns. -/
theorem column (x : IVec Cert.OprojKernelIdeal.S48 32) (j : Fin 48) : shapeCast Cert.OprojKernelIdeal.S48x1 x Cert.OprojKernelIdeal.Gen.shapeCasts_S48_S48x1 (ix2 j 0) = x (ix1 j) := by
  pointwise

theorem valid (hp : @Cert.Pre_OprojKernelIdeal_o_channels_valid preFacts m) : OprojEquation.Valid (Cert.OprojKernelIdeal.Gen.V m c Cert.OprojKernelIdeal.main_v1) (Cert.OprojKernelIdeal.Gen.V m c Cert.OprojKernelIdeal.main_v2) := by
  intro j
  rw [OprojKernelValues.V_v1, OprojKernelValues.V_v2, column, column]
  exact channel_valid _ _ (congrFun (hp c) (ix1 j))

/-- The reference's channels are the rows' columns the indices name. -/
theorem channels (h0 : m' ((c.tc : Thread Cert.OprojReferenceIdeal.nD Cert.OprojReferenceIdeal.τ).loc Cert.OprojReferenceIdeal.main_arg0) = m ((c.tc : Thread Cert.OprojKernelIdeal.nD Cert.OprojKernelIdeal.τ).loc Cert.OprojKernelIdeal.main_arg0))
    (h2 : m' ((c.tc : Thread Cert.OprojReferenceIdeal.nD Cert.OprojReferenceIdeal.τ).loc Cert.OprojReferenceIdeal.main_arg2) = m ((c.tc : Thread Cert.OprojKernelIdeal.nD Cert.OprojKernelIdeal.τ).loc Cert.OprojKernelIdeal.main_arg2))
    (r : Fin 96) (j : Fin 48) (k : Fin 2048) (h : Cert.OprojKernelIdeal.Gen.V m c Cert.OprojKernelIdeal.main_v1 (ix2 j 0) = BitVec.ofNat 32 k.val) :
    Cert.OprojReferenceIdeal.Gen.V m' c Cert.OprojReferenceIdeal.main_v1 (ix2 r j) = OprojKernelIdealRun.opA (F := Ideal) (Cert.OprojKernelIdeal.Gen.V m c Cert.OprojKernelIdeal.main_arg0) (ix2 r k) := by
  rw [OprojKernelValues.V_v1, column] at h
  rw [← agree_rows m m' c h0, OprojReferenceValues.V_v1, OprojReferenceValues.V_v0]
  exact OprojTake.channels_at _ j k ((congrFun h2 (ix1 j)).trans h) _ r

end Agree

/-- The kernel and the reference end with the same three results. -/
theorem algebraic : @Cert.algebraic_OprojKernelIdeal_OprojReferenceIdeal_pre_o_channels_valid Cert.OprojKernelIdeal.Gen.facts Cert.OprojReferenceIdeal.Gen.facts preFacts := by
  intro m g m' g' hp hm
  refine ⟨fun c => (OprojKernelIdealRun.dats m 0 c).arrAt 8 Cert.OprojKernelIdeal.cfg0.N, fun c => (OprojKernelIdealRun.dats m 0 c).arrAt 9 Cert.OprojKernelIdeal.cfg0.N,
    fun c => (OprojKernelIdealRun.dats m 0 c).arrAt 10 Cert.OprojKernelIdeal.cfg0.N, kernel_run m g, ?_⟩
  refine (θ_run _ _ _).mono (fun r hr c => ?_) (Cert.OprojReferenceIdeal.Value.run_blocks m' g')
  obtain ⟨h0, h1, h2, hrest⟩ := hr c
  obtain ⟨a0, a1, a2, a3, a4, a5, a6, a7⟩ := hm c
  have e0 := agree_rows m m' c a0
  have e1 := agree_arg1 m m' c a1
  have e2 := agree_arg2 m m' c a2
  have e3 := agree_arg3 m m' c a3
  have e4 := agree_arg4 m m' c a4
  have e5 := agree_arg5 m m' c a5
  have e6 := agree_arg6 m m' c a6
  have e7 := agree_arg7 m m' c a7
  have eK : OprojReferenceValues.K m' c = OprojKernelValues.K m c := by
    unfold OprojReferenceValues.K OprojKernelValues.K
    rw [e0, e2, e3]
  refine ⟨h0.trans ?_, h1.trans ?_, h2.trans ?_, hrest⟩
  · refine (OprojReferenceValues.out m' c).trans (Eq.trans ?_ (OprojKernelValues.out m c (Cert.OprojReferenceIdeal.Gen.V m' c Cert.OprojReferenceIdeal.main_v1) (valid m c hp) (channels m m' c a0 a2)).symm)
    unfold OprojReferenceValues.Y OprojKernelValues.Y
    rw [eK, e1, e3, e4, e5, e6, e7]
  · exact (OprojReferenceValues.codes m' c).trans ((congrArg _ eK).trans (OprojKernelValues.codes m c).symm)
  · exact (OprojReferenceValues.scales m' c).trans ((congrArg _ eK).trans (OprojKernelValues.scales m c).symm)

end Cert.Proof.OprojAlgebraic
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.OprojKernel
public import proofs.«01_k».proof.Proof.Gen.OprojKernel.Skeleton
public import proofs.«01_k».proof.Proof.Gen.OprojKernel.Launch
public import proofs.«01_k».proof.Proof.Gen.OprojKernel.Points
public import proofs.«01_k».proof.Proof.Gen.OprojKernel.Frame
public import proofs.«01_k».proof.Proof.Gen.OprojKernelIdeal
public import proofs.«01_k».proof.Proof.Gen.OprojKernelIdeal.Skeleton
public import proofs.«01_k».proof.Proof.Gen.OprojKernelIdeal.Launch
public import proofs.«01_k».proof.Proof.Gen.OprojKernelIdeal.Points
public import proofs.«01_k».proof.Proof.Gen.OprojKernelIdeal.Frame
public import proofs.«01_k».proof.Proof.Gen.OprojReferenceIdeal
public import proofs.«01_k».proof.Proof.Gen.OprojReferenceIdeal.Skeleton
public import proofs.«01_k».proof.Proof.Gen.OprojReferenceIdeal.Launch
public import proofs.«01_k».proof.Proof.Gen.OprojReferenceIdeal.Points
public import proofs.«01_k».proof.Proof.Gen.OprojReferenceIdeal.Frame
public import proofs.«01_k».proof.Proof.Gen.OprojReferenceIdeal.Value
public import proofs.«01_k».proof.Proof.Gen.QkvKernel
public import proofs.«01_k».proof.Proof.Gen.QkvKernel.Skeleton
public import proofs.«01_k».proof.Proof.Gen.QkvKernel.Launch
public import proofs.«01_k».proof.Proof.Gen.QkvKernel.Points
public import proofs.«01_k».proof.Proof.Gen.QkvKernel.Frame
public import proofs.«01_k».proof.Proof.Gen.QkvKernelIdeal
public import proofs.«01_k».proof.Proof.Gen.QkvKernelIdeal.Skeleton
public import proofs.«01_k».proof.Proof.Gen.QkvKernelIdeal.Launch
public import proofs.«01_k».proof.Proof.Gen.QkvKernelIdeal.Points
public import proofs.«01_k».proof.Proof.Gen.QkvKernelIdeal.Frame
public import proofs.«01_k».proof.Proof.Gen.QkvReferenceIdeal
public import proofs.«01_k».proof.Proof.Gen.QkvReferenceIdeal.Skeleton
public import proofs.«01_k».proof.Proof.Gen.QkvReferenceIdeal.Launch
public import proofs.«01_k».proof.Proof.Gen.QkvReferenceIdeal.Points
public import proofs.«01_k».proof.Proof.Gen.QkvReferenceIdeal.Frame
public import proofs.«01_k».proof.Proof.Gen.QkvReferenceIdeal.Value
public import proofs.«01_k».proof.Proof.Mlp.KernelTwin
public import proofs.«01_k».proof.Proof.Mlp.Algebraic
public import proofs.«01_k».proof.Proof.Qkv.QkvKernelTwin
public import proofs.«01_k».proof.Proof.Qkv.QkvAlgebraic
public import proofs.«01_k».proof.Proof.Oproj.OprojKernelTwin
public import proofs.«01_k».proof.Proof.Oproj.OprojAlgebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.QkvKernel.Gen.facts, Cert.QkvKernelIdeal.Gen.facts, Cert.QkvReferenceIdeal.Gen.facts,
  Cert.OprojKernel.Gen.facts, Cert.OprojKernelIdeal.Gen.facts, Cert.OprojReferenceIdeal.Gen.facts, Cert.Proof.OprojAlgebraic.preFacts,
  Cert.Proof.KernelTwin.frame, fun m ρ _ => Cert.Proof.KernelIdealRun.frame m ρ,
  fun m ρ _ => Cert.ReferenceIdeal.Gen.frame m ρ,
  Cert.Proof.QkvKernelTwin.frame, fun m ρ _ => Cert.Proof.QkvKernelIdealRun.frame m ρ,
  fun m ρ _ => Cert.QkvReferenceIdeal.Gen.frame m ρ,
  Cert.Proof.OprojKernelTwin.frame, fun m ρ _ => Cert.Proof.OprojKernelIdealRun.frame m ρ,
  fun m ρ _ => Cert.Proof.OprojKernelIdealRun.frame m ρ,
  fun m ρ _ => Cert.OprojReferenceIdeal.Gen.frame m ρ, fun m ρ _ => Cert.OprojReferenceIdeal.Gen.frame m ρ,
  trivial, Cert.Proof.Algebraic.algebraic, trivial, Cert.Proof.QkvAlgebraic.algebraic,
  trivial, Cert.Proof.OprojAlgebraic.algebraic⟩

end Cert.Proof

end
